-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_inputs [hPre_finite_inputs : Cert.Pre_finite_inputs.Facts] (m : (ℓ : Loc Cert.PoolIdeal.nD Cert.PoolIdeal.τ Cert.PoolIdeal.sig) → Buf (Elt Ideal) ℓ) : Prop :=
  ∀ c : Dev Cert.PoolIdeal.nD,
    (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.2.2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.2.2.2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.2.2.2.2.1 = (fun _ => 1#1)
    ∧ (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))).2.2.2.2.2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_inputs [hPre_finite_inputs : Cert.Pre_finite_inputs.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.2.2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.2.2.2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.2.2.2.2.1 = (fun _ => 1#1)
    ∧ (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))).2.2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_context [hPre_finite_context : Cert.Pre_finite_context.Facts] (m : (ℓ : Loc Cert.CtxIdeal.nD Cert.CtxIdeal.τ Cert.CtxIdeal.sig) → Buf (Elt Ideal) ℓ) : Prop :=
  ∀ c : Dev Cert.CtxIdeal.nD,
    (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.2.2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.2.2.2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.2.2.2.2.1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8)) (m ((c.tc : Thread Cert.CtxIdeal.nD Cert.CtxIdeal.τ).loc Cert.CtxIdeal.main_arg9)) (m ((c.tc : Thread Cert.CtxIdeal.nD Cert.CtxIdeal.τ).loc Cert.CtxIdeal.main_arg10))).2.2.2.2.2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_context [hPre_finite_context : Cert.Pre_finite_context.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.2.2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.2.2.2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.2.2.2.2.1 = (fun _ => 1#1)
    ∧ (Cert.Pre_finite_context.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8)) (m ((c.tc : Thread Cert.CtxRefIdeal.nD Cert.CtxRefIdeal.τ).loc Cert.CtxRefIdeal.main_arg9)) (m ((c.tc : Thread Cert.CtxRefIdeal.nD Cert.CtxRefIdeal.τ).loc Cert.CtxRefIdeal.main_arg10))).2.2.2.2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))).2.2.2.2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13)) (m ((c.tc : Thread Cert.TailRefIdeal.nD Cert.TailRefIdeal.τ).loc Cert.TailRefIdeal.main_arg14))).2.2.2.2.2.2.2.2.2.2.2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

def quiescent_PoolIdeal_pre_finite_inputs [hPoolIdeal : Cert.PoolIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_inputs m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10))
      ∧ r.2.sem = fun _ => 0)

def quiescent_PoolRefIdeal_pre_finite_inputs [hPoolRefIdeal : Cert.PoolRefIdeal.Facts] [hPre_finite_inputs : Cert.Pre_finite_inputs.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_inputs m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8)
      ∧ r.2.mem ((c.tc : Thread Cert.Ctx.nD Cert.Ctx.τ).loc Cert.Ctx.main_arg9) = m ((c.tc : Thread Cert.Ctx.nD Cert.Ctx.τ).loc Cert.Ctx.main_arg9)
      ∧ r.2.mem ((c.tc : Thread Cert.Ctx.nD Cert.Ctx.τ).loc Cert.Ctx.main_arg10) = m ((c.tc : Thread Cert.Ctx.nD Cert.Ctx.τ).loc Cert.Ctx.main_arg10))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
      ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
      ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10))
      ∧ r.2.sem = fun _ => 0)

def quiescent_CtxIdeal_pre_finite_context [hCtxIdeal : Cert.CtxIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_context m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
      ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
      ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8)
      ∧ r.2.mem ((c.tc : Thread Cert.CtxRefIdeal.nD Cert.CtxRefIdeal.τ).loc Cert.CtxRefIdeal.main_arg9) = m ((c.tc : Thread Cert.CtxRefIdeal.nD Cert.CtxRefIdeal.τ).loc Cert.CtxRefIdeal.main_arg9)
      ∧ r.2.mem ((c.tc : Thread Cert.CtxRefIdeal.nD Cert.CtxRefIdeal.τ).loc Cert.CtxRefIdeal.main_arg10) = m ((c.tc : Thread Cert.CtxRefIdeal.nD Cert.CtxRefIdeal.τ).loc Cert.CtxRefIdeal.main_arg10))
      ∧ r.2.sem = fun _ => 0)

def quiescent_CtxRefIdeal_pre_finite_context [hCtxRefIdeal : Cert.CtxRefIdeal.Facts] [hPre_finite_context : Cert.Pre_finite_context.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_context m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8)
      ∧ r.2.mem ((c.tc : Thread Cert.CtxRefIdeal.nD Cert.CtxRefIdeal.τ).loc Cert.CtxRefIdeal.main_arg9) = m ((c.tc : Thread Cert.CtxRefIdeal.nD Cert.CtxRefIdeal.τ).loc Cert.CtxRefIdeal.main_arg9)
      ∧ r.2.mem ((c.tc : Thread Cert.CtxRefIdeal.nD Cert.CtxRefIdeal.τ).loc Cert.CtxRefIdeal.main_arg10) = m ((c.tc : Thread Cert.CtxRefIdeal.nD Cert.CtxRefIdeal.τ).loc Cert.CtxRefIdeal.main_arg10))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v12)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_Pool_PoolIdeal : Prop :=
  True

def algebraic_PoolIdeal_PoolRefIdeal_pre_finite_inputs [hPoolIdeal : Cert.PoolIdeal.Facts] [hPoolRefIdeal : Cert.PoolRefIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_inputs m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)
      ∧ m' ((c.tc : Thread Cert.PoolRefIdeal.nD Cert.PoolRefIdeal.τ).loc Cert.PoolRefIdeal.main_arg9) = m ((c.tc : Thread Cert.PoolIdeal.nD Cert.PoolIdeal.τ).loc Cert.PoolIdeal.main_arg9)
      ∧ m' ((c.tc : Thread Cert.PoolRefIdeal.nD Cert.PoolRefIdeal.τ).loc Cert.PoolRefIdeal.main_arg10) = m ((c.tc : Thread Cert.PoolIdeal.nD Cert.PoolIdeal.τ).loc Cert.PoolIdeal.main_arg10)) →
    ∃ (v0 : (c : Dev Cert.PoolIdeal.nD) → Buf (Elt Ideal) ((c.tc : Thread Cert.PoolIdeal.nD Cert.PoolIdeal.τ).loc Cert.PoolIdeal.main_v12)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v12) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v206) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8)
          ∧ r.2.mem ((c.tc : Thread Cert.PoolRefIdeal.nD Cert.PoolRefIdeal.τ).loc Cert.PoolRefIdeal.main_arg9) = m' ((c.tc : Thread Cert.PoolRefIdeal.nD Cert.PoolRefIdeal.τ).loc Cert.PoolRefIdeal.main_arg9)
          ∧ r.2.mem ((c.tc : Thread Cert.PoolRefIdeal.nD Cert.PoolRefIdeal.τ).loc Cert.PoolRefIdeal.main_arg10) = m' ((c.tc : Thread Cert.PoolRefIdeal.nD Cert.PoolRefIdeal.τ).loc Cert.PoolRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v45) = v0 c
          ∧ r.2.mem ((c.tc : Thread Cert.ProjRefIdeal.nD Cert.ProjRefIdeal.τ).loc Cert.ProjRefIdeal.main_v48) = v1 c
          ∧ r.2.mem ((c.tc : Thread Cert.ProjRefIdeal.nD Cert.ProjRefIdeal.τ).loc Cert.ProjRefIdeal.main_v51) = v2 c
          ∧ r.2.mem ((c.tc : Thread Cert.ProjRefIdeal.nD Cert.ProjRefIdeal.τ).loc Cert.ProjRefIdeal.main_v40) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Ctx_CtxIdeal : Prop :=
  True

def algebraic_CtxIdeal_CtxRefIdeal_pre_finite_context [hCtxIdeal : Cert.CtxIdeal.Facts] [hCtxRefIdeal : Cert.CtxRefIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_context m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)
      ∧ m' ((c.tc : Thread Cert.CtxRefIdeal.nD Cert.CtxRefIdeal.τ).loc Cert.CtxRefIdeal.main_arg8) = m ((c.tc : Thread Cert.CtxIdeal.nD Cert.CtxIdeal.τ).loc Cert.CtxIdeal.main_arg8)
      ∧ m' ((c.tc : Thread Cert.CtxRefIdeal.nD Cert.CtxRefIdeal.τ).loc Cert.CtxRefIdeal.main_arg9) = m ((c.tc : Thread Cert.CtxIdeal.nD Cert.CtxIdeal.τ).loc Cert.CtxIdeal.main_arg9)
      ∧ m' ((c.tc : Thread Cert.CtxRefIdeal.nD Cert.CtxRefIdeal.τ).loc Cert.CtxRefIdeal.main_arg10) = m ((c.tc : Thread Cert.CtxIdeal.nD Cert.CtxIdeal.τ).loc Cert.CtxIdeal.main_arg10)) →
    ∃ (v0 : (c : Dev Cert.CtxIdeal.nD) → Buf (Elt Ideal) ((c.tc : Thread Cert.CtxIdeal.nD Cert.CtxIdeal.τ).loc Cert.CtxIdeal.main_v14_0)) (v1 : (c : Dev Cert.CtxIdeal.nD) → Buf (Elt Ideal) ((c.tc : Thread Cert.CtxIdeal.nD Cert.CtxIdeal.τ).loc Cert.CtxIdeal.main_v14_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v14_0) = v0 c
          ∧ r.2.mem ((c.tc : Thread Cert.CtxIdeal.nD Cert.CtxIdeal.τ).loc Cert.CtxIdeal.main_v14_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
          ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
          ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v233) = v0 c
          ∧ r.2.mem ((c.tc : Thread Cert.CtxRefIdeal.nD Cert.CtxRefIdeal.τ).loc Cert.CtxRefIdeal.main_v237) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
          ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8)
          ∧ r.2.mem ((c.tc : Thread Cert.CtxRefIdeal.nD Cert.CtxRefIdeal.τ).loc Cert.CtxRefIdeal.main_arg9) = m' ((c.tc : Thread Cert.CtxRefIdeal.nD Cert.CtxRefIdeal.τ).loc Cert.CtxRefIdeal.main_arg9)
          ∧ r.2.mem ((c.tc : Thread Cert.CtxRefIdeal.nD Cert.CtxRefIdeal.τ).loc Cert.CtxRefIdeal.main_arg10) = m' ((c.tc : Thread Cert.CtxRefIdeal.nD Cert.CtxRefIdeal.τ).loc Cert.CtxRefIdeal.main_arg10))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v16)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v16) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v283) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v7)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v7) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v87) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hConv : Cert.Conv.Facts) (hConvIdeal : Cert.ConvIdeal.Facts) (hConvRefIdeal : Cert.ConvRefIdeal.Facts) (hPool : Cert.Pool.Facts) (hPoolIdeal : Cert.PoolIdeal.Facts) (hPoolRefIdeal : Cert.PoolRefIdeal.Facts) (hProj : Cert.Proj.Facts) (hProjIdeal : Cert.ProjIdeal.Facts) (hProjRefIdeal : Cert.ProjRefIdeal.Facts) (hCtx : Cert.Ctx.Facts) (hCtxIdeal : Cert.CtxIdeal.Facts) (hCtxRefIdeal : Cert.CtxRefIdeal.Facts) (hTail : Cert.Tail.Facts) (hTailIdeal : Cert.TailIdeal.Facts) (hTailRefIdeal : Cert.TailRefIdeal.Facts) (hBias : Cert.Bias.Facts) (hBiasIdeal : Cert.BiasIdeal.Facts) (hBiasRefIdeal : Cert.BiasRefIdeal.Facts) (hPre_finite_inputs : Cert.Pre_finite_inputs.Facts) (hPre_finite_context : Cert.Pre_finite_context.Facts) (hPre_finite_tail : Cert.Pre_finite_tail.Facts),
    quiescent_Conv (hConv := hConv)
    ∧ quiescent_ConvIdeal (hConvIdeal := hConvIdeal)
    ∧ quiescent_ConvRefIdeal (hConvRefIdeal := hConvRefIdeal)
    ∧ quiescent_Pool (hPool := hPool)
    ∧ quiescent_PoolIdeal (hPoolIdeal := hPoolIdeal)
    ∧ quiescent_PoolIdeal_pre_finite_inputs (hPoolIdeal := hPoolIdeal) (hPre_finite_inputs := hPre_finite_inputs)
    ∧ quiescent_PoolRefIdeal (hPoolRefIdeal := hPoolRefIdeal)
    ∧ quiescent_PoolRefIdeal_pre_finite_inputs (hPoolRefIdeal := hPoolRefIdeal) (hPre_finite_inputs := hPre_finite_inputs)
    ∧ quiescent_Proj (hProj := hProj)
    ∧ quiescent_ProjIdeal (hProjIdeal := hProjIdeal)
    ∧ quiescent_ProjRefIdeal (hProjRefIdeal := hProjRefIdeal)
    ∧ quiescent_Ctx (hCtx := hCtx)
    ∧ quiescent_CtxIdeal (hCtxIdeal := hCtxIdeal)
    ∧ quiescent_CtxIdeal_pre_finite_context (hCtxIdeal := hCtxIdeal) (hPre_finite_context := hPre_finite_context)
    ∧ quiescent_CtxRefIdeal (hCtxRefIdeal := hCtxRefIdeal)
    ∧ quiescent_CtxRefIdeal_pre_finite_context (hCtxRefIdeal := hCtxRefIdeal) (hPre_finite_context := hPre_finite_context)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_Bias (hBias := hBias)
    ∧ quiescent_BiasIdeal (hBiasIdeal := hBiasIdeal)
    ∧ quiescent_BiasRefIdeal (hBiasRefIdeal := hBiasRefIdeal)
    ∧ preserves_Conv_ConvIdeal
    ∧ algebraic_ConvIdeal_ConvRefIdeal (hConvIdeal := hConvIdeal) (hConvRefIdeal := hConvRefIdeal)
    ∧ preserves_Pool_PoolIdeal
    ∧ algebraic_PoolIdeal_PoolRefIdeal_pre_finite_inputs (hPoolIdeal := hPoolIdeal) (hPoolRefIdeal := hPoolRefIdeal) (hPre_finite_inputs := hPre_finite_inputs)
    ∧ preserves_Proj_ProjIdeal
    ∧ algebraic_ProjIdeal_ProjRefIdeal (hProjIdeal := hProjIdeal) (hProjRefIdeal := hProjRefIdeal)
    ∧ preserves_Ctx_CtxIdeal
    ∧ algebraic_CtxIdeal_CtxRefIdeal_pre_finite_context (hCtxIdeal := hCtxIdeal) (hCtxRefIdeal := hCtxRefIdeal) (hPre_finite_context := hPre_finite_context)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_Bias_BiasIdeal
    ∧ algebraic_BiasIdeal_BiasRefIdeal (hBiasIdeal := hBiasIdeal) (hBiasRefIdeal := hBiasRefIdeal)
-- ==== Pre_finite_context.lean ====
abbrev S8x256x1024 : Shape := ⟨3, ![8, 256, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S1x1024x4096 : Shape := ⟨3, ![1, 1024, 4096]⟩
abbrev S_ : Shape := ⟨0, ![]⟩

class Facts : Prop where
  bcast_S_S8x256x1024 : S_.BroadcastsInDim S8x256x1024 (![] : Fin 0 → Fin S8x256x1024.rank)
  bcast_S_S1024 : S_.BroadcastsInDim S1024 (![] : Fin 0 → Fin S1024.rank)
  bcast_S_S4x1024 : S_.BroadcastsInDim S4x1024 (![] : Fin 0 → Fin S4x1024.rank)
  bcast_S_S4x1024x3072 : S_.BroadcastsInDim S4x1024x3072 (![] : Fin 0 → Fin S4x1024x3072.rank)
  bcast_S_S4x3072 : S_.BroadcastsInDim S4x3072 (![] : Fin 0 → Fin S4x3072.rank)
  bcast_S_S2x1024x2048 : S_.BroadcastsInDim S2x1024x2048 (![] : Fin 0 → Fin S2x1024x2048.rank)
  bcast_S_S2x4x256x256 : S_.BroadcastsInDim S2x4x256x256 (![] : Fin 0 → Fin S2x4x256x256.rank)
  bcast_S_S2x1024 : S_.BroadcastsInDim S2x1024 (![] : Fin 0 → Fin S2x1024.rank)

variable [Facts]

def fn_part1 {F : FTy → Type} [FloatOps F] (main_arg7 : FVec F S2x4x256x256 .f32) (main_arg8 : FVec F S2x1024 .f32) (main_v2 : IVec S8x256x1024 1) (main_v5 : IVec S1024 1) (main_v8 : IVec S4x1024 1) (main_v11 : IVec S4x1024x3072 1) (main_v14 : IVec S4x3072 1) (main_v17 : IVec S2x1024x2048 1) : IVec S8x256x1024 1 × IVec S1024 1 × IVec S4x1024 1 × IVec S4x1024x3072 1 × IVec S4x3072 1 × IVec S2x1024x2048 1 × IVec S2x4x256x256 1 × IVec S2x1024 1 :=
  let main_v18 : FVec F S2x4x256x256 .f32 := Host.absf main_arg7
  let main_cst_5 : FVec F S_ .f32 := constant S_ .f32 0x7F800000#32
  let main_v19 : FVec F S2x4x256x256 .f32 := broadcastInDim S2x4x256x256 ![] bcast_S_S2x4x256x256 main_cst_5
  let main_v20 : IVec S2x4x256x256 1 := cmpf .olt main_v18 main_v19
  let main_v21 : FVec F S2x1024 .f32 := Host.absf main_arg8
  let main_cst_6 : FVec F S_ .f32 := constant S_ .f32 0x7F800000#32
  let main_v22 : FVec F S2x1024 .f32 := broadcastInDim S2x1024 ![] bcast_S_S2x1024 main_cst_6
  let main_v23 : IVec S2x1024 1 := cmpf .olt main_v21 main_v22
  (main_v2, main_v5, main_v8, main_v11, main_v14, main_v17, main_v20, main_v23)

def fn {F : FTy → Type} [FloatOps F] (main_arg0 : FVec F S8x256x1024 .f32) (main_arg1 : FVec F S8x1024 .f32) (main_arg2 : FVec F S1024 .f32) (main_arg3 : FVec F S4x1024 .f32) (main_arg4 : FVec F S4x1024x3072 .f32) (main_arg5 : FVec F S4x3072 .f32) (main_arg6 : FVec F S2x1024x2048 .f32) (main_arg7 : FVec F S2x4x256x256 .f32) (main_arg8 : FVec F S2x1024 .f32) (main_arg9 : FVec F S2x1024x1024 .f32) (main_arg10 : FVec F S1x1024x4096 .f32) : IVec S8x256x1024 1 × IVec S1024 1 × IVec S4x1024 1 × IVec S4x1024x3072 1 × IVec S4x3072 1 × IVec S2x1024x2048 1 × IVec S2x4x256x256 1 × IVec S2x1024 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024 .f32 := Host.absf main_arg3
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024x3072 .f32 := Host.absf main_arg4
  let main_cst_2 : FVec F S_ .f32 := constant S_ .f32 0x7F800000#32
  let main_v10 : FVec F S4x1024x3072 .f32 := broadcastInDim S4x1024x3072 ![] bcast_S_S4x1024x3072 main_cst_2
  let main_v11 : IVec S4x1024x3072 1 := cmpf .olt main_v9 main_v10
  let main_v12 : FVec F S4x3072 .f32 := Host.absf main_arg5
  let main_cst_3 : FVec F S_ .f32 := constant S_ .f32 0x7F800000#32
  let main_v13 : FVec F S4x3072 .f32 := broadcastInDim S4x3072 ![] bcast_S_S4x3072 main_cst_3
  let main_v14 : IVec S4x3072 1 := cmpf .olt main_v12 main_v13
  let main_v15 : FVec F S2x1024x2048 .f32 := Host.absf main_arg6
  let main_cst_4 : FVec F S_ .f32 := constant S_ .f32 0x7F800000#32
  let main_v16 : FVec F S2x1024x2048 .f32 := broadcastInDim S2x1024x2048 ![] bcast_S_S2x1024x2048 main_cst_4
  let main_v17 : IVec S2x1024x2048 1 := cmpf .olt main_v15 main_v16
  fn_part1 (F := F) main_arg7 main_arg8 main_v2 main_v5 main_v8 main_v11 main_v14 main_v17
-- ==== Pre_finite_inputs.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S_ : Shape := ⟨0, ![]⟩

class Facts : Prop where
  bcast_S_S8x2048x1024 : S_.BroadcastsInDim S8x2048x1024 (![] : Fin 0 → Fin S8x2048x1024.rank)
  bcast_S_S8x1024 : S_.BroadcastsInDim S8x1024 (![] : Fin 0 → Fin S8x1024.rank)
  bcast_S_S4x1024 : S_.BroadcastsInDim S4x1024 (![] : Fin 0 → Fin S4x1024.rank)
  bcast_S_S4x1024x3072 : S_.BroadcastsInDim S4x1024x3072 (![] : Fin 0 → Fin S4x1024x3072.rank)
  bcast_S_S4x3072 : S_.BroadcastsInDim S4x3072 (![] : Fin 0 → Fin S4x3072.rank)
  bcast_S_S2x1024x2048 : S_.BroadcastsInDim S2x1024x2048 (![] : Fin 0 → Fin S2x1024x2048.rank)
  bcast_S_S2x4x256x256 : S_.BroadcastsInDim S2x4x256x256 (![] : Fin 0 → Fin S2x4x256x256.rank)
  bcast_S_S2x1024 : S_.BroadcastsInDim S2x1024 (![] : Fin 0 → Fin S2x1024.rank)

variable [Facts]

def fn_part1 {F : FTy → Type} [FloatOps F] (main_arg7 : FVec F S2x4x256x256 .f32) (main_arg8 : FVec F S2x1024 .f32) (main_v2 : IVec S8x2048x1024 1) (main_v5 : IVec S8x1024 1) (main_v8 : IVec S4x1024 1) (main_v11 : IVec S4x1024x3072 1) (main_v14 : IVec S4x3072 1) (main_v17 : IVec S2x1024x2048 1) : IVec S8x2048x1024 1 × IVec S8x1024 1 × IVec S4x1024 1 × IVec S4x1024x3072 1 × IVec S4x3072 1 × IVec S2x1024x2048 1 × IVec S2x4x256x256 1 × IVec S2x1024 1 :=
  let main_v18 : FVec F S2x4x256x256 .f32 := Host.absf main_arg7
  let main_cst_5 : FVec F S_ .f32 := constant S_ .f32 0x7F800000#32
  let main_v19 : FVec F S2x4x256x256 .f32 := broadcastInDim S2x4x256x256 ![] bcast_S_S2x4x256x256 main_cst_5
  let main_v20 : IVec S2x4x256x256 1 := cmpf .olt main_v18 main_v19
  let main_v21 : FVec F S2x1024 .f32 := Host.absf main_arg8
  let main_cst_6 : FVec F S_ .f32 := constant S_ .f32 0x7F800000#32
  let main_v22 : FVec F S2x1024 .f32 := broadcastInDim S2x1024 ![] bcast_S_S2x1024 main_cst_6
  let main_v23 : IVec S2x1024 1 := cmpf .olt main_v21 main_v22
  (main_v2, main_v5, main_v8, main_v11, main_v14, main_v17, main_v20, main_v23)

def fn {F : FTy → Type} [FloatOps F] (main_arg0 : FVec F S8x2048x1024 .f32) (main_arg1 : FVec F S8x1024 .f32) (main_arg2 : FVec F S1024 .f32) (main_arg3 : FVec F S4x1024 .f32) (main_arg4 : FVec F S4x1024x3072 .f32) (main_arg5 : FVec F S4x3072 .f32) (main_arg6 : FVec F S2x1024x2048 .f32) (main_arg7 : FVec F S2x4x256x256 .f32) (main_arg8 : FVec F S2x1024 .f32) (main_arg9 : FVec F S2x1024x1024 .f32) (main_arg10 : FVec F S1024 .f32) : IVec S8x2048x1024 1 × IVec S8x1024 1 × IVec S4x1024 1 × IVec S4x1024x3072 1 × IVec S4x3072 1 × IVec S2x1024x2048 1 × IVec S2x4x256x256 1 × IVec S2x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S4x1024 .f32 := Host.absf main_arg3
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024x3072 .f32 := Host.absf main_arg4
  let main_cst_2 : FVec F S_ .f32 := constant S_ .f32 0x7F800000#32
  let main_v10 : FVec F S4x1024x3072 .f32 := broadcastInDim S4x1024x3072 ![] bcast_S_S4x1024x3072 main_cst_2
  let main_v11 : IVec S4x1024x3072 1 := cmpf .olt main_v9 main_v10
  let main_v12 : FVec F S4x3072 .f32 := Host.absf main_arg5
  let main_cst_3 : FVec F S_ .f32 := constant S_ .f32 0x7F800000#32
  let main_v13 : FVec F S4x3072 .f32 := broadcastInDim S4x3072 ![] bcast_S_S4x3072 main_cst_3
  let main_v14 : IVec S4x3072 1 := cmpf .olt main_v12 main_v13
  let main_v15 : FVec F S2x1024x2048 .f32 := Host.absf main_arg6
  let main_cst_4 : FVec F S_ .f32 := constant S_ .f32 0x7F800000#32
  let main_v16 : FVec F S2x1024x2048 .f32 := broadcastInDim S2x1024x2048 ![] bcast_S_S2x1024x2048 main_cst_4
  let main_v17 : IVec S2x1024x2048 1 := cmpf .olt main_v15 main_v16
  fn_part1 (F := F) main_arg7 main_arg8 main_v2 main_v5 main_v8 main_v11 main_v14 main_v17
-- ==== Pre_finite_tail.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x3x1024 : Shape := ⟨3, ![1, 3, 1024]⟩
abbrev S1x1024 : Shape := ⟨2, ![1, 1024]⟩
abbrev S1x1024x1024 : Shape := ⟨3, ![1, 1024, 1024]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S_ : Shape := ⟨0, ![]⟩

class Facts : Prop where
  bcast_S_S8x2048x1024 : S_.BroadcastsInDim S8x2048x1024 (![] : Fin 0 → Fin S8x2048x1024.rank)
  bcast_S_S8x1024 : S_.BroadcastsInDim S8x1024 (![] : Fin 0 → Fin S8x1024.rank)
  bcast_S_S4x1024 : S_.BroadcastsInDim S4x1024 (![] : Fin 0 → Fin S4x1024.rank)
  bcast_S_S4x1024x3072 : S_.BroadcastsInDim S4x1024x3072 (![] : Fin 0 → Fin S4x1024x3072.rank)
  bcast_S_S4x3072 : S_.BroadcastsInDim S4x3072 (![] : Fin 0 → Fin S4x3072.rank)
  bcast_S_S1x1024x4096 : S_.BroadcastsInDim S1x1024x4096 (![] : Fin 0 → Fin S1x1024x4096.rank)
  bcast_S_S1x3x1024 : S_.BroadcastsInDim S1x3x1024 (![] : Fin 0 → Fin S1x3x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S2x1024x2048 : S_.BroadcastsInDim S2x1024x2048 (![] : Fin 0 → Fin S2x1024x2048.rank)
  bcast_S_S2x4x256x256 : S_.BroadcastsInDim S2x4x256x256 (![] : Fin 0 → Fin S2x4x256x256.rank)
  bcast_S_S2x1024 : S_.BroadcastsInDim S2x1024 (![] : Fin 0 → Fin S2x1024.rank)

variable [Facts]

def fn_part1 {F : FTy → Type} [FloatOps F] (main_arg7 : FVec F S1x3x1024 .f32) (main_arg8 : FVec F S1x1024 .f32) (main_arg9 : FVec F S1x1024x1024 .f32) (main_arg10 : FVec F S2x1024x2048 .f32) (main_arg11 : FVec F S2x4x256x256 .f32) (main_arg12 : FVec F S2x1024 .f32) (main_v2 : IVec S8x2048x1024 1) (main_v5 : IVec S8x1024 1) (main_v8 : IVec S4x1024 1) (main_v11 : IVec S4x1024x3072 1) (main_v14 : IVec S4x3072 1) (main_v17 : IVec S1x1024x4096 1) : IVec S8x2048x1024 1 × IVec S8x1024 1 × IVec S4x1024 1 × IVec S4x1024x3072 1 × IVec S4x3072 1 × IVec S1x1024x4096 1 × IVec S1x3x1024 1 × IVec S1x1024 1 × IVec S1x1024x1024 1 × IVec S2x1024x2048 1 × IVec S2x4x256x256 1 × IVec S2x1024 1 :=
  let main_v18 : FVec F S1x3x1024 .f32 := Host.absf main_arg7
  let main_cst_5 : FVec F S_ .f32 := constant S_ .f32 0x7F800000#32
  let main_v19 : FVec F S1x3x1024 .f32 := broadcastInDim S1x3x1024 ![] bcast_S_S1x3x1024 main_cst_5
  let main_v20 : IVec S1x3x1024 1 := cmpf .olt main_v18 main_v19
  let main_v21 : FVec F S1x1024 .f32 := Host.absf main_arg8
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024x1024 .f32 := Host.absf main_arg9
  let main_cst_7 : FVec F S_ .f32 := constant S_ .f32 0x7F800000#32
  let main_v25 : FVec F S1x1024x1024 .f32 := broadcastInDim S1x1024x1024 ![] bcast_S_S1x1024x1024 main_cst_7
  let main_v26 : IVec S1x1024x1024 1 := cmpf .olt main_v24 main_v25
  let main_v27 : FVec F S2x1024x2048 .f32 := Host.absf main_arg10
  let main_cst_8 : FVec F S_ .f32 := constant S_ .f32 0x7F800000#32
  let main_v28 : FVec F S2x1024x2048 .f32 := broadcastInDim S2x1024x2048 ![] bcast_S_S2x1024x2048 main_cst_8
  let main_v29 : IVec S2x1024x2048 1 := cmpf .olt main_v27 main_v28
  let main_v30 : FVec F S2x4x256x256 .f32 := Host.absf main_arg11
  let main_cst_9 : FVec F S_ .f32 := constant S_ .f32 0x7F800000#32
  let main_v31 : FVec F S2x4x256x256 .f32 := broadcastInDim S2x4x256x256 ![] bcast_S_S2x4x256x256 main_cst_9
  let main_v32 : IVec S2x4x256x256 1 := cmpf .olt main_v30 main_v31
  let main_v33 : FVec F S2x1024 .f32 := Host.absf main_arg12
  let main_cst_10 : FVec F S_ .f32 := constant S_ .f32 0x7F800000#32
  let main_v34 : FVec F S2x1024 .f32 := broadcastInDim S2x1024 ![] bcast_S_S2x1024 main_cst_10
  let main_v35 : IVec S2x1024 1 := cmpf .olt main_v33 main_v34
  (main_v2, main_v5, main_v8, main_v11, main_v14, main_v17, main_v20, main_v23, main_v26, main_v29, main_v32, main_v35)

def fn {F : FTy → Type} [FloatOps F] (main_arg0 : FVec F S8x2048x1024 .f32) (main_arg1 : FVec F S8x1024 .f32) (main_arg2 : FVec F S1024 .f32) (main_arg3 : FVec F S4x1024 .f32) (main_arg4 : FVec F S4x1024x3072 .f32) (main_arg5 : FVec F S4x3072 .f32) (main_arg6 : FVec F S1x1024x4096 .f32) (main_arg7 : FVec F S1x3x1024 .f32) (main_arg8 : FVec F S1x1024 .f32) (main_arg9 : FVec F S1x1024x1024 .f32) (main_arg10 : FVec F S2x1024x2048 .f32) (main_arg11 : FVec F S2x4x256x256 .f32) (main_arg12 : FVec F S2x1024 .f32) (main_arg13 : FVec F S2x1024x1024 .f32) (main_arg14 : FVec F S1024 .f32) : IVec S8x2048x1024 1 × IVec S8x1024 1 × IVec S4x1024 1 × IVec S4x1024x3072 1 × IVec S4x3072 1 × IVec S1x1024x4096 1 × IVec S1x3x1024 1 × IVec S1x1024 1 × IVec S1x1024x1024 1 × IVec S2x1024x2048 1 × IVec S2x4x256x256 1 × IVec S2x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S4x1024 .f32 := Host.absf main_arg3
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024x3072 .f32 := Host.absf main_arg4
  let main_cst_2 : FVec F S_ .f32 := constant S_ .f32 0x7F800000#32
  let main_v10 : FVec F S4x1024x3072 .f32 := broadcastInDim S4x1024x3072 ![] bcast_S_S4x1024x3072 main_cst_2
  let main_v11 : IVec S4x1024x3072 1 := cmpf .olt main_v9 main_v10
  let main_v12 : FVec F S4x3072 .f32 := Host.absf main_arg5
  let main_cst_3 : FVec F S_ .f32 := constant S_ .f32 0x7F800000#32
  let main_v13 : FVec F S4x3072 .f32 := broadcastInDim S4x3072 ![] bcast_S_S4x3072 main_cst_3
  let main_v14 : IVec S4x3072 1 := cmpf .olt main_v12 main_v13
  let main_v15 : FVec F S1x1024x4096 .f32 := Host.absf main_arg6
  let main_cst_4 : FVec F S_ .f32 := constant S_ .f32 0x7F800000#32
  let main_v16 : FVec F S1x1024x4096 .f32 := broadcastInDim S1x1024x4096 ![] bcast_S_S1x1024x4096 main_cst_4
  let main_v17 : IVec S1x1024x4096 1 := cmpf .olt main_v15 main_v16
  fn_part1 (F := F) main_arg7 main_arg8 main_arg9 main_arg10 main_arg11 main_arg12 main_v2 main_v5 main_v8 main_v11 main_v14 main_v17
-- ==== Conv.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x3x1024 : Shape := ⟨3, ![1, 3, 1024]⟩
abbrev S1x1024 : Shape := ⟨2, ![1, 1024]⟩
abbrev S1x1024x1024 : Shape := ⟨3, ![1, 1024, 1024]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩
abbrev S4x16x3x1024 : Shape := ⟨4, ![4, 16, 3, 1024]⟩
abbrev S4x1x1024 : Shape := ⟨3, ![4, 1, 1024]⟩
abbrev S1x1x1024 : Shape := ⟨3, ![1, 1, 1024]⟩
abbrev S1x8x1024 : Shape := ⟨3, ![1, 8, 1024]⟩
abbrev S1x1x3x1024 : Shape := ⟨4, ![1, 1, 3, 1024]⟩
abbrev S1x1x1x1024 : Shape := ⟨4, ![1, 1, 1, 1024]⟩
abbrev S1024x1024 : Shape := ⟨2, ![1024, 1024]⟩
abbrev S1040x1024 : Shape := ⟨2, ![1040, 1024]⟩
abbrev S1040 : Shape := ⟨1, ![1040]⟩
abbrev S1040x1 : Shape := ⟨2, ![1040, 1]⟩
abbrev S1x1024x256 : Shape := ⟨3, ![1, 1024, 256]⟩
abbrev S1024x256 : Shape := ⟨2, ![1024, 256]⟩
abbrev S1040x256 : Shape := ⟨2, ![1040, 256]⟩
abbrev S8x256 : Shape := ⟨2, ![8, 256]⟩
abbrev S1x1x256 : Shape := ⟨3, ![1, 1, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 26
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S1x1024x4096, .f32⟩
  | .hbm, ⟨7, _⟩ => ⟨S1x3x1024, .f32⟩
  | .hbm, ⟨8, _⟩ => ⟨S1x1024, .f32⟩
  | .hbm, ⟨9, _⟩ => ⟨S1x1024x1024, .f32⟩
  | .hbm, ⟨10, _⟩ => ⟨S_, .f32⟩
  | .hbm, ⟨11, _⟩ => ⟨S16x1024, .f32⟩
  | .hbm, ⟨12, _⟩ => ⟨S_, .i32⟩
  | .hbm, ⟨13, _⟩ => ⟨S1, .i32⟩
  | .hbm, ⟨14, _⟩ => ⟨S16x1024, .f32⟩
  | .hbm, ⟨15, _⟩ => ⟨S_, .i32⟩
  | .hbm, ⟨16, _⟩ => ⟨S1, .i32⟩
  | .hbm, ⟨17, _⟩ => ⟨S16x1024, .f32⟩
  | .hbm, ⟨18, _⟩ => ⟨S4x1x3072, .f32⟩
  | .hbm, ⟨19, _⟩ => ⟨S4x16x3072, .f32⟩
  | .hbm, ⟨20, _⟩ => ⟨S4x16x3x1024, .f32⟩
  | .hbm, ⟨21, _⟩ => ⟨S4x1x1024, .f32⟩
  | .hbm, ⟨22, _⟩ => ⟨S1x1024x4096, .bf16⟩
  | .hbm, ⟨23, _⟩ => ⟨S1x1x1024, .f32⟩
  | .hbm, ⟨24, _⟩ => ⟨S1x1024x1024, .bf16⟩
  | .hbm, ⟨25, _⟩ => ⟨S8x2048x1024, .f32⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | .local _ .vmem, ⟨7, _⟩ => ⟨S1x1024x1024, .f32⟩
  | .local _ .vmem, ⟨8, _⟩ => ⟨S1x1024x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x1x3x1024, .f32⟩
  | .local _ .vmem, ⟨14, _⟩ => ⟨S1x1x3x1024, .f32⟩
  | .local _ .vmem, ⟨15, _⟩ => ⟨S1x1x1024, .f32⟩
  | .local _ .vmem, ⟨16, _⟩ => ⟨S1x1024x4096, .bf16⟩
  | .local _ .vmem, ⟨17, _⟩ => ⟨S1x3x1024, .f32⟩
  | .local _ .vmem, ⟨18, _⟩ => ⟨S1x1x1024, .f32⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc1_transform_3 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x3x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ConvRefIdeal.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x3x1024 : Shape := ⟨3, ![1, 3, 1024]⟩
abbrev S1x1024 : Shape := ⟨2, ![1, 1024]⟩
abbrev S1x1024x1024 : Shape := ⟨3, ![1, 1024, 1024]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S_ : Shape := ⟨0, ![]⟩
abbrev S8x3072 : Shape := ⟨2, ![8, 3072]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x4096 : Shape := ⟨2, ![1024, 4096]⟩
abbrev S3x1024 : Shape := ⟨2, ![3, 1024]⟩
abbrev S1024x1024 : Shape := ⟨2, ![1024, 1024]⟩
abbrev S8x2048x4096 : Shape := ⟨3, ![8, 2048, 4096]⟩
abbrev S8x2050x1024 : Shape := ⟨3, ![8, 2050, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S1x1024x4096, .f32⟩
  | .hbm, ⟨7, _⟩ => ⟨S1x3x1024, .f32⟩
  | .hbm, ⟨8, _⟩ => ⟨S1x1024, .f32⟩
  | .hbm, ⟨9, _⟩ => ⟨S1x1024x1024, .f32⟩
  | .hbm, ⟨10, _⟩ => ⟨S1x1024x3072, .f32⟩
  | .hbm, ⟨11, _⟩ => ⟨S1024x3072, .f32⟩
  | .hbm, ⟨12, _⟩ => ⟨S1x3072, .f32⟩
  | .hbm, ⟨13, _⟩ => ⟨S3072, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x3072, .f32⟩
  | .hbm, ⟨24, _⟩ => ⟨S1x3072, .f32⟩
  | .hbm, ⟨25, _⟩ => ⟨S8x3072, .f32⟩
  | .hbm, ⟨26, _⟩ => ⟨S8x3072, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S1x1024, .f32⟩
  | .hbm, ⟨31, _⟩ => ⟨S1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x1x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S1024x4096, .f32⟩
  | .hbm, ⟨58, _⟩ => ⟨S3x1024, .f32⟩
  | .hbm, ⟨59, _⟩ => ⟨S1024, .f32⟩
  | .hbm, ⟨60, _⟩ => ⟨S1024x1024, .f32⟩
  | .hbm, ⟨61, _⟩ => ⟨S8x2048x4096, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .i32⟩
  | .hbm, ⟨68, _⟩ => ⟨S_, .f32⟩
  | .hbm, ⟨69, _⟩ => ⟨S8x2050x1024, .f32⟩
  | .hbm, ⟨70, _⟩ => ⟨S8x2048x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S1x1024, .f32⟩
  | .hbm, ⟨78, _⟩ => ⟨S1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S1x1024, .f32⟩
  | .hbm, ⟨85, _⟩ => ⟨S1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S_, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x1x1024, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Pool.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩
abbrev S4x16x3x1024 : Shape := ⟨4, ![4, 16, 3, 1024]⟩
abbrev S4x1x1024 : Shape := ⟨3, ![4, 1, 1024]⟩
abbrev S2x1x1024 : Shape := ⟨3, ![2, 1, 1024]⟩
abbrev S1x1024x2048 : Shape := ⟨3, ![1, 1024, 2048]⟩
abbrev S1x4x256x256 : Shape := ⟨4, ![1, 4, 256, 256]⟩
abbrev S1x1x1024 : Shape := ⟨3, ![1, 1, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1024x1024 : Shape := ⟨2, ![1024, 1024]⟩
abbrev S1x1024 : Shape := ⟨2, ![1, 1024]⟩
abbrev S1x8x1024 : Shape := ⟨3, ![1, 8, 1024]⟩
abbrev S1x1x3x1024 : Shape := ⟨4, ![1, 1, 3, 1024]⟩
abbrev S1x1x1x1024 : Shape := ⟨4, ![1, 1, 1, 1024]⟩
abbrev S1040x1024 : Shape := ⟨2, ![1040, 1024]⟩
abbrev S1040 : Shape := ⟨1, ![1040]⟩
abbrev S1040x1 : Shape := ⟨2, ![1040, 1]⟩
abbrev S1040x256 : Shape := ⟨2, ![1040, 256]⟩
abbrev S8x1 : Shape := ⟨2, ![8, 1]⟩
abbrev S8x256 : Shape := ⟨2, ![8, 256]⟩
abbrev S1008x256 : Shape := ⟨2, ![1008, 256]⟩
abbrev S1024x1 : Shape := ⟨2, ![1024, 1]⟩

abbrev nBuf : Space → Nat
  | .hbm => 29
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S2x1024x2048, .f32⟩
  | .hbm, ⟨7, _⟩ => ⟨S2x4x256x256, .f32⟩
  | .hbm, ⟨8, _⟩ => ⟨S2x1024, .f32⟩
  | .hbm, ⟨9, _⟩ => ⟨S2x1024x1024, .f32⟩
  | .hbm, ⟨10, _⟩ => ⟨S1024, .f32⟩
  | .hbm, ⟨11, _⟩ => ⟨S_, .f32⟩
  | .hbm, ⟨12, _⟩ => ⟨S16x1024, .f32⟩
  | .hbm, ⟨13, _⟩ => ⟨S_, .i32⟩
  | .hbm, ⟨14, _⟩ => ⟨S1, .i32⟩
  | .hbm, ⟨15, _⟩ => ⟨S16x1024, .f32⟩
  | .hbm, ⟨16, _⟩ => ⟨S_, .i32⟩
  | .hbm, ⟨17, _⟩ => ⟨S1, .i32⟩
  | .hbm, ⟨18, _⟩ => ⟨S16x1024, .f32⟩
  | .hbm, ⟨19, _⟩ => ⟨S4x1x3072, .f32⟩
  | .hbm, ⟨20, _⟩ => ⟨S4x16x3072, .f32⟩
  | .hbm, ⟨21, _⟩ => ⟨S4x16x3x1024, .f32⟩
  | .hbm, ⟨22, _⟩ => ⟨S4x1x1024, .f32⟩
  | .hbm, ⟨23, _⟩ => ⟨S2x1x1024, .f32⟩
  | .hbm, ⟨24, _⟩ => ⟨S2x1024x1024, .bf16⟩
  | .hbm, ⟨25, _⟩ => ⟨S2x1024x1024, .bf16⟩
  | .hbm, ⟨26, _⟩ => ⟨S2x1024x1024, .bf16⟩
  | .hbm, ⟨27, _⟩ => ⟨S1x1024, .f32⟩
  | .hbm, ⟨28, _⟩ => ⟨S8x2048x1024, .f32⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | .local _ .vmem, ⟨7, _⟩ => ⟨S1x1024x2048, .f32⟩
  | .local _ .vmem, ⟨8, _⟩ => ⟨S1x1024x2048, .f32⟩
  | .local _ .vmem, ⟨9, _⟩ => ⟨S1x4x256x256, .f32⟩
  | .local _ .vmem, ⟨10, _⟩ => ⟨S1x4x256x256, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x8x1024, .f32⟩
  | .local _ .vmem, ⟨27, _⟩ => ⟨S1x1x3x1024, .f32⟩
  | .local _ .vmem, ⟨28, _⟩ => ⟨S1x1x3x1024, .f32⟩
  | .local _ .vmem, ⟨29, _⟩ => ⟨S1x1x1024, .f32⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S1x1024, .f32⟩
  | .local _ .vmem, ⟨34, _⟩ => ⟨S1x1024x1024, .f32⟩
  | .local _ .vmem, ⟨35, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc2_transform_3 (i : grid2.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x3x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x1024x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]
-- ==== PoolRefIdeal.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S_ : Shape := ⟨0, ![]⟩
abbrev S8x3072 : Shape := ⟨2, ![8, 3072]⟩
abbrev S1x1024 : Shape := ⟨2, ![1, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1x1024x2048 : Shape := ⟨3, ![1, 1024, 2048]⟩
abbrev S1024x2048 : Shape := ⟨2, ![1024, 2048]⟩
abbrev S1x4x256x256 : Shape := ⟨4, ![1, 4, 256, 256]⟩
abbrev S4x256x256 : Shape := ⟨3, ![4, 256, 256]⟩
abbrev S1x1024x1024 : Shape := ⟨3, ![1, 1024, 1024]⟩
abbrev S1024x1024 : Shape := ⟨2, ![1024, 1024]⟩
abbrev S8x2048x2048 : Shape := ⟨3, ![8, 2048, 2048]⟩
abbrev S8x2048x4x256 : Shape := ⟨4, ![8, 2048, 4, 256]⟩
abbrev S8x2048x1x256 : Shape := ⟨4, ![8, 2048, 1, 256]⟩
abbrev S8x2048x256 : Shape := ⟨3, ![8, 2048, 256]⟩
abbrev S8x1x256 : Shape := ⟨3, ![8, 1, 256]⟩
abbrev S8x2049x256 : Shape := ⟨3, ![8, 2049, 256]⟩
abbrev S2048 : Shape := ⟨1, ![2048]⟩
abbrev S2048x1 : Shape := ⟨2, ![2048, 1]⟩
abbrev S1x2048x1 : Shape := ⟨3, ![1, 2048, 1]⟩
abbrev S4x256x8x2048 : Shape := ⟨4, ![4, 256, 8, 2048]⟩

abbrev nBuf : Space → Nat
  | .hbm => 333
  | .vmem => 0
  | .smem => 0
  | _ => 0

abbrev hbmTy0_0 (i : Nat) : BufTy := match i % 128 with
  | 0 => ⟨S8x2048x1024, .f32⟩
  | 1 => ⟨S8x1024, .f32⟩
  | 2 => ⟨S1024, .f32⟩
  | 3 => ⟨S4x1024, .f32⟩
  | 4 => ⟨S4x1024x3072, .f32⟩
  | 5 => ⟨S4x3072, .f32⟩
  | 6 => ⟨S2x1024x2048, .f32⟩
  | 7 => ⟨S2x4x256x256, .f32⟩
  | 8 => ⟨S2x1024, .f32⟩
  | 9 => ⟨S2x1024x1024, .f32⟩
  | 10 => ⟨S1024, .f32⟩
  | 11 => ⟨S1x1024x3072, .f32⟩
  | 12 => ⟨S1024x3072, .f32⟩
  | 13 => ⟨S1x3072, .f32⟩
  | 14 => ⟨S3072, .f32⟩
  | 15 => ⟨S8x1024, .f32⟩
  | 16 => ⟨S8x1024, .f32⟩
  | 17 => ⟨S_, .f32⟩
  | 18 => ⟨S8x1024, .f32⟩
  | 19 => ⟨S8x1024, .f32⟩
  | 20 => ⟨S_, .f32⟩
  | 21 => ⟨S8x1024, .f32⟩
  | 22 => ⟨S8x1024, .f32⟩
  | 23 => ⟨S8x1024, .f32⟩
  | 24 => ⟨S8x3072, .f32⟩
  | 25 => ⟨S1x3072, .f32⟩
  | 26 => ⟨S8x3072, .f32⟩
  | 27 => ⟨S8x3072, .f32⟩
  | 28 => ⟨S8x1024, .f32⟩
  | 29 => ⟨S8x1024, .f32⟩
  | 30 => ⟨S8x1024, .f32⟩
  | 31 => ⟨S1x1024, .f32⟩
  | 32 => ⟨S1024, .f32⟩
  | 33 => ⟨S8x2048x1024, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x1024, .f32⟩
  | 45 => ⟨S8x2048x1024, .f32⟩
  | 46 => ⟨S1x1x1024, .f32⟩
  | 47 => ⟨S8x2048x1024, .f32⟩
  | 48 => ⟨S8x2048x1024, .f32⟩
  | 49 => ⟨S8x1x1024, .f32⟩
  | 50 => ⟨S_, .f32⟩
  | 51 => ⟨S8x1x1024, .f32⟩
  | 52 => ⟨S8x1x1024, .f32⟩
  | 53 => ⟨S8x2048x1024, .f32⟩
  | 54 => ⟨S8x2048x1024, .f32⟩
  | 55 => ⟨S8x1x1024, .f32⟩
  | 56 => ⟨S8x2048x1024, .f32⟩
  | 57 => ⟨S8x2048x1024, .f32⟩
  | 58 => ⟨S1x1024x2048, .f32⟩
  | 59 => ⟨S1024x2048, .f32⟩
  | 60 => ⟨S1x4x256x256, .f32⟩
  | 61 => ⟨S4x256x256, .f32⟩
  | 62 => ⟨S1x1024, .f32⟩
  | 63 => ⟨S1024, .f32⟩
  | 64 => ⟨S1x1024x1024, .f32⟩
  | 65 => ⟨S1024x1024, .f32⟩
  | 66 => ⟨S8x2048x2048, .f32⟩
  | 67 => ⟨S8x2048x1024, .f32⟩
  | 68 => ⟨S8x2048x1024, .f32⟩
  | 69 => ⟨S8x2048x4x256, .f32⟩
  | 70 => ⟨S8x2048x1x256, .f32⟩
  | 71 => ⟨S8x2048x256, .f32⟩
  | 72 => ⟨S_, .f32⟩
  | 73 => ⟨S8x1x256, .f32⟩
  | 74 => ⟨S_, .f32⟩
  | 75 => ⟨S_, .f32⟩
  | 76 => ⟨S8x2048x256, .f32⟩
  | 77 => ⟨S8x2049x256, .f32⟩
  | 78 => ⟨S2048, .i32⟩
  | 79 => ⟨S_, .i32⟩
  | 80 => ⟨S2048, .i32⟩
  | 81 => ⟨S2048, .i32⟩
  | 82 => ⟨S_, .i32⟩
  | 83 => ⟨S_, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S_, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S2048, .i32⟩
  | 102 => ⟨S2048, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S8x2048x256, .f32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S8x2048x256, .f32⟩
  | 121 => ⟨S8x2048x256, .f32⟩
  | 122 => ⟨S1x2048x1, .f32⟩
  | 123 => ⟨S8x2048x256, .f32⟩
  | 124 => ⟨S8x2048x256, .f32⟩
  | 125 => ⟨S8x2048x1x256, .f32⟩
  | 126 => ⟨S8x2048x256, .f32⟩
  | 127 => ⟨S_, .f32⟩
  | _ => ⟨S8x2048x1024, .f32⟩

abbrev hbmTy0_1 (i : Nat) : BufTy := match i % 128 with
  | 0 => ⟨S8x1x256, .f32⟩
  | 1 => ⟨S_, .f32⟩
  | 2 => ⟨S_, .f32⟩
  | 3 => ⟨S8x2048x256, .f32⟩
  | 4 => ⟨S8x2049x256, .f32⟩
  | 5 => ⟨S2048, .i32⟩
  | 6 => ⟨S_, .i32⟩
  | 7 => ⟨S2048, .i32⟩
  | 8 => ⟨S2048, .i32⟩
  | 9 => ⟨S_, .i32⟩
  | 10 => ⟨S_, .i32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S_, .i32⟩
  | 21 => ⟨S_, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S2048, .i32⟩
  | 29 => ⟨S2048, .f32⟩
  | 30 => ⟨S_, .i32⟩
  | 31 => ⟨S2048, .i32⟩
  | 32 => ⟨S2048, .i1⟩
  | 33 => ⟨S_, .i32⟩
  | 34 => ⟨S2048, .i32⟩
  | 35 => ⟨S2048, .i32⟩
  | 36 => ⟨S2048, .i32⟩
  | 37 => ⟨S2048x1, .i32⟩
  | 38 => ⟨S8x2048x256, .f32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S8x2048x256, .f32⟩
  | 48 => ⟨S8x2048x256, .f32⟩
  | 49 => ⟨S1x2048x1, .f32⟩
  | 50 => ⟨S8x2048x256, .f32⟩
  | 51 => ⟨S8x2048x256, .f32⟩
  | 52 => ⟨S8x2048x1x256, .f32⟩
  | 53 => ⟨S8x2048x256, .f32⟩
  | 54 => ⟨S_, .f32⟩
  | 55 => ⟨S8x1x256, .f32⟩
  | 56 => ⟨S_, .f32⟩
  | 57 => ⟨S_, .f32⟩
  | 58 => ⟨S8x2048x256, .f32⟩
  | 59 => ⟨S8x2049x256, .f32⟩
  | 60 => ⟨S2048, .i32⟩
  | 61 => ⟨S_, .i32⟩
  | 62 => ⟨S2048, .i32⟩
  | 63 => ⟨S2048, .i32⟩
  | 64 => ⟨S_, .i32⟩
  | 65 => ⟨S_, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S_, .i32⟩
  | 76 => ⟨S_, .i32⟩
  | 77 => ⟨S_, .i32⟩
  | 78 => ⟨S2048, .i32⟩
  | 79 => ⟨S2048, .i32⟩
  | 80 => ⟨S_, .i32⟩
  | 81 => ⟨S2048, .i32⟩
  | 82 => ⟨S2048, .i32⟩
  | 83 => ⟨S2048, .i32⟩
  | 84 => ⟨S2048, .f32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S8x2048x256, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S8x2048x256, .f32⟩
  | 103 => ⟨S8x2048x256, .f32⟩
  | 104 => ⟨S1x2048x1, .f32⟩
  | 105 => ⟨S8x2048x256, .f32⟩
  | 106 => ⟨S8x2048x256, .f32⟩
  | 107 => ⟨S8x2048x1x256, .f32⟩
  | 108 => ⟨S8x2048x256, .f32⟩
  | 109 => ⟨S_, .f32⟩
  | 110 => ⟨S8x1x256, .f32⟩
  | 111 => ⟨S_, .f32⟩
  | 112 => ⟨S_, .f32⟩
  | 113 => ⟨S8x2048x256, .f32⟩
  | 114 => ⟨S8x2049x256, .f32⟩
  | 115 => ⟨S2048, .i32⟩
  | 116 => ⟨S_, .i32⟩
  | 117 => ⟨S2048, .i32⟩
  | 118 => ⟨S2048, .i32⟩
  | 119 => ⟨S_, .i32⟩
  | 120 => ⟨S_, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S8x2048x1024, .f32⟩

abbrev hbmTy0_2 (i : Nat) : BufTy := match i % 128 with
  | 0 => ⟨S2048, .i32⟩
  | 1 => ⟨S2048, .i32⟩
  | 2 => ⟨S_, .i32⟩
  | 3 => ⟨S_, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S2048, .i32⟩
  | 11 => ⟨S2048, .f32⟩
  | 12 => ⟨S_, .i32⟩
  | 13 => ⟨S2048, .i32⟩
  | 14 => ⟨S2048, .i1⟩
  | 15 => ⟨S_, .i32⟩
  | 16 => ⟨S2048, .i32⟩
  | 17 => ⟨S2048, .i32⟩
  | 18 => ⟨S2048, .i32⟩
  | 19 => ⟨S2048x1, .i32⟩
  | 20 => ⟨S8x2048x256, .f32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S8x2048x256, .f32⟩
  | 30 => ⟨S8x2048x256, .f32⟩
  | 31 => ⟨S1x2048x1, .f32⟩
  | 32 => ⟨S8x2048x256, .f32⟩
  | 33 => ⟨S8x2048x256, .f32⟩
  | 34 => ⟨S8x2048x1x256, .f32⟩
  | 35 => ⟨S8x2048x1x256, .f32⟩
  | 36 => ⟨S8x2048x1x256, .f32⟩
  | 37 => ⟨S8x2048x1x256, .f32⟩
  | 38 => ⟨S8x2048x4x256, .f32⟩
  | 39 => ⟨S8x2048x4x256, .f32⟩
  | 40 => ⟨S4x256x8x2048, .f32⟩
  | 41 => ⟨S8x2048x4x256, .f32⟩
  | 42 => ⟨S8x2048x1024, .f32⟩
  | 43 => ⟨S1x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S8x1x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S_, .f32⟩
  | 63 => ⟨S8x2048, .f32⟩
  | 64 => ⟨S8x2048x1, .f32⟩
  | 65 => ⟨S_, .f32⟩
  | 66 => ⟨S8x2048x1, .f32⟩
  | 67 => ⟨S8x2048x1, .f32⟩
  | 68 => ⟨S_, .f32⟩
  | 69 => ⟨S8x2048x1, .f32⟩
  | 70 => ⟨S8x2048x1, .f32⟩
  | 71 => ⟨S8x2048x1, .f32⟩
  | 72 => ⟨S8x2048x1024, .f32⟩
  | 73 => ⟨S8x2048x1024, .f32⟩
  | 74 => ⟨S1x1x1024, .f32⟩
  | 75 => ⟨S8x2048x1024, .f32⟩
  | 76 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_call1_call0_cst : Ref sig .tc := ⟨.hbm, 74, rfl⟩
abbrev main_call1_call0_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c : Ref sig .tc := ⟨.hbm, 79, rfl⟩
abbrev main_v53 : Ref sig .tc := ⟨.hbm, 80, rfl⟩
abbrev main_v54 : Ref sig .tc := ⟨.hbm, 81, rfl⟩
abbrev main_c_4 : Ref sig .tc := ⟨.hbm, 82, rfl⟩
abbrev main_c_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v55 : Ref sig .tc := ⟨.hbm, 89, rfl⟩
abbrev main_c_6 : Ref sig .tc := ⟨.hbm, 90, rfl⟩
abbrev main_v56 : Ref sig .tc := ⟨.hbm, 91, rfl⟩
abbrev main_v57 : Ref sig .tc := ⟨.hbm, 92, rfl⟩
abbrev main_c_7 : Ref sig .tc := ⟨.hbm, 93, rfl⟩
abbrev main_c_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_9 : Ref sig .tc := ⟨.hbm, 103, rfl⟩
abbrev main_v61 : Ref sig .tc := ⟨.hbm, 104, rfl⟩
abbrev main_v62 : Ref sig .tc := ⟨.hbm, 105, rfl⟩
abbrev main_c_10 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_11 : Ref sig .tc := ⟨.hbm, 112, rfl⟩
abbrev main_v68 : Ref sig .tc := ⟨.hbm, 113, rfl⟩
abbrev main_v69 : Ref sig .tc := ⟨.hbm, 114, rfl⟩
abbrev main_c_12 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_13 : Ref sig .tc := ⟨.hbm, 127, rfl⟩
abbrev main_v81 : Ref sig .tc := ⟨.hbm, 128, rfl⟩
abbrev main_call4_call0_cst : Ref sig .tc := ⟨.hbm, 129, rfl⟩
abbrev main_call4_call0_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_14 : Ref sig .tc := ⟨.hbm, 134, rfl⟩
abbrev main_v85 : Ref sig .tc := ⟨.hbm, 135, rfl⟩
abbrev main_v86 : Ref sig .tc := ⟨.hbm, 136, rfl⟩
abbrev main_c_15 : Ref sig .tc := ⟨.hbm, 137, rfl⟩
abbrev main_c_16 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_v87 : Ref sig .tc := ⟨.hbm, 144, rfl⟩
abbrev main_c_17 : Ref sig .tc := ⟨.hbm, 145, rfl⟩
abbrev main_v88 : Ref sig .tc := ⟨.hbm, 146, rfl⟩
abbrev main_v89 : Ref sig .tc := ⟨.hbm, 147, rfl⟩
abbrev main_c_18 : Ref sig .tc := ⟨.hbm, 148, rfl⟩
abbrev main_c_19 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_20 : Ref sig .tc := ⟨.hbm, 158, rfl⟩
abbrev main_v93 : Ref sig .tc := ⟨.hbm, 159, rfl⟩
abbrev main_v94 : Ref sig .tc := ⟨.hbm, 160, rfl⟩
abbrev main_c_21 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_c_22 : Ref sig .tc := ⟨.hbm, 167, rfl⟩
abbrev main_v100 : Ref sig .tc := ⟨.hbm, 168, rfl⟩
abbrev main_v101 : Ref sig .tc := ⟨.hbm, 169, rfl⟩
abbrev main_c_23 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_cst_24 : Ref sig .tc := ⟨.hbm, 182, rfl⟩
abbrev main_v113 : Ref sig .tc := ⟨.hbm, 183, rfl⟩
abbrev main_call7_call0_cst : Ref sig .tc := ⟨.hbm, 184, rfl⟩
abbrev main_call7_call0_v0 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_c_25 : Ref sig .tc := ⟨.hbm, 189, rfl⟩
abbrev main_v117 : Ref sig .tc := ⟨.hbm, 190, rfl⟩
abbrev main_v118 : Ref sig .tc := ⟨.hbm, 191, rfl⟩
abbrev main_c_26 : Ref sig .tc := ⟨.hbm, 192, rfl⟩
abbrev main_c_27 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_call8_v3 : Ref sig .tc := ⟨.hbm, 197, rfl⟩
abbrev main_call8_v4 : Ref sig .tc := ⟨.hbm, 198, rfl⟩
abbrev main_v119 : Ref sig .tc := ⟨.hbm, 199, rfl⟩
abbrev main_c_28 : Ref sig .tc := ⟨.hbm, 200, rfl⟩
abbrev main_v120 : Ref sig .tc := ⟨.hbm, 201, rfl⟩
abbrev main_v121 : Ref sig .tc := ⟨.hbm, 202, rfl⟩
abbrev main_c_29 : Ref sig .tc := ⟨.hbm, 203, rfl⟩
abbrev main_c_30 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_c_31 : Ref sig .tc := ⟨.hbm, 213, rfl⟩
abbrev main_v125 : Ref sig .tc := ⟨.hbm, 214, rfl⟩
abbrev main_v126 : Ref sig .tc := ⟨.hbm, 215, rfl⟩
abbrev main_c_32 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_c_33 : Ref sig .tc := ⟨.hbm, 222, rfl⟩
abbrev main_v132 : Ref sig .tc := ⟨.hbm, 223, rfl⟩
abbrev main_v133 : Ref sig .tc := ⟨.hbm, 224, rfl⟩
abbrev main_c_34 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_cst_35 : Ref sig .tc := ⟨.hbm, 237, rfl⟩
abbrev main_v145 : Ref sig .tc := ⟨.hbm, 238, rfl⟩
abbrev main_call10_call0_cst : Ref sig .tc := ⟨.hbm, 239, rfl⟩
abbrev main_call10_call0_v0 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_36 : Ref sig .tc := ⟨.hbm, 244, rfl⟩
abbrev main_v149 : Ref sig .tc := ⟨.hbm, 245, rfl⟩
abbrev main_v150 : Ref sig .tc := ⟨.hbm, 246, rfl⟩
abbrev main_c_37 : Ref sig .tc := ⟨.hbm, 247, rfl⟩
abbrev main_c_38 : Ref sig .tc := ⟨.hbm, 248, rfl⟩
abbrev main_call11_v0 : Ref sig .tc := ⟨.hbm, 249, rfl⟩
abbrev main_call11_v1 : Ref sig .tc := ⟨.hbm, 250, rfl⟩
abbrev main_call11_v2 : Ref sig .tc := ⟨.hbm, 251, rfl⟩
abbrev main_call11_v3 : Ref sig .tc := ⟨.hbm, 252, rfl⟩
abbrev main_call11_v4 : Ref sig .tc := ⟨.hbm, 253, rfl⟩
abbrev main_v151 : Ref sig .tc := ⟨.hbm, 254, rfl⟩
abbrev main_c_39 : Ref sig .tc := ⟨.hbm, 255, rfl⟩
abbrev main_v152 : Ref sig .tc := ⟨.hbm, 256, rfl⟩
abbrev main_v153 : Ref sig .tc := ⟨.hbm, 257, rfl⟩
abbrev main_c_40 : Ref sig .tc := ⟨.hbm, 258, rfl⟩
abbrev main_c_41 : Ref sig .tc := ⟨.hbm, 259, rfl⟩
abbrev main_call12_v0 : Ref sig .tc := ⟨.hbm, 260, rfl⟩
abbrev main_call12_v1 : Ref sig .tc := ⟨.hbm, 261, rfl⟩
abbrev main_call12_v2 : Ref sig .tc := ⟨.hbm, 262, rfl⟩
abbrev main_call12_v3 : Ref sig .tc := ⟨.hbm, 263, rfl⟩
abbrev main_call12_v4 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_c_42 : Ref sig .tc := ⟨.hbm, 268, rfl⟩
abbrev main_v157 : Ref sig .tc := ⟨.hbm, 269, rfl⟩
abbrev main_v158 : Ref sig .tc := ⟨.hbm, 270, rfl⟩
abbrev main_c_43 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_c_44 : Ref sig .tc := ⟨.hbm, 277, rfl⟩
abbrev main_v164 : Ref sig .tc := ⟨.hbm, 278, rfl⟩
abbrev main_v165 : Ref sig .tc := ⟨.hbm, 279, rfl⟩
abbrev main_c_45 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_call13_v0 : Ref sig .tc := ⟨.hbm, 302, rfl⟩
abbrev main_call13_v1 : Ref sig .tc := ⟨.hbm, 303, rfl⟩
abbrev main_call13_cst : Ref sig .tc := ⟨.hbm, 304, rfl⟩
abbrev main_call13_v2 : Ref sig .tc := ⟨.hbm, 305, rfl⟩
abbrev main_call13_v3 : Ref sig .tc := ⟨.hbm, 306, rfl⟩
abbrev main_call13_cst_0 : Ref sig .tc := ⟨.hbm, 307, rfl⟩
abbrev main_call13_v4 : Ref sig .tc := ⟨.hbm, 308, rfl⟩
abbrev main_call13_v5 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_cst_46 : Ref sig .tc := ⟨.hbm, 318, rfl⟩
abbrev main_v195 : Ref sig .tc := ⟨.hbm, 319, rfl⟩
abbrev main_v196 : Ref sig .tc := ⟨.hbm, 320, rfl⟩
abbrev main_cst_47 : Ref sig .tc := ⟨.hbm, 321, rfl⟩
abbrev main_v197 : Ref sig .tc := ⟨.hbm, 322, rfl⟩
abbrev main_v198 : Ref sig .tc := ⟨.hbm, 323, rfl⟩
abbrev main_cst_48 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩

abbrev nD : Nat := 1
abbrev τ : Topo := Topo.v7x

variable {F : FTy → Type} [FloatOps F]
-- ==== Proj.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩
abbrev S4x16x3x1024 : Shape := ⟨4, ![4, 16, 3, 1024]⟩
abbrev S4x1x1024 : Shape := ⟨3, ![4, 1, 1024]⟩
abbrev S8x8x16x128x128 : Shape := ⟨5, ![8, 8, 16, 128, 128]⟩
abbrev S8x8x2048x128 : Shape := ⟨4, ![8, 8, 2048, 128]⟩
abbrev S1x1024x1024 : Shape := ⟨3, ![1, 1024, 1024]⟩
abbrev S1x1x3x1024 : Shape := ⟨4, ![1, 1, 3, 1024]⟩
abbrev S1x1x1024 : Shape := ⟨3, ![1, 1, 1024]⟩
abbrev S1x8x8x128x128 : Shape := ⟨5, ![1, 8, 8, 128, 128]⟩
abbrev S1x8x1024x128 : Shape := ⟨4, ![1, 8, 1024, 128]⟩
abbrev S1x1x1x1024 : Shape := ⟨4, ![1, 1, 1, 1024]⟩
abbrev S1x1024 : Shape := ⟨2, ![1, 1024]⟩
abbrev S1024x1024 : Shape := ⟨2, ![1024, 1024]⟩
abbrev S1024x1 : Shape := ⟨2, ![1024, 1]⟩
abbrev S1024x128 : Shape := ⟨2, ![1024, 128]⟩
abbrev S128x128 : Shape := ⟨2, ![128, 128]⟩
abbrev S1x1x1x128x128 : Shape := ⟨5, ![1, 1, 1, 128, 128]⟩
abbrev S1x1x1024x128 : Shape := ⟨4, ![1, 1, 1024, 128]⟩

abbrev nBuf : Space → Nat
  | .hbm => 24
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S1x1024x4096, .f32⟩
  | .hbm, ⟨7, _⟩ => ⟨S_, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S_, .i32⟩
  | .hbm, ⟨13, _⟩ => ⟨S1, .i32⟩
  | .hbm, ⟨14, _⟩ => ⟨S16x1024, .f32⟩
  | .hbm, ⟨15, _⟩ => ⟨S4x1x3072, .f32⟩
  | .hbm, ⟨16, _⟩ => ⟨S4x16x3072, .f32⟩
  | .hbm, ⟨17, _⟩ => ⟨S4x16x3x1024, .f32⟩
  | .hbm, ⟨18, _⟩ => ⟨S4x1x1024, .f32⟩
  | .hbm, ⟨19, _⟩ => ⟨S1x1024x4096, .bf16⟩
  | .hbm, ⟨20, _⟩ => ⟨S8x8x16x128x128, .bf16⟩
  | .hbm, ⟨21, _⟩ => ⟨S8x8x2048x128, .bf16⟩
  | .hbm, ⟨22, _⟩ => ⟨S8x8x16x128x128, .bf16⟩
  | .hbm, ⟨23, _⟩ => ⟨S8x2048x1024, .f32⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1x3x1024, .f32⟩
  | .local _ .vmem, ⟨10, _⟩ => ⟨S1x1x3x1024, .f32⟩
  | .local _ .vmem, ⟨11, _⟩ => ⟨S1x1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x8x8x128x128, .bf16⟩
  | .local _ .vmem, ⟨17, _⟩ => ⟨S1x8x8x128x128, .bf16⟩
  | .local _ .vmem, ⟨18, _⟩ => ⟨S1x8x1024x128, .bf16⟩
  | .local _ .vmem, ⟨19, _⟩ => ⟨S1x8x1024x128, .bf16⟩
  | .local _ .vmem, ⟨20, _⟩ => ⟨S1x8x8x128x128, .bf16⟩
  | .local _ .vmem, ⟨21, _⟩ => ⟨S1x8x8x128x128, .bf16⟩
  | .local _ .vmem, ⟨22, _⟩ => ⟨S1x1024x1024, .f32⟩
  | .local _ .vmem, ⟨23, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc1_transform_7 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_9 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x8x8x128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x8x1024x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x8x8x128x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1024x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ProjRefIdeal.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S_ : Shape := ⟨0, ![]⟩
abbrev S8x3072 : Shape := ⟨2, ![8, 3072]⟩
abbrev S1x1024 : Shape := ⟨2, ![1, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x4096 : Shape := ⟨2, ![1024, 4096]⟩
abbrev S8x2048x4096 : Shape := ⟨3, ![8, 2048, 4096]⟩
abbrev S8x16x128x8x128 : Shape := ⟨5, ![8, 16, 128, 8, 128]⟩
abbrev S8x8x16x128x128 : Shape := ⟨5, ![8, 8, 16, 128, 128]⟩
abbrev S8x2048x8x128 : Shape := ⟨4, ![8, 2048, 8, 128]⟩
abbrev S8x8x2048x128 : Shape := ⟨4, ![8, 8, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S1x1024x4096, .f32⟩
  | .hbm, ⟨7, _⟩ => ⟨S1x1024x3072, .f32⟩
  | .hbm, ⟨8, _⟩ => ⟨S1024x3072, .f32⟩
  | .hbm, ⟨9, _⟩ => ⟨S1x3072, .f32⟩
  | .hbm, ⟨10, _⟩ => ⟨S3072, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x3072, .f32⟩
  | .hbm, ⟨21, _⟩ => ⟨S1x3072, .f32⟩
  | .hbm, ⟨22, _⟩ => ⟨S8x3072, .f32⟩
  | .hbm, ⟨23, _⟩ => ⟨S8x3072, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x1x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S1024x4096, .f32⟩
  | .hbm, ⟨55, _⟩ => ⟨S8x2048x4096, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S8x16x128x8x128, .f32⟩
  | .hbm, ⟨64, _⟩ => ⟨S8x8x16x128x128, .f32⟩
  | .hbm, ⟨65, _⟩ => ⟨S8x8x16x128x128, .bf16⟩
  | .hbm, ⟨66, _⟩ => ⟨S8x2048x8x128, .f32⟩
  | .hbm, ⟨67, _⟩ => ⟨S8x8x2048x128, .f32⟩
  | .hbm, ⟨68, _⟩ => ⟨S8x8x2048x128, .bf16⟩
  | .hbm, ⟨69, _⟩ => ⟨S8x16x128x8x128, .f32⟩
  | .hbm, ⟨70, _⟩ => ⟨S8x8x16x128x128, .f32⟩
  | .hbm, ⟨71, _⟩ => ⟨S8x8x16x128x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Ctx.lean ====
abbrev S8x256x1024 : Shape := ⟨3, ![8, 256, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S1x1024x4096 : Shape := ⟨3, ![1, 1024, 4096]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩
abbrev S4x16x3x1024 : Shape := ⟨4, ![4, 16, 3, 1024]⟩
abbrev S4x1x1024 : Shape := ⟨3, ![4, 1, 1024]⟩
abbrev S2x1x1024 : Shape := ⟨3, ![2, 1, 1024]⟩
abbrev S1x1024x2048 : Shape := ⟨3, ![1, 1024, 2048]⟩
abbrev S1x4x256x256 : Shape := ⟨4, ![1, 4, 256, 256]⟩
abbrev S1x1x1024 : Shape := ⟨3, ![1, 1, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1024x1024 : Shape := ⟨2, ![1024, 1024]⟩
abbrev S1x256x1024 : Shape := ⟨3, ![1, 256, 1024]⟩
abbrev S1x8x1024 : Shape := ⟨3, ![1, 8, 1024]⟩
abbrev S1x1x3x1024 : Shape := ⟨4, ![1, 1, 3, 1024]⟩
abbrev S1x1x1x1024 : Shape := ⟨4, ![1, 1, 1, 1024]⟩
abbrev S1x1024 : Shape := ⟨2, ![1, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x256 : Shape := ⟨2, ![272, 256]⟩
abbrev S8x1 : Shape := ⟨2, ![8, 1]⟩
abbrev S8x256 : Shape := ⟨2, ![8, 256]⟩
abbrev S240x256 : Shape := ⟨2, ![240, 256]⟩
abbrev S1x2048x1024 : Shape := ⟨3, ![1, 2048, 1024]⟩
abbrev S1x8x2048x128 : Shape := ⟨4, ![1, 8, 2048, 128]⟩
abbrev S1x8x16x128x128 : Shape := ⟨5, ![1, 8, 16, 128, 128]⟩
abbrev S1x8x1024x128 : Shape := ⟨4, ![1, 8, 1024, 128]⟩
abbrev S1x8x8x128x128 : Shape := ⟨5, ![1, 8, 8, 128, 128]⟩
abbrev S1024x1 : Shape := ⟨2, ![1024, 1]⟩
abbrev S1024x128 : Shape := ⟨2, ![1024, 128]⟩
abbrev S1x1x1024x128 : Shape := ⟨4, ![1, 1, 1024, 128]⟩
abbrev S128x128 : Shape := ⟨2, ![128, 128]⟩
abbrev S1x1x1x128x128 : Shape := ⟨5, ![1, 1, 1, 128, 128]⟩

abbrev nBuf : Space → Nat
  | .hbm => 32
  | .vmem => 44
  | .smem => 0
  | _ => 0

abbrev bufTy : (tb : Table) → Fin (tcTables nBuf tb) → BufTy
  | .hbm, ⟨0, _⟩ => ⟨S8x256x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S2x1024x2048, .f32⟩
  | .hbm, ⟨7, _⟩ => ⟨S2x4x256x256, .f32⟩
  | .hbm, ⟨8, _⟩ => ⟨S2x1024, .f32⟩
  | .hbm, ⟨9, _⟩ => ⟨S2x1024x1024, .f32⟩
  | .hbm, ⟨10, _⟩ => ⟨S1x1024x4096, .f32⟩
  | .hbm, ⟨11, _⟩ => ⟨S_, .f32⟩
  | .hbm, ⟨12, _⟩ => ⟨S16x1024, .f32⟩
  | .hbm, ⟨13, _⟩ => ⟨S_, .i32⟩
  | .hbm, ⟨14, _⟩ => ⟨S1, .i32⟩
  | .hbm, ⟨15, _⟩ => ⟨S16x1024, .f32⟩
  | .hbm, ⟨16, _⟩ => ⟨S_, .i32⟩
  | .hbm, ⟨17, _⟩ => ⟨S1, .i32⟩
  | .hbm, ⟨18, _⟩ => ⟨S16x1024, .f32⟩
  | .hbm, ⟨19, _⟩ => ⟨S4x1x3072, .f32⟩
  | .hbm, ⟨20, _⟩ => ⟨S4x16x3072, .f32⟩
  | .hbm, ⟨21, _⟩ => ⟨S4x16x3x1024, .f32⟩
  | .hbm, ⟨22, _⟩ => ⟨S4x1x1024, .f32⟩
  | .hbm, ⟨23, _⟩ => ⟨S2x1x1024, .f32⟩
  | .hbm, ⟨24, _⟩ => ⟨S2x1024x1024, .bf16⟩
  | .hbm, ⟨25, _⟩ => ⟨S2x1024x1024, .bf16⟩
  | .hbm, ⟨26, _⟩ => ⟨S2x1024x1024, .bf16⟩
  | .hbm, ⟨27, _⟩ => ⟨S8x256x1024, .f32⟩
  | .hbm, ⟨28, _⟩ => ⟨S1x2048x1024, .f32⟩
  | .hbm, ⟨29, _⟩ => ⟨S1x1024x4096, .bf16⟩
  | .hbm, ⟨30, _⟩ => ⟨S1x8x2048x128, .bf16⟩
  | .hbm, ⟨31, _⟩ => ⟨S1x8x16x128x128, .bf16⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | .local _ .vmem, ⟨7, _⟩ => ⟨S1x1024x2048, .f32⟩
  | .local _ .vmem, ⟨8, _⟩ => ⟨S1x1024x2048, .f32⟩
  | .local _ .vmem, ⟨9, _⟩ => ⟨S1x4x256x256, .f32⟩
  | .local _ .vmem, ⟨10, _⟩ => ⟨S1x4x256x256, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x256x1024, .f32⟩
  | .local _ .vmem, ⟨22, _⟩ => ⟨S1x256x1024, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x8x1024, .f32⟩
  | .local _ .vmem, ⟨27, _⟩ => ⟨S1x1x3x1024, .f32⟩
  | .local _ .vmem, ⟨28, _⟩ => ⟨S1x1x1024, .f32⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x256x1024, .f32⟩
  | .local _ .vmem, ⟨33, _⟩ => ⟨S1x256x1024, .f32⟩
  | .local _ .vmem, ⟨34, _⟩ => ⟨S1x1024x1024, .f32⟩
  | .local _ .vmem, ⟨35, _⟩ => ⟨S1x1024x1024, .f32⟩
  | .local _ .vmem, ⟨36, _⟩ => ⟨S1x1x3x1024, .f32⟩
  | .local _ .vmem, ⟨37, _⟩ => ⟨S1x1x1024, .f32⟩
  | .local _ .vmem, ⟨38, _⟩ => ⟨S1x1024x1024, .bf16⟩
  | .local _ .vmem, ⟨39, _⟩ => ⟨S1x1024x1024, .bf16⟩
  | .local _ .vmem, ⟨40, _⟩ => ⟨S1x8x1024x128, .bf16⟩
  | .local _ .vmem, ⟨41, _⟩ => ⟨S1x8x1024x128, .bf16⟩
  | .local _ .vmem, ⟨42, _⟩ => ⟨S1x8x8x128x128, .bf16⟩
  | .local _ .vmem, ⟨43, _⟩ => ⟨S1x8x8x128x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  let c0_i32_1 : BitVec 32 := 0#32
  let c0_i32_2 : BitVec 32 := 0#32
  ![c0_i32.toNat, c8_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1x3x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![1, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let c1_i32 : BitVec 32 := 1#32
  let c8_i32 : BitVec 32 := 8#32
  let c0_i32 : BitVec 32 := 0#32
  let c0_i32_0 : BitVec 32 := 0#32
  let c0_i32_1 : BitVec 32 := 0#32
  ![c1_i32.toNat, c8_i32.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_6 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1x3x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x8x1024x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x8x8x128x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== CtxRefIdeal.lean ====
abbrev S8x256x1024 : Shape := ⟨3, ![8, 256, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S1x1024x4096 : Shape := ⟨3, ![1, 1024, 4096]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S_ : Shape := ⟨0, ![]⟩
abbrev S1x1024 : Shape := ⟨2, ![1, 1024]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S1x4x256x256 : Shape := ⟨4, ![1, 4, 256, 256]⟩
abbrev S4x256x256 : Shape := ⟨3, ![4, 256, 256]⟩
abbrev S1x1024x1024 : Shape := ⟨3, ![1, 1024, 1024]⟩
abbrev S1024x1024 : Shape := ⟨2, ![1024, 1024]⟩
abbrev S8x256x2048 : Shape := ⟨3, ![8, 256, 2048]⟩
abbrev S8x256x4x256 : Shape := ⟨4, ![8, 256, 4, 256]⟩
abbrev S8x256x1x256 : Shape := ⟨4, ![8, 256, 1, 256]⟩
abbrev S8x256x256 : Shape := ⟨3, ![8, 256, 256]⟩
abbrev S8x1x256 : Shape := ⟨3, ![8, 1, 256]⟩
abbrev S8x257x256 : Shape := ⟨3, ![8, 257, 256]⟩
abbrev S256 : Shape := ⟨1, ![256]⟩
abbrev S256x1 : Shape := ⟨2, ![256, 1]⟩
abbrev S1x256x1 : Shape := ⟨3, ![1, 256, 1]⟩
abbrev S4x256x8x256 : Shape := ⟨4, ![4, 256, 8, 256]⟩
abbrev S1024x4096 : Shape := ⟨2, ![1024, 4096]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x16x128x8x128 : Shape := ⟨5, ![1, 16, 128, 8, 128]⟩
abbrev S1x8x16x128x128 : Shape := ⟨5, ![1, 8, 16, 128, 128]⟩

abbrev nBuf : Space → Nat
  | .hbm => 373
  | .vmem => 0
  | .smem => 0
  | _ => 0

abbrev hbmTy0_0 (i : Nat) : BufTy := match i % 128 with
  | 0 => ⟨S8x256x1024, .f32⟩
  | 1 => ⟨S8x1024, .f32⟩
  | 2 => ⟨S1024, .f32⟩
  | 3 => ⟨S4x1024, .f32⟩
  | 4 => ⟨S4x1024x3072, .f32⟩
  | 5 => ⟨S4x3072, .f32⟩
  | 6 => ⟨S2x1024x2048, .f32⟩
  | 7 => ⟨S2x4x256x256, .f32⟩
  | 8 => ⟨S2x1024, .f32⟩
  | 9 => ⟨S2x1024x1024, .f32⟩
  | 10 => ⟨S1x1024x4096, .f32⟩
  | 11 => ⟨S1x1024x3072, .f32⟩
  | 12 => ⟨S1024x3072, .f32⟩
  | 13 => ⟨S1x3072, .f32⟩
  | 14 => ⟨S3072, .f32⟩
  | 15 => ⟨S1024, .f32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S3072, .f32⟩
  | 25 => ⟨S3072, .f32⟩
  | 26 => ⟨S1024, .f32⟩
  | 27 => ⟨S1024, .f32⟩
  | 28 => ⟨S1024, .f32⟩
  | 29 => ⟨S1x1024, .f32⟩
  | 30 => ⟨S1024, .f32⟩
  | 31 => ⟨S8x256x1024, .f32⟩
  | 32 => ⟨S_, .f32⟩
  | 33 => ⟨S8x256, .f32⟩
  | 34 => ⟨S8x256x1, .f32⟩
  | 35 => ⟨S_, .f32⟩
  | 36 => ⟨S8x256x1, .f32⟩
  | 37 => ⟨S8x256x1, .f32⟩
  | 38 => ⟨S_, .f32⟩
  | 39 => ⟨S8x256x1, .f32⟩
  | 40 => ⟨S8x256x1, .f32⟩
  | 41 => ⟨S8x256x1, .f32⟩
  | 42 => ⟨S8x256x1024, .f32⟩
  | 43 => ⟨S8x256x1024, .f32⟩
  | 44 => ⟨S1x1x1024, .f32⟩
  | 45 => ⟨S8x256x1024, .f32⟩
  | 46 => ⟨S8x256x1024, .f32⟩
  | 47 => ⟨S_, .f32⟩
  | 48 => ⟨S1024, .f32⟩
  | 49 => ⟨S1024, .f32⟩
  | 50 => ⟨S1x1x1024, .f32⟩
  | 51 => ⟨S8x256x1024, .f32⟩
  | 52 => ⟨S8x256x1024, .f32⟩
  | 53 => ⟨S1x1x1024, .f32⟩
  | 54 => ⟨S8x256x1024, .f32⟩
  | 55 => ⟨S8x256x1024, .f32⟩
  | 56 => ⟨S1x1024x2048, .f32⟩
  | 57 => ⟨S1024x2048, .f32⟩
  | 58 => ⟨S1x4x256x256, .f32⟩
  | 59 => ⟨S4x256x256, .f32⟩
  | 60 => ⟨S1x1024, .f32⟩
  | 61 => ⟨S1024, .f32⟩
  | 62 => ⟨S1x1024x1024, .f32⟩
  | 63 => ⟨S1024x1024, .f32⟩
  | 64 => ⟨S8x256x2048, .f32⟩
  | 65 => ⟨S8x256x1024, .f32⟩
  | 66 => ⟨S8x256x1024, .f32⟩
  | 67 => ⟨S8x256x4x256, .f32⟩
  | 68 => ⟨S8x256x1x256, .f32⟩
  | 69 => ⟨S8x256x256, .f32⟩
  | 70 => ⟨S_, .f32⟩
  | 71 => ⟨S8x1x256, .f32⟩
  | 72 => ⟨S_, .f32⟩
  | 73 => ⟨S_, .f32⟩
  | 74 => ⟨S8x256x256, .f32⟩
  | 75 => ⟨S8x257x256, .f32⟩
  | 76 => ⟨S256, .i32⟩
  | 77 => ⟨S_, .i32⟩
  | 78 => ⟨S256, .i32⟩
  | 79 => ⟨S256, .i32⟩
  | 80 => ⟨S_, .i32⟩
  | 81 => ⟨S_, .i32⟩
  | 82 => ⟨S_, .i32⟩
  | 83 => ⟨S256, .i32⟩
  | 84 => ⟨S256, .i32⟩
  | 85 => ⟨S_, .i32⟩
  | 86 => ⟨S256, .i32⟩
  | 87 => ⟨S256, .i32⟩
  | 88 => ⟨S_, .i32⟩
  | 89 => ⟨S256, .i32⟩
  | 90 => ⟨S256, .i32⟩
  | 91 => ⟨S_, .i32⟩
  | 92 => ⟨S_, .i32⟩
  | 93 => ⟨S_, .i32⟩
  | 94 => ⟨S256, .i32⟩
  | 95 => ⟨S256, .i32⟩
  | 96 => ⟨S_, .i32⟩
  | 97 => ⟨S256, .i32⟩
  | 98 => ⟨S256, .i32⟩
  | 99 => ⟨S256, .i32⟩
  | 100 => ⟨S256, .f32⟩
  | 101 => ⟨S_, .i32⟩
  | 102 => ⟨S256, .i32⟩
  | 103 => ⟨S256, .i1⟩
  | 104 => ⟨S_, .i32⟩
  | 105 => ⟨S256, .i32⟩
  | 106 => ⟨S256, .i32⟩
  | 107 => ⟨S256, .i32⟩
  | 108 => ⟨S256x1, .i32⟩
  | 109 => ⟨S8x256x256, .f32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S8x256x256, .f32⟩
  | 119 => ⟨S8x256x256, .f32⟩
  | 120 => ⟨S1x256x1, .f32⟩
  | 121 => ⟨S8x256x256, .f32⟩
  | 122 => ⟨S8x256x256, .f32⟩
  | 123 => ⟨S8x256x1x256, .f32⟩
  | 124 => ⟨S8x256x256, .f32⟩
  | 125 => ⟨S_, .f32⟩
  | 126 => ⟨S8x1x256, .f32⟩
  | 127 => ⟨S_, .f32⟩
  | _ => ⟨S8x256x1024, .f32⟩

abbrev hbmTy0_1 (i : Nat) : BufTy := match i % 128 with
  | 0 => ⟨S_, .f32⟩
  | 1 => ⟨S8x256x256, .f32⟩
  | 2 => ⟨S8x257x256, .f32⟩
  | 3 => ⟨S256, .i32⟩
  | 4 => ⟨S_, .i32⟩
  | 5 => ⟨S256, .i32⟩
  | 6 => ⟨S256, .i32⟩
  | 7 => ⟨S_, .i32⟩
  | 8 => ⟨S_, .i32⟩
  | 9 => ⟨S_, .i32⟩
  | 10 => ⟨S256, .i32⟩
  | 11 => ⟨S256, .i32⟩
  | 12 => ⟨S_, .i32⟩
  | 13 => ⟨S256, .i32⟩
  | 14 => ⟨S256, .i32⟩
  | 15 => ⟨S_, .i32⟩
  | 16 => ⟨S256, .i32⟩
  | 17 => ⟨S256, .i32⟩
  | 18 => ⟨S_, .i32⟩
  | 19 => ⟨S_, .i32⟩
  | 20 => ⟨S_, .i32⟩
  | 21 => ⟨S256, .i32⟩
  | 22 => ⟨S256, .i32⟩
  | 23 => ⟨S_, .i32⟩
  | 24 => ⟨S256, .i32⟩
  | 25 => ⟨S256, .i32⟩
  | 26 => ⟨S256, .i32⟩
  | 27 => ⟨S256, .f32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S8x256x256, .f32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S8x256x256, .f32⟩
  | 46 => ⟨S8x256x256, .f32⟩
  | 47 => ⟨S1x256x1, .f32⟩
  | 48 => ⟨S8x256x256, .f32⟩
  | 49 => ⟨S8x256x256, .f32⟩
  | 50 => ⟨S8x256x1x256, .f32⟩
  | 51 => ⟨S8x256x256, .f32⟩
  | 52 => ⟨S_, .f32⟩
  | 53 => ⟨S8x1x256, .f32⟩
  | 54 => ⟨S_, .f32⟩
  | 55 => ⟨S_, .f32⟩
  | 56 => ⟨S8x256x256, .f32⟩
  | 57 => ⟨S8x257x256, .f32⟩
  | 58 => ⟨S256, .i32⟩
  | 59 => ⟨S_, .i32⟩
  | 60 => ⟨S256, .i32⟩
  | 61 => ⟨S256, .i32⟩
  | 62 => ⟨S_, .i32⟩
  | 63 => ⟨S_, .i32⟩
  | 64 => ⟨S_, .i32⟩
  | 65 => ⟨S256, .i32⟩
  | 66 => ⟨S256, .i32⟩
  | 67 => ⟨S_, .i32⟩
  | 68 => ⟨S256, .i32⟩
  | 69 => ⟨S256, .i32⟩
  | 70 => ⟨S_, .i32⟩
  | 71 => ⟨S256, .i32⟩
  | 72 => ⟨S256, .i32⟩
  | 73 => ⟨S_, .i32⟩
  | 74 => ⟨S_, .i32⟩
  | 75 => ⟨S_, .i32⟩
  | 76 => ⟨S256, .i32⟩
  | 77 => ⟨S256, .i32⟩
  | 78 => ⟨S_, .i32⟩
  | 79 => ⟨S256, .i32⟩
  | 80 => ⟨S256, .i32⟩
  | 81 => ⟨S256, .i32⟩
  | 82 => ⟨S256, .f32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S8x256x256, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S8x256x256, .f32⟩
  | 101 => ⟨S8x256x256, .f32⟩
  | 102 => ⟨S1x256x1, .f32⟩
  | 103 => ⟨S8x256x256, .f32⟩
  | 104 => ⟨S8x256x256, .f32⟩
  | 105 => ⟨S8x256x1x256, .f32⟩
  | 106 => ⟨S8x256x256, .f32⟩
  | 107 => ⟨S_, .f32⟩
  | 108 => ⟨S8x1x256, .f32⟩
  | 109 => ⟨S_, .f32⟩
  | 110 => ⟨S_, .f32⟩
  | 111 => ⟨S8x256x256, .f32⟩
  | 112 => ⟨S8x257x256, .f32⟩
  | 113 => ⟨S256, .i32⟩
  | 114 => ⟨S_, .i32⟩
  | 115 => ⟨S256, .i32⟩
  | 116 => ⟨S256, .i32⟩
  | 117 => ⟨S_, .i32⟩
  | 118 => ⟨S_, .i32⟩
  | 119 => ⟨S_, .i32⟩
  | 120 => ⟨S256, .i32⟩
  | 121 => ⟨S256, .i32⟩
  | 122 => ⟨S_, .i32⟩
  | 123 => ⟨S256, .i32⟩
  | 124 => ⟨S256, .i32⟩
  | 125 => ⟨S_, .i32⟩
  | 126 => ⟨S256, .i32⟩
  | 127 => ⟨S256, .i32⟩
  | _ => ⟨S8x256x1024, .f32⟩

abbrev hbmTy0_2 (i : Nat) : BufTy := match i % 128 with
  | 0 => ⟨S_, .i32⟩
  | 1 => ⟨S_, .i32⟩
  | 2 => ⟨S_, .i32⟩
  | 3 => ⟨S256, .i32⟩
  | 4 => ⟨S256, .i32⟩
  | 5 => ⟨S_, .i32⟩
  | 6 => ⟨S256, .i32⟩
  | 7 => ⟨S256, .i32⟩
  | 8 => ⟨S256, .i32⟩
  | 9 => ⟨S256, .f32⟩
  | 10 => ⟨S_, .i32⟩
  | 11 => ⟨S256, .i32⟩
  | 12 => ⟨S256, .i1⟩
  | 13 => ⟨S_, .i32⟩
  | 14 => ⟨S256, .i32⟩
  | 15 => ⟨S256, .i32⟩
  | 16 => ⟨S256, .i32⟩
  | 17 => ⟨S256x1, .i32⟩
  | 18 => ⟨S8x256x256, .f32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S8x256x256, .f32⟩
  | 28 => ⟨S8x256x256, .f32⟩
  | 29 => ⟨S1x256x1, .f32⟩
  | 30 => ⟨S8x256x256, .f32⟩
  | 31 => ⟨S8x256x256, .f32⟩
  | 32 => ⟨S8x256x1x256, .f32⟩
  | 33 => ⟨S8x256x1x256, .f32⟩
  | 34 => ⟨S8x256x1x256, .f32⟩
  | 35 => ⟨S8x256x1x256, .f32⟩
  | 36 => ⟨S8x256x4x256, .f32⟩
  | 37 => ⟨S8x256x4x256, .f32⟩
  | 38 => ⟨S4x256x8x256, .f32⟩
  | 39 => ⟨S8x256x4x256, .f32⟩
  | 40 => ⟨S8x256x1024, .f32⟩
  | 41 => ⟨S1x1x1024, .f32⟩
  | 42 => ⟨S8x256x1024, .f32⟩
  | 43 => ⟨S8x256x1024, .f32⟩
  | 44 => ⟨S8x256x1024, .f32⟩
  | 45 => ⟨S8x256x1024, .f32⟩
  | 46 => ⟨S_, .f32⟩
  | 47 => ⟨S8x256x1024, .f32⟩
  | 48 => ⟨S8x256x1024, .f32⟩
  | 49 => ⟨S_, .f32⟩
  | 50 => ⟨S8x256x1024, .f32⟩
  | 51 => ⟨S8x256x1024, .f32⟩
  | 52 => ⟨S8x256x1024, .f32⟩
  | 53 => ⟨S8x256x1024, .f32⟩
  | 54 => ⟨S8x256x1024, .f32⟩
  | 55 => ⟨S1x1x1024, .f32⟩
  | 56 => ⟨S8x256x1024, .f32⟩
  | 57 => ⟨S8x256x1024, .f32⟩
  | 58 => ⟨S8x256x1024, .f32⟩
  | 59 => ⟨S1x1024x3072, .f32⟩
  | 60 => ⟨S1024x3072, .f32⟩
  | 61 => ⟨S1x3072, .f32⟩
  | 62 => ⟨S3072, .f32⟩
  | 63 => ⟨S1024, .f32⟩
  | 64 => ⟨S1024, .f32⟩
  | 65 => ⟨S_, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S3072, .f32⟩
  | 73 => ⟨S3072, .f32⟩
  | 74 => ⟨S1024, .f32⟩
  | 75 => ⟨S1024, .f32⟩
  | 76 => ⟨S1024, .f32⟩
  | 77 => ⟨S1x1024, .f32⟩
  | 78 => ⟨S1024, .f32⟩
  | 79 => ⟨S8x256x1024, .f32⟩
  | 80 => ⟨S_, .f32⟩
  | 81 => ⟨S8x256, .f32⟩
  | 82 => ⟨S8x256x1, .f32⟩
  | 83 => ⟨S_, .f32⟩
  | 84 => ⟨S8x256x1, .f32⟩
  | 85 => ⟨S8x256x1, .f32⟩
  | 86 => ⟨S_, .f32⟩
  | 87 => ⟨S8x256x1, .f32⟩
  | 88 => ⟨S8x256x1, .f32⟩
  | 89 => ⟨S8x256x1, .f32⟩
  | 90 => ⟨S8x256x1024, .f32⟩
  | 91 => ⟨S8x256x1024, .f32⟩
  | 92 => ⟨S1x1x1024, .f32⟩
  | 93 => ⟨S8x256x1024, .f32⟩
  | 94 => ⟨S8x256x1024, .f32⟩
  | 95 => ⟨S_, .f32⟩
  | 96 => ⟨S1024, .f32⟩
  | 97 => ⟨S1024, .f32⟩
  | 98 => ⟨S1x1x1024, .f32⟩
  | 99 => ⟨S8x256x1024, .f32⟩
  | 100 => ⟨S8x256x1024, .f32⟩
  | 101 => ⟨S1x1x1024, .f32⟩
  | 102 => ⟨S8x256x1024, .f32⟩
  | 103 => ⟨S8x256x1024, .f32⟩
  | 104 => ⟨S1024x4096, .f32⟩
  | 105 => ⟨S1024x2048, .f32⟩
  | 106 => ⟨S8x256x2048, .f32⟩
  | 107 => ⟨S8x256x1024, .f32⟩
  | 108 => ⟨S8x256x1024, .f32⟩
  | 109 => ⟨S1x2048x1024, .f32⟩
  | 110 => ⟨S1x2048x8x128, .f32⟩
  | 111 => ⟨S1x8x2048x128, .f32⟩
  | 112 => ⟨S1x8x2048x128, .bf16⟩
  | 113 => ⟨S1x2048x1024, .f32⟩
  | 114 => ⟨S1x16x128x8x128, .f32⟩
  | 115 => ⟨S1x8x16x128x128, .f32⟩
  | 116 => ⟨S1x8x16x128x128, .bf16⟩
  | _ => ⟨S8x256x1024, .f32⟩

abbrev hbmTy (i : Nat) : BufTy := match i / 128 with
  | 0 => hbmTy0_0 i
  | 1 => hbmTy0_1 i
  | 2 => hbmTy0_2 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_call1_call0_cst : Ref sig .tc := ⟨.hbm, 72, rfl⟩
abbrev main_call1_call0_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c : Ref sig .tc := ⟨.hbm, 77, rfl⟩
abbrev main_v51 : Ref sig .tc := ⟨.hbm, 78, rfl⟩
abbrev main_v52 : Ref sig .tc := ⟨.hbm, 79, rfl⟩
abbrev main_c_4 : Ref sig .tc := ⟨.hbm, 80, rfl⟩
abbrev main_c_5 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v53 : Ref sig .tc := ⟨.hbm, 87, rfl⟩
abbrev main_c_6 : Ref sig .tc := ⟨.hbm, 88, rfl⟩
abbrev main_v54 : Ref sig .tc := ⟨.hbm, 89, rfl⟩
abbrev main_v55 : Ref sig .tc := ⟨.hbm, 90, rfl⟩
abbrev main_c_7 : Ref sig .tc := ⟨.hbm, 91, rfl⟩
abbrev main_c_8 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_9 : Ref sig .tc := ⟨.hbm, 101, rfl⟩
abbrev main_v59 : Ref sig .tc := ⟨.hbm, 102, rfl⟩
abbrev main_v60 : Ref sig .tc := ⟨.hbm, 103, rfl⟩
abbrev main_c_10 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_11 : Ref sig .tc := ⟨.hbm, 110, rfl⟩
abbrev main_v66 : Ref sig .tc := ⟨.hbm, 111, rfl⟩
abbrev main_v67 : Ref sig .tc := ⟨.hbm, 112, rfl⟩
abbrev main_c_12 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_13 : Ref sig .tc := ⟨.hbm, 125, rfl⟩
abbrev main_v79 : Ref sig .tc := ⟨.hbm, 126, rfl⟩
abbrev main_call4_call0_cst : Ref sig .tc := ⟨.hbm, 127, rfl⟩
abbrev main_call4_call0_v0 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_14 : Ref sig .tc := ⟨.hbm, 132, rfl⟩
abbrev main_v83 : Ref sig .tc := ⟨.hbm, 133, rfl⟩
abbrev main_v84 : Ref sig .tc := ⟨.hbm, 134, rfl⟩
abbrev main_c_15 : Ref sig .tc := ⟨.hbm, 135, rfl⟩
abbrev main_c_16 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_v85 : Ref sig .tc := ⟨.hbm, 142, rfl⟩
abbrev main_c_17 : Ref sig .tc := ⟨.hbm, 143, rfl⟩
abbrev main_v86 : Ref sig .tc := ⟨.hbm, 144, rfl⟩
abbrev main_v87 : Ref sig .tc := ⟨.hbm, 145, rfl⟩
abbrev main_c_18 : Ref sig .tc := ⟨.hbm, 146, rfl⟩
abbrev main_c_19 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_c_20 : Ref sig .tc := ⟨.hbm, 156, rfl⟩
abbrev main_v91 : Ref sig .tc := ⟨.hbm, 157, rfl⟩
abbrev main_v92 : Ref sig .tc := ⟨.hbm, 158, rfl⟩
abbrev main_c_21 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_c_22 : Ref sig .tc := ⟨.hbm, 165, rfl⟩
abbrev main_v98 : Ref sig .tc := ⟨.hbm, 166, rfl⟩
abbrev main_v99 : Ref sig .tc := ⟨.hbm, 167, rfl⟩
abbrev main_c_23 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_24 : Ref sig .tc := ⟨.hbm, 180, rfl⟩
abbrev main_v111 : Ref sig .tc := ⟨.hbm, 181, rfl⟩
abbrev main_call7_call0_cst : Ref sig .tc := ⟨.hbm, 182, rfl⟩
abbrev main_call7_call0_v0 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_c_25 : Ref sig .tc := ⟨.hbm, 187, rfl⟩
abbrev main_v115 : Ref sig .tc := ⟨.hbm, 188, rfl⟩
abbrev main_v116 : Ref sig .tc := ⟨.hbm, 189, rfl⟩
abbrev main_c_26 : Ref sig .tc := ⟨.hbm, 190, rfl⟩
abbrev main_c_27 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_v117 : Ref sig .tc := ⟨.hbm, 197, rfl⟩
abbrev main_c_28 : Ref sig .tc := ⟨.hbm, 198, rfl⟩
abbrev main_v118 : Ref sig .tc := ⟨.hbm, 199, rfl⟩
abbrev main_v119 : Ref sig .tc := ⟨.hbm, 200, rfl⟩
abbrev main_c_29 : Ref sig .tc := ⟨.hbm, 201, rfl⟩
abbrev main_c_30 : Ref sig .tc := ⟨.hbm, 202, rfl⟩
abbrev main_call9_v0 : Ref sig .tc := ⟨.hbm, 203, rfl⟩
abbrev main_call9_v1 : Ref sig .tc := ⟨.hbm, 204, rfl⟩
abbrev main_call9_v2 : Ref sig .tc := ⟨.hbm, 205, rfl⟩
abbrev main_call9_v3 : Ref sig .tc := ⟨.hbm, 206, rfl⟩
abbrev main_call9_v4 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_c_31 : Ref sig .tc := ⟨.hbm, 211, rfl⟩
abbrev main_v123 : Ref sig .tc := ⟨.hbm, 212, rfl⟩
abbrev main_v124 : Ref sig .tc := ⟨.hbm, 213, rfl⟩
abbrev main_c_32 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_c_33 : Ref sig .tc := ⟨.hbm, 220, rfl⟩
abbrev main_v130 : Ref sig .tc := ⟨.hbm, 221, rfl⟩
abbrev main_v131 : Ref sig .tc := ⟨.hbm, 222, rfl⟩
abbrev main_c_34 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_35 : Ref sig .tc := ⟨.hbm, 235, rfl⟩
abbrev main_v143 : Ref sig .tc := ⟨.hbm, 236, rfl⟩
abbrev main_call10_call0_cst : Ref sig .tc := ⟨.hbm, 237, rfl⟩
abbrev main_call10_call0_v0 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_c_36 : Ref sig .tc := ⟨.hbm, 242, rfl⟩
abbrev main_v147 : Ref sig .tc := ⟨.hbm, 243, rfl⟩
abbrev main_v148 : Ref sig .tc := ⟨.hbm, 244, rfl⟩
abbrev main_c_37 : Ref sig .tc := ⟨.hbm, 245, rfl⟩
abbrev main_c_38 : Ref sig .tc := ⟨.hbm, 246, rfl⟩
abbrev main_call11_v0 : Ref sig .tc := ⟨.hbm, 247, rfl⟩
abbrev main_call11_v1 : Ref sig .tc := ⟨.hbm, 248, rfl⟩
abbrev main_call11_v2 : Ref sig .tc := ⟨.hbm, 249, rfl⟩
abbrev main_call11_v3 : Ref sig .tc := ⟨.hbm, 250, rfl⟩
abbrev main_call11_v4 : Ref sig .tc := ⟨.hbm, 251, rfl⟩
abbrev main_v149 : Ref sig .tc := ⟨.hbm, 252, rfl⟩
abbrev main_c_39 : Ref sig .tc := ⟨.hbm, 253, rfl⟩
abbrev main_v150 : Ref sig .tc := ⟨.hbm, 254, rfl⟩
abbrev main_v151 : Ref sig .tc := ⟨.hbm, 255, rfl⟩
abbrev main_c_40 : Ref sig .tc := ⟨.hbm, 256, rfl⟩
abbrev main_c_41 : Ref sig .tc := ⟨.hbm, 257, rfl⟩
abbrev main_call12_v0 : Ref sig .tc := ⟨.hbm, 258, rfl⟩
abbrev main_call12_v1 : Ref sig .tc := ⟨.hbm, 259, rfl⟩
abbrev main_call12_v2 : Ref sig .tc := ⟨.hbm, 260, rfl⟩
abbrev main_call12_v3 : Ref sig .tc := ⟨.hbm, 261, rfl⟩
abbrev main_call12_v4 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_c_42 : Ref sig .tc := ⟨.hbm, 266, rfl⟩
abbrev main_v155 : Ref sig .tc := ⟨.hbm, 267, rfl⟩
abbrev main_v156 : Ref sig .tc := ⟨.hbm, 268, rfl⟩
abbrev main_c_43 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_c_44 : Ref sig .tc := ⟨.hbm, 275, rfl⟩
abbrev main_v162 : Ref sig .tc := ⟨.hbm, 276, rfl⟩
abbrev main_v163 : Ref sig .tc := ⟨.hbm, 277, rfl⟩
abbrev main_c_45 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_call13_v0 : Ref sig .tc := ⟨.hbm, 300, rfl⟩
abbrev main_call13_v1 : Ref sig .tc := ⟨.hbm, 301, rfl⟩
abbrev main_call13_cst : Ref sig .tc := ⟨.hbm, 302, rfl⟩
abbrev main_call13_v2 : Ref sig .tc := ⟨.hbm, 303, rfl⟩
abbrev main_call13_v3 : Ref sig .tc := ⟨.hbm, 304, rfl⟩
abbrev main_call13_cst_0 : Ref sig .tc := ⟨.hbm, 305, rfl⟩
abbrev main_call13_v4 : Ref sig .tc := ⟨.hbm, 306, rfl⟩
abbrev main_call13_v5 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_call14_v0 : Ref sig .tc := ⟨.hbm, 319, rfl⟩
abbrev main_call14_v1 : Ref sig .tc := ⟨.hbm, 320, rfl⟩
abbrev main_call14_cst : Ref sig .tc := ⟨.hbm, 321, rfl⟩
abbrev main_call14_v2 : Ref sig .tc := ⟨.hbm, 322, rfl⟩
abbrev main_call14_v3 : Ref sig .tc := ⟨.hbm, 323, rfl⟩
abbrev main_call14_cst_0 : Ref sig .tc := ⟨.hbm, 324, rfl⟩
abbrev main_call14_v4 : Ref sig .tc := ⟨.hbm, 325, rfl⟩
abbrev main_call14_v5 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_cst_46 : Ref sig .tc := ⟨.hbm, 336, rfl⟩
abbrev main_v205 : Ref sig .tc := ⟨.hbm, 337, rfl⟩
abbrev main_v206 : Ref sig .tc := ⟨.hbm, 338, rfl⟩
abbrev main_cst_47 : Ref sig .tc := ⟨.hbm, 339, rfl⟩
abbrev main_v207 : Ref sig .tc := ⟨.hbm, 340, rfl⟩
abbrev main_v208 : Ref sig .tc := ⟨.hbm, 341, rfl⟩
abbrev main_cst_48 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_cst_49 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩

abbrev nD : Nat := 1
abbrev τ : Topo := Topo.v7x

variable {F : FTy → Type} [FloatOps F]
-- ==== Tail.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x3x1024 : Shape := ⟨3, ![1, 3, 1024]⟩
abbrev S1x1024 : Shape := ⟨2, ![1, 1024]⟩
abbrev S1x1024x1024 : Shape := ⟨3, ![1, 1024, 1024]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩
abbrev S4x16x3x1024 : Shape := ⟨4, ![4, 16, 3, 1024]⟩
abbrev S4x1x1024 : Shape := ⟨3, ![4, 1, 1024]⟩
abbrev S2x1x1024 : Shape := ⟨3, ![2, 1, 1024]⟩
abbrev S1x1024x2048 : Shape := ⟨3, ![1, 1024, 2048]⟩
abbrev S1x4x256x256 : Shape := ⟨4, ![1, 4, 256, 256]⟩
abbrev S1x1x1024 : Shape := ⟨3, ![1, 1, 1024]⟩
abbrev S1x1024x256 : Shape := ⟨3, ![1, 1024, 256]⟩
abbrev S1024x256 : Shape := ⟨2, ![1024, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1024x1024 : Shape := ⟨2, ![1024, 1024]⟩
abbrev S1x8x1024 : Shape := ⟨3, ![1, 8, 1024]⟩
abbrev S1x1x3x1024 : Shape := ⟨4, ![1, 1, 3, 1024]⟩
abbrev S1x1x1x1024 : Shape := ⟨4, ![1, 1, 1, 1024]⟩
abbrev S1040x1024 : Shape := ⟨2, ![1040, 1024]⟩
abbrev S1040 : Shape := ⟨1, ![1040]⟩
abbrev S1040x1 : Shape := ⟨2, ![1040, 1]⟩
abbrev S1040x256 : Shape := ⟨2, ![1040, 256]⟩
abbrev S8x256 : Shape := ⟨2, ![8, 256]⟩
abbrev S1x256x1024 : Shape := ⟨3, ![1, 256, 1024]⟩
abbrev S256x1024 : Shape := ⟨2, ![256, 1024]⟩
abbrev S8x1 : Shape := ⟨2, ![8, 1]⟩
abbrev S1008x256 : Shape := ⟨2, ![1008, 256]⟩
abbrev S1024x1 : Shape := ⟨2, ![1024, 1]⟩

abbrev nBuf : Space → Nat
  | .hbm => 37
  | .vmem => 51
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024, .f32⟩
  | .hbm, ⟨3, _⟩ => ⟨S4x1024, .f32⟩
  | .hbm, ⟨4, _⟩ => ⟨S4x1024x3072, .f32⟩
  | .hbm, ⟨5, _⟩ => ⟨S4x3072, .f32⟩
  | .hbm, ⟨6, _⟩ => ⟨S1x1024x4096, .f32⟩
  | .hbm, ⟨7, _⟩ => ⟨S1x3x1024, .f32⟩
  | .hbm, ⟨8, _⟩ => ⟨S1x1024, .f32⟩
  | .hbm, ⟨9, _⟩ => ⟨S1x1024x1024, .f32⟩
  | .hbm, ⟨10, _⟩ => ⟨S2x1024x2048, .f32⟩
  | .hbm, ⟨11, _⟩ => ⟨S2x4x256x256, .f32⟩
  | .hbm, ⟨12, _⟩ => ⟨S2x1024, .f32⟩
  | .hbm, ⟨13, _⟩ => ⟨S2x1024x1024, .f32⟩
  | .hbm, ⟨14, _⟩ => ⟨S1024, .f32⟩
  | .hbm, ⟨15, _⟩ => ⟨S_, .f32⟩
  | .hbm, ⟨16, _⟩ => ⟨S16x1024, .f32⟩
  | .hbm, ⟨17, _⟩ => ⟨S_, .i32⟩
  | .hbm, ⟨18, _⟩ => ⟨S1, .i32⟩
  | .hbm, ⟨19, _⟩ => ⟨S16x1024, .f32⟩
  | .hbm, ⟨20, _⟩ => ⟨S_, .i32⟩
  | .hbm, ⟨21, _⟩ => ⟨S1, .i32⟩
  | .hbm, ⟨22, _⟩ => ⟨S16x1024, .f32⟩
  | .hbm, ⟨23, _⟩ => ⟨S4x1x3072, .f32⟩
  | .hbm, ⟨24, _⟩ => ⟨S4x16x3072, .f32⟩
  | .hbm, ⟨25, _⟩ => ⟨S4x16x3x1024, .f32⟩
  | .hbm, ⟨26, _⟩ => ⟨S4x1x1024, .f32⟩
  | .hbm, ⟨27, _⟩ => ⟨S2x1x1024, .f32⟩
  | .hbm, ⟨28, _⟩ => ⟨S2x1024x1024, .bf16⟩
  | .hbm, ⟨29, _⟩ => ⟨S2x1024x1024, .bf16⟩
  | .hbm, ⟨30, _⟩ => ⟨S2x1024x1024, .bf16⟩
  | .hbm, ⟨31, _⟩ => ⟨S1x1024x4096, .bf16⟩
  | .hbm, ⟨32, _⟩ => ⟨S1x1x1024, .f32⟩
  | .hbm, ⟨33, _⟩ => ⟨S1x1024x1024, .bf16⟩
  | .hbm, ⟨34, _⟩ => ⟨S8x2048x1024, .f32⟩
  | .hbm, ⟨35, _⟩ => ⟨S1x1024, .f32⟩
  | .hbm, ⟨36, _⟩ => ⟨S8x2048x1024, .f32⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | .local _ .vmem, ⟨7, _⟩ => ⟨S1x1024x2048, .f32⟩
  | .local _ .vmem, ⟨8, _⟩ => ⟨S1x1024x2048, .f32⟩
  | .local _ .vmem, ⟨9, _⟩ => ⟨S1x4x256x256, .f32⟩
  | .local _ .vmem, ⟨10, _⟩ => ⟨S1x4x256x256, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x8x1024, .f32⟩
  | .local _ .vmem, ⟨27, _⟩ => ⟨S1x1x3x1024, .f32⟩
  | .local _ .vmem, ⟨28, _⟩ => ⟨S1x1x3x1024, .f32⟩
  | .local _ .vmem, ⟨29, _⟩ => ⟨S1x1x1024, .f32⟩
  | .local _ .vmem, ⟨30, _⟩ => ⟨S1x1024x4096, .bf16⟩
  | .local _ .vmem, ⟨31, _⟩ => ⟨S1x3x1024, .f32⟩
  | .local _ .vmem, ⟨32, _⟩ => ⟨S1x1x1024, .f32⟩
  | .local _ .vmem, ⟨33, _⟩ => ⟨S1x1024x1024, .bf16⟩
  | .local _ .vmem, ⟨34, _⟩ => ⟨S1x1024x1024, .f32⟩
  | .local _ .vmem, ⟨35, _⟩ => ⟨S1x1024x1024, .f32⟩
  | .local _ .vmem, ⟨36, _⟩ => ⟨S1x1024x1024, .f32⟩
  | .local _ .vmem, ⟨37, _⟩ => ⟨S1x1024x1024, .f32⟩
  | .local _ .vmem, ⟨38, _⟩ => ⟨S1x8x1024, .f32⟩
  | .local _ .vmem, ⟨39, _⟩ => ⟨S1x8x1024, .f32⟩
  | .local _ .vmem, ⟨40, _⟩ => ⟨S1x8x1024, .f32⟩
  | .local _ .vmem, ⟨41, _⟩ => ⟨S1x8x1024, .f32⟩
  | .local _ .vmem, ⟨42, _⟩ => ⟨S1x1x3x1024, .f32⟩
  | .local _ .vmem, ⟨43, _⟩ => ⟨S1x1x3x1024, .f32⟩
  | .local _ .vmem, ⟨44, _⟩ => ⟨S1x1x1024, .f32⟩
  | .local _ .vmem, ⟨45, _⟩ => ⟨S1x1024x1024, .bf16⟩
  | .local _ .vmem, ⟨46, _⟩ => ⟨S1x1024x1024, .bf16⟩
  | .local _ .vmem, ⟨47, _⟩ => ⟨S1x1024x1024, .bf16⟩
  | .local _ .vmem, ⟨48, _⟩ => ⟨S1x1024, .f32⟩
  | .local _ .vmem, ⟨49, _⟩ => ⟨S1x1024x1024, .f32⟩
  | .local _ .vmem, ⟨50, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg9_1 : Ref sig .tc := ⟨.vmem, 50, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem9_1 : DmaSem sig := 50

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc2_transform_3 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x3x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024x4096 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x3x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x1024x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc3_transform_3 (i : grid3.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x3x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x1024x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]
-- ==== TailRefIdeal.lean ====
abbrev S8x2048x1024 : Shape := ⟨3, ![8, 2048, 1024]⟩
abbrev S8x1024 : Shape := ⟨2, ![8, 1024]⟩
abbrev S1024 : Shape := ⟨1, ![1024]⟩
abbrev S4x1024 : Shape := ⟨2, ![4, 1024]⟩
abbrev S4x1024x3072 : Shape := ⟨3, ![4, 1024, 3072]⟩
abbrev S4x3072 : Shape := ⟨2, ![4, 3072]⟩
abbrev S1x1024x4096 : Shape := ⟨3, ![1, 1024, 4096]⟩
abbrev S1x3x1024 : Shape := ⟨3, ![1, 3, 1024]⟩
abbrev S1x1024 : Shape := ⟨2, ![1, 1024]⟩
abbrev S1x1024x1024 : Shape := ⟨3, ![1, 1024, 1024]⟩
abbrev S2x1024x2048 : Shape := ⟨3, ![2, 1024, 2048]⟩
abbrev S2x4x256x256 : Shape := ⟨4, ![2, 4, 256, 256]⟩
abbrev S2x1024 : Shape := ⟨2, ![2, 1024]⟩
abbrev S2x1024x1024 : Shape := ⟨3, ![2, 1024, 1024]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S_ : Shape := ⟨0, ![]⟩
abbrev S8x3072 : Shape := ⟨2, ![8, 3072]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x4096 : Shape := ⟨2, ![1024, 4096]⟩
abbrev S3x1024 : Shape := ⟨2, ![3, 1024]⟩
abbrev S1024x1024 : Shape := ⟨2, ![1024, 1024]⟩
abbrev S8x2048x4096 : Shape := ⟨3, ![8, 2048, 4096]⟩
abbrev S8x2050x1024 : Shape := ⟨3, ![8, 2050, 1024]⟩
abbrev S1x1024x2048 : Shape := ⟨3, ![1, 1024, 2048]⟩
abbrev S1024x2048 : Shape := ⟨2, ![1024, 2048]⟩
abbrev S1x4x256x256 : Shape := ⟨4, ![1, 4, 256, 256]⟩
abbrev S4x256x256 : Shape := ⟨3, ![4, 256, 256]⟩
abbrev S8x2048x2048 : Shape := ⟨3, ![8, 2048, 2048]⟩
abbrev S8x2048x4x256 : Shape := ⟨4, ![8, 2048, 4, 256]⟩
abbrev S8x2048x1x256 : Shape := ⟨4, ![8, 2048, 1, 256]⟩
abbrev S8x2048x256 : Shape := ⟨3, ![8, 2048, 256]⟩
abbrev S8x1x256 : Shape := ⟨3, ![8, 1, 256]⟩
abbrev S8x2049x256 : Shape := ⟨3, ![8, 2049, 256]⟩
abbrev S2048 : Shape := ⟨1, ![2048]⟩
abbrev S2048x1 : Shape := ⟨2, ![2048, 1]⟩
abbrev S1x2048x1 : Shape := ⟨3, ![1, 2048, 1]⟩
abbrev S4x256x8x2048 : Shape := ⟨4, ![4, 256, 8, 2048]⟩

abbrev nBuf : Space → Nat
  | .hbm => 436
  | .vmem => 0
  | .smem => 0
  | _ => 0

abbrev hbmTy0_0 (i : Nat) : BufTy := match i % 128 with
  | 0 => ⟨S8x2048x1024, .f32⟩
  | 1 => ⟨S8x1024, .f32⟩
  | 2 => ⟨S1024, .f32⟩
  | 3 => ⟨S4x1024, .f32⟩
  | 4 => ⟨S4x1024x3072, .f32⟩
  | 5 => ⟨S4x3072, .f32⟩
  | 6 => ⟨S1x1024x4096, .f32⟩
  | 7 => ⟨S1x3x1024, .f32⟩
  | 8 => ⟨S1x1024, .f32⟩
  | 9 => ⟨S1x1024x1024, .f32⟩
  | 10 => ⟨S2x1024x2048, .f32⟩
  | 11 => ⟨S2x4x256x256, .f32⟩
  | 12 => ⟨S2x1024, .f32⟩
  | 13 => ⟨S2x1024x1024, .f32⟩
  | 14 => ⟨S1024, .f32⟩
  | 15 => ⟨S1x1024x3072, .f32⟩
  | 16 => ⟨S1024x3072, .f32⟩
  | 17 => ⟨S1x3072, .f32⟩
  | 18 => ⟨S3072, .f32⟩
  | 19 => ⟨S8x1024, .f32⟩
  | 20 => ⟨S8x1024, .f32⟩
  | 21 => ⟨S_, .f32⟩
  | 22 => ⟨S8x1024, .f32⟩
  | 23 => ⟨S8x1024, .f32⟩
  | 24 => ⟨S_, .f32⟩
  | 25 => ⟨S8x1024, .f32⟩
  | 26 => ⟨S8x1024, .f32⟩
  | 27 => ⟨S8x1024, .f32⟩
  | 28 => ⟨S8x3072, .f32⟩
  | 29 => ⟨S1x3072, .f32⟩
  | 30 => ⟨S8x3072, .f32⟩
  | 31 => ⟨S8x3072, .f32⟩
  | 32 => ⟨S8x1024, .f32⟩
  | 33 => ⟨S8x1024, .f32⟩
  | 34 => ⟨S8x1024, .f32⟩
  | 35 => ⟨S1x1024, .f32⟩
  | 36 => ⟨S1024, .f32⟩
  | 37 => ⟨S8x2048x1024, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S_, .f32⟩
  | 45 => ⟨S8x2048x1, .f32⟩
  | 46 => ⟨S8x2048x1, .f32⟩
  | 47 => ⟨S8x2048x1, .f32⟩
  | 48 => ⟨S8x2048x1024, .f32⟩
  | 49 => ⟨S8x2048x1024, .f32⟩
  | 50 => ⟨S1x1x1024, .f32⟩
  | 51 => ⟨S8x2048x1024, .f32⟩
  | 52 => ⟨S8x2048x1024, .f32⟩
  | 53 => ⟨S8x1x1024, .f32⟩
  | 54 => ⟨S_, .f32⟩
  | 55 => ⟨S8x1x1024, .f32⟩
  | 56 => ⟨S8x1x1024, .f32⟩
  | 57 => ⟨S8x2048x1024, .f32⟩
  | 58 => ⟨S8x2048x1024, .f32⟩
  | 59 => ⟨S8x1x1024, .f32⟩
  | 60 => ⟨S8x2048x1024, .f32⟩
  | 61 => ⟨S8x2048x1024, .f32⟩
  | 62 => ⟨S1024x4096, .f32⟩
  | 63 => ⟨S3x1024, .f32⟩
  | 64 => ⟨S1024, .f32⟩
  | 65 => ⟨S1024x1024, .f32⟩
  | 66 => ⟨S8x2048x4096, .f32⟩
  | 67 => ⟨S8x2048x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S_, .i32⟩
  | 73 => ⟨S_, .f32⟩
  | 74 => ⟨S8x2050x1024, .f32⟩
  | 75 => ⟨S8x2048x1024, .f32⟩
  | 76 => ⟨S1x1024, .f32⟩
  | 77 => ⟨S1024, .f32⟩
  | 78 => ⟨S1x1x1024, .f32⟩
  | 79 => ⟨S8x2048x1024, .f32⟩
  | 80 => ⟨S8x2048x1024, .f32⟩
  | 81 => ⟨S8x2048x1024, .f32⟩
  | 82 => ⟨S1x1024, .f32⟩
  | 83 => ⟨S1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .f32⟩
  | 95 => ⟨S1x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S_, .f32⟩
  | 102 => ⟨S8x2048x1024, .f32⟩
  | 103 => ⟨S8x2048x1024, .f32⟩
  | 104 => ⟨S_, .f32⟩
  | 105 => ⟨S8x2048x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S8x1x1024, .f32⟩
  | 111 => ⟨S8x2048x1024, .f32⟩
  | 112 => ⟨S8x2048x1024, .f32⟩
  | 113 => ⟨S8x2048x1024, .f32⟩
  | 114 => ⟨S1x1024x3072, .f32⟩
  | 115 => ⟨S1024x3072, .f32⟩
  | 116 => ⟨S1x3072, .f32⟩
  | 117 => ⟨S3072, .f32⟩
  | 118 => ⟨S8x1024, .f32⟩
  | 119 => ⟨S8x1024, .f32⟩
  | 120 => ⟨S_, .f32⟩
  | 121 => ⟨S8x1024, .f32⟩
  | 122 => ⟨S8x1024, .f32⟩
  | 123 => ⟨S_, .f32⟩
  | 124 => ⟨S8x1024, .f32⟩
  | 125 => ⟨S8x1024, .f32⟩
  | 126 => ⟨S8x1024, .f32⟩
  | 127 => ⟨S8x3072, .f32⟩
  | _ => ⟨S8x2048x1024, .f32⟩

abbrev hbmTy0_1 (i : Nat) : BufTy := match i % 128 with
  | 0 => ⟨S1x3072, .f32⟩
  | 1 => ⟨S8x3072, .f32⟩
  | 2 => ⟨S8x3072, .f32⟩
  | 3 => ⟨S8x1024, .f32⟩
  | 4 => ⟨S8x1024, .f32⟩
  | 5 => ⟨S8x1024, .f32⟩
  | 6 => ⟨S1x1024, .f32⟩
  | 7 => ⟨S1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x1x1024, .f32⟩
  | 25 => ⟨S_, .f32⟩
  | 26 => ⟨S8x1x1024, .f32⟩
  | 27 => ⟨S8x1x1024, .f32⟩
  | 28 => ⟨S8x2048x1024, .f32⟩
  | 29 => ⟨S8x2048x1024, .f32⟩
  | 30 => ⟨S8x1x1024, .f32⟩
  | 31 => ⟨S8x2048x1024, .f32⟩
  | 32 => ⟨S8x2048x1024, .f32⟩
  | 33 => ⟨S1x1024x2048, .f32⟩
  | 34 => ⟨S1024x2048, .f32⟩
  | 35 => ⟨S1x4x256x256, .f32⟩
  | 36 => ⟨S4x256x256, .f32⟩
  | 37 => ⟨S1x1024, .f32⟩
  | 38 => ⟨S1024, .f32⟩
  | 39 => ⟨S1x1024x1024, .f32⟩
  | 40 => ⟨S1024x1024, .f32⟩
  | 41 => ⟨S8x2048x2048, .f32⟩
  | 42 => ⟨S8x2048x1024, .f32⟩
  | 43 => ⟨S8x2048x1024, .f32⟩
  | 44 => ⟨S8x2048x4x256, .f32⟩
  | 45 => ⟨S8x2048x1x256, .f32⟩
  | 46 => ⟨S8x2048x256, .f32⟩
  | 47 => ⟨S_, .f32⟩
  | 48 => ⟨S8x1x256, .f32⟩
  | 49 => ⟨S_, .f32⟩
  | 50 => ⟨S_, .f32⟩
  | 51 => ⟨S8x2048x256, .f32⟩
  | 52 => ⟨S8x2049x256, .f32⟩
  | 53 => ⟨S2048, .i32⟩
  | 54 => ⟨S_, .i32⟩
  | 55 => ⟨S2048, .i32⟩
  | 56 => ⟨S2048, .i32⟩
  | 57 => ⟨S_, .i32⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S_, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2048, .i32⟩
  | 77 => ⟨S2048, .f32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S2048x1, .i32⟩
  | 86 => ⟨S8x2048x256, .f32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S8x2048x256, .f32⟩
  | 96 => ⟨S8x2048x256, .f32⟩
  | 97 => ⟨S1x2048x1, .f32⟩
  | 98 => ⟨S8x2048x256, .f32⟩
  | 99 => ⟨S8x2048x256, .f32⟩
  | 100 => ⟨S8x2048x1x256, .f32⟩
  | 101 => ⟨S8x2048x256, .f32⟩
  | 102 => ⟨S_, .f32⟩
  | 103 => ⟨S8x1x256, .f32⟩
  | 104 => ⟨S_, .f32⟩
  | 105 => ⟨S_, .f32⟩
  | 106 => ⟨S8x2048x256, .f32⟩
  | 107 => ⟨S8x2049x256, .f32⟩
  | 108 => ⟨S2048, .i32⟩
  | 109 => ⟨S_, .i32⟩
  | 110 => ⟨S2048, .i32⟩
  | 111 => ⟨S2048, .i32⟩
  | 112 => ⟨S_, .i32⟩
  | 113 => ⟨S_, .i32⟩
  | 114 => ⟨S_, .i32⟩
  | 115 => ⟨S2048, .i32⟩
  | 116 => ⟨S2048, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S_, .i32⟩
  | 125 => ⟨S_, .i32⟩
  | 126 => ⟨S2048, .i32⟩
  | 127 => ⟨S2048, .i32⟩
  | _ => ⟨S8x2048x1024, .f32⟩

abbrev hbmTy0_2 (i : Nat) : BufTy := match i % 128 with
  | 0 => ⟨S_, .i32⟩
  | 1 => ⟨S2048, .i32⟩
  | 2 => ⟨S2048, .i32⟩
  | 3 => ⟨S2048, .i32⟩
  | 4 => ⟨S2048, .f32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S8x2048x256, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S8x2048x256, .f32⟩
  | 23 => ⟨S8x2048x256, .f32⟩
  | 24 => ⟨S1x2048x1, .f32⟩
  | 25 => ⟨S8x2048x256, .f32⟩
  | 26 => ⟨S8x2048x256, .f32⟩
  | 27 => ⟨S8x2048x1x256, .f32⟩
  | 28 => ⟨S8x2048x256, .f32⟩
  | 29 => ⟨S_, .f32⟩
  | 30 => ⟨S8x1x256, .f32⟩
  | 31 => ⟨S_, .f32⟩
  | 32 => ⟨S_, .f32⟩
  | 33 => ⟨S8x2048x256, .f32⟩
  | 34 => ⟨S8x2049x256, .f32⟩
  | 35 => ⟨S2048, .i32⟩
  | 36 => ⟨S_, .i32⟩
  | 37 => ⟨S2048, .i32⟩
  | 38 => ⟨S2048, .i32⟩
  | 39 => ⟨S_, .i32⟩
  | 40 => ⟨S_, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S_, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S2048, .i32⟩
  | 59 => ⟨S2048, .f32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S2048x1, .i32⟩
  | 68 => ⟨S8x2048x256, .f32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S8x2048x256, .f32⟩
  | 78 => ⟨S8x2048x256, .f32⟩
  | 79 => ⟨S1x2048x1, .f32⟩
  | 80 => ⟨S8x2048x256, .f32⟩
  | 81 => ⟨S8x2048x256, .f32⟩
  | 82 => ⟨S8x2048x1x256, .f32⟩
  | 83 => ⟨S8x2048x256, .f32⟩
  | 84 => ⟨S_, .f32⟩
  | 85 => ⟨S8x1x256, .f32⟩
  | 86 => ⟨S_, .f32⟩
  | 87 => ⟨S_, .f32⟩
  | 88 => ⟨S8x2048x256, .f32⟩
  | 89 => ⟨S8x2049x256, .f32⟩
  | 90 => ⟨S2048, .i32⟩
  | 91 => ⟨S_, .i32⟩
  | 92 => ⟨S2048, .i32⟩
  | 93 => ⟨S2048, .i32⟩
  | 94 => ⟨S_, .i32⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S_, .i32⟩
  | 107 => ⟨S_, .i32⟩
  | 108 => ⟨S2048, .i32⟩
  | 109 => ⟨S2048, .i32⟩
  | 110 => ⟨S_, .i32⟩
  | 111 => ⟨S2048, .i32⟩
  | 112 => ⟨S2048, .i32⟩
  | 113 => ⟨S2048, .i32⟩
  | 114 => ⟨S2048, .f32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S2048x1, .i32⟩
  | 123 => ⟨S8x2048x256, .f32⟩
  | 124 => ⟨S_, .i32⟩
  | 125 => ⟨S2048, .i32⟩
  | 126 => ⟨S2048, .i1⟩
  | 127 => ⟨S_, .i32⟩
  | _ => ⟨S8x2048x1024, .f32⟩

abbrev hbmTy0_3 (i : Nat) : BufTy := match i % 128 with
  | 0 => ⟨S2048, .i32⟩
  | 1 => ⟨S2048, .i32⟩
  | 2 => ⟨S2048, .i32⟩
  | 3 => ⟨S2048x1, .i32⟩
  | 4 => ⟨S8x2048x256, .f32⟩
  | 5 => ⟨S8x2048x256, .f32⟩
  | 6 => ⟨S1x2048x1, .f32⟩
  | 7 => ⟨S8x2048x256, .f32⟩
  | 8 => ⟨S8x2048x256, .f32⟩
  | 9 => ⟨S8x2048x1x256, .f32⟩
  | 10 => ⟨S8x2048x1x256, .f32⟩
  | 11 => ⟨S8x2048x1x256, .f32⟩
  | 12 => ⟨S8x2048x1x256, .f32⟩
  | 13 => ⟨S8x2048x4x256, .f32⟩
  | 14 => ⟨S8x2048x4x256, .f32⟩
  | 15 => ⟨S4x256x8x2048, .f32⟩
  | 16 => ⟨S8x2048x4x256, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | 26 => ⟨S_, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S8x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S_, .f32⟩
  | 44 => ⟨S8x2048x1, .f32⟩
  | 45 => ⟨S8x2048x1, .f32⟩
  | 46 => ⟨S8x2048x1, .f32⟩
  | 47 => ⟨S8x2048x1024, .f32⟩
  | 48 => ⟨S8x2048x1024, .f32⟩
  | 49 => ⟨S1x1x1024, .f32⟩
  | 50 => ⟨S8x2048x1024, .f32⟩
  | 51 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c : Ref sig .tc := ⟨.hbm, 72, rfl⟩
abbrev main_call1_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_3 : Ref sig .tc := ⟨.hbm, 137, rfl⟩
abbrev main_v92 : Ref sig .tc := ⟨.hbm, 138, rfl⟩
abbrev main_v93 : Ref sig .tc := ⟨.hbm, 139, rfl⟩
abbrev main_cst_4 : Ref sig .tc := ⟨.hbm, 140, rfl⟩
abbrev main_v94 : Ref sig .tc := ⟨.hbm, 141, rfl⟩
abbrev main_v95 : Ref sig .tc := ⟨.hbm, 142, rfl⟩
abbrev main_cst_5 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_6 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_7 : Ref sig .tc := ⟨.hbm, 175, rfl⟩
abbrev main_v126 : Ref sig .tc := ⟨.hbm, 176, rfl⟩
abbrev main_call4_call0_cst : Ref sig .tc := ⟨.hbm, 177, rfl⟩
abbrev main_call4_call0_v0 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_8 : Ref sig .tc := ⟨.hbm, 182, rfl⟩
abbrev main_v130 : Ref sig .tc := ⟨.hbm, 183, rfl⟩
abbrev main_v131 : Ref sig .tc := ⟨.hbm, 184, rfl⟩
abbrev main_c_9 : Ref sig .tc := ⟨.hbm, 185, rfl⟩
abbrev main_c_10 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v132 : Ref sig .tc := ⟨.hbm, 192, rfl⟩
abbrev main_c_11 : Ref sig .tc := ⟨.hbm, 193, rfl⟩
abbrev main_v133 : Ref sig .tc := ⟨.hbm, 194, rfl⟩
abbrev main_v134 : Ref sig .tc := ⟨.hbm, 195, rfl⟩
abbrev main_c_12 : Ref sig .tc := ⟨.hbm, 196, rfl⟩
abbrev main_c_13 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_c_14 : Ref sig .tc := ⟨.hbm, 206, rfl⟩
abbrev main_v138 : Ref sig .tc := ⟨.hbm, 207, rfl⟩
abbrev main_v139 : Ref sig .tc := ⟨.hbm, 208, rfl⟩
abbrev main_c_15 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_c_16 : Ref sig .tc := ⟨.hbm, 215, rfl⟩
abbrev main_v145 : Ref sig .tc := ⟨.hbm, 216, rfl⟩
abbrev main_v146 : Ref sig .tc := ⟨.hbm, 217, rfl⟩
abbrev main_c_17 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_cst_18 : Ref sig .tc := ⟨.hbm, 230, rfl⟩
abbrev main_v158 : Ref sig .tc := ⟨.hbm, 231, rfl⟩
abbrev main_call7_call0_cst : Ref sig .tc := ⟨.hbm, 232, rfl⟩
abbrev main_call7_call0_v0 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_c_19 : Ref sig .tc := ⟨.hbm, 237, rfl⟩
abbrev main_v162 : Ref sig .tc := ⟨.hbm, 238, rfl⟩
abbrev main_v163 : Ref sig .tc := ⟨.hbm, 239, rfl⟩
abbrev main_c_20 : Ref sig .tc := ⟨.hbm, 240, rfl⟩
abbrev main_c_21 : Ref sig .tc := ⟨.hbm, 241, rfl⟩
abbrev main_call8_v0 : Ref sig .tc := ⟨.hbm, 242, rfl⟩
abbrev main_call8_v1 : Ref sig .tc := ⟨.hbm, 243, rfl⟩
abbrev main_call8_v2 : Ref sig .tc := ⟨.hbm, 244, rfl⟩
abbrev main_call8_v3 : Ref sig .tc := ⟨.hbm, 245, rfl⟩
abbrev main_call8_v4 : Ref sig .tc := ⟨.hbm, 246, rfl⟩
abbrev main_v164 : Ref sig .tc := ⟨.hbm, 247, rfl⟩
abbrev main_c_22 : Ref sig .tc := ⟨.hbm, 248, rfl⟩
abbrev main_v165 : Ref sig .tc := ⟨.hbm, 249, rfl⟩
abbrev main_v166 : Ref sig .tc := ⟨.hbm, 250, rfl⟩
abbrev main_c_23 : Ref sig .tc := ⟨.hbm, 251, rfl⟩
abbrev main_c_24 : Ref sig .tc := ⟨.hbm, 252, rfl⟩
abbrev main_call9_v0 : Ref sig .tc := ⟨.hbm, 253, rfl⟩
abbrev main_call9_v1 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_c_25 : Ref sig .tc := ⟨.hbm, 261, rfl⟩
abbrev main_v170 : Ref sig .tc := ⟨.hbm, 262, rfl⟩
abbrev main_v171 : Ref sig .tc := ⟨.hbm, 263, rfl⟩
abbrev main_c_26 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_c_27 : Ref sig .tc := ⟨.hbm, 270, rfl⟩
abbrev main_v177 : Ref sig .tc := ⟨.hbm, 271, rfl⟩
abbrev main_v178 : Ref sig .tc := ⟨.hbm, 272, rfl⟩
abbrev main_c_28 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_cst_29 : Ref sig .tc := ⟨.hbm, 285, rfl⟩
abbrev main_v190 : Ref sig .tc := ⟨.hbm, 286, rfl⟩
abbrev main_call10_call0_cst : Ref sig .tc := ⟨.hbm, 287, rfl⟩
abbrev main_call10_call0_v0 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_c_30 : Ref sig .tc := ⟨.hbm, 292, rfl⟩
abbrev main_v194 : Ref sig .tc := ⟨.hbm, 293, rfl⟩
abbrev main_v195 : Ref sig .tc := ⟨.hbm, 294, rfl⟩
abbrev main_c_31 : Ref sig .tc := ⟨.hbm, 295, rfl⟩
abbrev main_c_32 : Ref sig .tc := ⟨.hbm, 296, rfl⟩
abbrev main_call11_v0 : Ref sig .tc := ⟨.hbm, 297, rfl⟩
abbrev main_call11_v1 : Ref sig .tc := ⟨.hbm, 298, rfl⟩
abbrev main_call11_v2 : Ref sig .tc := ⟨.hbm, 299, rfl⟩
abbrev main_call11_v3 : Ref sig .tc := ⟨.hbm, 300, rfl⟩
abbrev main_call11_v4 : Ref sig .tc := ⟨.hbm, 301, rfl⟩
abbrev main_v196 : Ref sig .tc := ⟨.hbm, 302, rfl⟩
abbrev main_c_33 : Ref sig .tc := ⟨.hbm, 303, rfl⟩
abbrev main_v197 : Ref sig .tc := ⟨.hbm, 304, rfl⟩
abbrev main_v198 : Ref sig .tc := ⟨.hbm, 305, rfl⟩
abbrev main_c_34 : Ref sig .tc := ⟨.hbm, 306, rfl⟩
abbrev main_c_35 : Ref sig .tc := ⟨.hbm, 307, rfl⟩
abbrev main_call12_v0 : Ref sig .tc := ⟨.hbm, 308, rfl⟩
abbrev main_call12_v1 : Ref sig .tc := ⟨.hbm, 309, rfl⟩
abbrev main_call12_v2 : Ref sig .tc := ⟨.hbm, 310, rfl⟩
abbrev main_call12_v3 : Ref sig .tc := ⟨.hbm, 311, rfl⟩
abbrev main_call12_v4 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_c_36 : Ref sig .tc := ⟨.hbm, 316, rfl⟩
abbrev main_v202 : Ref sig .tc := ⟨.hbm, 317, rfl⟩
abbrev main_v203 : Ref sig .tc := ⟨.hbm, 318, rfl⟩
abbrev main_c_37 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_c_38 : Ref sig .tc := ⟨.hbm, 325, rfl⟩
abbrev main_v209 : Ref sig .tc := ⟨.hbm, 326, rfl⟩
abbrev main_v210 : Ref sig .tc := ⟨.hbm, 327, rfl⟩
abbrev main_c_39 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_cst_40 : Ref sig .tc := ⟨.hbm, 340, rfl⟩
abbrev main_v222 : Ref sig .tc := ⟨.hbm, 341, rfl⟩
abbrev main_call13_call0_cst : Ref sig .tc := ⟨.hbm, 342, rfl⟩
abbrev main_call13_call0_v0 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_c_41 : Ref sig .tc := ⟨.hbm, 347, rfl⟩
abbrev main_v226 : Ref sig .tc := ⟨.hbm, 348, rfl⟩
abbrev main_v227 : Ref sig .tc := ⟨.hbm, 349, rfl⟩
abbrev main_c_42 : Ref sig .tc := ⟨.hbm, 350, rfl⟩
abbrev main_c_43 : Ref sig .tc := ⟨.hbm, 351, rfl⟩
abbrev main_call14_v0 : Ref sig .tc := ⟨.hbm, 352, rfl⟩
abbrev main_call14_v1 : Ref sig .tc := ⟨.hbm, 353, rfl⟩
abbrev main_call14_v2 : Ref sig .tc := ⟨.hbm, 354, rfl⟩
abbrev main_call14_v3 : Ref sig .tc := ⟨.hbm, 355, rfl⟩
abbrev main_call14_v4 : Ref sig .tc := ⟨.hbm, 356, rfl⟩
abbrev main_v228 : Ref sig .tc := ⟨.hbm, 357, rfl⟩
abbrev main_c_44 : Ref sig .tc := ⟨.hbm, 358, rfl⟩
abbrev main_v229 : Ref sig .tc := ⟨.hbm, 359, rfl⟩
abbrev main_v230 : Ref sig .tc := ⟨.hbm, 360, rfl⟩
abbrev main_c_45 : Ref sig .tc := ⟨.hbm, 361, rfl⟩
abbrev main_c_46 : Ref sig .tc := ⟨.hbm, 362, rfl⟩
abbrev main_call15_v0 : Ref sig .tc := ⟨.hbm, 363, rfl⟩
abbrev main_call15_v1 : Ref sig .tc := ⟨.hbm, 364, rfl⟩
abbrev main_call15_v2 : Ref sig .tc := ⟨.hbm, 365, rfl⟩
abbrev main_call15_v3 : Ref sig .tc := ⟨.hbm, 366, rfl⟩
abbrev main_call15_v4 : Ref sig .tc := ⟨.hbm, 367, rfl⟩
abbrev main_v231 : Ref sig .tc := ⟨.hbm, 368, rfl⟩
abbrev main_v232 : Ref sig .tc := ⟨.hbm, 369, rfl⟩
abbrev main_v233 : Ref sig .tc := ⟨.hbm, 370, rfl⟩
abbrev main_c_47 : Ref sig .tc := ⟨.hbm, 371, rfl⟩
abbrev main_v234 : Ref sig .tc := ⟨.hbm, 372, rfl⟩
abbrev main_v235 : Ref sig .tc := ⟨.hbm, 373, rfl⟩
abbrev main_c_48 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_c_49 : Ref sig .tc := ⟨.hbm, 380, rfl⟩
abbrev main_v241 : Ref sig .tc := ⟨.hbm, 381, rfl⟩
abbrev main_v242 : Ref sig .tc := ⟨.hbm, 382, rfl⟩
abbrev main_c_50 : Ref sig .tc := ⟨.hbm, 383, rfl⟩
abbrev main_v243 : Ref sig .tc := ⟨.hbm, 384, rfl⟩
abbrev main_v244 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_v259 : Ref sig .tc := ⟨.hbm, 400, rfl⟩
abbrev main_v260 : Ref sig .tc := ⟨.hbm, 401, rfl⟩
abbrev main_v261 : Ref sig .tc := ⟨.hbm, 402, rfl⟩
abbrev main_v262 : Ref sig .tc := ⟨.hbm, 403, rfl⟩
abbrev main_v263 : Ref sig .tc := ⟨.hbm, 404, rfl⟩
abbrev main_call16_v0 : Ref sig .tc := ⟨.hbm, 405, rfl⟩
abbrev main_call16_v1 : Ref sig .tc := ⟨.hbm, 406, rfl⟩
abbrev main_call16_cst : Ref sig .tc := ⟨.hbm, 407, rfl⟩
abbrev main_call16_v2 : Ref sig .tc := ⟨.hbm, 408, rfl⟩
abbrev main_call16_v3 : Ref sig .tc := ⟨.hbm, 409, rfl⟩
abbrev main_call16_cst_0 : Ref sig .tc := ⟨.hbm, 410, rfl⟩
abbrev main_call16_v4 : Ref sig .tc := ⟨.hbm, 411, rfl⟩
abbrev main_call16_v5 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_cst_51 : Ref sig .tc := ⟨.hbm, 421, rfl⟩
abbrev main_v272 : Ref sig .tc := ⟨.hbm, 422, rfl⟩
abbrev main_v273 : Ref sig .tc := ⟨.hbm, 423, rfl⟩
abbrev main_cst_52 : Ref sig .tc := ⟨.hbm, 424, rfl⟩
abbrev main_v274 : Ref sig .tc := ⟨.hbm, 425, rfl⟩
abbrev main_v275 : Ref sig .tc := ⟨.hbm, 426, rfl⟩
abbrev main_cst_53 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩

abbrev nD : Nat := 1
abbrev τ : Topo := Topo.v7x

variable {F : FTy → Type} [FloatOps F]
-- ==== Bias.lean ====
abbrev S1x16x15x31 : Shape := ⟨4, ![1, 16, 15, 31]⟩
abbrev S16x15x31 : Shape := ⟨3, ![16, 15, 31]⟩
abbrev S16x15x16 : Shape := ⟨3, ![16, 15, 16]⟩
abbrev S_ : Shape := ⟨0, ![]⟩
abbrev S16x15x97 : Shape := ⟨3, ![16, 15, 97]⟩
abbrev S16x15x15 : Shape := ⟨3, ![16, 15, 15]⟩
abbrev S16x15x128 : Shape := ⟨3, ![16, 15, 128]⟩
abbrev S16x16x128 : Shape := ⟨3, ![16, 16, 128]⟩
abbrev S16x10x128x128 : Shape := ⟨4, ![16, 10, 128, 128]⟩
abbrev S8x16x128 : Shape := ⟨3, ![8, 16, 128]⟩
abbrev S8x10x128x128 : Shape := ⟨4, ![8, 10, 128, 128]⟩
abbrev S64x128 : Shape := ⟨2, ![64, 128]⟩
abbrev S1x1x128 : Shape := ⟨3, ![1, 1, 128]⟩
abbrev S1x128 : Shape := ⟨2, ![1, 128]⟩
abbrev S128x128 : Shape := ⟨2, ![128, 128]⟩
abbrev S1x1x128x128 : Shape := ⟨4, ![1, 1, 128, 128]⟩

abbrev nBuf : Space → Nat
  | .hbm => 12
  | .vmem => 4
  | .smem => 0
  | _ => 0

abbrev bufTy : (tb : Table) → Fin (tcTables nBuf tb) → BufTy
  | .hbm, ⟨0, _⟩ => ⟨S1x16x15x31, .f32⟩
  | .hbm, ⟨1, _⟩ => ⟨S16x15x31, .f32⟩
  | .hbm, ⟨2, _⟩ => ⟨S16x15x31, .f32⟩
  | .hbm, ⟨3, _⟩ => ⟨S16x15x16, .f32⟩
  | .hbm, ⟨4, _⟩ => ⟨S_, .f32⟩
  | .hbm, ⟨5, _⟩ => ⟨S16x15x97, .f32⟩
  | .hbm, ⟨6, _⟩ => ⟨S16x15x15, .f32⟩
  | .hbm, ⟨7, _⟩ => ⟨S16x15x128, .f32⟩
  | .hbm, ⟨8, _⟩ => ⟨S_, .i32⟩
  | .hbm, ⟨9, _⟩ => ⟨S_, .f32⟩
  | .hbm, ⟨10, _⟩ => ⟨S16x16x128, .f32⟩
  | .hbm, ⟨11, _⟩ => ⟨S16x10x128x128, .f32⟩
  | .local _ .vmem, ⟨0, _⟩ => ⟨S8x16x128, .f32⟩
  | .local _ .vmem, ⟨1, _⟩ => ⟨S8x16x128, .f32⟩
  | .local _ .vmem, ⟨2, _⟩ => ⟨S8x10x128x128, .f32⟩
  | .local _ .vmem, ⟨3, _⟩ => ⟨S8x10x128x128, .f32⟩
  | _, _ => ⟨S1x16x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasRefIdeal.lean ====
abbrev S1x16x15x31 : Shape := ⟨4, ![1, 16, 15, 31]⟩
abbrev S10 : Shape := ⟨1, ![10]⟩
abbrev S16x15x31 : Shape := ⟨3, ![16, 15, 31]⟩
abbrev S10x1x1 : Shape := ⟨3, ![10, 1, 1]⟩
abbrev S2 : Shape := ⟨1, ![2]⟩
abbrev S1x1x2 : Shape := ⟨3, ![1, 1, 2]⟩
abbrev S10x1x2 : Shape := ⟨3, ![10, 1, 2]⟩
abbrev S2x1 : Shape := ⟨2, ![2, 1]⟩
abbrev S1x2x1 : Shape := ⟨3, ![1, 2, 1]⟩
abbrev S10x2x1 : Shape := ⟨3, ![10, 2, 1]⟩
abbrev S_ : Shape := ⟨0, ![]⟩
abbrev S10x2x2 : Shape := ⟨3, ![10, 2, 2]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S10x2x1x2x1 : Shape := ⟨5, ![10, 2, 1, 2, 1]⟩
abbrev S64x1x64 : Shape := ⟨3, ![64, 1, 64]⟩
abbrev S10x2x64x2x64 : Shape := ⟨5, ![10, 2, 64, 2, 64]⟩
abbrev S10x2x64x2x64x1 : Shape := ⟨6, ![10, 2, 64, 2, 64, 1]⟩
abbrev S10x2x64x2x64x2 : Shape := ⟨6, ![10, 2, 64, 2, 64, 2]⟩
abbrev S16x10x2x64x2x64 : Shape := ⟨6, ![16, 10, 2, 64, 2, 64]⟩
abbrev S1x1x64x1x64 : Shape := ⟨5, ![1, 1, 64, 1, 64]⟩
abbrev S16x10x128x128 : Shape := ⟨4, ![16, 10, 128, 128]⟩

abbrev nBuf : Space → Nat
  | .hbm => 136
  | .vmem => 0
  | .smem => 0
  | _ => 0

abbrev hbmTy0_0 (i : Nat) : BufTy := match i % 128 with
  | 0 => ⟨S1x16x15x31, .f32⟩
  | 1 => ⟨S10, .i32⟩
  | 2 => ⟨S10, .i32⟩
  | 3 => ⟨S16x15x31, .f32⟩
  | 4 => ⟨S10x1x1, .i32⟩
  | 5 => ⟨S2, .i32⟩
  | 6 => ⟨S1x1x2, .i32⟩
  | 7 => ⟨S10x1x2, .i32⟩
  | 8 => ⟨S10x1x2, .i32⟩
  | 9 => ⟨S10x1x2, .i32⟩
  | 10 => ⟨S10x1x1, .i32⟩
  | 11 => ⟨S2, .i32⟩
  | 12 => ⟨S2x1, .i32⟩
  | 13 => ⟨S1x2x1, .i32⟩
  | 14 => ⟨S10x2x1, .i32⟩
  | 15 => ⟨S10x2x1, .i32⟩
  | 16 => ⟨S10x2x1, .i32⟩
  | 17 => ⟨S_, .i32⟩
  | 18 => ⟨S10x1x2, .i32⟩
  | 19 => ⟨S10x1x2, .i32⟩
  | 20 => ⟨S_, .i32⟩
  | 21 => ⟨S_, .i32⟩
  | 22 => ⟨S_, .i32⟩
  | 23 => ⟨S10x1x2, .i32⟩
  | 24 => ⟨S10x1x2, .i32⟩
  | 25 => ⟨S_, .i32⟩
  | 26 => ⟨S10x1x2, .i32⟩
  | 27 => ⟨S10x1x2, .i32⟩
  | 28 => ⟨S10x2x2, .i32⟩
  | 29 => ⟨S10x2x2, .i32⟩
  | 30 => ⟨S10x2x2, .i1⟩
  | 31 => ⟨S_, .i32⟩
  | 32 => ⟨S10x1x2, .i32⟩
  | 33 => ⟨S10x1x2, .i32⟩
  | 34 => ⟨S10x2x2, .i32⟩
  | 35 => ⟨S10x2x2, .i32⟩
  | 36 => ⟨S10x2x2, .i1⟩
  | 37 => ⟨S10x2x2, .i1⟩
  | 38 => ⟨S10x2x2, .i32⟩
  | 39 => ⟨S10x2x2, .i32⟩
  | 40 => ⟨S10x2x2, .i32⟩
  | 41 => ⟨S_, .i32⟩
  | 42 => ⟨S10x2x2, .i32⟩
  | 43 => ⟨S10x2x2, .i32⟩
  | 44 => ⟨S_, .i32⟩
  | 45 => ⟨S10x2x2, .i32⟩
  | 46 => ⟨S10x2x2, .i32⟩
  | 47 => ⟨S_, .i32⟩
  | 48 => ⟨S_, .i32⟩
  | 49 => ⟨S_, .i32⟩
  | 50 => ⟨S10x2x2, .i32⟩
  | 51 => ⟨S10x2x2, .i32⟩
  | 52 => ⟨S_, .i32⟩
  | 53 => ⟨S10x2x2, .i32⟩
  | 54 => ⟨S10x2x2, .i32⟩
  | 55 => ⟨S64, .i32⟩
  | 56 => ⟨S64, .i32⟩
  | 57 => ⟨S64x1, .i32⟩
  | 58 => ⟨S_, .i32⟩
  | 59 => ⟨S64, .i32⟩
  | 60 => ⟨S64, .i32⟩
  | 61 => ⟨S_, .i32⟩
  | 62 => ⟨S_, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S1x64, .i32⟩
  | 70 => ⟨S64x64, .i32⟩
  | 71 => ⟨S64x64, .i32⟩
  | 72 => ⟨S64x64, .i1⟩
  | 73 => ⟨S_, .i32⟩
  | 74 => ⟨S64, .i32⟩
  | 75 => ⟨S64, .i32⟩
  | 76 => ⟨S1x64, .i32⟩
  | 77 => ⟨S64x64, .i32⟩
  | 78 => ⟨S64x64, .i32⟩
  | 79 => ⟨S64x64, .i1⟩
  | 80 => ⟨S64x64, .i1⟩
  | 81 => ⟨S1x64, .i32⟩
  | 82 => ⟨S64x64, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S10x2x1x2x1, .i32⟩
  | 100 => ⟨S64x1x64, .i32⟩
  | 101 => ⟨S_, .i32⟩
  | 102 => ⟨S10x2x1x2x1, .i32⟩
  | 103 => ⟨S10x2x1x2x1, .i1⟩
  | 104 => ⟨S_, .i32⟩
  | 105 => ⟨S10x2x1x2x1, .i32⟩
  | 106 => ⟨S10x2x1x2x1, .i32⟩
  | 107 => ⟨S10x2x1x2x1, .i32⟩
  | 108 => ⟨S_, .i32⟩
  | 109 => ⟨S64x1x64, .i32⟩
  | 110 => ⟨S64x1x64, .i1⟩
  | 111 => ⟨S_, .i32⟩
  | 112 => ⟨S64x1x64, .i32⟩
  | 113 => ⟨S64x1x64, .i32⟩
  | 114 => ⟨S64x1x64, .i32⟩
  | 115 => ⟨S10x2x64x2x64, .i32⟩
  | 116 => ⟨S10x2x64x2x64, .i32⟩
  | 117 => ⟨S10x2x64x2x64x1, .i32⟩
  | 118 => ⟨S10x2x64x2x64x1, .i32⟩
  | 119 => ⟨S10x2x64x2x64x2, .i32⟩
  | 120 => ⟨S16x10x2x64x2x64, .f32⟩
  | 121 => ⟨S_, .f32⟩
  | 122 => ⟨S16x10x2x64x2x64, .f32⟩
  | 123 => ⟨S16x10x2x64x2x64, .f32⟩
  | 124 => ⟨S10x2x1x2x1, .i1⟩
  | 125 => ⟨S64x1x64, .i1⟩
  | 126 => ⟨S1x1x64x1x64, .i1⟩
  | 127 => ⟨S10x2x64x2x64, .i1⟩
  | _ => ⟨S1x16x15x31, .f32⟩

abbrev hbmTy0_1 (i : Nat) : BufTy := match i % 128 with
  | 0 => ⟨S10x2x64x2x64, .i1⟩
  | 1 => ⟨S10x2x64x2x64, .i1⟩
  | 2 => ⟨S_, .f32⟩
  | 3 => ⟨S_, .f32⟩
  | 4 => ⟨S16x10x2x64x2x64, .i1⟩
  | 5 => ⟨S16x10x2x64x2x64, .f32⟩
  | 6 => ⟨S16x10x2x64x2x64, .f32⟩
  | 7 => ⟨S16x10x128x128, .f32⟩
  | _ => ⟨S1x16x15x31, .f32⟩

abbrev hbmTy (i : Nat) : BufTy := match i / 128 with
  | 0 => hbmTy0_0 i
  | 1 => hbmTy0_1 i
  | _ => ⟨S1x16x15x31, .f32⟩

abbrev bufTy : (tb : Table) → Fin (tcTables nBuf tb) → BufTy
  | .hbm, ⟨i, _⟩ => hbmTy i
  | _, _ => ⟨S1x16x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_c_8 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_c_11 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_c_16 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_17 : Ref sig .tc := ⟨.hbm, 101, rfl⟩
abbrev main_v62 : Ref sig .tc := ⟨.hbm, 102, rfl⟩
abbrev main_v63 : Ref sig .tc := ⟨.hbm, 103, rfl⟩
abbrev main_c_18 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_19 : Ref sig .tc := ⟨.hbm, 108, rfl⟩
abbrev main_v67 : Ref sig .tc := ⟨.hbm, 109, rfl⟩
abbrev main_v68 : Ref sig .tc := ⟨.hbm, 110, rfl⟩
abbrev main_c_20 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v86 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== Proof.ConvRun.lean ====
module

public import proofs.«01_k».proof.Proof.Gen.ConvIdeal.Frame
public import Idealize.ShloMosaic.Lib.Claim
public import Idealize.ShloMosaic.Lib.Pipeline.ValueKit

/-! # The convolution layer: one run, and what its two calls find in their operands

`run_all` is the generated launch read for every buffer: a final state holds the last boundary's
contents, so the result array is what the second call has written back. The theorems after it read
the second call's operands: the arguments through the host's reshapes and casts, and the modulation
array as the first call has written it. -/

@[expose] public section

set_option maxRecDepth 16384

noncomputable section

namespace Cert.ConvIdeal.Run

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution terminates, and every buffer the launch does not scope ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run with its result: the second call's output array after its last grid point, the arguments unchanged. -/
theorem run_main : θ_run defs (onTc (τ := τ) (main (F := F))) ⟨m, fun _ => 0, ρ⟩ (fun r => ∀ c : Dev nD,
      r.2.mem ((c.tc : Thread nD τ).loc main_v12) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans (W4_arr m ρ c 9),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

/-! ## The operands of the modulation call -/

theorem V1_arg4 (c : Dev nD) : V1 m ρ c main_arg4 = m ((c : Thread nD τ).loc main_arg4) := W1_args m ρ c main_arg4 (by decide)

theorem V1_v5 (c : Dev nD) : V1 m ρ c main_v5 = shapeCast S4x1x3072 (m ((c : Thread nD τ).loc main_arg5)) shapeCasts_S4x3072_S4x1x3072 := by
  show StableHlo.after hostOps0 (W0 m ρ c) (Proc.devRef .tc main_v5) = _
  after_results
  rfl

theorem V1_v4 (c : Dev nD) : V1 m ρ c main_v4 =
    Host.scatter scatter_S16x1024_S1_S1024_0_0_0_0 (fun _ b => b)
      (Host.scatter scatter_S16x1024_S1_S8x1024_01_n_0_0 (fun _ b => b)
        (broadcastInDim S16x1024 ![] bcast_S_S16x1024 (constant S_ .f32 0x00000000#32))
        (broadcastInDim S1 ![] bcast_S_S1 (constantI S_ 32 0#32)) (m ((c : Thread nD τ).loc main_arg1)))
      (broadcastInDim S1 ![] bcast_S_S1 (constantI S_ 32 8#32)) (m ((c : Thread nD τ).loc main_arg2)) := by
  show StableHlo.after hostOps0 (W0 m ρ c) (Proc.devRef .tc main_v4) = _
  after_results

/-! ## The operands of the layer's call -/

theorem V3_arg0 (c : Dev nD) : V3 m ρ c main_arg0 = m ((c : Thread nD τ).loc main_arg0) := W3_args m ρ c main_arg0 (by decide)
theorem V3_arg7 (c : Dev nD) : V3 m ρ c main_arg7 = m ((c : Thread nD τ).loc main_arg7) := W3_args m ρ c main_arg7 (by decide)

theorem V3_v7 (c : Dev nD) : V3 m ρ c main_v7 = shapeCast S4x16x3x1024 ((dat0 (V1 m ρ) c).arrAt 3 cfg0.N) shapeCasts_S4x16x3072_S4x16x3x1024 := by
  rw [← W2_arr m ρ c 3]
  show StableHlo.after hostOps1 (W2 m ρ c) (Proc.devRef .tc main_v7) = _
  after_results
  rfl

theorem V3_v8 (c : Dev nD) : V3 m ρ c main_v8 = shapeCast S4x1x1024 (m ((c : Thread nD τ).loc main_arg3)) shapeCasts_S4x1024_S4x1x1024 := by
  rw [← W2_args m ρ c main_arg3 (by decide)]
  show StableHlo.after hostOps1 (W2 m ρ c) (Proc.devRef .tc main_v8) = _
  after_results
  rfl

theorem V3_v9 (c : Dev nD) : V3 m ρ c main_v9 = truncf .bf16 (m ((c : Thread nD τ).loc main_arg6)) bitsLt_bf16_f32 := by
  rw [← W2_args m ρ c main_arg6 (by decide)]
  show StableHlo.after hostOps1 (W2 m ρ c) (Proc.devRef .tc main_v9) = _
  after_results

theorem V3_v10 (c : Dev nD) : V3 m ρ c main_v10 = shapeCast S1x1x1024 (m ((c : Thread nD τ).loc main_arg8)) shapeCasts_S1x1024_S1x1x1024 := by
  rw [← W2_args m ρ c main_arg8 (by decide)]
  show StableHlo.after hostOps1 (W2 m ρ c) (Proc.devRef .tc main_v10) = _
  after_results
  rfl

theorem V3_v11 (c : Dev nD) : V3 m ρ c main_v11 = truncf .bf16 (m ((c : Thread nD τ).loc main_arg9)) bitsLt_bf16_f32 := by
  rw [← W2_args m ρ c main_arg9 (by decide)]
  show StableHlo.after hostOps1 (W2 m ρ c) (Proc.devRef .tc main_v11) = _
  after_results

end Cert.ConvIdeal.Run

end
-- ==== Proof.Spec.lean ====
module

public import Idealize.ShloMosaic.Lib.Pointwise
public import Idealize.ShloMosaic.Lib.IdealHost

/-! # The layer's arithmetic, element by element

The functions both programs are compared with, written over the extended reals and over coordinates:
the activation, the modulation row, and the modulated normalisation of one row of 1024 numbers. -/

@[expose] public section

noncomputable section

namespace Cert.Layer

open Idealize.ShloMosaic

/-- `x` times the logistic function of `x`. -/
def silu (x : EReal) : EReal := x * Ideal.div 1 (1 + Ideal.exp (-x))

theorem one_add_exp_ne_zero (x : EReal) : 1 + Ideal.exp x ≠ 0 := by
  have h0 : 0 ≤ Ideal.exp x := by
    induction x with
    | bot => exact le_refl _
    | top => exact le_top
    | coe r => exact EReal.coe_nonneg.mpr (Real.exp_pos r).le
  have h1 : (1 : EReal) ≤ 1 + Ideal.exp x := le_add_of_nonneg_right h0
  intro e
  rw [e] at h1
  exact absurd h1 (by simp)

/-- The activation written as a quotient. -/
theorem div_eq_silu (x : EReal) : Ideal.div x (1 + Ideal.exp (0 - x)) = silu x := by
  rw [zero_sub, silu, Ideal.mul_one_div (one_add_exp_ne_zero _)]

/-- One entry of a modulation row: the activated condition times a column of the weights, plus the bias. -/
def modv (c : Fin 1024 → EReal) (w : Fin 1024 → Fin 3072 → EReal) (b : Fin 3072 → EReal) (o : Fin 3072) : EReal :=
  (∑ k : Fin 1024, silu (c k) * w k o) + b o

/-- The reciprocal root mean square of a row, as both programs round its two constants. -/
def rms (x : Fin 1024 → EReal) : EReal :=
  Ideal.rsqrt (Ideal.div (∑ k : Fin 1024, x k * x k) (Ideal.ofBits .f32 0x44800000#32) + Ideal.ofBits .f32 0x358637BD#32)

/-- The modulated normalisation of a row, read at one column. -/
def nrm (x g shift scale : Fin 1024 → EReal) (k : Fin 1024) : EReal :=
  x k * rms x * (g k * (1 + scale k)) + shift k

end Cert.Layer

end
-- ==== Proof.ConvSpec.lean ====
module

public import proofs.«01_k».proof.Proof.Spec

/-! # The convolution mixer, element by element -/

@[expose] public section

noncomputable section

namespace Cert.Layer.Conv

open Idealize.ShloMosaic Cert.Layer

/-- One entry of the wide projection of a row. -/
def proj (h : Fin 1024 → EReal) (w : Fin 1024 → Fin 4096 → EReal) (j : Fin 4096) : EReal := ∑ k : Fin 1024, h k * w k j

/-- The product of the second and the third quarter of a row's projection. -/
def gate (h : Fin 1024 → EReal) (w : Fin 1024 → Fin 4096 → EReal) (c : Fin 1024) : EReal :=
  proj h w ⟨1024 + c.val, by omega⟩ * proj h w ⟨2048 + c.val, by omega⟩

/-- The three taps and the bias at one channel: the row above, the row itself, the row below. -/
def taps (a z b w0 w1 w2 db : EReal) : EReal := w0 * a + w1 * z + w2 * b + db

/-- A gated row: the first quarter times the convolution times the activated fourth quarter. -/
def row (h : Fin 1024 → EReal) (w : Fin 1024 → Fin 4096 → EReal) (conv : Fin 1024 → EReal) (c : Fin 1024) : EReal :=
  proj h w ⟨c.val, by omega⟩ * conv c * silu (proj h w ⟨3072 + c.val, by omega⟩)

end Cert.Layer.Conv

end
-- ==== Proof.Cond.lean ====
module

public import Idealize.ShloMosaic.Lib.Routing.OpsSet
public import Idealize.ShloMosaic.Lib.Routing.OpsOne

/-! # The condition table

The programs build a table of 16 condition rows: eight rows are written at row 0, then one row at row 8.
Here those two scatters are read at one of the first eight rows and at row 8. -/

@[expose] public section

noncomputable section

namespace Cert.Layer.Cond

open Idealize.ShloMosaic Idealize.ShloMosaic.ValueIdx Idealize.ShloMosaic.Routing

/-- A block of rows written at the row that the index word names: where update `(p, q)` lands. -/
theorem lands_rows {A B N : Nat} (d : ScatterDims (shape2 A N) (shape1 1) (shape2 B N)) (hiw : d.insertedWindowDims = [])
    (huw : d.updateWindowDims = [0, 1]) (hsd : d.scatterDimsToOperandDims = [0]) (hivd : d.indexVectorDim = 0) (idx : IVec (shape1 1) 32) (k : Nat)
    (hidx : (idx (ix1 0)).toInt = (k : Int)) (p : Fin B) (q : Fin N) (r : Fin A) (c : Fin N) :
    d.resultIdx? (ix2 p q) idx = some (ix2 r c) ↔ k + p.val = r.val ∧ q = c := by
  have hm : (0 : Fin 2) ∈ d.scatterDimsToOperandDims := by rw [hsd]; exact List.mem_singleton.2 rfl
  have hkept : d.sKept = [0, 1] := by
    show (shape2 A N).kept d.insertedWindowDims = _
    rw [hiw]
    rfl
  have hget : ∀ (l : List (Fin 2)) (i : Nat) (hi : i < l.length) (j : Fin 2), l = [0, 1] → i = j.val → l[i] = j := by
    intro l i hi j hl hj
    subst hl
    subst hj
    match j with
    | ⟨0, _⟩ => rfl
    | ⟨1, _⟩ => rfl
  have hwin : ∀ j : Fin 2, d.window (ix2 p q) j = (ix2 p q j).val := by
    intro j
    unfold ScatterDims.window
    have hj : j ∈ d.sKept := by
      rw [hkept]
      match j with
      | ⟨0, _⟩ => exact List.mem_cons_self
      | ⟨1, _⟩ => exact List.mem_cons_of_mem _ (List.mem_singleton.2 rfl)
    rw [dif_pos hj]
    refine congrArg (fun t => ((ix2 p q : (shape2 B N).Idx) t).val) (hget _ _ _ _ huw ?_)
    rw [hkept]
    match j with
    | ⟨0, _⟩ => rfl
    | ⟨1, _⟩ => rfl
  have hstart1 : d.start (ix2 p q) idx 1 = 0 := by
    unfold ScatterDims.start
    rw [dif_neg fun h => by rw [hsd] at h; exact absurd (List.mem_singleton.1 h) (by decide : (1 : Fin 2) ≠ 0)]
  have hstart0 : d.start (ix2 p q) idx 0 = (k : Int) := by
    unfold ScatterDims.start
    rw [dif_pos hm]
    have hsi : d.siIdx (ix2 p q) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, resultIdx?_ix2, hstart0, hstart1, hwin, hwin]
  show (k : Int) + (p.val : Int) = r.val ∧ (0 : Int) + (q.val : Int) = c.val ↔ _
  omega

/-- One row written at the row that the index word names: where update `q` lands. -/
theorem lands_row {A N : Nat} (d : ScatterDims (shape2 A N) (shape1 1) (shape1 N)) (hiw : d.insertedWindowDims = [0])
    (hsd : d.scatterDimsToOperandDims = [0]) (idx : IVec (shape1 1) 32) (k : Nat)
    (hidx : (idx (ix1 0)).toInt = (k : Int)) (q : Fin N) (r : Fin A) (c : Fin N) :
    d.resultIdx? (ix1 q) idx = some (ix2 r c) ↔ k = r.val ∧ q = c := by
  have hm : (0 : Fin 2) ∈ d.scatterDimsToOperandDims := by rw [hsd]; exact List.mem_singleton.2 rfl
  have hkept : d.sKept = [1] := by
    show (shape2 A N).kept d.insertedWindowDims = _
    rw [hiw]
    rfl
  have hwin0 : d.window (ix1 q) 0 = 0 := by
    unfold ScatterDims.window
    rw [dif_neg fun h => (of_decide_eq_true (List.mem_filter.1 h).2) (by rw [hiw]; exact List.mem_singleton.2 rfl)]
  have hwin1 : d.window (ix1 q) 1 = q.val := by
    unfold ScatterDims.window
    rw [dif_pos (by rw [hkept]; exact List.mem_singleton.2 rfl)]
    exact congrArg (fun t => ((ix1 q : (shape1 N).Idx) t).val) (Subsingleton.elim (α := Fin 1) _ 0)
  have hstart1 : d.start (ix1 q) idx 1 = 0 := by
    unfold ScatterDims.start
    rw [dif_neg fun h => by rw [hsd] at h; exact absurd (List.mem_singleton.1 h) (by decide : (1 : Fin 2) ≠ 0)]
  have hstart0 : d.start (ix1 q) idx 0 = (k : Int) := by
    unfold ScatterDims.start
    rw [dif_pos hm]
    have hsi : d.siIdx (ix1 q) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, resultIdx?_ix2, hstart0, hwin0, hstart1, hwin1]
  omega

/-- Rows written at row 0, then one row written at row 8, read at one of the first eight rows. -/
theorem cond_at {α : Type} (d1 : ScatterDims (shape2 16 1024) (shape1 1) (shape2 8 1024)) (d2 : ScatterDims (shape2 16 1024) (shape1 1) (shape1 1024))
    (hiw1 : d1.insertedWindowDims = []) (huw1 : d1.updateWindowDims = [0, 1]) (hsd1 : d1.scatterDimsToOperandDims = [0]) (hivd1 : d1.indexVectorDim = 0)
    (hiw2 : d2.insertedWindowDims = [0]) (hsd2 : d2.scatterDimsToOperandDims = [0])
    (x : (shape2 16 1024).Idx → α) (i1 i2 : IVec (shape1 1) 32) (h1 : (i1 (ix1 0)).toInt = ((0 : Nat) : Int)) (h2 : (i2 (ix1 0)).toInt = ((8 : Nat) : Int))
    (u1 : (shape2 8 1024).Idx → α) (u2 : (shape1 1024).Idx → α) (b : Fin 8) (k : Fin 1024) :
    Host.scatter d2 (fun _ b => b) (Host.scatter d1 (fun _ b => b) x i1 u1) i2 u2 (ix2 (⟨b.val, by omega⟩ : Fin 16) k) = u1 (ix2 b k) := by
  rw [scatter_set_miss d2 _ i2 u2 _ fun j hj => ?_]
  · refine scatter_set_hit d1 x i1 u1 _ _ (fun j hj => ?_) (ix2 b k) ((lands_rows d1 hiw1 huw1 hsd1 hivd1 i1 0 h1 b k _ k).2 ⟨by simp, rfl⟩)
    have e := (lands_rows d1 hiw1 huw1 hsd1 hivd1 i1 0 h1 (j 0) (j 1) _ k).1 ((congrArg (fun t => d1.resultIdx? t i1) (eq_ix2 j).symm).trans hj)
    have e0 : (j 0 : Fin 8) = b := Fin.ext (by have := e.1; simpa using this)
    exact (congrArg u1 (eq_ix2 j)).trans (by rw [e0, e.2]; rfl)
  · have e := (lands_row d2 hiw2 hsd2 i2 8 h2 (j 0) _ k).1 ((congrArg (fun t => d2.resultIdx? t i2) (eq_ix1 j).symm).trans hj)
    have := e.1
    simp only at this
    omega

/-- The same table read at row 8. -/
theorem row_at {α : Type} (d2 : ScatterDims (shape2 16 1024) (shape1 1) (shape1 1024)) (hiw2 : d2.insertedWindowDims = [0]) (hsd2 : d2.scatterDimsToOperandDims = [0])
    (x : (shape2 16 1024).Idx → α) (i2 : IVec (shape1 1) 32) (h2 : (i2 (ix1 0)).toInt = ((8 : Nat) : Int)) (u2 : (shape1 1024).Idx → α) (k : Fin 1024) :
    Host.scatter d2 (fun _ b => b) x i2 u2 (ix2 8 k) = u2 (ix1 k) := by
  refine scatter_set_hit d2 x i2 u2 _ _ (fun j hj => ?_) (ix1 k) ((lands_row d2 hiw2 hsd2 i2 8 h2 k 8 k).2 ⟨rfl, rfl⟩)
  have e := (lands_row d2 hiw2 hsd2 i2 8 h2 (j 0) _ k).1 ((congrArg (fun t => d2.resultIdx? t i2) (eq_ix1 j).symm).trans hj)
  exact (congrArg u2 (eq_ix1 j)).trans (by rw [e.2]; rfl)

end Cert.Layer.Cond

end
-- ==== Proof.ConvMods.lean ====
module

public import proofs.«01_k».proof.Proof.ConvRun
public import proofs.«01_k».proof.Proof.ConvSpec
public import proofs.«01_k».proof.Proof.Cond

/-! # The modulation array of the convolution program

The first call writes, for each of the four layers and each of the first eight condition rows, the
modulation row of `modv`. -/

@[expose] public section

set_option maxRecDepth 16384

noncomputable section

namespace Cert.ConvIdeal.Mods

open Cert.ConvIdeal Cert.ConvIdeal.Gen Cert.ConvIdeal.Run
open Idealize.ShloMosaic Idealize.ShloMosaic.TcCoe Idealize.SL.Sem Idealize.ShloMosaic.Pipeline
open Cert.Layer

variable (m : (ℓ : Loc nD τ sig) → Buf (Elt Ideal) ℓ) (ρ : Dev nD → PrngReg)

theorem pay_at (v0 : Vec Ideal S16x1024 .f32) (v9 : Vec Ideal S1x1024x3072 .f32) (v13 : Vec Ideal S1x1x3072 .f32) (b : Fin 16) (o : Fin 3072) :
    k0_pay1 v0 v9 v13 (ix3 0 b o) = modv (fun k => v0 (ix2 b k)) (fun k j => v9 (ix3 0 k j)) (fun j => v13 (ix3 0 0 j)) o := by
  pointwise [k0_pay1, modv]
  simp only [div_eq_silu]

theorem idx : ∀ t : Fin cfg0.N, win0_0.index t = ![0, 0] ∧ win0_1.index t = ![t.val, 0, 0] ∧ win0_2.index t = ![t.val, 0, 0]
    ∧ win0_3.index t = ![t.val, 0, 0] := by decide +kernel

/-- The modulation array as the first call leaves it, from its operands. -/
def G (cond : FVec Ideal S16x1024 .f32) (aw : FVec Ideal S4x1024x3072 .f32) (ab : FVec Ideal S4x1x3072 .f32) : FVec Ideal S4x16x3072 .f32 := fun i =>
  modv (fun k => cond (ix2 (i 1) k)) (fun k j => aw (ix3 (i 0) k j)) (fun j => ab (ix3 (i 0) 0 j)) (i 2)

theorem array (c : Dev nD) : (dat0 (V1 m ρ) c).arrAt 3 cfg0.N = G (V1 m ρ c main_v4) (V1 m ρ c main_arg4) (V1 m ρ c main_v5) := by
  refine (dat0 (V1 m ρ) c).arrAt_eq_of_covers 3 _ (by decide +kernel) fun t _ y => ?_
  blk_simp
  rw [after0_3]
  unfold out0_3
  frame_out
  obtain ⟨b, o, rfl⟩ : ∃ (b : Fin 16) (o : Fin 3072), y = ix3 0 b o := ⟨y 1, y 2, by
    funext a
    match a with
    | ⟨0, _⟩ => exact Subsingleton.elim (α := Fin 1) _ _
    | ⟨1, _⟩ => rfl
    | ⟨2, _⟩ => rfl⟩
  have hy : (win0_3.blk t).view.emb (ix3 0 b o) = ix3 (⟨t.val, by idx_bounds; omega⟩ : Fin 4) b o := by blk_ext [idx t]
  have h0 : ∀ k, iblk0 (V1 m ρ) c 0 t (ix2 b k) = V1 m ρ c main_v4 (ix2 b k) := fun k => by blk_ext [iblk0, idx t]
  have h1 : ∀ k j, iblk0 (V1 m ρ) c 1 t (ix3 0 k j) = V1 m ρ c main_arg4 (ix3 (⟨t.val, by idx_bounds; omega⟩ : Fin 4) k j) := fun k j => by
    blk_ext [iblk0, idx t]
  have h2 : ∀ j, iblk0 (V1 m ρ) c 2 t (ix3 0 0 j) = V1 m ρ c main_v5 (ix3 (⟨t.val, by idx_bounds; omega⟩ : Fin 4) 0 j) := fun j => by
    blk_ext [iblk0, idx t]
  rw [pay_at, hy]
  simp only [h0, h1, h2]
  rfl

theorem cond_eq (c : Dev nD) (b : Fin 8) (k : Fin 1024) :
    V1 m ρ c main_v4 (ix2 (⟨b.val, by omega⟩ : Fin 16) k) = m ((c : Thread nD τ).loc main_arg1) (ix2 b k) := by
  rw [V1_v4]
  generalize m ((c : Thread nD τ).loc main_arg1) = u1
  generalize m ((c : Thread nD τ).loc main_arg2) = u2
  exact Cond.cond_at scatter_S16x1024_S1_S8x1024_01_n_0_0 scatter_S16x1024_S1_S1024_0_0_0_0 rfl rfl rfl rfl rfl rfl _ _ _ (by pointwise; rfl) (by pointwise; rfl) u1 u2 b k

/-- The modulation array, reshaped, read at an entry of one of the eight rows. -/
theorem reshape_at (cond : FVec Ideal S16x1024 .f32) (cc : FVec Ideal S8x1024 .f32) (aw : FVec Ideal S4x1024x3072 .f32) (ab : FVec Ideal S4x3072 .f32)
    (hc : ∀ (b : Fin 8) k, cond (ix2 (⟨b.val, by omega⟩ : Fin 16) k) = cc (ix2 b k)) (l : Fin 4) (b : Fin 8) (n : Fin 3) (k : Fin 1024) :
    shapeCast S4x16x3x1024 (G cond aw (shapeCast S4x1x3072 ab shapeCasts_S4x3072_S4x1x3072)) shapeCasts_S4x16x3072_S4x16x3x1024
        (ix4 l (⟨b.val, by omega⟩ : Fin 16) n k)
      = modv (fun k => cc (ix2 b k)) (fun k j => aw (ix3 l k j)) (fun j => ab (ix2 l j)) ⟨n.val * 1024 + k.val, by omega⟩ := by
  unfold G
  pointwise
  simp only [hc]

/-- A modulation entry of one of the eight rows, as the second call finds it. -/
theorem V3_v7_at (c : Dev nD) (l : Fin 4) (b : Fin 8) (n : Fin 3) (k : Fin 1024) :
    V3 m ρ c main_v7 (ix4 l (⟨b.val, by omega⟩ : Fin 16) n k)
      = modv (fun k => m ((c : Thread nD τ).loc main_arg1) (ix2 b k)) (fun k j => m ((c : Thread nD τ).loc main_arg4) (ix3 l k j))
          (fun j => m ((c : Thread nD τ).loc main_arg5) (ix2 l j)) ⟨n.val * 1024 + k.val, by omega⟩ := by
  rw [V3_v7, array, V1_v5, V1_arg4]
  exact reshape_at _ _ _ _ (cond_eq m ρ c) l b n k

end Cert.ConvIdeal.Mods

end
-- ==== Proof.ConvBlock.lean ====
module

public import proofs.«01_k».proof.Proof.Gen.ConvIdeal.Frame
public import proofs.«01_k».proof.Proof.ConvSpec
public import Idealize.ShloMosaic.Lib.Pipeline.ValueKit

/-! # The convolution layer's block, read at an index -/

@[expose] public section

set_option maxRecDepth 16384

noncomputable section

namespace Cert.ConvIdeal.Block

open Cert.ConvIdeal Cert.ConvIdeal.Gen
open Idealize.ShloMosaic Idealize.ShloMosaic.TcCoe Idealize.SL.Sem
open Cert.Layer

/-- The rows a grid point reads: eight above its tile, the tile, eight below. -/
def rows (v4 : Vec Ideal S1x8x1024 .f32) (v6 : Vec Ideal S1x1024x1024 .f32) (v8 : Vec Ideal S1x8x1024 .f32) (r : Fin 1040) (k : Fin 1024) : EReal :=
  if h : r.val < 8 then v4 (ix3 0 ⟨r.val, h⟩ k) else if h' : r.val - 8 < 1024 then v6 (ix3 0 ⟨r.val - 8, h'⟩ k)
    else v8 (ix3 0 ⟨r.val - 8 - 1024, by omega⟩ k)

theorem pay2_at (v0 v2 : Vec Ideal S1x1x1x1024 .f32) (v4 : Vec Ideal S1x8x1024 .f32) (v6 : Vec Ideal S1x1024x1024 .f32) (v8 : Vec Ideal S1x8x1024 .f32)
    (v11 : Vec Ideal S1x1x1024 .f32) (r : Fin 1040) (k : Fin 1024) :
    k1_pay2 v0 v2 v4 v6 v8 v11 (ix2 r k) = nrm (rows v4 v6 v8 r) (fun k => v11 (ix3 0 0 k)) (fun k => v0 (ix4 0 0 0 k)) (fun k => v2 (ix4 0 0 0 k)) k := by
  pointwise [k1_pay2, nrm, rms, rows]

/-- The gated product on all rows a grid point reads. -/
def zV (he : FVec Ideal S1040x1024 .bf16) (w1 w2 : Vec Ideal S1x1024x256 .bf16) : FVec Ideal S1040x256 .f32 :=
  k1_pay7 he w1 w2

/-- The same with the rows outside the sequence set to zero: `lo` and `hi` are one inside it and zero at its ends. -/
def edgeV (lo hi : EReal) (z : FVec Ideal S1040x256 .f32) : FVec Ideal S1040x256 .f32 :=
  concatenate S1040x256 0
    [⟨S8x256, mulf (extractStridedSlice S8x256 ![0, 0] z slices_S1040x256_o0_0_S8x256) (broadcast S8x256 (lo : Ideal .f32))⟩,
     ⟨S1024x256, extractStridedSlice S1024x256 ![8, 0] z slices_S1040x256_o8_0_S1024x256⟩,
     ⟨S8x256, mulf (extractStridedSlice S8x256 ![1032, 0] z slices_S1040x256_o1032_0_S8x256) (broadcast S8x256 (hi : Ideal .f32))⟩]
    concatenates_S8x256_S1024x256_S8x256_S1040x256_d0

/-- The three taps over those rows. -/
def tapV (t0 t1 t2 : Vec Ideal S1x1x256 .f32) (z : FVec Ideal S1040x256 .f32) : FVec Ideal S1024x256 .f32 :=
  addf
    (addf
      (mulf (broadcastTo S1024x256 (shapeCast S1x256 t0 shapeCasts_S1x1x256_S1x256) broadcasts_S1x256_S1024x256)
        (extractStridedSlice S1024x256 ![8, 0] (dynamicRotate 0 1#32 none z rotates_S1040x256_d0) slices_S1040x256_o8_0_S1024x256))
      (mulf (broadcastTo S1024x256 (shapeCast S1x256 t1 shapeCasts_S1x1x256_S1x256) broadcasts_S1x256_S1024x256)
        (extractStridedSlice S1024x256 ![8, 0] z slices_S1040x256_o8_0_S1024x256)))
    (mulf (broadcastTo S1024x256 (shapeCast S1x256 t2 shapeCasts_S1x1x256_S1x256) broadcasts_S1x256_S1024x256)
      (extractStridedSlice S1024x256 ![8, 0] (dynamicRotate 0 1039#32 none z rotates_S1040x256_d0) slices_S1040x256_o8_0_S1024x256))

/-- One where the tile has a tile above it, else zero. -/
def above (a : BitVec 32) : EReal := Scalar.sitofp (F := Ideal) .f32 (Scalar.extui (Scalar.cmpi .sgt a 0#32) : BitVec 32)
/-- One where the tile has a tile below it, else zero. -/
def below (a : BitVec 32) : EReal := Scalar.sitofp (F := Ideal) .f32 (Scalar.extui (Scalar.cmpi .slt a 1#32) : BitVec 32)

theorem pay5_eq (a : BitVec 32) (he : FVec Ideal S1040x1024 .bf16) (w1 w2 : Vec Ideal S1x1024x256 .bf16) (t0 t1 t2 : Vec Ideal S1x1x256 .f32) :
    k1_pay5 a he w1 w2 t0 t1 t2 = tapV t0 t1 t2 (edgeV (above a) (below a) (zV he w1 w2)) := rfl

/-- What one column block of 256 channels adds to the output projection. -/
def part (a : BitVec 32) (he : FVec Ideal S1040x1024 .bf16) (hm : FVec Ideal S1024x1024 .bf16) (w0 w1 w2 w3 : Vec Ideal S1x1024x256 .bf16)
    (t0 t1 t2 b : Vec Ideal S1x1x256 .f32) (wo : Vec Ideal S1x256x1024 .bf16) : FVec Ideal S1024x1024 .f32 :=
  k1_pay6 hm (k1_pay5 a he w1 w2 t0 t1 t2) b w0 w3 wo

theorem first_eq (a : BitVec 32) (he : FVec Ideal S1040x1024 .bf16) (hm : FVec Ideal S1024x1024 .bf16) (w0 w1 w2 w3 : Vec Ideal S1x1024x256 .bf16)
    (t0 t1 t2 b : Vec Ideal S1x1x256 .f32) (wo : Vec Ideal S1x256x1024 .bf16) :
    k1_pay6 hm (k1_pay5 a he w1 w2 t0 t1 t2) b w0 w3 wo = part a he hm w0 w1 w2 w3 t0 t1 t2 b wo := rfl

theorem second_eq (a : BitVec 32) (he : FVec Ideal S1040x1024 .bf16) (hm : FVec Ideal S1024x1024 .bf16) (w0 w1 w2 w3 : Vec Ideal S1x1024x256 .bf16)
    (t0 t1 t2 b : Vec Ideal S1x1x256 .f32) (wo : Vec Ideal S1x256x1024 .bf16) (acc : FVec Ideal S1024x1024 .f32) :
    k1_pay11 hm acc (k1_pay9 hm (k1_pay7 he w1 w2) (k1_pay8 (F := Ideal) a) (Scalar.cmpi .slt a 1#32) t0 t1 t2 b w0) (k1_pay10 w3) wo
      = addf acc (part a he hm w0 w1 w2 w3 t0 t1 t2 b wo) := rfl

theorem third_eq (a : BitVec 32) (he : FVec Ideal S1040x1024 .bf16) (hm : FVec Ideal S1024x1024 .bf16) (w0 w1 w2 w3 : Vec Ideal S1x1024x256 .bf16)
    (t0 t1 t2 b : Vec Ideal S1x1x256 .f32) (wo : Vec Ideal S1x256x1024 .bf16) :
    k1_pay15 hm (k1_pay12 a he w1 w2) (k1_pay13 a he w1 w2) (k1_pay14 t0) t1 t2 b w0 w3 wo = part a he hm w0 w1 w2 w3 t0 t1 t2 b wo := rfl

theorem fourth_eq (a : BitVec 32) (he : FVec Ideal S1040x1024 .bf16) (hm : FVec Ideal S1024x1024 .bf16) (w0 w1 w2 w3 : Vec Ideal S1x1024x256 .bf16)
    (t0 t1 t2 b : Vec Ideal S1x1x256 .f32) (wo : Vec Ideal S1x256x1024 .bf16) (acc : FVec Ideal S1024x1024 .f32) (x : Vec Ideal S1x1024x1024 .f32)
    (g : Vec Ideal S1x1x1x1024 .f32) (r d : Fin 1024) :
    k1_pay1 (k1_pay21 hm acc (k1_pay18 a he w1 w2 t0 t1) (k1_pay19 a he w1 w2) (k1_pay20 t2) b w0 w3 wo x g) (ix3 0 r d)
      = x (ix3 0 r d) + g (ix4 0 0 0 d) * (acc (ix2 r d) + part a he hm w0 w1 w2 w3 t0 t1 t2 b wo (ix2 r d)) := by
  have e : k1_pay21 hm acc (k1_pay18 a he w1 w2 t0 t1) (k1_pay19 a he w1 w2) (k1_pay20 t2) b w0 w3 wo x g
      = addf (shapeCast S1024x1024 x shapeCasts_S1x1024x1024_S1024x1024)
          (mulf (broadcastTo S1024x1024 (shapeCast S1x1024 g shapeCasts_S1x1x1x1024_S1x1024) broadcasts_S1x1024_S1024x1024)
            (addf acc (part a he hm w0 w1 w2 w3 t0 t1 t2 b wo))) := rfl
  rw [e]
  pointwise [k1_pay1]

theorem zV_at (he : FVec Ideal S1040x1024 .bf16) (w1 w2 : Vec Ideal S1x1024x256 .bf16) (r : Fin 1040) (c : Fin 256) :
    zV he w1 w2 (ix2 r c) = (∑ k : Fin 1024, he (ix2 r k) * w1 (ix3 0 k c)) * ∑ k : Fin 1024, he (ix2 r k) * w2 (ix3 0 k c) := by
  pointwise [zV, k1_pay7]

theorem edgeV_at (lo hi : EReal) (z : FVec Ideal S1040x256 .f32) (r : Fin 1040) (c : Fin 256) :
    edgeV lo hi z (ix2 r c) = if r.val < 8 then z (ix2 r c) * lo else if r.val < 1032 then z (ix2 r c) else z (ix2 r c) * hi := by
  pointwise [edgeV]
  by_cases h : r.val < 8
  · rw [dif_pos h, if_pos h]
  by_cases h' : r.val < 1032
  · rw [dif_neg h, dif_pos (by omega), if_neg h, if_pos h']
    exact congrArg (fun q : Fin 1040 => z (ix2 q c)) (Fin.ext (by show 8 + (r.val - 8) = r.val; omega))
  · rw [dif_neg h, dif_neg (by omega), if_neg h, if_neg h']
    exact congrArg (fun q : Fin 1040 => z (ix2 q c) * hi) (Fin.ext (by show 1032 + (r.val - 8 - 1024) = r.val; omega))

theorem tapV_at (t0 t1 t2 : Vec Ideal S1x1x256 .f32) (z : FVec Ideal S1040x256 .f32) (r : Fin 1024) (c : Fin 256) :
    tapV t0 t1 t2 z (ix2 r c) = t0 (ix3 0 0 c) * z (ix2 ⟨7 + r.val, by omega⟩ c) + t1 (ix3 0 0 c) * z (ix2 ⟨8 + r.val, by omega⟩ c)
      + t2 (ix3 0 0 c) * z (ix2 ⟨9 + r.val, by omega⟩ c) := by
  pointwise [tapV]
  have e1 : (8 + r.val + 1040 - 1) % 1040 = 7 + r.val := by omega
  have e2 : (8 + r.val + 1040 - 1039) % 1040 = 9 + r.val := by omega
  simp only [e1, e2]

/-- The convolution at a row of the tile and a channel of the column block, over the rows around it. -/
def conv (lo hi : EReal) (h : Fin 1040 → Fin 1024 → EReal) (w : Fin 1024 → Fin 4096 → EReal) (t : Fin 3 → Fin 1024 → EReal) (b : Fin 1024 → EReal)
    (r : Fin 1024) (c : Fin 1024) : EReal :=
  Conv.taps (if r.val = 0 then Conv.gate (h ⟨7 + r.val, by omega⟩) w c * lo else Conv.gate (h ⟨7 + r.val, by omega⟩) w c)
    (Conv.gate (h ⟨8 + r.val, by omega⟩) w c)
    (if r.val < 1023 then Conv.gate (h ⟨9 + r.val, by omega⟩) w c else Conv.gate (h ⟨9 + r.val, by omega⟩) w c * hi)
    (t 0 c) (t 1 c) (t 2 c) (b c)

/-- A column block's share of the output projection, its weights being columns `256 j …` of the layer's. -/
theorem part_at (a : BitVec 32) (he : FVec Ideal S1040x1024 .bf16) (hm : FVec Ideal S1024x1024 .bf16)
    (hh : ∀ (r k : Fin 1024), hm (ix2 r k) = he (ix2 ⟨8 + r.val, by omega⟩ k))
    (W : Fin 1024 → Fin 4096 → EReal) (T : Fin 3 → Fin 1024 → EReal) (B : Fin 1024 → EReal) (WO : Fin 1024 → Fin 1024 → EReal) (j : Fin 4)
    (w0 w1 w2 w3 : Vec Ideal S1x1024x256 .bf16) (t0 t1 t2 b : Vec Ideal S1x1x256 .f32) (wo : Vec Ideal S1x256x1024 .bf16)
    (h0 : ∀ (k : Fin 1024) (c : Fin 256), w0 (ix3 0 k c) = W k ⟨j.val * 256 + c.val, by omega⟩)
    (h1 : ∀ (k : Fin 1024) (c : Fin 256), w1 (ix3 0 k c) = W k ⟨1024 + (j.val * 256 + c.val), by omega⟩)
    (h2 : ∀ (k : Fin 1024) (c : Fin 256), w2 (ix3 0 k c) = W k ⟨2048 + (j.val * 256 + c.val), by omega⟩)
    (h3 : ∀ (k : Fin 1024) (c : Fin 256), w3 (ix3 0 k c) = W k ⟨3072 + (j.val * 256 + c.val), by omega⟩)
    (g0 : ∀ c : Fin 256, t0 (ix3 0 0 c) = T 0 ⟨j.val * 256 + c.val, by omega⟩)
    (g1 : ∀ c : Fin 256, t1 (ix3 0 0 c) = T 1 ⟨j.val * 256 + c.val, by omega⟩)
    (g2 : ∀ c : Fin 256, t2 (ix3 0 0 c) = T 2 ⟨j.val * 256 + c.val, by omega⟩)
    (g3 : ∀ c : Fin 256, b (ix3 0 0 c) = B ⟨j.val * 256 + c.val, by omega⟩)
    (g4 : ∀ (c : Fin 256) (d : Fin 1024), wo (ix3 0 c d) = WO ⟨j.val * 256 + c.val, by omega⟩ d) (r d : Fin 1024) :
    part a he hm w0 w1 w2 w3 t0 t1 t2 b wo (ix2 r d) =
      ∑ c : Fin 256, Conv.row (fun k => he (ix2 ⟨8 + r.val, by omega⟩ k)) W (conv (above a) (below a) (fun q k => he (ix2 q k)) W T B r)
        ⟨j.val * 256 + c.val, by omega⟩ * WO ⟨j.val * 256 + c.val, by omega⟩ d := by
  have e : ∀ cv : FVec Ideal S1024x256 .f32, k1_pay6 hm cv b w0 w3 wo (ix2 r d) =
      ∑ c : Fin 256, (∑ k : Fin 1024, hm (ix2 r k) * w0 (ix3 0 k c)) * (cv (ix2 r c) + b (ix3 0 0 c)) *
        Ideal.div (∑ k : Fin 1024, hm (ix2 r k) * w3 (ix3 0 k c)) (1 + Ideal.exp (0 - ∑ k : Fin 1024, hm (ix2 r k) * w3 (ix3 0 k c))) * wo (ix3 0 c d) := by
    intro cv
    pointwise [k1_pay6]
  have ez : ∀ (q : Fin 1040) (c : Fin 256), zV he w1 w2 (ix2 q c) = Conv.gate (fun k => he (ix2 q k)) W ⟨j.val * 256 + c.val, by omega⟩ := by
    intro q c
    rw [zV_at]
    simp only [h1, h2]
    rfl
  unfold part
  rw [e]
  refine Finset.sum_congr rfl fun c _ => ?_
  simp only [div_eq_silu, pay5_eq, tapV_at, edgeV_at, ez, hh, h0, h3, g0, g1, g2, g3, g4]
  have c1 : (7 + r.val < 8) ↔ r.val = 0 := by omega
  have c2 : 7 + r.val < 1032 := by omega
  have c3 : ¬ (8 + r.val < 8) := by omega
  have c4 : 8 + r.val < 1032 := by omega
  have c5 : ¬ (9 + r.val < 8) := by omega
  have c6 : 9 + r.val < 1032 ↔ r.val < 1023 := by omega
  simp only [c1, c2, c3, c4, c5, c6, if_true, if_false]
  rfl

theorem out_at (i : grid1.Coords) (x0 : Vec Ideal S1x1024x1024 .f32) (x1 x2 : Vec Ideal S1x8x1024 .f32) (x3 : Vec Ideal S1x1x3x1024 .f32)
    (x4 : Vec Ideal S1x1x1024 .f32) (x5 : Vec Ideal S1x1024x4096 .bf16) (x6 : Vec Ideal S1x3x1024 .f32) (x7 : Vec Ideal S1x1x1024 .f32)
    (x8 : Vec Ideal S1x1024x1024 .bf16) (H : Fin 1040 → Fin 1024 → EReal)
    (hH : ∀ q k, nrm (rows x1 x0 x2 q) (fun k => x4 (ix3 0 0 k)) (fun k => x3 (ix4 0 0 0 k)) (fun k => x3 (ix4 0 0 1 k)) k = H q k) (r d : Fin 1024) :
    out1_9 i x0 x1 x2 x3 x4 x5 x6 x7 x8 (ix3 0 r d) = x0 (ix3 0 r d) + x3 (ix4 0 0 2 d) *
      ∑ c : Fin 1024, Conv.row (H ⟨8 + r.val, by omega⟩) (fun k j => x5 (ix3 0 k j))
        (conv (above (BitVec.ofNat 32 (i 1).val)) (below (BitVec.ofNat 32 (i 1).val)) H (fun k j => x5 (ix3 0 k j)) (fun n c => x6 (ix3 0 n c)) (fun c => x7 (ix3 0 0 c)) r) c
        * x8 (ix3 0 c d) := by
  have hE : ∀ q k, k1_pay22 i x0 x1 x2 x3 x4 x5 x6 x7 x8 (ix2 q k) = H q k := by
    intro q k
    rw [← hH]
    refine Eq.trans (b := k1_pay2 (View.ld x3 r1_0) (View.ld x3 r1_1) (View.ld x1 r1_2) (View.ld x0 r1_3) (View.ld x2 r1_2) (View.ld x4 r1_4) (ix2 q k)) rfl ?_
    rw [pay2_at]
    pointwise
    refine congrArg (fun X : Fin 1024 → EReal => nrm X _ _ _ k) (funext fun l => ?_)
    unfold rows
    pointwise
  have hM : ∀ (r k : Fin 1024), k1_pay23 i x0 x1 x2 x3 x4 x5 x6 x7 x8 (ix2 r k) = k1_pay22 i x0 x1 x2 x3 x4 x5 x6 x7 x8 (ix2 ⟨8 + r.val, by omega⟩ k) := by
    intro r k
    unfold k1_pay22 k1_pay23
    pointwise [k1_pay3, k1_pay4]
  unfold out1_9
  frame_out
  generalize k1_pay22 i x0 x1 x2 x3 x4 x5 x6 x7 x8 = he at *
  generalize k1_pay23 i x0 x1 x2 x3 x4 x5 x6 x7 x8 = hm at *
  generalize BitVec.ofNat 32 (i 1).val = a
  rw [third_eq, second_eq, fourth_eq]
  have e16 : ∀ u v : FVec Ideal S1024x1024 .f32, k1_pay16 u v (ix2 r d) = u (ix2 r d) + v (ix2 r d) := fun _ _ => rfl
  have eadd : ∀ u v : FVec Ideal S1024x1024 .f32, addf u v (ix2 r d) = u (ix2 r d) + v (ix2 r d) := fun _ _ => rfl
  rw [e16, eadd, first_eq]
  rw [part_at a he hm hM (fun k j => x5 (ix3 0 k j)) (fun n c => x6 (ix3 0 n c)) (fun c => x7 (ix3 0 0 c)) (fun c d => x8 (ix3 0 c d)) 0,
    part_at a he hm hM (fun k j => x5 (ix3 0 k j)) (fun n c => x6 (ix3 0 n c)) (fun c => x7 (ix3 0 0 c)) (fun c d => x8 (ix3 0 c d)) 1,
    part_at a he hm hM (fun k j => x5 (ix3 0 k j)) (fun n c => x6 (ix3 0 n c)) (fun c => x7 (ix3 0 0 c)) (fun c d => x8 (ix3 0 c d)) 2,
    part_at a he hm hM (fun k j => x5 (ix3 0 k j)) (fun n c => x6 (ix3 0 n c)) (fun c => x7 (ix3 0 0 c)) (fun c d => x8 (ix3 0 c d)) 3]
  · have hE' : (fun q k => he (ix2 q k)) = H := funext fun q => funext fun k => hE q k
    have hR : (fun k => he (ix2 ⟨8 + r.val, by omega⟩ k)) = H ⟨8 + r.val, by omega⟩ := funext fun k => hE _ k
    rw [hE', hR, Fin.sum_univ_tiles 4 256 rfl, Fin.sum_univ_four]
    pointwise
  all_goals first
    | (intro c; pointwise; done)
    | (intro c d; pointwise; done)
    | (intro k c; pointwise; exact congrArg (fun q => x5 (ix3 0 k q)) (Fin.ext (by dsimp only [Fin.val_zero, Fin.val_one, Fin.val_two]; omega)))
    | (intro c; pointwise; exact congrArg (fun q => x6 (ix3 0 _ q)) (Fin.ext (by dsimp only [Fin.val_zero, Fin.val_one, Fin.val_two]; omega)))
    | (intro c; pointwise; exact congrArg (fun q => x7 (ix3 0 0 q)) (Fin.ext (by dsimp only [Fin.val_zero, Fin.val_one, Fin.val_two]; omega)))
    | (intro c d; pointwise; exact congrArg (fun q => x8 (ix3 0 q d)) (Fin.ext (by dsimp only [Fin.val_zero, Fin.val_one, Fin.val_two]; omega)))

end Cert.ConvIdeal.Block

end
-- ==== Proof.ConvRef.lean ====
module

public import proofs.«01_k».proof.Proof.Gen.ConvRefIdeal.Run
public import proofs.«01_k».proof.Proof.ConvSpec

/-! # The convolution layer's reference, read at an index

The reference's result is one long term of the arguments. Here it is cut at its own intermediate arrays
(the modulation, the normalised rows, the wide projection, the gated product, the convolution, the gated
rows), and each is read at an index. -/

@[expose] public section

set_option maxRecDepth 16384

noncomputable section

namespace Cert.ConvRefIdeal.At

open Cert.ConvRefIdeal Cert.ConvRefIdeal.Gen
open Idealize.ShloMosaic Idealize.ShloMosaic.TcCoe Idealize.SL.Sem
open Cert.Layer

/-- The modulation rows. -/
def Mods (cc : FVec Ideal S8x1024 .f32) (aw : FVec Ideal S4x1024x3072 .f32) (ab : FVec Ideal S4x3072 .f32) : FVec Ideal S8x3072 .f32 :=
  (addf (Host.dotGeneral dot_S8x1024_S1024x3072_S8x3072_1_0_0_1_n_n none (mulf cc (Host.divf ((broadcastInDim S8x1024 ![] bcast_S_S8x1024) ((constant S_ .f32 0x3F800000#32))) (addf ((broadcastInDim S8x1024 ![] bcast_S_S8x1024) ((constant S_ .f32 0x3F800000#32))) (Host.exp (Host.negf cc))))) (shapeCast S1024x3072 (extractStridedSlice S1x1024x3072 ![2, 0, 0] aw slices_S4x1024x3072_S1x1024x3072_2_0_0) shapeCasts_S1x1024x3072_S1024x3072)) (broadcastInDim S8x3072 ![0, 1] bcast_S1x3072_S8x3072_0_1 (broadcastInDim S1x3072 ![1] bcast_S3072_S1x3072_1 (shapeCast S3072 (extractStridedSlice S1x3072 ![2, 0] ab slices_S4x3072_S1x3072_2_0) shapeCasts_S1x3072_S3072))))

/-- The normalised rows. -/
def H (x : FVec Ideal S8x2048x1024 .f32) (ng : FVec Ideal S4x1024 .f32) (mods : FVec Ideal S8x3072 .f32) : FVec Ideal S8x2048x1024 .f32 :=
  (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) ((constant S_ .f32 0x00000000#32)) reducesTo_S8x2048x1024_S8x2048_d2 h_S_)) (broadcastInDim S8x2048x1 ![] bcast_S_S8x2048x1 ((constant S_ .f32 0x44800000#32)))) (broadcastInDim S8x2048x1 ![] bcast_S_S8x2048x1 ((constant S_ .f32 0x358637BD#32))))))) (broadcastInDim S8x2048x1024 ![0, 1, 2] bcast_S1x1x1024_S8x2048x1024_0_1_2 (broadcastInDim S1x1x1024 ![2] bcast_S1024_S1x1x1024_2 (shapeCast S1024 (extractStridedSlice S1x1024 ![2, 0] ng slices_S4x1024_S1x1024_2_0) shapeCasts_S1x1024_S1024)))) (broadcastInDim S8x2048x1024 ![0, 1, 2] bcast_S8x1x1024_S8x2048x1024_0_1_2 (addf (broadcastInDim S8x1x1024 ![] bcast_S_S8x1x1024 ((constant S_ .f32 0x3F800000#32))) (broadcastInDim S8x1x1024 ![0, 2] bcast_S8x1024_S8x1x1024_0_2 (extractStridedSlice S8x1024 ![0, 1024] mods slices_S8x3072_S8x1024_0_1024))))) (broadcastInDim S8x2048x1024 ![0, 1, 2] bcast_S8x1x1024_S8x2048x1024_0_1_2 (broadcastInDim S8x1x1024 ![0, 2] bcast_S8x1024_S8x1x1024_0_2 (extractStridedSlice S8x1024 ![0, 0] mods slices_S8x3072_S8x1024_0_0))))

/-- The wide projection. -/
def P (h : FVec Ideal S8x2048x1024 .f32) (win : FVec Ideal S1x1024x4096 .f32) : FVec Ideal S8x2048x4096 .f32 :=
  (Host.dotGeneral dot_S8x2048x1024_S1024x4096_S8x2048x4096_2_0_01_1_n_n none h (shapeCast S1024x4096 win shapeCasts_S1x1024x4096_S1024x4096))

/-- The product of the second and the third quarter. -/
def Z (p : FVec Ideal S8x2048x4096 .f32) : FVec Ideal S8x2048x1024 .f32 :=
  (mulf (extractStridedSlice S8x2048x1024 ![0, 0, 1024] p slices_S8x2048x4096_S8x2048x1024_0_0_1024) (extractStridedSlice S8x2048x1024 ![0, 0, 2048] p slices_S8x2048x4096_S8x2048x1024_0_0_2048))

/-- The three-tap convolution along the sequence. -/
def C (z : FVec Ideal S8x2048x1024 .f32) (dw : FVec Ideal S1x3x1024 .f32) (db : FVec Ideal S1x1024 .f32) : FVec Ideal S8x2048x1024 .f32 :=
  (addf (addf (addf (mulf (extractStridedSlice S8x2048x1024 ![0, 0, 0] (pad S8x2050x1024 ![0, 1, 0] ![0, 1, 0] ![0, 0, 0] z ((sitofp .f32) ((constantI S_ 32 0#32))) pads_S8x2048x1024_S8x2050x1024_000_110_000 h_S_) slices_S8x2050x1024_S8x2048x1024_0_0_0) (broadcastInDim S8x2048x1024 ![0, 1, 2] bcast_S1x1x1024_S8x2048x1024_0_1_2 (broadcastInDim S1x1x1024 ![2] bcast_S1024_S1x1x1024_2 (shapeCast S1024 (extractStridedSlice S1x1024 ![0, 0] (shapeCast S3x1024 dw shapeCasts_S1x3x1024_S3x1024) slices_S3x1024_S1x1024_0_0) shapeCasts_S1x1024_S1024)))) (mulf (extractStridedSlice S8x2048x1024 ![0, 1, 0] (pad S8x2050x1024 ![0, 1, 0] ![0, 1, 0] ![0, 0, 0] z ((sitofp .f32) ((constantI S_ 32 0#32))) pads_S8x2048x1024_S8x2050x1024_000_110_000 h_S_) slices_S8x2050x1024_S8x2048x1024_0_1_0) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] (shapeCast S3x1024 dw shapeCasts_S1x3x1024_S3x1024) slices_S3x1024_S1x1024_1_0) shapeCasts_S1x1024_S1024))))) (mulf (extractStridedSlice S8x2048x1024 ![0, 2, 0] (pad S8x2050x1024 ![0, 1, 0] ![0, 1, 0] ![0, 0, 0] z ((sitofp .f32) ((constantI S_ 32 0#32))) pads_S8x2048x1024_S8x2050x1024_000_110_000 h_S_) slices_S8x2050x1024_S8x2048x1024_0_2_0) (broadcastInDim S8x2048x1024 ![0, 1, 2] bcast_S1x1x1024_S8x2048x1024_0_1_2 (broadcastInDim S1x1x1024 ![2] bcast_S1024_S1x1x1024_2 (shapeCast S1024 (extractStridedSlice S1x1024 ![2, 0] (shapeCast S3x1024 dw shapeCasts_S1x3x1024_S3x1024) slices_S3x1024_S1x1024_2_0) shapeCasts_S1x1024_S1024))))) (broadcastInDim S8x2048x1024 ![0, 1, 2] bcast_S1x1x1024_S8x2048x1024_0_1_2 (broadcastInDim S1x1x1024 ![2] bcast_S1024_S1x1x1024_2 (shapeCast S1024 db shapeCasts_S1x1024_S1024))))

/-- The gated rows. -/
def Y (p : FVec Ideal S8x2048x4096 .f32) (cv : FVec Ideal S8x2048x1024 .f32) : FVec Ideal S8x2048x1024 .f32 :=
  (mulf (mulf (extractStridedSlice S8x2048x1024 ![0, 0, 0] p slices_S8x2048x4096_S8x2048x1024_0_0_0) cv) (mulf (extractStridedSlice S8x2048x1024 ![0, 0, 3072] p slices_S8x2048x4096_S8x2048x1024_0_0_3072) (Host.divf ((broadcastInDim S8x2048x1024 ![] bcast_S_S8x2048x1024) ((constant S_ .f32 0x3F800000#32))) (addf ((broadcastInDim S8x2048x1024 ![] bcast_S_S8x2048x1024) ((constant S_ .f32 0x3F800000#32))) (Host.exp (Host.negf (extractStridedSlice S8x2048x1024 ![0, 0, 3072] p slices_S8x2048x4096_S8x2048x1024_0_0_3072)))))))

/-- The result. -/
def O (x : FVec Ideal S8x2048x1024 .f32) (mods : FVec Ideal S8x3072 .f32) (y : FVec Ideal S8x2048x1024 .f32) (wo : FVec Ideal S1x1024x1024 .f32) : FVec Ideal S8x2048x1024 .f32 :=
  (addf x (mulf (broadcastInDim S8x2048x1024 ![0, 1, 2] bcast_S8x1x1024_S8x2048x1024_0_1_2 (broadcastInDim S8x1x1024 ![0, 2] bcast_S8x1024_S8x1x1024_0_2 (extractStridedSlice S8x1024 ![0, 2048] mods slices_S8x3072_S8x1024_0_2048))) (Host.dotGeneral dot_S8x2048x1024_S1024x1024_S8x2048x1024_2_0_01_1_n_n none y (shapeCast S1024x1024 wo shapeCasts_S1x1024x1024_S1024x1024))))

theorem result_eq (m : (ℓ : Loc nD τ sig) → Buf (Elt Ideal) ℓ) (c : Dev nD) : Value.res_main_v76 m c =
    (let x := m ((c.tc : Thread nD τ).loc main_arg0)
     let mods := Mods (m ((c.tc : Thread nD τ).loc main_arg1)) (m ((c.tc : Thread nD τ).loc main_arg4)) (m ((c.tc : Thread nD τ).loc main_arg5))
     let p := P (H x (m ((c.tc : Thread nD τ).loc main_arg3)) mods) (m ((c.tc : Thread nD τ).loc main_arg6))
     O x mods (Y p (C (Z p) (m ((c.tc : Thread nD τ).loc main_arg7)) (m ((c.tc : Thread nD τ).loc main_arg8)))) (m ((c.tc : Thread nD τ).loc main_arg9))) := rfl

theorem Mods_at (cc : FVec Ideal S8x1024 .f32) (aw : FVec Ideal S4x1024x3072 .f32) (ab : FVec Ideal S4x3072 .f32) (b : Fin 8) (o : Fin 3072) :
    Mods cc aw ab (ix2 b o) = modv (fun k => cc (ix2 b k)) (fun k j => aw (ix3 2 k j)) (fun j => ab (ix2 2 j)) o := by
  pointwise [Mods, modv, silu]

theorem H_at (x : FVec Ideal S8x2048x1024 .f32) (ng : FVec Ideal S4x1024 .f32) (mods : FVec Ideal S8x3072 .f32) (b : Fin 8) (s : Fin 2048) (k : Fin 1024) :
    H x ng mods (ix3 b s k) = nrm (fun k => x (ix3 b s k)) (fun k => ng (ix2 2 k)) (fun k => mods (ix2 b ⟨k.val, by omega⟩))
      (fun k => mods (ix2 b ⟨1024 + k.val, by omega⟩)) k := by
  pointwise [H, nrm, rms]
  rw [mul_assoc (x (ix3 b s k) * _)]

theorem P_at (h : FVec Ideal S8x2048x1024 .f32) (win : FVec Ideal S1x1024x4096 .f32) (b : Fin 8) (s : Fin 2048) (j : Fin 4096) :
    P h win (ix3 b s j) = Conv.proj (fun k => h (ix3 b s k)) (fun k j => win (ix3 0 k j)) j := by
  pointwise [P, Conv.proj]

theorem C_at (z : FVec Ideal S8x2048x1024 .f32) (dw : FVec Ideal S1x3x1024 .f32) (db : FVec Ideal S1x1024 .f32) (b : Fin 8) (s : Fin 2048) (c : Fin 1024) :
    C z dw db (ix3 b s c) = Conv.taps (if h : 0 < s.val then z (ix3 b ⟨s.val - 1, by omega⟩ c) else 0) (z (ix3 b s c))
      (if h : s.val < 2047 then z (ix3 b ⟨s.val + 1, by omega⟩ c) else 0)
      (dw (ix3 0 0 c)) (dw (ix3 0 1 c)) (dw (ix3 0 2 c)) (db (ix2 0 c)) := by
  pointwise [C, Conv.taps]
  have h0 : (FloatOps.sitofp FTy.f32 (0#32) : Ideal .f32) = 0 := by
    show (((0#32 : BitVec 32).toInt : ℝ) : EReal) = 0
    simp
  have h1 : (1 ≤ s.val ∧ s.val - 1 < 2048) ↔ 0 < s.val := by omega
  have h2 : (1 ≤ 2 + s.val ∧ s.val + 1 < 2048) ↔ s.val < 2047 := by omega
  have h3 : 2 + s.val - 1 = s.val + 1 := by omega
  simp only [h3, h0, h1, h2]
  rw [mul_comm (dw (ix3 0 0 c)), mul_comm (dw (ix3 0 1 c)), mul_comm (dw (ix3 0 2 c))]

theorem Y_at (p : FVec Ideal S8x2048x4096 .f32) (cv : FVec Ideal S8x2048x1024 .f32) (b : Fin 8) (s : Fin 2048) (c : Fin 1024) :
    Y p cv (ix3 b s c) = p (ix3 b s ⟨c.val, by omega⟩) * cv (ix3 b s c) * silu (p (ix3 b s ⟨3072 + c.val, by omega⟩)) := by
  pointwise [Y, silu]

theorem O_at (x : FVec Ideal S8x2048x1024 .f32) (mods : FVec Ideal S8x3072 .f32) (y : FVec Ideal S8x2048x1024 .f32) (wo : FVec Ideal S1x1024x1024 .f32)
    (b : Fin 8) (s : Fin 2048) (d : Fin 1024) :
    O x mods y wo (ix3 b s d) = x (ix3 b s d) + mods (ix2 b ⟨2048 + d.val, by omega⟩) * ∑ c : Fin 1024, y (ix3 b s c) * wo (ix3 0 c d) := by
  pointwise [O]

end Cert.ConvRefIdeal.At

end
-- ==== Proof.ConvFinal.lean ====
module

public import proofs.«01_k».proof.Proof.ConvMods
public import proofs.«01_k».proof.Proof.ConvBlock
public import proofs.«01_k».proof.Proof.ConvRef

/-! # The convolution layer: the result array

`Out` is the layer over coordinates. The second call writes it block by block (`array`), and it is the
reference's result (`ref_eq`). -/

@[expose] public section

set_option maxRecDepth 16384

noncomputable section

namespace Cert.Layer.Conv

open Idealize.ShloMosaic Cert.Layer

/-- The convolution of the gated products at one row and channel; no row lies above the first or below the last. -/
def cv (h : Fin 2048 → Fin 1024 → EReal) (w : Fin 1024 → Fin 4096 → EReal) (dw : Fin 3 → Fin 1024 → EReal) (db : Fin 1024 → EReal)
    (s : Fin 2048) (c : Fin 1024) : EReal :=
  taps (if _ : 0 < s.val then gate (h ⟨s.val - 1, by omega⟩) w c else 0) (gate (h s) w c)
    (if _ : s.val < 2047 then gate (h ⟨s.val + 1, by omega⟩) w c else 0) (dw 0 c) (dw 1 c) (dw 2 c) (db c)

end Cert.Layer.Conv

namespace Cert.ConvIdeal.Final

open Cert.ConvIdeal Cert.ConvIdeal.Gen Cert.ConvIdeal.Run Cert.ConvIdeal.Block
open Idealize.ShloMosaic Idealize.ShloMosaic.TcCoe Idealize.SL.Sem Idealize.ShloMosaic.Pipeline
open Cert.Layer

theorem idx_a : ∀ t : Fin cfg1.N, win1_0.index t = ![t.val / 2, t.val % 2, 0]
    ∧ win1_1.index t = ![t.val / 2, (t.val % 2) * 127, 0]
    ∧ win1_2.index t = ![t.val / 2, 128 + (t.val % 2) * 127, 0]
    ∧ win1_3.index t = ![2, t.val / 2, 0, 0]
    ∧ win1_4.index t = ![2, 0, 0] := by decide +kernel
theorem idx_b : ∀ t : Fin cfg1.N, win1_5.index t = ![0, 0, 0] ∧ win1_6.index t = ![0, 0, 0]
    ∧ win1_7.index t = ![0, 0, 0] ∧ win1_8.index t = ![0, 0, 0] ∧ win1_9.index t = ![t.val / 2, t.val % 2, 0] := by decide +kernel
theorem coord : ∀ t : Fin cfg1.N, ((grid1.coords t) 1).val = t.val % 2 := by decide +kernel

theorem above0 : above (BitVec.ofNat 32 0) = 0 := by
  have e : (Scalar.extui (Scalar.cmpi .sgt (BitVec.ofNat 32 0) 0#32) : BitVec 32) = 0#32 := by decide +kernel
  unfold above
  rw [e]
  show ((((0#32 : BitVec 32)).toInt : ℝ) : EReal) = 0
  simp
theorem below1 : below (BitVec.ofNat 32 1) = 0 := by
  have e : (Scalar.extui (Scalar.cmpi .slt (BitVec.ofNat 32 1) 1#32) : BitVec 32) = 0#32 := by decide +kernel
  unfold below
  rw [e]
  show ((((0#32 : BitVec 32)).toInt : ℝ) : EReal) = 0
  simp
theorem above1 : above (BitVec.ofNat 32 1) = 1 := by
  have e : (Scalar.extui (Scalar.cmpi .sgt (BitVec.ofNat 32 1) 0#32) : BitVec 32) = 1#32 := by decide +kernel
  unfold above
  rw [e]
  show ((((1#32 : BitVec 32)).toInt : ℝ) : EReal) = 1
  simp
theorem below0 : below (BitVec.ofNat 32 0) = 1 := by
  have e : (Scalar.extui (Scalar.cmpi .slt (BitVec.ofNat 32 0) 1#32) : BitVec 32) = 1#32 := by decide +kernel
  unfold below
  rw [e]
  show ((((1#32 : BitVec 32)).toInt : ℝ) : EReal) = 1
  simp

/-- The block's convolution is the sequence's: the halo rows are the neighbouring tile's, or are multiplied by zero at the sequence's ends. -/
theorem conv_eq (h : Fin 2048 → Fin 1024 → EReal) (w : Fin 1024 → Fin 4096 → EReal) (dw : Fin 3 → Fin 1024 → EReal) (db : Fin 1024 → EReal)
    (i : Nat) (hi : i < 2) (H : Fin 1040 → Fin 1024 → EReal)
    (hmid : ∀ r : Fin 1024, H ⟨8 + r.val, by omega⟩ = h ⟨i * 1024 + r.val, by omega⟩)
    (hlo : i = 1 → H ⟨7, by omega⟩ = h ⟨1023, by omega⟩) (hhi : i = 0 → H ⟨1032, by omega⟩ = h ⟨1024, by omega⟩) (r c : Fin 1024) :
    conv (above (BitVec.ofNat 32 i)) (below (BitVec.ofNat 32 i)) H w dw db r c = Conv.cv h w dw db ⟨i * 1024 + r.val, by omega⟩ c := by
  unfold conv Conv.cv
  rw [hmid r]
  congr 1
  · by_cases hr : r.val = 0
    · have e7 : (⟨7 + r.val, by omega⟩ : Fin 1040) = ⟨7, by omega⟩ := Fin.ext (by simp [hr])
      rw [if_pos hr, e7]
      obtain rfl | rfl : i = 0 ∨ i = 1 := by omega
      · rw [above0, mul_zero, dif_neg (by simp [hr])]
      · rw [above1, mul_one, dif_pos (by simp), hlo rfl]
        exact congrArg (fun q => Conv.gate (h q) w c) (Fin.ext (by simp [hr]))
    · have e := hmid ⟨r.val - 1, by omega⟩
      have e7 : (⟨8 + (r.val - 1), by omega⟩ : Fin 1040) = ⟨7 + r.val, by omega⟩ := Fin.ext (by simp only; omega)
      rw [if_neg hr, dif_pos (by simp only; omega), ← e7]
      exact (congrArg (fun q => Conv.gate q w c) e).trans (congrArg (fun q => Conv.gate (h q) w c) (Fin.ext (by simp only; omega)))
  · by_cases hr : r.val < 1023
    · have e := hmid ⟨r.val + 1, by omega⟩
      have e7 : (⟨8 + (r.val + 1), by omega⟩ : Fin 1040) = ⟨9 + r.val, by omega⟩ := Fin.ext (by simp only; omega)
      rw [if_pos hr, dif_pos (by simp only; omega), ← e7]
      exact (congrArg (fun q => Conv.gate q w c) e).trans (congrArg (fun q => Conv.gate (h q) w c) (Fin.ext (by simp only; omega)))
    · have hr' : r.val = 1023 := by omega
      have e7 : (⟨9 + r.val, by omega⟩ : Fin 1040) = ⟨1032, by omega⟩ := Fin.ext (by simp [hr'])
      rw [if_neg hr, e7]
      obtain rfl | rfl : i = 0 ∨ i = 1 := by omega
      · rw [below0, mul_one, dif_pos (by simp [hr']), hhi rfl]
        exact congrArg (fun q => Conv.gate (h q) w c) (Fin.ext (by simp [hr']))
      · rw [below1, mul_zero, dif_neg (by simp [hr'])]

/-- The layer over coordinates, from the stream, the modulation array and the weights as the call finds them. -/
def Out (x : FVec Ideal S8x2048x1024 .f32) (mo : FVec Ideal S4x16x3x1024 .f32) (ng : FVec Ideal S4x1x1024 .f32) (wi : FVec Ideal S1x1024x4096 .bf16)
    (dw : FVec Ideal S1x3x1024 .f32) (db : FVec Ideal S1x1x1024 .f32) (wo : FVec Ideal S1x1024x1024 .bf16) (b : Fin 8) (s : Fin 2048) (d : Fin 1024) : EReal :=
  let h : Fin 2048 → Fin 1024 → EReal := fun s k => nrm (fun k => x (ix3 b s k)) (fun k => ng (ix3 2 0 k))
    (fun k => mo (ix4 2 (⟨b.val, by omega⟩ : Fin 16) 0 k)) (fun k => mo (ix4 2 (⟨b.val, by omega⟩ : Fin 16) 1 k)) k
  x (ix3 b s d) + mo (ix4 2 (⟨b.val, by omega⟩ : Fin 16) 2 d) * ∑ c : Fin 1024,
    Conv.row (h s) (fun k j => wi (ix3 0 k j)) (Conv.cv h (fun k j => wi (ix3 0 k j)) (fun n c => dw (ix3 0 n c)) (fun c => db (ix3 0 0 c)) s) c * wo (ix3 0 c d)

/-- One block of the second call's result, from blocks that hold the arrays' entries. -/
theorem point (i : grid1.Coords) (x : FVec Ideal S8x2048x1024 .f32) (mo : FVec Ideal S4x16x3x1024 .f32) (ng : FVec Ideal S4x1x1024 .f32) (wi : FVec Ideal S1x1024x4096 .bf16)
    (dw : FVec Ideal S1x3x1024 .f32) (db : FVec Ideal S1x1x1024 .f32) (wo : FVec Ideal S1x1024x1024 .bf16) (x0 : Vec Ideal S1x1024x1024 .f32)
    (x1 x2 : Vec Ideal S1x8x1024 .f32) (x3 : Vec Ideal S1x1x3x1024 .f32) (x4 : Vec Ideal S1x1x1024 .f32) (x5 : Vec Ideal S1x1024x4096 .bf16)
    (x6 : Vec Ideal S1x3x1024 .f32) (x7 : Vec Ideal S1x1x1024 .f32) (x8 : Vec Ideal S1x1024x1024 .bf16) (b : Fin 8) (e : Nat) (he : e < 2) (hi : (i 1).val = e)
    (h0 : ∀ (r k : Fin 1024), x0 (ix3 0 r k) = x (ix3 b (⟨e * 1024 + r.val, by omega⟩ : Fin 2048) k))
    (h1 : e = 1 → ∀ k : Fin 1024, x1 (ix3 0 7 k) = x (ix3 b (⟨1023, by omega⟩ : Fin 2048) k))
    (h2 : e = 0 → ∀ k : Fin 1024, x2 (ix3 0 0 k) = x (ix3 b (⟨1024, by omega⟩ : Fin 2048) k))
    (h3 : ∀ (n : Fin 3) (k : Fin 1024), x3 (ix4 0 0 n k) = mo (ix4 2 (⟨b.val, by omega⟩ : Fin 16) n k))
    (h4 : ∀ k : Fin 1024, x4 (ix3 0 0 k) = ng (ix3 2 0 k))
    (h5 : ∀ (k : Fin 1024) (j : Fin 4096), x5 (ix3 0 k j) = wi (ix3 0 k j))
    (h6 : ∀ (n : Fin 3) (k : Fin 1024), x6 (ix3 0 n k) = dw (ix3 0 n k))
    (h7 : ∀ k : Fin 1024, x7 (ix3 0 0 k) = db (ix3 0 0 k))
    (h8 : ∀ k j : Fin 1024, x8 (ix3 0 k j) = wo (ix3 0 k j)) (r d : Fin 1024) :
    out1_9 i x0 x1 x2 x3 x4 x5 x6 x7 x8 (ix3 0 r d) = Out x mo ng wi dw db wo b ⟨e * 1024 + r.val, by omega⟩ d := by
  have hmid : ∀ r : Fin 1024, rows x1 x0 x2 ⟨8 + r.val, by omega⟩ = fun k => x (ix3 b (⟨e * 1024 + r.val, by omega⟩ : Fin 2048) k) := fun r => funext fun k => by
    unfold rows
    rw [dif_neg (by simp only; omega), dif_pos (by simp only; omega), ← h0]
    exact congrArg (fun q => x0 (ix3 0 q k)) (Fin.ext (by simp only; omega))
  have hlo : e = 1 → rows x1 x0 x2 ⟨7, by omega⟩ = fun k => x (ix3 b (⟨1023, by omega⟩ : Fin 2048) k) := fun e => funext fun k => by
    unfold rows
    rw [dif_pos (by simp only; omega), ← h1 e]
    rfl
  have hhi : e = 0 → rows x1 x0 x2 ⟨1032, by omega⟩ = fun k => x (ix3 b (⟨1024, by omega⟩ : Fin 2048) k) := fun e => funext fun k => by
    unfold rows
    rw [dif_neg (by simp only; omega), dif_neg (by simp only; omega), ← h2 e]
    rfl
  rw [out_at i x0 x1 x2 x3 x4 x5 x6 x7 x8 _ (fun q k => rfl), hi]
  unfold Out
  generalize rows x1 x0 x2 = R at hmid hlo hhi
  simp only [h0, h3, h4, h5, h6, h7, h8, hmid]
  congr 2
  refine Finset.sum_congr rfl fun c _ => ?_
  congr 1
  unfold Conv.row
  congr 2
  exact conv_eq (fun s k => nrm (fun k => x (ix3 b s k)) _ _ _ k) _ _ _ e he _
    (fun r => by rw [hmid]) (fun e => by rw [hlo e]) (fun e => by rw [hhi e]) r c

variable (m : (ℓ : Loc nD τ sig) → Buf (Elt Ideal) ℓ) (ρ : Dev nD → PrngReg)

set_option maxHeartbeats 4000000 in
theorem array (c : Dev nD) : (dat1 (V3 m ρ) c).arrAt 9 cfg1.N = fun i : S8x2048x1024.Idx =>
    Out (V3 m ρ c main_arg0) (V3 m ρ c main_v7) (V3 m ρ c main_v8) (V3 m ρ c main_v9) (V3 m ρ c main_arg7) (V3 m ρ c main_v10) (V3 m ρ c main_v11) (i 0) (i 1) (i 2) := by
  refine (dat1 (V3 m ρ) c).arrAt_eq_of_covers 9 _ (by decide +kernel) fun t _ y => ?_
  blk_simp
  rw [after1_9]
  obtain ⟨r, d, rfl⟩ : ∃ (r : Fin 1024) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 16 := t.isLt
  generalize hb : (⟨t.val / 2, by omega⟩ : Fin 8) = b
  have hbv : b.val = t.val / 2 := by rw [← hb]
  have hy : (win1_9.blk t).view.emb (ix3 0 r d) = ix3 b (⟨t.val % 2 * 1024 + r.val, by omega⟩ : Fin 2048) d := by blk_ext [idx_b t]
  have h0 : ∀ r k, iblk1 (V3 m ρ) c 0 t (ix3 0 r k) = V3 m ρ c main_arg0 (ix3 b (⟨t.val % 2 * 1024 + r.val, by omega⟩ : Fin 2048) k) := fun r k => by
    blk_ext [iblk1, idx_a t]
  have h1 : t.val % 2 = 1 → ∀ k, iblk1 (V3 m ρ) c 1 t (ix3 0 7 k) = V3 m ρ c main_arg0 (ix3 b (⟨1023, by omega⟩ : Fin 2048) k) := fun e k => by
    blk_ext [iblk1, idx_a t]
  have h2 : t.val % 2 = 0 → ∀ k, iblk1 (V3 m ρ) c 2 t (ix3 0 0 k) = V3 m ρ c main_arg0 (ix3 b (⟨1024, by omega⟩ : Fin 2048) k) := fun e k => by
    blk_ext [iblk1, idx_a t]
  have h3 : ∀ n k, iblk1 (V3 m ρ) c 3 t (ix4 0 0 n k) = V3 m ρ c main_v7 (ix4 2 (⟨b.val, by omega⟩ : Fin 16) n k) := fun n k => by
    blk_ext [iblk1, idx_a t]
  have h4 : ∀ k, iblk1 (V3 m ρ) c 4 t (ix3 0 0 k) = V3 m ρ c main_v8 (ix3 2 0 k) := fun k => by
    blk_ext [iblk1, idx_a t]
  have h5 : ∀ k j, iblk1 (V3 m ρ) c 5 t (ix3 0 k j) = V3 m ρ c main_v9 (ix3 0 k j) := fun k j => by
    blk_ext [iblk1, idx_b t]
  have h6 : ∀ n k, iblk1 (V3 m ρ) c 6 t (ix3 0 n k) = V3 m ρ c main_arg7 (ix3 0 n k) := fun n k => by
    blk_ext [iblk1, idx_b t]
  have h7 : ∀ k, iblk1 (V3 m ρ) c 7 t (ix3 0 0 k) = V3 m ρ c main_v10 (ix3 0 0 k) := fun k => by
    blk_ext [iblk1, idx_b t]
  have h8 : ∀ k j, iblk1 (V3 m ρ) c 8 t (ix3 0 k j) = V3 m ρ c main_v11 (ix3 0 k j) := fun k j => by
    blk_ext [iblk1, idx_b t]
  rw [hy]
  exact point (grid1.coords t) _ _ _ _ _ _ _ _ _ _ _ _ _ _ _ _ b (t.val % 2) (by omega) (coord t) h0 h1 h2 h3 h4 h5 h6 h7 h8 r d

end Cert.ConvIdeal.Final

end
-- ==== Proof.ConvEq.lean ====
module

public import proofs.«01_k».proof.Proof.ConvFinal

/-! # The convolution layer: the kernel's result array is the reference's -/

@[expose] public section

set_option maxRecDepth 16384

noncomputable section

namespace Cert.ConvIdeal.Final

open Cert.ConvIdeal Cert.ConvIdeal.Gen Cert.ConvIdeal.Run
open Idealize.ShloMosaic Idealize.ShloMosaic.TcCoe Idealize.SL.Sem Idealize.ShloMosaic.Pipeline
open Cert.Layer

/-- The reference's layer, from its eight arguments. -/
def Ref (x : FVec Ideal S8x2048x1024 .f32) (cc : FVec Ideal S8x1024 .f32) (ng : FVec Ideal S4x1024 .f32) (aw : FVec Ideal S4x1024x3072 .f32)
    (ab : FVec Ideal S4x3072 .f32) (wi : FVec Ideal S1x1024x4096 .f32) (dw : FVec Ideal S1x3x1024 .f32) (db : FVec Ideal S1x1024 .f32)
    (wo : FVec Ideal S1x1024x1024 .f32) : FVec Ideal S8x2048x1024 .f32 :=
  let mods := ConvRefIdeal.At.Mods cc aw ab
  let p := ConvRefIdeal.At.P (ConvRefIdeal.At.H x ng mods) wi
  ConvRefIdeal.At.O x mods (ConvRefIdeal.At.Y p (ConvRefIdeal.At.C (ConvRefIdeal.At.Z p) dw db)) wo

theorem Z_at (p : FVec Ideal Cert.ConvRefIdeal.S8x2048x4096 .f32) (b : Fin 8) (s : Fin 2048) (c : Fin 1024) :
    ConvRefIdeal.At.Z p (ix3 b s c) = p (ix3 b s ⟨1024 + c.val, by omega⟩) * p (ix3 b s ⟨2048 + c.val, by omega⟩) := by
  pointwise [ConvRefIdeal.At.Z]

theorem ref_at (x : FVec Ideal S8x2048x1024 .f32) (cc : FVec Ideal S8x1024 .f32) (ng : FVec Ideal S4x1024 .f32) (aw : FVec Ideal S4x1024x3072 .f32)
    (ab : FVec Ideal S4x3072 .f32) (wi : FVec Ideal S1x1024x4096 .f32) (dw : FVec Ideal S1x3x1024 .f32) (db : FVec Ideal S1x1024 .f32)
    (wo : FVec Ideal S1x1024x1024 .f32) (mo : FVec Ideal S4x16x3x1024 .f32)
    (hmo : ∀ (b : Fin 8) (n : Fin 3) (k : Fin 1024), mo (ix4 2 (⟨b.val, by omega⟩ : Fin 16) n k)
      = modv (fun k => cc (ix2 b k)) (fun k j => aw (ix3 2 k j)) (fun j => ab (ix2 2 j)) ⟨n.val * 1024 + k.val, by omega⟩)
    (b : Fin 8) (s : Fin 2048) (d : Fin 1024) :
    Out x mo (shapeCast S4x1x1024 ng shapeCasts_S4x1024_S4x1x1024) (truncf .bf16 wi bitsLt_bf16_f32) dw
      (shapeCast S1x1x1024 db shapeCasts_S1x1024_S1x1x1024) (truncf .bf16 wo bitsLt_bf16_f32) b s d = Ref x cc ng aw ab wi dw db wo (ix3 b s d) := by
  have m0 : ∀ (n : Fin 3) k, mo (ix4 2 (⟨b.val, by omega⟩ : Fin 16) n k) = ConvRefIdeal.At.Mods cc aw ab (ix2 b ⟨n.val * 1024 + k.val, by omega⟩) := fun n k => by
    rw [hmo, ConvRefIdeal.At.Mods_at]
  have hng : ∀ k, shapeCast S4x1x1024 ng shapeCasts_S4x1024_S4x1x1024 (ix3 2 0 k) = ng (ix2 2 k) := fun k => by pointwise
  have hdb : ∀ k, shapeCast S1x1x1024 db shapeCasts_S1x1024_S1x1x1024 (ix3 0 0 k) = db (ix2 0 k) := fun k => by pointwise
  have hwi : ∀ k j, truncf .bf16 wi bitsLt_bf16_f32 (ix3 0 k j) = wi (ix3 0 k j) := fun k j => rfl
  have hwo : ∀ k j, truncf .bf16 wo bitsLt_bf16_f32 (ix3 0 k j) = wo (ix3 0 k j) := fun k j => rfl
  unfold Out
  simp only [m0, hng, hdb, hwi, hwo]
  unfold Ref
  generalize ConvRefIdeal.At.Mods cc aw ab = M
  rw [ConvRefIdeal.At.O_at]
  have hH : (fun (s : Fin 2048) (k : Fin 1024) => nrm (fun k => x (ix3 b s k)) (fun k => ng (ix2 2 k)) (fun k => M (ix2 b ⟨(0 : Fin 3).val * 1024 + k.val, by omega⟩))
      (fun k => M (ix2 b ⟨(1 : Fin 3).val * 1024 + k.val, by omega⟩)) k) = fun s k => ConvRefIdeal.At.H x ng M (ix3 b s k) := by
    funext s k
    rw [ConvRefIdeal.At.H_at]
    congr 1
    funext k
    exact congrArg (fun q => M (ix2 b q)) (Fin.ext (by simp))
  have h2 : (⟨(2 : Fin 3).val * 1024 + d.val, by omega⟩ : Fin 3072) = ⟨2048 + d.val, by omega⟩ := rfl
  rw [h2]
  congr 2
  refine Finset.sum_congr rfl fun c _ => ?_
  congr 1
  rw [ConvRefIdeal.At.Y_at, ConvRefIdeal.At.C_at]
  simp only [Z_at, ConvRefIdeal.At.P_at]
  rw [hH, show (fun (k : Fin 1024) => nrm (fun k => x (ix3 b s k)) (fun k => ng (ix2 2 k)) (fun k => M (ix2 b ⟨(0 : Fin 3).val * 1024 + k.val, by omega⟩))
      (fun k => M (ix2 b ⟨(1 : Fin 3).val * 1024 + k.val, by omega⟩)) k) = fun k => ConvRefIdeal.At.H x ng M (ix3 b s k) from congrFun hH s]
  rfl

variable (m : (ℓ : Loc nD τ sig) → Buf (Elt Ideal) ℓ) (ρ : Dev nD → PrngReg)

theorem final (c : Dev nD) : (dat1 (V3 m ρ) c).arrAt 9 cfg1.N = Ref (m ((c : Thread nD τ).loc main_arg0)) (m ((c : Thread nD τ).loc main_arg1))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  rw [array, V3_arg0, V3_arg7, V3_v8, V3_v9, V3_v10, V3_v11]
  funext i
  refine (ref_at _ _ _ _ _ _ _ _ _ _ (fun b n k => Mods.V3_v7_at m ρ c 2 b n k) (i 0) (i 1) (i 2)).trans ?_
  exact congrArg _ (eq_ix3 i).symm

end Cert.ConvIdeal.Final

end
-- ==== Proof.PoolRun.lean ====
module

public import proofs.«01_k».proof.Proof.Gen.PoolIdeal.Frame
public import Idealize.ShloMosaic.Lib.Claim
public import Idealize.ShloMosaic.Lib.Pipeline.ValueKit

/-! # The pooling layer: one run, and what its three calls find in their operands

`run_all` is the generated launch read for every buffer: a final state holds the last boundary's
contents, so the result array is what the last call has written back. The theorems after it read
the calls' operands: the arguments through the host's reshapes, the modulation array as the first
call has written it, and the folded weights as the second has. -/

@[expose] public section

set_option maxRecDepth 16384

noncomputable section

namespace Cert.PoolIdeal.Run

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution terminates, and every buffer the launch does not scope ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run with its result: the last call's output array after its last grid point, the arguments unchanged. -/
theorem run_main : θ_run defs (onTc (τ := τ) (main (F := F))) ⟨m, fun _ => 0, ρ⟩ (fun r => ∀ c : Dev nD,
      r.2.mem ((c.tc : Thread nD τ).loc main_v12) = (dat2 (V5 m ρ) c).arrAt 9 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v12 (by decide))).trans (W6_arr m ρ c 9),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩) (run_all m ρ)

/-! ## The operands of the modulation call -/

theorem V1_arg4 (c : Dev nD) : V1 m ρ c main_arg4 = m ((c : Thread nD τ).loc main_arg4) := W1_args m ρ c main_arg4 (by decide)

theorem V1_v5 (c : Dev nD) : V1 m ρ c main_v5 = shapeCast S4x1x3072 (m ((c : Thread nD τ).loc main_arg5)) shapeCasts_S4x3072_S4x1x3072 := by
  show StableHlo.after hostOps0 (W0 m ρ c) (Proc.devRef .tc main_v5) = _
  after_results
  rfl

theorem V1_v4 (c : Dev nD) : V1 m ρ c main_v4 =
    Host.scatter scatter_S16x1024_S1_S1024_0_0_0_0 (fun _ b => b)
      (Host.scatter scatter_S16x1024_S1_S8x1024_01_n_0_0 (fun _ b => b)
        (broadcastInDim S16x1024 ![] bcast_S_S16x1024 (constant S_ .f32 0x00000000#32))
        (broadcastInDim S1 ![] bcast_S_S1 (constantI S_ 32 0#32)) (m ((c : Thread nD τ).loc main_arg1)))
      (broadcastInDim S1 ![] bcast_S_S1 (constantI S_ 32 8#32)) (m ((c : Thread nD τ).loc main_arg2)) := by
  show StableHlo.after hostOps0 (W0 m ρ c) (Proc.devRef .tc main_v4) = _
  after_results

/-! ## The operands of the folding call -/

theorem V3_arg6 (c : Dev nD) : V3 m ρ c main_arg6 = m ((c : Thread nD τ).loc main_arg6) := W3_args m ρ c main_arg6 (by decide)
theorem V3_arg7 (c : Dev nD) : V3 m ρ c main_arg7 = m ((c : Thread nD τ).loc main_arg7) := W3_args m ρ c main_arg7 (by decide)
theorem V3_arg9 (c : Dev nD) : V3 m ρ c main_arg9 = m ((c : Thread nD τ).loc main_arg9) := W3_args m ρ c main_arg9 (by decide)

theorem V3_v7 (c : Dev nD) : V3 m ρ c main_v7 = shapeCast S4x16x3x1024 ((dat0 (V1 m ρ) c).arrAt 3 cfg0.N) shapeCasts_S4x16x3072_S4x16x3x1024 := by
  rw [← W2_arr m ρ c 3]
  show StableHlo.after hostOps1 (W2 m ρ c) (Proc.devRef .tc main_v7) = _
  after_results
  rfl

theorem V3_v8 (c : Dev nD) : V3 m ρ c main_v8 = shapeCast S4x1x1024 (m ((c : Thread nD τ).loc main_arg3)) shapeCasts_S4x1024_S4x1x1024 := by
  rw [← W2_args m ρ c main_arg3 (by decide)]
  show StableHlo.after hostOps1 (W2 m ρ c) (Proc.devRef .tc main_v8) = _
  after_results
  rfl

theorem V3_v9 (c : Dev nD) : V3 m ρ c main_v9 = shapeCast S2x1x1024 (m ((c : Thread nD τ).loc main_arg8)) shapeCasts_S2x1024_S2x1x1024 := by
  rw [← W2_args m ρ c main_arg8 (by decide)]
  show StableHlo.after hostOps1 (W2 m ρ c) (Proc.devRef .tc main_v9) = _
  after_results
  rfl

/-! ## The operands of the layer's call -/

theorem V5_arg0 (c : Dev nD) : V5 m ρ c main_arg0 = m ((c : Thread nD τ).loc main_arg0) := W5_args m ρ c main_arg0 (by decide)

theorem V5_v7 (c : Dev nD) : V5 m ρ c main_v7 = shapeCast S4x16x3x1024 ((dat0 (V1 m ρ) c).arrAt 3 cfg0.N) shapeCasts_S4x16x3072_S4x16x3x1024 := by
  rw [← V3_v7 m ρ c]
  refine (W5_of m ρ c main_v7 (by decide)).trans ?_
  exact W4_of m ρ c main_v7 (by decide)

theorem V5_v8 (c : Dev nD) : V5 m ρ c main_v8 = shapeCast S4x1x1024 (m ((c : Thread nD τ).loc main_arg3)) shapeCasts_S4x1024_S4x1x1024 := by
  rw [← V3_v8 m ρ c]
  refine (W5_of m ρ c main_v8 (by decide)).trans ?_
  exact W4_of m ρ c main_v8 (by decide)

theorem V5_v11 (c : Dev nD) : V5 m ρ c main_v11 = shapeCast S1x1024 (m ((c : Thread nD τ).loc main_arg10)) shapeCasts_S1024_S1x1024 := by
  rw [← W4_args m ρ c main_arg10 (by decide)]
  show StableHlo.after hostOps2 (W4 m ρ c) (Proc.devRef .tc main_v11) = _
  after_results
  rfl

theorem V5_v10_0 (c : Dev nD) : V5 m ρ c main_v10_0 = (dat1 (V3 m ρ) c).arrAt 4 cfg1.N :=
  (W5_of m ρ c main_v10_0 (by decide)).trans (W4_arr m ρ c 4)

theorem V5_v10_1 (c : Dev nD) : V5 m ρ c main_v10_1 = (dat1 (V3 m ρ) c).arrAt 5 cfg1.N :=
  (W5_of m ρ c main_v10_1 (by decide)).trans (W4_arr m ρ c 5)

theorem V5_v10_2 (c : Dev nD) : V5 m ρ c main_v10_2 = (dat1 (V3 m ρ) c).arrAt 6 cfg1.N :=
  (W5_of m ρ c main_v10_2 (by decide)).trans (W4_arr m ρ c 6)

end Cert.PoolIdeal.Run

end
-- ==== Proof.PoolMods.lean ====
module

public import proofs.«01_k».proof.Proof.PoolRun
public import proofs.«01_k».proof.Proof.ConvSpec
public import proofs.«01_k».proof.Proof.Cond

/-! # The modulation array of the pooling program

The first call writes, for each of the four layers and each of the first eight condition rows, the
modulation row of `modv`. -/

@[expose] public section

set_option maxRecDepth 16384

noncomputable section

namespace Cert.PoolIdeal.Mods

open Cert.PoolIdeal Cert.PoolIdeal.Gen Cert.PoolIdeal.Run
open Idealize.ShloMosaic Idealize.ShloMosaic.TcCoe Idealize.SL.Sem Idealize.ShloMosaic.Pipeline
open Cert.Layer

variable (m : (ℓ : Loc nD τ sig) → Buf (Elt Ideal) ℓ) (ρ : Dev nD → PrngReg)

theorem pay_at (v0 : Vec Ideal S16x1024 .f32) (v9 : Vec Ideal S1x1024x3072 .f32) (v13 : Vec Ideal S1x1x3072 .f32) (b : Fin 16) (o : Fin 3072) :
    k0_pay1 v0 v9 v13 (ix3 0 b o) = modv (fun k => v0 (ix2 b k)) (fun k j => v9 (ix3 0 k j)) (fun j => v13 (ix3 0 0 j)) o := by
  pointwise [k0_pay1, modv]
  simp only [div_eq_silu]

theorem idx : ∀ t : Fin cfg0.N, win0_0.index t = ![0, 0] ∧ win0_1.index t = ![t.val, 0, 0] ∧ win0_2.index t = ![t.val, 0, 0]
    ∧ win0_3.index t = ![t.val, 0, 0] := by decide +kernel

/-- The modulation array as the first call leaves it, from its operands. -/
def G (cond : FVec Ideal S16x1024 .f32) (aw : FVec Ideal S4x1024x3072 .f32) (ab : FVec Ideal S4x1x3072 .f32) : FVec Ideal S4x16x3072 .f32 := fun i =>
  modv (fun k => cond (ix2 (i 1) k)) (fun k j => aw (ix3 (i 0) k j)) (fun j => ab (ix3 (i 0) 0 j)) (i 2)

theorem array (c : Dev nD) : (dat0 (V1 m ρ) c).arrAt 3 cfg0.N = G (V1 m ρ c main_v4) (V1 m ρ c main_arg4) (V1 m ρ c main_v5) := by
  refine (dat0 (V1 m ρ) c).arrAt_eq_of_covers 3 _ (by decide +kernel) fun t _ y => ?_
  blk_simp
  rw [after0_3]
  unfold out0_3
  frame_out
  obtain ⟨b, o, rfl⟩ : ∃ (b : Fin 16) (o : Fin 3072), y = ix3 0 b o := ⟨y 1, y 2, by
    funext a
    match a with
    | ⟨0, _⟩ => exact Subsingleton.elim (α := Fin 1) _ _
    | ⟨1, _⟩ => rfl
    | ⟨2, _⟩ => rfl⟩
  have hy : (win0_3.blk t).view.emb (ix3 0 b o) = ix3 (⟨t.val, by idx_bounds; omega⟩ : Fin 4) b o := by blk_ext [idx t]
  have h0 : ∀ k, iblk0 (V1 m ρ) c 0 t (ix2 b k) = V1 m ρ c main_v4 (ix2 b k) := fun k => by blk_ext [iblk0, idx t]
  have h1 : ∀ k j, iblk0 (V1 m ρ) c 1 t (ix3 0 k j) = V1 m ρ c main_arg4 (ix3 (⟨t.val, by idx_bounds; omega⟩ : Fin 4) k j) := fun k j => by
    blk_ext [iblk0, idx t]
  have h2 : ∀ j, iblk0 (V1 m ρ) c 2 t (ix3 0 0 j) = V1 m ρ c main_v5 (ix3 (⟨t.val, by idx_bounds; omega⟩ : Fin 4) 0 j) := fun j => by
    blk_ext [iblk0, idx t]
  rw [pay_at, hy]
  simp only [h0, h1, h2]
  rfl

theorem cond_eq (c : Dev nD) (b : Fin 8) (k : Fin 1024) :
    V1 m ρ c main_v4 (ix2 (⟨b.val, by omega⟩ : Fin 16) k) = m ((c : Thread nD τ).loc main_arg1) (ix2 b k) := by
  rw [V1_v4]
  generalize m ((c : Thread nD τ).loc main_arg1) = u1
  generalize m ((c : Thread nD τ).loc main_arg2) = u2
  exact Cond.cond_at scatter_S16x1024_S1_S8x1024_01_n_0_0 scatter_S16x1024_S1_S1024_0_0_0_0 rfl rfl rfl rfl rfl rfl _ _ _ (by pointwise; rfl) (by pointwise; rfl) u1 u2 b k

/-- The modulation array, reshaped, read at an entry of one of the eight rows. -/
theorem reshape_at (cond : FVec Ideal S16x1024 .f32) (cc : FVec Ideal S8x1024 .f32) (aw : FVec Ideal S4x1024x3072 .f32) (ab : FVec Ideal S4x3072 .f32)
    (hc : ∀ (b : Fin 8) k, cond (ix2 (⟨b.val, by omega⟩ : Fin 16) k) = cc (ix2 b k)) (l : Fin 4) (b : Fin 8) (n : Fin 3) (k : Fin 1024) :
    shapeCast S4x16x3x1024 (G cond aw (shapeCast S4x1x3072 ab shapeCasts_S4x3072_S4x1x3072)) shapeCasts_S4x16x3072_S4x16x3x1024
        (ix4 l (⟨b.val, by omega⟩ : Fin 16) n k)
      = modv (fun k => cc (ix2 b k)) (fun k j => aw (ix3 l k j)) (fun j => ab (ix2 l j)) ⟨n.val * 1024 + k.val, by omega⟩ := by
  unfold G
  pointwise
  simp only [hc]

/-- A modulation entry of one of the eight rows, as the second call finds it. -/
theorem V5_v7_at (c : Dev nD) (l : Fin 4) (b : Fin 8) (n : Fin 3) (k : Fin 1024) :
    V5 m ρ c main_v7 (ix4 l (⟨b.val, by omega⟩ : Fin 16) n k)
      = modv (fun k => m ((c : Thread nD τ).loc main_arg1) (ix2 b k)) (fun k j => m ((c : Thread nD τ).loc main_arg4) (ix3 l k j))
          (fun j => m ((c : Thread nD τ).loc main_arg5) (ix2 l j)) ⟨n.val * 1024 + k.val, by omega⟩ := by
  rw [V5_v7, array, V1_v5, V1_arg4]
  exact reshape_at _ _ _ _ (cond_eq m ρ c) l b n k

end Cert.PoolIdeal.Mods

end
-- ==== Proof.PoolSpec.lean ====
module

public import proofs.«01_k».proof.Proof.Spec

/-! # The pooling mixer, element by element -/

@[expose] public section

noncomputable section

namespace Cert.Layer.Pool

open Idealize.ShloMosaic Cert.Layer

/-- The group of a channel. -/
def grp (c : Fin 1024) : Fin 4 := ⟨c.val / 256, by omega⟩
/-- A channel's place in its group. -/
def off (c : Fin 1024) : Fin 256 := ⟨c.val % 256, by omega⟩
/-- The channel at a place of a group, as a column of the wide projection. -/
def col (g : Fin 4) (j : Fin 256) : Fin 2048 := ⟨g.val * 256 + j.val, by omega⟩

/-- One entry of the folded weights: the group's columns of the projection times the group's matrix, times the scale. -/
def fold (w : Fin 1024 → Fin 2048 → EReal) (wg : Fin 4 → Fin 256 → Fin 256 → EReal) (s : Fin 1024 → EReal) (k c : Fin 1024) : EReal :=
  (∑ j : Fin 256, w k (col (grp c) j) * wg (grp c) j (off c)) * s c

/-- Half of a group's window: 1, 2, 4 and 8. -/
def half (g : Fin 4) : Nat := 2 ^ g.val

/-- The number of rows of a window that lie in the sequence. -/
def cnt (h l : Nat) : Nat := min (l + h) 2048 - (l - h)

/-- A sequence with eight zero rows above it and zero rows below it. -/
def pad (T : Fin 2048 → EReal) (n : Nat) : EReal := if h : 8 ≤ n ∧ n < 2056 then T ⟨n - 8, by omega⟩ else 0

/-- The mean of a window around a row, over the rows that lie in the sequence. -/
def mean (h : Nat) (T : Fin 2048 → EReal) (l : Fin 2048) : EReal :=
  Ideal.div (∑ k ∈ Finset.range (2 * h), pad T (l.val + 8 - h + k)) ((cnt h l.val : ℝ) : EReal)

/-- The layer's row before the final normalisation, read at one column. -/
def res (x gate : Fin 1024 → EReal) (mixed g : Fin 1024 → EReal) (wo : Fin 1024 → Fin 1024 → EReal) (d : Fin 1024) : EReal :=
  x d + gate d * ∑ c : Fin 1024, mixed c * silu (g c) * wo c d

end Cert.Layer.Pool

end
-- ==== Proof.PoolFold.lean ====
module

public import proofs.«01_k».proof.Proof.PoolRun
public import proofs.«01_k».proof.Proof.PoolSpec

/-! # The pooling layer: the folded weights -/

@[expose] public section

set_option maxRecDepth 16384

noncomputable section

namespace Cert.PoolIdeal.Fold

open Cert.PoolIdeal Cert.PoolIdeal.Gen Cert.PoolIdeal.Run
open Idealize.ShloMosaic Idealize.ShloMosaic.TcCoe Idealize.SL.Sem Idealize.ShloMosaic.Pipeline
open Cert.Layer

/-- One column block of the folded weights. -/
theorem pay_at (w : Vec Ideal S1x1024x256 .f32) (wg : Vec Ideal S1x1x256x256 .f32) (s : Vec Ideal S1x1x256 .f32) (k : Fin 1024) (c : Fin 256) :
    k1_pay3 w wg s (ix3 0 k c) = (∑ j : Fin 256, w (ix3 0 k j) * wg (ix4 0 0 j c)) * s (ix3 0 0 c) := by
  pointwise [k1_pay3]

theorem pay4_eq (w : Vec Ideal S1x1024x256 .f32) (wg : Vec Ideal S1x1x256x256 .f32) (s : Vec Ideal S1x1x256 .f32) : k1_pay4 w wg s = k1_pay3 w wg s := rfl
theorem pay5_eq (w : Vec Ideal S1x1024x256 .f32) (wg : Vec Ideal S1x1x256x256 .f32) (s : Vec Ideal S1x1x256 .f32) : k1_pay5 w wg s = k1_pay3 w wg s := rfl
theorem pay6_eq (w : Vec Ideal S1x1024x256 .f32) (wg : Vec Ideal S1x1x256x256 .f32) (s : Vec Ideal S1x1x256 .f32) : k1_pay6 w wg s = k1_pay3 w wg s := rfl

theorem fold_group (x0 : Vec Ideal S1x1024x2048 .f32) (x1 : Vec Ideal S1x4x256x256 .f32) (x2 : Vec Ideal S1x1x1024 .f32) (k : Fin 1024) (g : Fin 4) (c : Fin 256) (q : Fin 1024)
    (hq : q.val = g.val * 256 + c.val) :
    Pool.fold (fun k j => x0 (ix3 0 k j)) (fun g a b => x1 (ix4 0 g a b)) (fun c => x2 (ix3 0 0 c)) k q
      = (∑ j : Fin 256, x0 (ix3 0 k ⟨g.val * 256 + j.val, by omega⟩) * x1 (ix4 0 g j c)) * x2 (ix3 0 0 q) := by
  have eg : Pool.grp q = g := Fin.ext (by simp only [Pool.grp]; omega)
  have eo : Pool.off q = c := Fin.ext (by simp only [Pool.off]; omega)
  unfold Pool.fold
  rw [eg, eo]
  rfl

theorem out4_at (x0 : Vec Ideal S1x1024x2048 .f32) (x1 : Vec Ideal S1x4x256x256 .f32) (x2 : Vec Ideal S1x1x1024 .f32) (x3 : Vec Ideal S1x1024x1024 .f32) (k q : Fin 1024) :
    out1_4 x0 x1 x2 x3 (ix3 0 k q) = Pool.fold (fun k j => x0 (ix3 0 k j)) (fun g a b => x1 (ix4 0 g a b)) (fun c => x2 (ix3 0 0 c)) k q := by
  unfold out1_4
  rw [pay4_eq, pay5_eq, pay6_eq]
  canon_tiles x h
  all_goals
    obtain ⟨c, rfl⟩ : ∃ c : Fin 256, x = ix3 0 k c := ⟨⟨(x 2).val, x2_lt⟩, by
      funext a
      match a with
      | ⟨0, _⟩ => exact Subsingleton.elim (α := Fin 1) _ _
      | ⟨1, _⟩ => exact Fin.ext h1.symm
      | ⟨2, _⟩ => rfl⟩
    rw [pay_at]
  · rw [fold_group x0 x1 x2 k 3 c q (h2.trans (by rfl))]
    pointwise
    rw [show (⟨768 + c.val, by omega⟩ : Fin 1024) = q from Fin.ext h2.symm]
  · rw [fold_group x0 x1 x2 k 2 c q (h2.trans (by rfl))]
    pointwise
    rw [show (⟨512 + c.val, by omega⟩ : Fin 1024) = q from Fin.ext h2.symm]
  · rw [fold_group x0 x1 x2 k 1 c q (h2.trans (by rfl))]
    pointwise
    rw [show (⟨256 + c.val, by omega⟩ : Fin 1024) = q from Fin.ext h2.symm]
  · rw [fold_group x0 x1 x2 k 0 c q (h2.trans (Nat.zero_add _).symm)]
    pointwise
    rw [show (⟨c.val, by omega⟩ : Fin 1024) = q from Fin.ext h2.symm]

theorem out5_at (x0 : Vec Ideal S1x1024x2048 .f32) (x1 : Vec Ideal S1x4x256x256 .f32) (x2 : Vec Ideal S1x1x1024 .f32) (x3 : Vec Ideal S1x1024x1024 .f32) (k q : Fin 1024) :
    out1_5 x0 x1 x2 x3 (ix3 0 k q) = x0 (ix3 0 k ⟨1024 + q.val, by omega⟩) := by
  unfold out1_5
  frame_out
  pointwise [k1_pay1, k1_pay7]

theorem out6_at (x0 : Vec Ideal S1x1024x2048 .f32) (x1 : Vec Ideal S1x4x256x256 .f32) (x2 : Vec Ideal S1x1x1024 .f32) (x3 : Vec Ideal S1x1024x1024 .f32) (k q : Fin 1024) :
    out1_6 x0 x1 x2 x3 (ix3 0 k q) = x3 (ix3 0 k q) := by
  unfold out1_6
  frame_out
  pointwise [k1_pay2]

theorem idx : ∀ t : Fin cfg1.N, win1_0.index t = ![t.val, 0, 0] ∧ win1_1.index t = ![t.val, 0, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0] := by decide +kernel

variable (m : (ℓ : Loc nD τ sig) → Buf (Elt Ideal) ℓ) (ρ : Dev nD → PrngReg)

theorem ix_row (y : S1x1024x1024.Idx) : ∃ (r d : Fin 1024), y = ix3 0 r d := ⟨y 1, y 2, by
    funext a
    match a with
    | ⟨0, _⟩ => exact Subsingleton.elim (α := Fin 1) _ _
    | ⟨1, _⟩ => rfl
    | ⟨2, _⟩ => rfl⟩

set_option maxHeartbeats 4000000 in
theorem array4 (c : Dev nD) : (dat1 (V3 m ρ) c).arrAt 4 cfg1.N = fun i : S2x1024x1024.Idx =>
    Pool.fold (fun k j => V3 m ρ c main_arg6 (ix3 (i 0) k j)) (fun g a b => V3 m ρ c main_arg7 (ix4 (i 0) g a b)) (fun q => V3 m ρ c main_v9 (ix3 (i 0) 0 q)) (i 1) (i 2) := by
  refine (dat1 (V3 m ρ) c).arrAt_eq_of_covers 4 _ (by decide +kernel) fun t _ y => ?_
  blk_simp
  rw [after1_4]
  obtain ⟨r, d, rfl⟩ := ix_row y
  have ht : t.val < 2 := t.isLt
  generalize hb : (⟨t.val, ht⟩ : Fin 2) = b
  have hbv : b.val = t.val := by rw [← hb]
  have hy : (win1_4.blk t).view.emb (ix3 0 r d) = ix3 b r d := by blk_ext [idx t]
  have h0 : ∀ k j, iblk1 (V3 m ρ) c 0 t (ix3 0 k j) = V3 m ρ c main_arg6 (ix3 b k j) := fun k j => by blk_ext [iblk1, idx t]
  have h1 : ∀ g i j, iblk1 (V3 m ρ) c 1 t (ix4 0 g i j) = V3 m ρ c main_arg7 (ix4 b g i j) := fun g i j => by blk_ext [iblk1, idx t]
  have h2 : ∀ k, iblk1 (V3 m ρ) c 2 t (ix3 0 0 k) = V3 m ρ c main_v9 (ix3 b 0 k) := fun k => by blk_ext [iblk1, idx t]
  rw [hy]
  refine (out4_at _ _ _ _ r d).trans ?_
  simp only [h0, h1, h2]
  rfl

/-- The right half of the wide projection's columns. -/
def right (w : FVec Ideal S2x1024x2048 .f32) (l : Fin 2) (k q : Fin 1024) : EReal := w (ix3 l k ⟨1024 + q.val, by omega⟩)

set_option maxHeartbeats 4000000 in
theorem array5 (c : Dev nD) : (dat1 (V3 m ρ) c).arrAt 5 cfg1.N = fun i : S2x1024x1024.Idx =>
    right (V3 m ρ c main_arg6) (i 0) (i 1) (i 2) := by
  refine (dat1 (V3 m ρ) c).arrAt_eq_of_covers 5 _ (by decide +kernel) fun t _ y => ?_
  blk_simp
  rw [after1_5]
  obtain ⟨r, d, rfl⟩ := ix_row y
  have ht : t.val < 2 := t.isLt
  generalize hb : (⟨t.val, ht⟩ : Fin 2) = b
  have hbv : b.val = t.val := by rw [← hb]
  have hy : (win1_5.blk t).view.emb (ix3 0 r d) = ix3 b r d := by blk_ext [idx t]
  have h0 : ∀ k j, iblk1 (V3 m ρ) c 0 t (ix3 0 k j) = V3 m ρ c main_arg6 (ix3 b k j) := fun k j => by blk_ext [iblk1, idx t]
  rw [hy]
  refine (out5_at _ _ _ _ r d).trans ?_
  rw [h0]
  rfl

set_option maxHeartbeats 4000000 in
theorem array6 (c : Dev nD) : (dat1 (V3 m ρ) c).arrAt 6 cfg1.N = fun i : S2x1024x1024.Idx => V3 m ρ c main_arg9 (ix3 (i 0) (i 1) (i 2)) := by
  refine (dat1 (V3 m ρ) c).arrAt_eq_of_covers 6 _ (by decide +kernel) fun t _ y => ?_
  blk_simp
  rw [after1_6]
  obtain ⟨r, d, rfl⟩ := ix_row y
  have ht : t.val < 2 := t.isLt
  generalize hb : (⟨t.val, ht⟩ : Fin 2) = b
  have hbv : b.val = t.val := by rw [← hb]
  have hy : (win1_6.blk t).view.emb (ix3 0 r d) = ix3 b r d := by blk_ext [idx t]
  have h0 : ∀ k j, iblk1 (V3 m ρ) c 3 t (ix3 0 k j) = V3 m ρ c main_arg9 (ix3 b k j) := fun k j => by blk_ext [iblk1, idx t]
  rw [hy]
  refine (out6_at _ _ _ _ r d).trans ?_
  rw [h0]
  rfl

end Cert.PoolIdeal.Fold

end
-- ==== Proof.PoolBlock.lean ====
module

public import proofs.«01_k».proof.Proof.Gen.PoolIdeal.Frame
public import proofs.«01_k».proof.Proof.PoolSpec
public import Idealize.ShloMosaic.Lib.Pipeline.ValueKit

/-! # The pooling layer's block, read at an index -/

@[expose] public section

set_option maxRecDepth 16384

noncomputable section

namespace Cert.PoolIdeal.Block

open Cert.PoolIdeal Cert.PoolIdeal.Gen
open Idealize.ShloMosaic Idealize.ShloMosaic.TcCoe Idealize.SL.Sem
open Cert.Layer

/-- The rows a grid point reads: eight above its tile, the tile, eight below. -/
def rows (v4 : Vec Ideal S1x8x1024 .f32) (v6 : Vec Ideal S1x1024x1024 .f32) (v8 : Vec Ideal S1x8x1024 .f32) (r : Fin 1040) (k : Fin 1024) : EReal :=
  if h : r.val < 8 then v4 (ix3 0 ⟨r.val, h⟩ k) else if h' : r.val - 8 < 1024 then v6 (ix3 0 ⟨r.val - 8, h'⟩ k)
    else v8 (ix3 0 ⟨r.val - 8 - 1024, by omega⟩ k)

theorem pay2_at (v0 v2 : Vec Ideal S1x1x1x1024 .f32) (v4 : Vec Ideal S1x8x1024 .f32) (v6 : Vec Ideal S1x1024x1024 .f32) (v8 : Vec Ideal S1x8x1024 .f32)
    (v11 : Vec Ideal S1x1x1024 .f32) (r : Fin 1040) (k : Fin 1024) :
    k2_pay2 v0 v2 v4 v6 v8 v11 (ix2 r k) = nrm (rows v4 v6 v8 r) (fun k => v11 (ix3 0 0 k)) (fun k => v0 (ix4 0 0 0 k)) (fun k => v2 (ix4 0 0 0 k)) k := by
  pointwise [k2_pay2, nrm, rms, rows]

/-- One where the tile has a tile above it, else zero. -/
def above (a : BitVec 32) : EReal := Scalar.sitofp (F := Ideal) .f32 (Scalar.extui (Scalar.cmpi .sgt a 0#32) : BitVec 32)
/-- One where the tile has a tile below it, else zero. -/
def below (a : BitVec 32) : EReal := Scalar.sitofp (F := Ideal) .f32 (Scalar.extui (Scalar.cmpi .slt a 1#32) : BitVec 32)

/-- The folded projection on all rows a grid point reads. -/
def tV (he : FVec Ideal S1040x1024 .bf16) (w : Vec Ideal S1x1024x1024 .bf16) : FVec Ideal S1040x1024 .f32 :=
  matmul dot_S1040x1024_S1024x1024_S1040x1024_1_0_0_1_n_n none he (shapeCast (s := S1x1024x1024) (α := Ideal .bf16) S1024x1024 w shapeCasts_S1x1024x1024_S1024x1024)
    (constant S1040x1024 .f32 0x00000000#32)

/-- The same with the rows outside the sequence set to zero: `lo` and `hi` are one inside it and zero at its ends. -/
def edgeV (lo hi : EReal) (z : FVec Ideal S1040x1024 .f32) : FVec Ideal S1040x1024 .f32 :=
  concatenate S1040x1024 0
    [⟨S8x1024, mulf (extractStridedSlice S8x1024 ![0, 0] z slices_S1040x1024_o0_0_S8x1024) (broadcast S8x1024 (lo : Ideal .f32))⟩,
     ⟨S1024x1024, extractStridedSlice S1024x1024 ![8, 0] z slices_S1040x1024_o8_0_S1024x1024⟩,
     ⟨S8x1024, mulf (extractStridedSlice S8x1024 ![1032, 0] z slices_S1040x1024_o1032_0_S8x1024) (broadcast S8x1024 (hi : Ideal .f32))⟩]
    concatenates_S8x1024_S1024x1024_S8x1024_S1040x1024_d0

theorem tV_at (he : FVec Ideal S1040x1024 .bf16) (w : Vec Ideal S1x1024x1024 .bf16) (r : Fin 1040) (c : Fin 1024) :
    tV he w (ix2 r c) = ∑ k : Fin 1024, he (ix2 r k) * w (ix3 0 k c) := by
  pointwise [tV]

theorem edgeV_at (lo hi : EReal) (z : FVec Ideal S1040x1024 .f32) (r : Fin 1040) (c : Fin 1024) :
    edgeV lo hi z (ix2 r c) = if r.val < 8 then z (ix2 r c) * lo else if r.val < 1032 then z (ix2 r c) else z (ix2 r c) * hi := by
  pointwise [edgeV]
  by_cases h : r.val < 8
  · rw [dif_pos h, if_pos h]
  by_cases h' : r.val < 1032
  · rw [dif_neg h, dif_pos (by omega), if_neg h, if_pos h']
    exact congrArg (fun q : Fin 1040 => z (ix2 q c)) (Fin.ext (by show 8 + (r.val - 8) = r.val; omega))
  · rw [dif_neg h, dif_neg (by omega), if_neg h, if_neg h']
    exact congrArg (fun q : Fin 1040 => z (ix2 q c) * hi) (Fin.ext (by show 1032 + (r.val - 8 - 1024) = r.val; omega))

theorem pay5_eq (a : BitVec 32) (he : FVec Ideal S1040x1024 .bf16) (w : Vec Ideal S1x1024x1024 .bf16) :
    k2_pay5 a he w = edgeV (above a) (below a) (tV he w) := rfl

/-! ## The window sums -/

/-- The sum over the window of two rows. -/
def sum1 (e : FVec Ideal S1040x256 .f32) : FVec Ideal S1024x256 .f32 :=
  extractStridedSlice S1024x256 ![8, 0] (addf (dynamicRotate 0 1#32 none e rotates_S1040x256_d0) e) slices_S1040x256_o8_0_S1024x256
/-- Each row plus the row below it. -/
def two (e : FVec Ideal S1040x256 .f32) : FVec Ideal S1040x256 .f32 := addf e (dynamicRotate 0 1039#32 none e rotates_S1040x256_d0)
/-- Each row plus the three rows below it. -/
def four (e : FVec Ideal S1040x256 .f32) : FVec Ideal S1040x256 .f32 := addf (two e) (dynamicRotate 0 1038#32 none (two e) rotates_S1040x256_d0)
/-- The sum over the window of four rows. -/
def sum2 (e : FVec Ideal S1040x256 .f32) : FVec Ideal S1024x256 .f32 :=
  extractStridedSlice S1024x256 ![8, 0] (addf (dynamicRotate 0 2#32 none (two e) rotates_S1040x256_d0) (two e)) slices_S1040x256_o8_0_S1024x256
/-- The sum over the window of eight rows. -/
def sum4 (e : FVec Ideal S1040x256 .f32) : FVec Ideal S1024x256 .f32 :=
  extractStridedSlice S1024x256 ![8, 0] (addf (dynamicRotate 0 4#32 none (four e) rotates_S1040x256_d0) (four e)) slices_S1040x256_o8_0_S1024x256
/-- The sum over the window of sixteen rows. -/
def sum8 (e : FVec Ideal S1040x256 .f32) : FVec Ideal S1024x256 .f32 := k2_pay26 (four e)

theorem two_at (e : FVec Ideal S1040x256 .f32) (r : Fin 1040) (c : Fin 256) (h : r.val < 1039) :
    two e (ix2 r c) = e (ix2 r c) + e (ix2 ⟨r.val + 1, by omega⟩ c) := by
  pointwise [two]
  rw [show (⟨(r.val + 1040 - 1039) % 1040, by omega⟩ : Fin 1040) = ⟨r.val + 1, by omega⟩ from Fin.ext (by simp only; omega)]

theorem four_at (e : FVec Ideal S1040x256 .f32) (r : Fin 1040) (c : Fin 256) (h : r.val < 1037) :
    four e (ix2 r c) = two e (ix2 r c) + two e (ix2 ⟨r.val + 2, by omega⟩ c) := by
  unfold four
  generalize two e = f
  pointwise
  rw [show (⟨(r.val + 1040 - 1038) % 1040, by omega⟩ : Fin 1040) = ⟨r.val + 2, by omega⟩ from Fin.ext (by simp only; omega)]

theorem sum1_at (e : FVec Ideal S1040x256 .f32) (E : Nat → EReal) (c : Fin 256) (hE : ∀ r : Fin 1040, e (ix2 r c) = E r.val) (r : Fin 1024) :
    sum1 e (ix2 r c) = ∑ k ∈ Finset.range 2, E (r.val + 8 - 1 + k) := by
  have e0 : sum1 e (ix2 r c) = e (ix2 ⟨7 + r.val, by omega⟩ c) + e (ix2 ⟨8 + r.val, by omega⟩ c) := by
    pointwise [sum1]
    rw [show (⟨(8 + r.val + 1040 - 1) % 1040, by omega⟩ : Fin 1040) = ⟨7 + r.val, by omega⟩ from Fin.ext (by simp only; omega)]
  rw [e0]
  simp only [hE, Finset.sum_range_succ, Finset.sum_range_zero, zero_add]
  exact congrArg₂ (· + ·) (congrArg E (by omega)) (congrArg E (by omega))

theorem two_sum (e : FVec Ideal S1040x256 .f32) (E : Nat → EReal) (c : Fin 256) (hE : ∀ r : Fin 1040, e (ix2 r c) = E r.val) (r : Fin 1040) (h : r.val < 1039) :
    two e (ix2 r c) = ∑ k ∈ Finset.range 2, E (r.val + k) := by
  rw [two_at _ _ _ h]
  simp only [hE, Finset.sum_range_succ, Finset.sum_range_zero, zero_add, add_zero]

theorem sum2_at (e : FVec Ideal S1040x256 .f32) (E : Nat → EReal) (c : Fin 256) (hE : ∀ r : Fin 1040, e (ix2 r c) = E r.val) (r : Fin 1024) :
    sum2 e (ix2 r c) = ∑ k ∈ Finset.range 4, E (r.val + 8 - 2 + k) := by
  have e0 : sum2 e (ix2 r c) = two e (ix2 ⟨6 + r.val, by omega⟩ c) + two e (ix2 ⟨8 + r.val, by omega⟩ c) := by
    unfold sum2
    generalize two e = f
    pointwise
    rw [show (⟨(8 + r.val + 1040 - 2) % 1040, by omega⟩ : Fin 1040) = ⟨6 + r.val, by omega⟩ from Fin.ext (by simp only; omega)]
  rw [e0, two_sum e E c hE _ (by simp only; omega), two_sum e E c hE _ (by simp only; omega), Finset.sum_range_add _ 2 2]
  congr 1 <;> exact Finset.sum_congr rfl fun k _ => congrArg E (by dsimp only; omega)

theorem four_sum (e : FVec Ideal S1040x256 .f32) (E : Nat → EReal) (c : Fin 256) (hE : ∀ r : Fin 1040, e (ix2 r c) = E r.val) (r : Fin 1040) (h : r.val < 1037) :
    four e (ix2 r c) = ∑ k ∈ Finset.range 4, E (r.val + k) := by
  rw [four_at _ _ _ h, two_at _ _ _ (by omega), two_at _ _ _ (by simp only; omega)]
  simp only [hE, Finset.sum_range_succ, Finset.sum_range_zero, zero_add, add_assoc, add_zero]

theorem sum4_at (e : FVec Ideal S1040x256 .f32) (E : Nat → EReal) (c : Fin 256) (hE : ∀ r : Fin 1040, e (ix2 r c) = E r.val) (r : Fin 1024) :
    sum4 e (ix2 r c) = ∑ k ∈ Finset.range 8, E (r.val + 8 - 4 + k) := by
  have e0 : sum4 e (ix2 r c) = four e (ix2 ⟨4 + r.val, by omega⟩ c) + four e (ix2 ⟨8 + r.val, by omega⟩ c) := by
    unfold sum4
    generalize four e = f
    pointwise
    rw [show (⟨(8 + r.val + 1040 - 4) % 1040, by omega⟩ : Fin 1040) = ⟨4 + r.val, by omega⟩ from Fin.ext (by simp only; omega)]
  rw [e0, four_sum e E c hE _ (by simp only; omega), four_sum e E c hE _ (by simp only; omega), Finset.sum_range_add _ 4 4]
  congr 1 <;> exact Finset.sum_congr rfl fun k _ => congrArg E (by dsimp only; omega)

theorem sum8_at (e : FVec Ideal S1040x256 .f32) (E : Nat → EReal) (c : Fin 256) (hE : ∀ r : Fin 1040, e (ix2 r c) = E r.val) (r : Fin 1024) :
    sum8 e (ix2 r c) = ∑ k ∈ Finset.range 16, E (r.val + 8 - 8 + k) := by
  have e0 : sum8 e (ix2 r c) = (four e (ix2 ⟨r.val, by omega⟩ c) + four e (ix2 ⟨r.val + 4, by omega⟩ c))
      + (four e (ix2 ⟨8 + r.val, by omega⟩ c) + four e (ix2 ⟨8 + r.val + 4, by omega⟩ c)) := by
    unfold sum8
    generalize four e = f
    pointwise [k2_pay26]
    rw [show (⟨(r.val + 1040 - 1036) % 1040, by omega⟩ : Fin 1040) = ⟨r.val + 4, by omega⟩ from Fin.ext (by simp only; omega),
      show (⟨(8 + r.val + 1040 - 1036) % 1040, by omega⟩ : Fin 1040) = ⟨8 + r.val + 4, by omega⟩ from Fin.ext (by simp only; omega)]
  rw [e0, four_sum e E c hE _ (by simp only; omega), four_sum e E c hE _ (by simp only; omega), four_sum e E c hE _ (by simp only; omega),
    four_sum e E c hE _ (by simp only; omega), Finset.sum_range_add _ 8 8, Finset.sum_range_add _ 4 4, Finset.sum_range_add _ 4 4]
  congr 1 <;> congr 1 <;> exact Finset.sum_congr rfl fun k _ => congrArg E (by dsimp only; omega)

/-! ## The window means -/

/-- One over the number of rows of the window in the sequence, at the eight rows from `first` on. -/
def inv (a first hw : BitVec 32) : FVec Ideal S8x1 .f32 :=
  let t : IVec S8x1 32 := addi (iota .tc S8x1 32 [0] iota_S8x1_d0_w32) (broadcast S8x1 (Scalar.addi (Scalar.muli a 1024#32) first))
  divf (broadcast S8x1 (Scalar.ofBits .f32 0x3F800000#32))
    (sitofp .f32 (subi (minsi (addi t (broadcast S8x1 hw)) (broadcast S8x1 2048#32)) (maxsi (subi t (broadcast S8x1 hw)) (broadcast S8x1 0#32))))

/-- The means less the rows themselves. -/
def meanV (a hw wi : BitVec 32) (s : FVec Ideal S1024x256 .f32) (e : FVec Ideal S1040x256 .f32) : FVec Ideal S1024x256 .f32 :=
  subf (concatenate S1024x256 0
    [⟨S8x256, mulf (extractStridedSlice S8x256 ![0, 0] s slices_S1024x256_o0_0_S8x256) (broadcastTo S8x256 (inv a 0#32 hw) broadcasts_S8x1_S8x256)⟩,
     ⟨S1008x256, mulf (extractStridedSlice S1008x256 ![8, 0] s slices_S1024x256_o8_0_S1008x256) (broadcast S1008x256 (Scalar.ofBits .f32 wi))⟩,
     ⟨S8x256, mulf (extractStridedSlice S8x256 ![1016, 0] s slices_S1024x256_o1016_0_S8x256) (broadcastTo S8x256 (inv a 1016#32 hw) broadcasts_S8x1_S8x256)⟩]
    concatenates_S8x256_S1008x256_S8x256_S1024x256_d0) (extractStridedSlice S1024x256 ![8, 0] e slices_S1040x256_o8_0_S1024x256)

/-- The count of rows as the words hold it. -/
def cntW (a first hw : BitVec 32) (r : Nat) : BitVec 32 :=
  IntOp.minsi (BitVec.ofNat 32 r + (a * 1024#32 + first) + hw) 2048#32 - IntOp.maxsi (BitVec.ofNat 32 r + (a * 1024#32 + first) - hw) 0#32

theorem cntW_lo : ∀ (i : Fin 2) (g : Fin 4) (r : Fin 8), cntW (BitVec.ofNat 32 i.val) 0#32 (BitVec.ofNat 32 (2 ^ g.val)) r.val
    = BitVec.ofNat 32 (Pool.cnt (2 ^ g.val) (i.val * 1024 + r.val)) := by decide +kernel
theorem cntW_hi : ∀ (i : Fin 2) (g : Fin 4) (r : Fin 8), cntW (BitVec.ofNat 32 i.val) 1016#32 (BitVec.ofNat 32 (2 ^ g.val)) r.val
    = BitVec.ofNat 32 (Pool.cnt (2 ^ g.val) (i.val * 1024 + (1016 + r.val))) := by decide +kernel

theorem inv_at (a first hw : BitVec 32) (r : Fin 8) : inv a first hw (ix2 r 0) = Ideal.div 1 ((((cntW a first hw r.val).toInt : ℝ)) : EReal) := by
  pointwise [inv]
  rfl

theorem toInt_cnt (h l : Nat) : (BitVec.ofNat 32 (Pool.cnt h l)).toInt = (Pool.cnt h l : Int) := by
  have hc : Pool.cnt h l ≤ 2048 := by unfold Pool.cnt; omega
  rw [BitVec.toInt_eq_toNat_of_lt (by rw [BitVec.toNat_ofNat]; omega), BitVec.toNat_ofNat, Nat.mod_eq_of_lt (by omega)]

theorem meanV_at (i : Fin 2) (g : Fin 4) (wi : BitVec 32) (hw : Ideal.ofBits .f32 wi = Ideal.div 1 (((2 * 2 ^ g.val : Nat) : ℝ) : EReal))
    (s : FVec Ideal S1024x256 .f32) (e : FVec Ideal S1040x256 .f32) (r : Fin 1024) (c : Fin 256) :
    meanV (BitVec.ofNat 32 i.val) (BitVec.ofNat 32 (2 ^ g.val)) wi s e (ix2 r c)
      = s (ix2 r c) * Ideal.div 1 ((Pool.cnt (2 ^ g.val) (i.val * 1024 + r.val) : ℝ) : EReal) - e (ix2 ⟨8 + r.val, by omega⟩ c) := by
  have i1 : ∀ q : Fin 8, inv (BitVec.ofNat 32 i.val) 0#32 (BitVec.ofNat 32 (2 ^ g.val)) (ix2 q 0) = Ideal.div 1 ((Pool.cnt (2 ^ g.val) (i.val * 1024 + q.val) : ℝ) : EReal) := fun q => by
    rw [inv_at, cntW_lo, toInt_cnt]
    rfl
  have i2 : ∀ q : Fin 8, inv (BitVec.ofNat 32 i.val) 1016#32 (BitVec.ofNat 32 (2 ^ g.val)) (ix2 q 0) = Ideal.div 1 ((Pool.cnt (2 ^ g.val) (i.val * 1024 + (1016 + q.val)) : ℝ) : EReal) := fun q => by
    rw [inv_at, cntW_hi, toInt_cnt]
    rfl
  unfold meanV
  generalize inv (BitVec.ofNat 32 i.val) 0#32 (BitVec.ofNat 32 (2 ^ g.val)) = u at i1 ⊢
  generalize inv (BitVec.ofNat 32 i.val) 1016#32 (BitVec.ofNat 32 (2 ^ g.val)) = v at i2 ⊢
  pointwise
  congr 1
  by_cases h : r.val < 8
  · rw [dif_pos h, i1]
  by_cases h' : r.val < 1016
  · have ec : Pool.cnt (2 ^ g.val) (i.val * 1024 + r.val) = 2 * 2 ^ g.val := by
      have hg : 2 ^ g.val ≤ 8 := by
        have : ∀ g : Fin 4, 2 ^ g.val ≤ 8 := by decide
        exact this g
      unfold Pool.cnt
      omega
    rw [dif_neg h, dif_pos (by omega), hw, ec]
    exact congrArg (fun q : Fin 1024 => s (ix2 q c) * _) (Fin.ext (by show 8 + (r.val - 8) = r.val; omega))
  · rw [dif_neg h, dif_neg (by omega), i2]
    have e1 : (⟨1016 + (r.val - 8 - 1008), by omega⟩ : Fin 1024) = r := Fin.ext (by show 1016 + (r.val - 8 - 1008) = r.val; omega)
    have e2 : i.val * 1024 + (1016 + (r.val - 8 - 1008)) = i.val * 1024 + r.val := by omega
    rw [e1]
    dsimp only
    rw [e2]

theorem pay11_eq (a : BitVec 32) (he : FVec Ideal S1040x1024 .bf16) (w : Vec Ideal S1x1024x1024 .bf16) :
    k2_pay11 a (k2_pay7 a he w) (k2_pay8 a he w) (iota .tc S8x1 32 [0] iota_S8x1_d0_w32) (k2_pay9 a he w) (k2_pay10 (F := Ideal) a)
      = meanV a 1#32 0x3F000000#32 (sum1 (extractStridedSlice S1040x256 ![0, 0] (k2_pay5 a he w) slices_S1040x1024_o0_0_S1040x256))
          (extractStridedSlice S1040x256 ![0, 0] (k2_pay5 a he w) slices_S1040x1024_o0_0_S1040x256) := rfl

theorem pay18_eq (a : BitVec 32) (z : FVec Ideal S1040x1024 .f32) :
    k2_pay18 a (k2_pay12 z) (k2_pay13 z) (iota .tc S8x1 32 [0] iota_S8x1_d0_w32) (k2_pay14 z) (k2_pay16 a) (k2_pay17 a) 0#32
      = meanV a 2#32 0x3E800000#32 (sum2 (k2_pay12 z)) (k2_pay12 z) := rfl

theorem pay23_eq (a : BitVec 32) (z : FVec Ideal S1040x1024 .f32) :
    k2_pay23 a (k2_pay19 z) (k2_pay20 z) (iota .tc S8x1 32 [0] iota_S8x1_d0_w32) (k2_pay21 z) (k2_pay22 a)
      = meanV a 4#32 0x3E000000#32 (sum4 (k2_pay19 z)) (k2_pay19 z) := rfl

/-- The four groups side by side. -/
def mixV (m0 m1 m2 m3 : FVec Ideal S1024x256 .f32) : FVec Ideal S1024x1024 .f32 :=
  concatenate S1024x1024 1 [⟨S1024x256, m0⟩, ⟨S1024x256, m1⟩, ⟨S1024x256, m2⟩, ⟨S1024x256, m3⟩] concatenates_S1024x256_S1024x256_S1024x256_S1024x256_S1024x1024_d1

/-- The gated residual. -/
def resV (g mix : FVec Ideal S1024x1024 .f32) (wo : Vec Ideal S1x1024x1024 .bf16) (x : Vec Ideal S1x1024x1024 .f32) (gate : Vec Ideal S1x1x1x1024 .f32) : FVec Ideal S1024x1024 .f32 :=
  addf (shapeCast S1024x1024 x shapeCasts_S1x1024x1024_S1024x1024)
    (mulf (broadcastTo S1024x1024 (shapeCast S1x1024 gate shapeCasts_S1x1x1x1024_S1x1024) broadcasts_S1x1024_S1024x1024)
      (matmul dot_S1024x1024_S1024x1024_S1024x1024_1_0_0_1_n_n none
        (truncf .bf16 (mulf mix (divf g (addf (broadcast S1024x1024 (Scalar.ofBits .f32 0x3F800000#32)) (exp (subf (broadcast S1024x1024 (Scalar.ofBits .f32 0x00000000#32)) g))))) bitsLt_bf16_f32)
        (shapeCast (s := S1x1024x1024) (α := Ideal .bf16) S1024x1024 wo shapeCasts_S1x1024x1024_S1024x1024) (constant S1024x1024 .f32 0x00000000#32)))

/-- The final normalisation. -/
def finV (y : FVec Ideal S1024x1024 .f32) (fg : Vec Ideal S1x1024 .f32) : FVec Ideal S1024x1024 .f32 :=
  mulf (mulf y (broadcastTo S1024x1024 (rsqrt (addf (divf (shapeCast S1024x1 (multiReduction .add [1] S1024 (mulf y y) 0x00000000#32 reduces_S1024x1024_S1024 (.inl rfl) rfl) shapeCasts_S1024_S1024x1)
      (broadcast S1024x1 (Scalar.ofBits .f32 0x44800000#32))) (broadcast S1024x1 (Scalar.ofBits .f32 0x358637BD#32)))) broadcasts_S1024x1_S1024x1024))
    (broadcastTo S1024x1024 (shapeCast S1x1024 fg shapeCasts_S1x1024_S1x1024) broadcasts_S1x1024_S1024x1024)

theorem pay32_eq (a : BitVec 32) (g : FVec Ideal S1024x1024 .f32) (m0 m1 m2 : FVec Ideal S1024x256 .f32) (z : FVec Ideal S1040x1024 .f32)
    (wo : Vec Ideal S1x1024x1024 .bf16) (x : Vec Ideal S1x1024x1024 .f32) (gate : Vec Ideal S1x1x1x1024 .f32) (fg : Vec Ideal S1x1024 .f32) :
    k2_pay32 g m0 m1 m2 (k2_pay24 z) (k2_pay27 a (k2_pay25 z)) (k2_pay28 (k2_pay25 z)) (k2_pay29 (k2_pay25 z)) (k2_pay30 (F := Ideal) a) (k2_pay31 (F := Ideal)) wo x gate fg
      = finV (resV g (mixV m0 m1 m2 (meanV a 8#32 0x3D800000#32 (sum8 (k2_pay24 z)) (k2_pay24 z))) wo x gate) fg := rfl

theorem finV_at (y : FVec Ideal S1024x1024 .f32) (fg : Vec Ideal S1x1024 .f32) (r d : Fin 1024) :
    finV y fg (ix2 r d) = y (ix2 r d) * rms (fun k => y (ix2 r k)) * fg (ix2 0 d) := by
  pointwise [finV, rms]

theorem resV_at (g mix : FVec Ideal S1024x1024 .f32) (wo : Vec Ideal S1x1024x1024 .bf16) (x : Vec Ideal S1x1024x1024 .f32) (gate : Vec Ideal S1x1x1x1024 .f32) (r d : Fin 1024) :
    resV g mix wo x gate (ix2 r d) = Pool.res (fun d => x (ix3 0 r d)) (fun d => gate (ix4 0 0 0 d)) (fun c => mix (ix2 r c)) (fun c => g (ix2 r c)) (fun c d => wo (ix3 0 c d)) d := by
  pointwise [resV, Pool.res]
  simp only [div_eq_silu]

theorem mixV_at (m0 m1 m2 m3 : FVec Ideal S1024x256 .f32) (r c : Fin 1024) (v : EReal)
    (h0 : Pool.grp c = 0 → m0 (ix2 r (Pool.off c)) = v) (h1 : Pool.grp c = 1 → m1 (ix2 r (Pool.off c)) = v)
    (h2 : Pool.grp c = 2 → m2 (ix2 r (Pool.off c)) = v) (h3 : Pool.grp c = 3 → m3 (ix2 r (Pool.off c)) = v) :
    mixV m0 m1 m2 m3 (ix2 r c) = v := by
  pointwise [mixV]
  have hg : ∀ g : Nat, (hg : g < 4) → c.val / 256 = g → Pool.grp c = ⟨g, hg⟩ := fun g hg h => Fin.ext h
  split
  · rw [← h0 (hg 0 (by omega) (by omega))]
    exact congrArg (fun q => m0 (ix2 r q)) (Fin.ext (by show c.val = c.val % 256; omega))
  split
  · rw [← h1 (hg 1 (by omega) (by omega))]
    exact congrArg (fun q => m1 (ix2 r q)) (Fin.ext (by show c.val - 256 = c.val % 256; omega))
  split
  · rw [← h2 (hg 2 (by omega) (by omega))]
    exact congrArg (fun q => m2 (ix2 r q)) (Fin.ext (by show c.val - 256 - 256 = c.val % 256; omega))
  · rw [← h3 (hg 3 (by omega) (by omega))]
    exact congrArg (fun q => m3 (ix2 r q)) (Fin.ext (by show c.val - 256 - 256 - 256 = c.val % 256; omega))

theorem mean_at (i : Fin 2) (g : Fin 4) (hw wi : BitVec 32) (hW : hw = BitVec.ofNat 32 (2 ^ g.val)) (hwi : Ideal.ofBits .f32 wi = Ideal.div 1 (((2 * 2 ^ g.val : Nat) : ℝ) : EReal))
    (s : FVec Ideal S1024x256 .f32) (e : FVec Ideal S1040x256 .f32) (c : Fin 256) (E : Nat → EReal) (he : ∀ n : Fin 1040, e (ix2 n c) = E n.val) (r : Fin 1024)
    (hs : s (ix2 r c) = ∑ k ∈ Finset.range (2 * Pool.half g), E (r.val + 8 - Pool.half g + k)) :
    meanV (BitVec.ofNat 32 i.val) hw wi s e (ix2 r c) = (∑ k ∈ Finset.range (2 * Pool.half g), E (r.val + 8 - Pool.half g + k))
      * Ideal.div 1 ((Pool.cnt (Pool.half g) (i.val * 1024 + r.val) : ℝ) : EReal) - E (8 + r.val) := by
  rw [hW, meanV_at i g wi hwi, he, hs]
  rfl

theorem half_bits : Ideal.ofBits .f32 0x3F000000#32 = Ideal.div 1 (((2 * 2 ^ (0 : Fin 4).val : Nat) : ℝ) : EReal) := by
  rw [Ideal.div_coe (by norm_num), one_mul]
  simp [Ideal.ofBits, Ideal.ieee, -EReal.coe_mul]; norm_num
theorem quarter_bits : Ideal.ofBits .f32 0x3E800000#32 = Ideal.div 1 (((2 * 2 ^ (1 : Fin 4).val : Nat) : ℝ) : EReal) := by
  rw [Ideal.div_coe (by norm_num), one_mul]
  simp [Ideal.ofBits, Ideal.ieee, -EReal.coe_mul]; norm_num
theorem eighth_bits : Ideal.ofBits .f32 0x3E000000#32 = Ideal.div 1 (((2 * 2 ^ (2 : Fin 4).val : Nat) : ℝ) : EReal) := by
  rw [Ideal.div_coe (by norm_num), one_mul]
  simp [Ideal.ofBits, Ideal.ieee, -EReal.coe_mul]; norm_num
theorem sixteenth_bits : Ideal.ofBits .f32 0x3D800000#32 = Ideal.div 1 (((2 * 2 ^ (3 : Fin 4).val : Nat) : ℝ) : EReal) := by
  rw [Ideal.div_coe (by norm_num), one_mul]
  simp [Ideal.ofBits, Ideal.ieee, -EReal.coe_mul]; norm_num

theorem slice_at (z : FVec Ideal S1040x1024 .f32) (o : Nat) (hs : S1040x1024.Slices ![0, o] S1040x256) (g : Fin 4) (ho : o = g.val * 256) {c : Fin 1024} (h : Pool.grp c = g) (n : Fin 1040) :
    extractStridedSlice S1040x256 ![0, o] z hs (ix2 n (Pool.off c)) = z (ix2 n c) := by
  refine congrArg z (funext fun a => Fin.ext ?_)
  have hc : c.val / 256 = g.val := congrArg Fin.val h
  match a with
  | 0 => show 0 + n.val = n.val; omega
  | 1 => show o + c.val % 256 = c.val; omega

theorem pay1_at (v : FVec Ideal S1024x1024 .f32) (r d : Fin 1024) : k2_pay1 v (ix3 0 r d) = v (ix2 r d) := by
  pointwise [k2_pay1]

theorem out_at (i : grid2.Coords) (x0 : Vec Ideal S1x1024x1024 .f32) (x1 x2 : Vec Ideal S1x8x1024 .f32) (x3 : Vec Ideal S1x1x3x1024 .f32)
    (x4 : Vec Ideal S1x1x1024 .f32) (x5 x6 x7 : Vec Ideal S1x1024x1024 .bf16) (x8 : Vec Ideal S1x1024 .f32) (e : Fin 2) (hi : (i 1).val = e.val) (H : Fin 1040 → Fin 1024 → EReal)
    (hH : ∀ q k, nrm (rows x1 x0 x2 q) (fun k => x4 (ix3 0 0 k)) (fun k => x3 (ix4 0 0 0 k)) (fun k => x3 (ix4 0 0 1 k)) k = H q k)
    (E : Fin 1024 → Nat → EReal)
    (hE : ∀ (c : Fin 1024) (n : Fin 1040), (if n.val < 8 then (∑ k : Fin 1024, H n k * x5 (ix3 0 k c)) * above (BitVec.ofNat 32 e.val)
      else if n.val < 1032 then ∑ k : Fin 1024, H n k * x5 (ix3 0 k c) else (∑ k : Fin 1024, H n k * x5 (ix3 0 k c)) * below (BitVec.ofNat 32 e.val)) = E c n.val)
    (r d : Fin 1024) :
    out2_9 i x0 x1 x2 x3 x4 x5 x6 x7 x8 (ix3 0 r d) =
      let y : Fin 1024 → EReal := Pool.res (fun d => x0 (ix3 0 r d)) (fun d => x3 (ix4 0 0 2 d))
        (fun c => (∑ k ∈ Finset.range (2 * Pool.half (Pool.grp c)), E c (r.val + 8 - Pool.half (Pool.grp c) + k)) * Ideal.div 1 ((Pool.cnt (Pool.half (Pool.grp c)) (e.val * 1024 + r.val) : ℝ) : EReal)
          - E c (8 + r.val))
        (fun c => ∑ k : Fin 1024, H ⟨8 + r.val, by omega⟩ k * x6 (ix3 0 k c)) (fun c d => x7 (ix3 0 c d))
      y d * rms y * x8 (ix2 0 d) := by
  have hP : ∀ q k, k2_pay33 i x0 x1 x2 x3 x4 x5 x6 x7 x8 (ix2 q k) = H q k := by
    intro q k
    rw [← hH]
    refine Eq.trans (b := k2_pay2 (View.ld x3 r2_0) (View.ld x3 r2_1) (View.ld x1 r2_2) (View.ld x0 r2_3) (View.ld x2 r2_2) (View.ld x4 r2_4) (ix2 q k)) rfl ?_
    rw [pay2_at]
    pointwise
    refine congrArg (fun X : Fin 1024 → EReal => nrm X _ _ _ k) (funext fun l => ?_)
    unfold rows
    pointwise
  unfold out2_9
  frame_out
  have ld : View.ld x5 r2_3 = x5 := by
    funext y
    idx_vars y
    pointwise
    rw [Subsingleton.elim y0 0]
  have hG : ∀ c, k2_pay6 (k2_pay4 (View.ld x3 r2_0) (View.ld x3 r2_1) x1 x0 x2 x4) x6 (ix2 r c) = ∑ k : Fin 1024, H ⟨8 + r.val, by omega⟩ k * x6 (ix3 0 k c) := by
    intro c
    have e0 : k2_pay6 (k2_pay4 (View.ld x3 r2_0) (View.ld x3 r2_1) x1 x0 x2 x4) x6 (ix2 r c)
        = ∑ k : Fin 1024, k2_pay2 (View.ld x3 r2_0) (View.ld x3 r2_1) x1 x0 x2 x4 (ix2 ⟨8 + r.val, by omega⟩ k) * x6 (ix3 0 k c) := by
      unfold k2_pay4
      generalize k2_pay2 (View.ld x3 r2_0) (View.ld x3 r2_1) x1 x0 x2 x4 = q
      pointwise [k2_pay6]
    rw [e0]
    refine Finset.sum_congr rfl fun k _ => congrArg (· * _) ?_
    rw [pay2_at, ← hH]
    pointwise
  have hz : k2_pay34 i x0 x1 x2 x3 x4 x5 x6 x7 x8 = k2_pay5 (BitVec.ofNat 32 e.val) (k2_pay33 i x0 x1 x2 x3 x4 x5 x6 x7 x8) x5 := by
    refine Eq.trans (b := k2_pay5 (BitVec.ofNat 32 (i 1).val) (k2_pay33 i x0 x1 x2 x3 x4 x5 x6 x7 x8) (View.ld x5 r2_3)) rfl ?_
    rw [ld, hi]
  rw [hi, show k2_pay35 i x0 x1 x2 x3 x4 x5 x6 x7 x8 = k2_pay25 (k2_pay34 i x0 x1 x2 x3 x4 x5 x6 x7 x8) from rfl, hz, pay11_eq]
  generalize k2_pay33 i x0 x1 x2 x3 x4 x5 x6 x7 x8 = he at hP ⊢
  have hZ : ∀ (n : Fin 1040) (c : Fin 1024), k2_pay5 (BitVec.ofNat 32 e.val) he x5 (ix2 n c) = E c n.val := by
    intro n c
    rw [pay5_eq, edgeV_at, tV_at, ← hE]
    simp only [hP]
  generalize k2_pay5 (BitVec.ofNat 32 e.val) he x5 = z at hZ ⊢
  rw [pay1_at, pay18_eq, pay23_eq, pay32_eq, finV_at]
  generalize k2_pay6 (k2_pay4 (View.ld x3 r2_0) (View.ld x3 r2_1) x1 x0 x2 x4) x6 = g at hG ⊢
  have hM : ∀ c, mixV (meanV (BitVec.ofNat 32 e.val) 1#32 0x3F000000#32 (sum1 (extractStridedSlice S1040x256 ![0, 0] z slices_S1040x1024_o0_0_S1040x256))
          (extractStridedSlice S1040x256 ![0, 0] z slices_S1040x1024_o0_0_S1040x256))
        (meanV (BitVec.ofNat 32 e.val) 2#32 0x3E800000#32 (sum2 (k2_pay12 z)) (k2_pay12 z)) (meanV (BitVec.ofNat 32 e.val) 4#32 0x3E000000#32 (sum4 (k2_pay19 z)) (k2_pay19 z))
        (meanV (BitVec.ofNat 32 e.val) 8#32 0x3D800000#32 (sum8 (k2_pay24 z)) (k2_pay24 z)) (ix2 r c)
      = (∑ k ∈ Finset.range (2 * Pool.half (Pool.grp c)), E c (r.val + 8 - Pool.half (Pool.grp c) + k)) * Ideal.div 1 ((Pool.cnt (Pool.half (Pool.grp c)) (e.val * 1024 + r.val) : ℝ) : EReal)
          - E c (8 + r.val) := by
    intro c
    have hc : Pool.grp c = ⟨c.val / 256, by omega⟩ := rfl
    refine mixV_at _ _ _ _ r c _ (fun h => ?_) (fun h => ?_) (fun h => ?_) (fun h => ?_)
    · have hE' : ∀ n : Fin 1040, extractStridedSlice S1040x256 ![0, 0] z slices_S1040x1024_o0_0_S1040x256 (ix2 n (Pool.off c)) = E c n.val := fun n => by
        rw [slice_at z 0 _ 0 rfl h]
        exact hZ n c
      rw [h]
      exact mean_at e 0 1#32 _ rfl half_bits _ _ _ (E c) hE' r (sum1_at _ _ _ hE' r)
    · have hE' : ∀ n : Fin 1040, k2_pay12 z (ix2 n (Pool.off c)) = E c n.val := fun n => by
        unfold k2_pay12
        rw [slice_at z 256 _ 1 rfl h]
        exact hZ n c
      rw [h]
      exact mean_at e 1 2#32 _ rfl quarter_bits _ _ _ (E c) hE' r (sum2_at _ _ _ hE' r)
    · have hE' : ∀ n : Fin 1040, k2_pay19 z (ix2 n (Pool.off c)) = E c n.val := fun n => by
        unfold k2_pay19
        rw [slice_at z 512 _ 2 rfl h]
        exact hZ n c
      rw [h]
      exact mean_at e 2 4#32 _ rfl eighth_bits _ _ _ (E c) hE' r (sum4_at _ _ _ hE' r)
    · have hE' : ∀ n : Fin 1040, k2_pay24 z (ix2 n (Pool.off c)) = E c n.val := fun n => by
        unfold k2_pay24
        rw [slice_at z 768 _ 3 rfl h]
        exact hZ n c
      rw [h]
      exact mean_at e 3 8#32 _ rfl sixteenth_bits _ _ _ (E c) hE' r (sum8_at _ _ _ hE' r)
  have hr : ∀ d, resV g (mixV (meanV (BitVec.ofNat 32 e.val) 1#32 0x3F000000#32 (sum1 (extractStridedSlice S1040x256 ![0, 0] z slices_S1040x1024_o0_0_S1040x256))
          (extractStridedSlice S1040x256 ![0, 0] z slices_S1040x1024_o0_0_S1040x256))
        (meanV (BitVec.ofNat 32 e.val) 2#32 0x3E800000#32 (sum2 (k2_pay12 z)) (k2_pay12 z)) (meanV (BitVec.ofNat 32 e.val) 4#32 0x3E000000#32 (sum4 (k2_pay19 z)) (k2_pay19 z))
        (meanV (BitVec.ofNat 32 e.val) 8#32 0x3D800000#32 (sum8 (k2_pay24 z)) (k2_pay24 z))) x7 x0 (View.ld x3 r2_5) (ix2 r d)
      = Pool.res (fun d => x0 (ix3 0 r d)) (fun d => x3 (ix4 0 0 2 d))
        (fun c => (∑ k ∈ Finset.range (2 * Pool.half (Pool.grp c)), E c (r.val + 8 - Pool.half (Pool.grp c) + k)) * Ideal.div 1 ((Pool.cnt (Pool.half (Pool.grp c)) (e.val * 1024 + r.val) : ℝ) : EReal)
          - E c (8 + r.val))
        (fun c => ∑ k : Fin 1024, H ⟨8 + r.val, by omega⟩ k * x6 (ix3 0 k c)) (fun c d => x7 (ix3 0 c d)) d := by
    intro d
    rw [resV_at]
    simp only [hM, hG]
    refine congrArg (fun q : Fin 1024 → EReal => Pool.res _ q _ _ _ d) (funext fun d => ?_)
    pointwise
  simp only [hr]

end Cert.PoolIdeal.Block

end
-- ==== Proof.PoolFinal.lean ====
module

public import proofs.«01_k».proof.Proof.PoolMods
public import proofs.«01_k».proof.Proof.PoolFold
public import proofs.«01_k».proof.Proof.PoolBlock

/-! # The pooling layer: the result array

`Out` is the layer over coordinates, from the arrays the last call finds; the call writes it block by block (`array`). -/

@[expose] public section

set_option maxRecDepth 16384

noncomputable section

namespace Cert.PoolIdeal.Final

open Cert.PoolIdeal Cert.PoolIdeal.Gen Cert.PoolIdeal.Run Cert.PoolIdeal.Block
open Idealize.ShloMosaic Idealize.ShloMosaic.TcCoe Idealize.SL.Sem Idealize.ShloMosaic.Pipeline
open Cert.Layer

theorem idx_a : ∀ t : Fin cfg2.N, win2_0.index t = ![t.val / 2, t.val % 2, 0]
    ∧ win2_1.index t = ![t.val / 2, (t.val % 2) * 127, 0]
    ∧ win2_2.index t = ![t.val / 2, 128 + (t.val % 2) * 127, 0]
    ∧ win2_3.index t = ![3, t.val / 2, 0, 0]
    ∧ win2_4.index t = ![3, 0, 0] := by decide +kernel
theorem idx_b : ∀ t : Fin cfg2.N, win2_5.index t = ![1, 0, 0] ∧ win2_6.index t = ![1, 0, 0]
    ∧ win2_7.index t = ![1, 0, 0] ∧ win2_8.index t = ![0, 0] ∧ win2_9.index t = ![t.val / 2, t.val % 2, 0] := by decide +kernel
theorem coord : ∀ t : Fin cfg2.N, ((grid2.coords t) 1).val = t.val % 2 := by decide +kernel

theorem above0 : above (BitVec.ofNat 32 0) = 0 := by
  have e : (Scalar.extui (Scalar.cmpi .sgt (BitVec.ofNat 32 0) 0#32) : BitVec 32) = 0#32 := by decide +kernel
  unfold above
  rw [e]
  show ((((0#32 : BitVec 32)).toInt : ℝ) : EReal) = 0
  simp
theorem below1 : below (BitVec.ofNat 32 1) = 0 := by
  have e : (Scalar.extui (Scalar.cmpi .slt (BitVec.ofNat 32 1) 1#32) : BitVec 32) = 0#32 := by decide +kernel
  unfold below
  rw [e]
  show ((((0#32 : BitVec 32)).toInt : ℝ) : EReal) = 0
  simp
theorem above1 : above (BitVec.ofNat 32 1) = 1 := by
  have e : (Scalar.extui (Scalar.cmpi .sgt (BitVec.ofNat 32 1) 0#32) : BitVec 32) = 1#32 := by decide +kernel
  unfold above
  rw [e]
  show ((((1#32 : BitVec 32)).toInt : ℝ) : EReal) = 1
  simp
theorem below0 : below (BitVec.ofNat 32 0) = 1 := by
  have e : (Scalar.extui (Scalar.cmpi .slt (BitVec.ofNat 32 0) 1#32) : BitVec 32) = 1#32 := by decide +kernel
  unfold below
  rw [e]
  show ((((1#32 : BitVec 32)).toInt : ℝ) : EReal) = 1
  simp

/-- The mixed channels of a row: the window mean of the folded projection less the row's own. -/
def mixed (h : Fin 2048 → Fin 1024 → EReal) (wu : Fin 1024 → Fin 1024 → EReal) (s : Fin 2048) (c : Fin 1024) : EReal :=
  Pool.mean (Pool.half (Pool.grp c)) (fun s => ∑ k : Fin 1024, h s k * wu k c) s - ∑ k : Fin 1024, h s k * wu k c

/-- The layer over coordinates, from the stream, the modulation array and the weights as the call finds them. -/
def Out (x : FVec Ideal S8x2048x1024 .f32) (mo : FVec Ideal S4x16x3x1024 .f32) (ng : FVec Ideal S4x1x1024 .f32) (wu wg wo : FVec Ideal S2x1024x1024 .bf16)
    (fg : FVec Ideal S1x1024 .f32) (b : Fin 8) (s : Fin 2048) (d : Fin 1024) : EReal :=
  let h : Fin 2048 → Fin 1024 → EReal := fun s k => nrm (fun k => x (ix3 b s k)) (fun k => ng (ix3 3 0 k))
    (fun k => mo (ix4 3 (⟨b.val, by omega⟩ : Fin 16) 0 k)) (fun k => mo (ix4 3 (⟨b.val, by omega⟩ : Fin 16) 1 k)) k
  let y : Fin 1024 → EReal := Pool.res (fun d => x (ix3 b s d)) (fun d => mo (ix4 3 (⟨b.val, by omega⟩ : Fin 16) 2 d)) (mixed h (fun k c => wu (ix3 1 k c)) s)
    (fun c => ∑ k : Fin 1024, h s k * wg (ix3 1 k c)) (fun c d => wo (ix3 1 c d))
  y d * rms y * fg (ix2 0 d)

/-- The rows a tile reads, where they lie in the sequence. -/
theorem rows_eq (x : FVec Ideal S8x2048x1024 .f32) (x0 : Vec Ideal S1x1024x1024 .f32) (x1 x2 : Vec Ideal S1x8x1024 .f32) (b : Fin 8) (e : Fin 2)
    (h0 : ∀ (r k : Fin 1024), x0 (ix3 0 r k) = x (ix3 b (⟨e.val * 1024 + r.val, by omega⟩ : Fin 2048) k))
    (h1 : e.val = 1 → ∀ (q : Fin 8) (k : Fin 1024), x1 (ix3 0 q k) = x (ix3 b (⟨1016 + q.val, by omega⟩ : Fin 2048) k))
    (h2 : e.val = 0 → ∀ (q : Fin 8) (k : Fin 1024), x2 (ix3 0 q k) = x (ix3 b (⟨1024 + q.val, by omega⟩ : Fin 2048) k))
    (q : Fin 1040) (hq : 8 ≤ e.val * 1024 + q.val ∧ e.val * 1024 + q.val < 2056) :
    rows x1 x0 x2 q = fun k => x (ix3 b (⟨e.val * 1024 + q.val - 8, by omega⟩ : Fin 2048) k) := by
  funext k
  unfold rows
  by_cases c1 : q.val < 8
  · rw [dif_pos c1, h1 (by omega)]
    exact congrArg (fun q => x (ix3 b q k)) (Fin.ext (by dsimp only; omega))
  by_cases c2 : q.val - 8 < 1024
  · rw [dif_neg c1, dif_pos c2, h0]
    exact congrArg (fun q => x (ix3 b q k)) (Fin.ext (by dsimp only; omega))
  · rw [dif_neg c1, dif_neg c2, h2 (by omega)]
    exact congrArg (fun q => x (ix3 b q k)) (Fin.ext (by dsimp only; omega))

/-- The rows outside the sequence count as zero; the others are the sequence's. -/
theorem edge_eq (h : Fin 2048 → Fin 1024 → EReal) (w : Fin 1024 → EReal) (e : Fin 2) (H : Fin 1040 → Fin 1024 → EReal)
    (hH : ∀ (q : Fin 1040) (hq : 8 ≤ e.val * 1024 + q.val ∧ e.val * 1024 + q.val < 2056), H q = h ⟨e.val * 1024 + q.val - 8, by omega⟩) (n : Fin 1040) :
    (if n.val < 8 then (∑ k : Fin 1024, H n k * w k) * above (BitVec.ofNat 32 e.val)
      else if n.val < 1032 then ∑ k : Fin 1024, H n k * w k else (∑ k : Fin 1024, H n k * w k) * below (BitVec.ofNat 32 e.val))
      = Pool.pad (fun s => ∑ k : Fin 1024, h s k * w k) (e.val * 1024 + n.val) := by
  have he : e.val = 0 ∨ e.val = 1 := by omega
  unfold Pool.pad
  by_cases c1 : n.val < 8
  · rw [if_pos c1]
    obtain e0 | e0 := he
    · rw [e0, above0, mul_zero, dif_neg (by omega)]
    · have ha : above (BitVec.ofNat 32 e.val) = 1 := by rw [e0]; exact above1
      rw [dif_pos (by omega), hH n (by omega), ha, mul_one]
  by_cases c2 : n.val < 1032
  · rw [if_neg c1, if_pos c2, dif_pos (by omega), hH n (by omega)]
  · rw [if_neg c1, if_neg c2]
    obtain e0 | e0 := he
    · have ha : below (BitVec.ofNat 32 e.val) = 1 := by rw [e0]; exact below0
      rw [dif_pos (by omega), hH n (by omega), ha, mul_one]
    · rw [e0, below1, mul_zero, dif_neg (by omega)]

theorem cnt_ne (g : Fin 4) (s : Fin 2048) : ((Pool.cnt (Pool.half g) s.val : ℝ) : EReal) ≠ 0 := by
  have h : 0 < Pool.half g := Nat.two_pow_pos _
  have hc : 0 < Pool.cnt (Pool.half g) s.val := by unfold Pool.cnt; omega
  exact_mod_cast hc.ne'

theorem half_le (g : Fin 4) : Pool.half g ≤ 8 := by
  have : ∀ g : Fin 4, Pool.half g ≤ 8 := by decide
  exact this g

/-- One block of the last call's result, from blocks that hold the arrays' entries. -/
theorem point (i : grid2.Coords) (x : FVec Ideal S8x2048x1024 .f32) (mo : FVec Ideal S4x16x3x1024 .f32) (ng : FVec Ideal S4x1x1024 .f32)
    (wu wg wo : FVec Ideal S2x1024x1024 .bf16) (fg : FVec Ideal S1x1024 .f32) (x0 : Vec Ideal S1x1024x1024 .f32)
    (x1 x2 : Vec Ideal S1x8x1024 .f32) (x3 : Vec Ideal S1x1x3x1024 .f32) (x4 : Vec Ideal S1x1x1024 .f32) (x5 x6 x7 : Vec Ideal S1x1024x1024 .bf16)
    (x8 : Vec Ideal S1x1024 .f32) (b : Fin 8) (e : Fin 2) (hi : (i 1).val = e.val)
    (h0 : ∀ (r k : Fin 1024), x0 (ix3 0 r k) = x (ix3 b (⟨e.val * 1024 + r.val, by omega⟩ : Fin 2048) k))
    (h1 : e.val = 1 → ∀ (q : Fin 8) (k : Fin 1024), x1 (ix3 0 q k) = x (ix3 b (⟨1016 + q.val, by omega⟩ : Fin 2048) k))
    (h2 : e.val = 0 → ∀ (q : Fin 8) (k : Fin 1024), x2 (ix3 0 q k) = x (ix3 b (⟨1024 + q.val, by omega⟩ : Fin 2048) k))
    (h3 : ∀ (n : Fin 3) (k : Fin 1024), x3 (ix4 0 0 n k) = mo (ix4 3 (⟨b.val, by omega⟩ : Fin 16) n k))
    (h4 : ∀ k : Fin 1024, x4 (ix3 0 0 k) = ng (ix3 3 0 k))
    (h5 : ∀ k j : Fin 1024, x5 (ix3 0 k j) = wu (ix3 1 k j))
    (h6 : ∀ k j : Fin 1024, x6 (ix3 0 k j) = wg (ix3 1 k j))
    (h7 : ∀ k j : Fin 1024, x7 (ix3 0 k j) = wo (ix3 1 k j))
    (h8 : ∀ k : Fin 1024, x8 (ix2 0 k) = fg (ix2 0 k)) (r d : Fin 1024) :
    out2_9 i x0 x1 x2 x3 x4 x5 x6 x7 x8 (ix3 0 r d) = Out x mo ng wu wg wo fg b ⟨e.val * 1024 + r.val, by omega⟩ d := by
  have hrow := rows_eq x x0 x1 x2 b e h0 h1 h2
  generalize hh : (fun s k => nrm (fun k => x (ix3 b s k)) (fun k => ng (ix3 3 0 k))
    (fun k => mo (ix4 3 (⟨b.val, by omega⟩ : Fin 16) 0 k)) (fun k => mo (ix4 3 (⟨b.val, by omega⟩ : Fin 16) 1 k)) k : Fin 2048 → Fin 1024 → EReal) = h
  have hH : ∀ (q : Fin 1040) (hq : 8 ≤ e.val * 1024 + q.val ∧ e.val * 1024 + q.val < 2056),
      (fun k => nrm (rows x1 x0 x2 q) (fun k => x4 (ix3 0 0 k)) (fun k => x3 (ix4 0 0 0 k)) (fun k => x3 (ix4 0 0 1 k)) k) = h ⟨e.val * 1024 + q.val - 8, by omega⟩ := by
    intro q hq
    rw [hrow q hq, ← hh]
    simp only [h3, h4]
  rw [out_at i x0 x1 x2 x3 x4 x5 x6 x7 x8 e hi _ (fun q k => rfl) (fun c n => Pool.pad (fun s => ∑ k : Fin 1024, h s k * x5 (ix3 0 k c)) (e.val * 1024 + n))
    (fun c n => edge_eq h (fun k => x5 (ix3 0 k c)) e _ hH n)]
  have e8 : h ⟨e.val * 1024 + (8 + r.val) - 8, by omega⟩ = h ⟨e.val * 1024 + r.val, by omega⟩ := congrArg h (Fin.ext (by dsimp only; omega))
  have hm : (fun c => (∑ k ∈ Finset.range (2 * Pool.half (Pool.grp c)), Pool.pad (fun s => ∑ k : Fin 1024, h s k * x5 (ix3 0 k c)) (e.val * 1024 + (r.val + 8 - Pool.half (Pool.grp c) + k)))
        * Ideal.div 1 ((Pool.cnt (Pool.half (Pool.grp c)) (e.val * 1024 + r.val) : ℝ) : EReal)
        - Pool.pad (fun s => ∑ k : Fin 1024, h s k * x5 (ix3 0 k c)) (e.val * 1024 + (8 + r.val)))
      = mixed h (fun k c => wu (ix3 1 k c)) ⟨e.val * 1024 + r.val, by omega⟩ := by
    funext c
    have hl := half_le (Pool.grp c)
    unfold mixed Pool.mean
    simp only [h5]
    rw [Ideal.mul_one_div (cnt_ne (Pool.grp c) ⟨e.val * 1024 + r.val, by omega⟩)]
    congr 1
    · congr 1
      refine Finset.sum_congr rfl fun k _ => congrArg _ ?_
      omega
    · unfold Pool.pad
      rw [dif_pos (by omega)]
      exact congrArg (fun q : Fin 1024 → EReal => ∑ k : Fin 1024, q k * wu (ix3 1 k c)) e8
  have hg : (fun c => ∑ k : Fin 1024, nrm (rows x1 x0 x2 ⟨8 + r.val, by omega⟩) (fun k => x4 (ix3 0 0 k)) (fun k => x3 (ix4 0 0 0 k)) (fun k => x3 (ix4 0 0 1 k)) k * x6 (ix3 0 k c))
      = fun c => ∑ k : Fin 1024, h ⟨e.val * 1024 + r.val, by omega⟩ k * wg (ix3 1 k c) := by
    funext c
    refine Finset.sum_congr rfl fun k _ => ?_
    rw [h6, ← e8]
    exact congrArg (· * _) (congrFun (hH ⟨8 + r.val, by omega⟩ (by dsimp only; omega)) k)
  rw [hm, hg]
  subst hh
  unfold Out
  simp only [h0, h3, h7, h8]

variable (m : (ℓ : Loc nD τ sig) → Buf (Elt Ideal) ℓ) (ρ : Dev nD → PrngReg)

set_option maxHeartbeats 4000000 in
theorem array (c : Dev nD) : (dat2 (V5 m ρ) c).arrAt 9 cfg2.N = fun i : S8x2048x1024.Idx =>
    Out (V5 m ρ c main_arg0) (V5 m ρ c main_v7) (V5 m ρ c main_v8) (V5 m ρ c main_v10_0) (V5 m ρ c main_v10_1) (V5 m ρ c main_v10_2) (V5 m ρ c main_v11) (i 0) (i 1) (i 2) := by
  refine (dat2 (V5 m ρ) c).arrAt_eq_of_covers 9 _ (by decide +kernel) fun t _ y => ?_
  blk_simp
  rw [after2_9]
  obtain ⟨r, d, rfl⟩ : ∃ (r : Fin 1024) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 16 := t.isLt
  generalize hb : (⟨t.val / 2, by omega⟩ : Fin 8) = b
  have hbv : b.val = t.val / 2 := by rw [← hb]
  have hy : (win2_9.blk t).view.emb (ix3 0 r d) = ix3 b (⟨t.val % 2 * 1024 + r.val, by omega⟩ : Fin 2048) d := by blk_ext [idx_b t]
  have h0 : ∀ r k, iblk2 (V5 m ρ) c 0 t (ix3 0 r k) = V5 m ρ c main_arg0 (ix3 b (⟨t.val % 2 * 1024 + r.val, by omega⟩ : Fin 2048) k) := fun r k => by
    blk_ext [iblk2, idx_a t]
  have h1 : t.val % 2 = 1 → ∀ (q : Fin 8) k, iblk2 (V5 m ρ) c 1 t (ix3 0 q k) = V5 m ρ c main_arg0 (ix3 b (⟨1016 + q.val, by omega⟩ : Fin 2048) k) := fun e q k => by
    blk_ext [iblk2, idx_a t]
  have h2 : t.val % 2 = 0 → ∀ (q : Fin 8) k, iblk2 (V5 m ρ) c 2 t (ix3 0 q k) = V5 m ρ c main_arg0 (ix3 b (⟨1024 + q.val, by omega⟩ : Fin 2048) k) := fun e q k => by
    blk_ext [iblk2, idx_a t]
  have h3 : ∀ n k, iblk2 (V5 m ρ) c 3 t (ix4 0 0 n k) = V5 m ρ c main_v7 (ix4 3 (⟨b.val, by omega⟩ : Fin 16) n k) := fun n k => by
    blk_ext [iblk2, idx_a t]
  have h4 : ∀ k, iblk2 (V5 m ρ) c 4 t (ix3 0 0 k) = V5 m ρ c main_v8 (ix3 3 0 k) := fun k => by
    blk_ext [iblk2, idx_a t]
  have h5 : ∀ k j, iblk2 (V5 m ρ) c 5 t (ix3 0 k j) = V5 m ρ c main_v10_0 (ix3 1 k j) := fun k j => by
    blk_ext [iblk2, idx_b t]
  have h6 : ∀ k j, iblk2 (V5 m ρ) c 6 t (ix3 0 k j) = V5 m ρ c main_v10_1 (ix3 1 k j) := fun k j => by
    blk_ext [iblk2, idx_b t]
  have h7 : ∀ k j, iblk2 (V5 m ρ) c 7 t (ix3 0 k j) = V5 m ρ c main_v10_2 (ix3 1 k j) := fun k j => by
    blk_ext [iblk2, idx_b t]
  have h8 : ∀ k, iblk2 (V5 m ρ) c 8 t (ix2 0 k) = V5 m ρ c main_v11 (ix2 0 k) := fun k => by
    blk_ext [iblk2, idx_b t]
  rw [hy]
  exact point (grid2.coords t) _ _ _ _ _ _ _ _ _ _ _ _ _ _ _ _ b ⟨t.val % 2, by omega⟩ (coord t) h0 h1 h2 h3 h4 h5 h6 h7 h8 r d

end Cert.PoolIdeal.Final

end
-- ==== Proof.PoolReal.lean ====
module

public import proofs.«01_k».proof.Proof.PoolSpec
public import Mathlib.Algebra.BigOperators.Fin
public import Mathlib.Tactic.Ring

/-! # The pooling mixer over real numbers

The kernel multiplies the group's matrix into the projection's weights and takes the window means of that product.
The reference projects first, takes the window means, and multiplies by the group's matrix last. Over real numbers
the two are one sum in two orders. -/

@[expose] public section

noncomputable section

namespace Cert.Layer.Pool

open Idealize.ShloMosaic Cert.Layer

/-- A value that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {n : Nat} {f : Fin n → EReal} (h : ∀ i, IsReal (f i)) : IsReal (∑ i, f i) := by
  choose g hg using h
  exact ⟨∑ i, g i, by rw [coe_sum]; exact Finset.sum_congr rfl fun i _ => hg i⟩

theorem IsReal.silu {x : EReal} (h : IsReal x) : IsReal (silu x) := by
  obtain ⟨a, rfl⟩ := h
  refine IsReal.mul ⟨a, rfl⟩ ?_
  have e : (1 : EReal) + Ideal.exp (-(a : EReal)) = ((1 + Real.exp (-a) : ℝ) : EReal) := by
    rw [← EReal.coe_neg, Ideal.exp_coe, EReal.coe_add, EReal.coe_one]
  rw [e, Ideal.div_coe (by positivity), one_mul]
  exact ⟨_, rfl⟩

theorem IsReal.rms {x : Fin 1024 → EReal} (h : ∀ k, IsReal (x k)) : IsReal (rms x) := by
  choose g hg using h
  unfold Cert.Layer.rms
  have e0 : Ideal.ofBits .f32 0x44800000#32 = ((1024 : ℝ) : EReal) := by
    simp [Ideal.ofBits, Ideal.ieee, -EReal.coe_mul]; norm_num
  have e1 : ∃ r : ℝ, 0 < r ∧ Ideal.ofBits .f32 0x358637BD#32 = (r : EReal) := by
    refine ⟨_, ?_, by simp [Ideal.ofBits, Ideal.ieee, -EReal.coe_mul]; rfl⟩
    positivity
  obtain ⟨r, hr, e1⟩ := e1
  have e2 : ∑ k : Fin 1024, x k * x k = ((∑ k : Fin 1024, g k * g k : ℝ) : EReal) := by
    rw [coe_sum]
    exact Finset.sum_congr rfl fun k _ => by rw [hg k, EReal.coe_mul]
  have h0 : 0 ≤ ∑ k : Fin 1024, g k * g k := Finset.sum_nonneg fun k _ => mul_self_nonneg _
  rw [e0, e1, e2, Ideal.div_coe (by norm_num), ← EReal.coe_mul, ← EReal.coe_add, Ideal.rsqrt_coe]
  have h1 : 0 < (∑ k : Fin 1024, g k * g k) * (1 / 1024) + r := by positivity
  rw [if_neg (not_lt.2 h1.le), if_neg h1.ne']
  exact ⟨_, rfl⟩

theorem isReal_one : IsReal 1 := ⟨1, rfl⟩

theorem IsReal.nrm {x g shift scale : Fin 1024 → EReal} (hx : ∀ k, IsReal (x k)) (hg : ∀ k, IsReal (g k)) (h0 : ∀ k, IsReal (shift k)) (h1 : ∀ k, IsReal (scale k))
    (k : Fin 1024) : IsReal (nrm x g shift scale k) :=
  (((hx k).mul (IsReal.rms hx)).mul ((hg k).mul (isReal_one.add (h1 k)))).add (h0 k)

theorem IsReal.modv {c : Fin 1024 → EReal} {w : Fin 1024 → Fin 3072 → EReal} {b : Fin 3072 → EReal} (hc : ∀ k, IsReal (c k)) (hw : ∀ k o, IsReal (w k o)) (hb : ∀ o, IsReal (b o))
    (o : Fin 3072) : IsReal (modv c w b o) :=
  (IsReal.sum fun k => (hc k).silu.mul (hw k o)).add (hb o)

/-- A window of the padded sequence, over the rows of the sequence. -/
theorem sum_pad (T : Fin 2048 → EReal) (h : Nat) (hh : h ≤ 8) (l : Fin 2048) :
    (∑ k ∈ Finset.range (2 * h), pad T (l.val + 8 - h + k)) = ∑ q : Fin 2048, if l.val ≤ q.val + h ∧ q.val < l.val + h then T q else 0 := by
  rw [← Finset.sum_filter]
  have e : (∑ k ∈ Finset.range (2 * h), pad T (l.val + 8 - h + k))
      = ∑ k ∈ (Finset.range (2 * h)).filter (fun k => h ≤ l.val + k ∧ l.val + k < 2048 + h), pad T (l.val + 8 - h + k) := by
    rw [Finset.sum_filter]
    refine Finset.sum_congr rfl fun k _ => ?_
    split
    · rfl
    · next hn => unfold pad; rw [dif_neg (by omega)]
  rw [e]
  refine Finset.sum_bij' (fun k hk => (⟨l.val + k - h, by
      have := (Finset.mem_filter.1 hk).2
      omega⟩ : Fin 2048)) (fun q _ => q.val + h - l.val) ?_ ?_ ?_ ?_ ?_
  · intro k hk
    have h1 := Finset.mem_range.1 (Finset.mem_filter.1 hk).1
    have h2 := (Finset.mem_filter.1 hk).2
    refine Finset.mem_filter.2 ⟨Finset.mem_univ _, ?_⟩
    dsimp only
    omega
  · intro q hq
    have h2 := (Finset.mem_filter.1 hq).2
    refine Finset.mem_filter.2 ⟨Finset.mem_range.2 ?_, ?_⟩ <;> omega
  · intro k hk
    have h2 := (Finset.mem_filter.1 hk).2
    dsimp only
    omega
  · intro q hq
    have h2 := (Finset.mem_filter.1 hq).2
    refine Fin.ext ?_
    dsimp only
    omega
  · intro k hk
    have h2 := (Finset.mem_filter.1 hk).2
    unfold pad
    rw [dif_pos (by omega)]
    refine congrArg T (Fin.ext ?_)
    dsimp only
    omega

/-- Over real numbers: the mean of folded products less one of them is the group's product of the means less the rows. -/
theorem real_eq (F : Finset (Fin 2048)) (H : Fin 2048 → Fin 1024 → ℝ) (W : Fin 1024 → Fin 256 → ℝ) (G : Fin 256 → ℝ) (S r : ℝ) (s : Fin 2048) :
    (∑ q ∈ F, ∑ k, H q k * ((∑ j, W k j * G j) * S)) * r - ∑ k, H s k * ((∑ j, W k j * G j) * S)
      = (∑ j, G j * ((∑ q ∈ F, ∑ k, H q k * W k j) * r - ∑ k, H s k * W k j)) * S := by
  have hT : ∀ q, ∑ k, H q k * ((∑ j, W k j * G j) * S) = (∑ j, G j * ∑ k, H q k * W k j) * S := fun q => by
    simp only [Finset.mul_sum, Finset.sum_mul]
    rw [Finset.sum_comm]
    exact Finset.sum_congr rfl fun j _ => Finset.sum_congr rfl fun k _ => by ring
  simp only [hT]
  have e : ∑ q ∈ F, (∑ j, G j * ∑ k, H q k * W k j) * S = (∑ j, G j * ∑ q ∈ F, ∑ k, H q k * W k j) * S := by
    rw [← Finset.sum_mul, Finset.sum_comm]
    exact congrArg (· * S) (Finset.sum_congr rfl fun j _ => (Finset.mul_sum _ _ _).symm)
  rw [e, mul_right_comm, ← sub_mul, Finset.sum_mul, ← Finset.sum_sub_distrib]
  refine congrArg (· * S) (Finset.sum_congr rfl fun j _ => ?_)
  ring

/-- Two running sums' difference is the window's sum. -/
theorem prefix_sub (T : Fin 2048 → ℝ) (h : Nat) (l : Fin 2048) :
    (∑ q : Fin 2048, if q.val < min (l.val + h) 2048 then T q else 0) - (∑ q : Fin 2048, if q.val < l.val - h then T q else 0)
      = ∑ q ∈ Finset.univ.filter (fun q : Fin 2048 => l.val ≤ q.val + h ∧ q.val < l.val + h), T q := by
  rw [← Finset.sum_sub_distrib, Finset.sum_filter]
  refine Finset.sum_congr rfl fun q _ => ?_
  by_cases h1 : q.val < l.val - h
  · rw [if_pos (by omega), if_pos h1, if_neg (by omega), sub_self]
  · by_cases h2 : q.val < l.val + h
    · rw [if_pos (by omega), if_neg h1, if_pos (by omega), sub_zero]
    · rw [if_neg (by omega), if_neg h1, if_neg (by omega), sub_zero]

theorem ite_coe (p : Prop) [Decidable p] (x : ℝ) : (if p then (x : EReal) else 0) = ((if p then x else 0 : ℝ) : EReal) := by
  split <;> rfl

theorem cnt_real_ne (g : Fin 4) (s : Fin 2048) : (cnt (half g) s.val : ℝ) ≠ 0 := by
  have h1 : 0 < half g := by unfold half; exact Nat.pos_of_ne_zero (by positivity)
  have h2 : 0 < cnt (half g) s.val := by unfold cnt; omega
  exact_mod_cast h2.ne'

theorem half_le8 : ∀ g : Fin 4, half g ≤ 8 := by decide

/-- The mixed channel of the kernel is the reference's, where the rows, the weights and the scale are real. -/
theorem mixed_eq (h : Fin 2048 → Fin 1024 → EReal) (w : Fin 1024 → Fin 2048 → EReal) (wg : Fin 4 → Fin 256 → Fin 256 → EReal) (sc : Fin 1024 → EReal)
    (hh : ∀ s k, IsReal (h s k)) (hw : ∀ k j, IsReal (w k j)) (hg : ∀ g i j, IsReal (wg g i j)) (hs : ∀ c, IsReal (sc c)) (s : Fin 2048) (c : Fin 1024) :
    mean (half (grp c)) (fun s => ∑ k : Fin 1024, h s k * fold w wg sc k c) s - ∑ k : Fin 1024, h s k * fold w wg sc k c
      = (∑ j : Fin 256, wg (grp c) j (off c) * (Ideal.div ((∑ q : Fin 2048, if q.val < min (s.val + half (grp c)) 2048 then ∑ k : Fin 1024, h q k * w k (col (grp c) j) else 0)
          - ∑ q : Fin 2048, if q.val < s.val - half (grp c) then ∑ k : Fin 1024, h q k * w k (col (grp c) j) else 0) ((cnt (half (grp c)) s.val : ℝ) : EReal)
          - ∑ k : Fin 1024, h s k * w k (col (grp c) j))) * sc c := by
  choose H hH using hh
  choose W hW using hw
  choose G hG using hg
  choose S hS using hs
  unfold mean
  rw [sum_pad _ _ (half_le8 _), Ideal.div_coe (cnt_real_ne _ _)]
  unfold fold
  simp only [Ideal.div_coe (cnt_real_ne _ _), hH, hW, hG, hS, ← EReal.coe_mul, ← coe_sum, ite_coe, ← EReal.coe_sub]
  refine congrArg Real.toEReal ?_
  simp only [prefix_sub]
  rw [← Finset.sum_filter]
  exact real_eq _ H (fun k j => W k (col (grp c) j)) (fun j => G (grp c) j (off c)) (S c) _ s

end Cert.Layer.Pool

end
-- ==== Proof.PoolRef.lean ====
module

public import proofs.«01_k».proof.Proof.Gen.PoolRefIdeal.Run
public import proofs.«01_k».proof.Proof.PoolSpec

/-! # The pooling layer's reference, read at an index

The reference's result is one long term of the arguments. Here it is cut at its own intermediate arrays
(the modulation, the normalised rows, the wide projection, the running sums along the sequence, the window
means, the mixed groups, the gated residual, the final normalisation), and each is read at an index. -/

@[expose] public section

set_option maxRecDepth 16384

noncomputable section

namespace Cert.PoolRefIdeal.At

open Cert.PoolRefIdeal Cert.PoolRefIdeal.Gen Cert.PoolRefIdeal.Value
open Idealize.ShloMosaic Idealize.ShloMosaic.TcCoe Idealize.SL.Sem
open Cert.Layer

/-- The modulation rows. -/
def Mods (cc : FVec Ideal S8x1024 .f32) (aw : FVec Ideal S4x1024x3072 .f32) (ab : FVec Ideal S4x3072 .f32) : FVec Ideal S8x3072 .f32 :=
  (addf (Host.dotGeneral dot_S8x1024_S1024x3072_S8x3072_1_0_0_1_n_n none (mulf cc (Host.divf ((broadcastInDim S8x1024 ![] bcast_S_S8x1024) ((constant S_ .f32 0x3F800000#32))) (addf ((broadcastInDim S8x1024 ![] bcast_S_S8x1024) ((constant S_ .f32 0x3F800000#32))) (Host.exp (Host.negf cc))))) (shapeCast S1024x3072 (extractStridedSlice S1x1024x3072 ![3, 0, 0] aw slices_S4x1024x3072_S1x1024x3072_3_0_0) shapeCasts_S1x1024x3072_S1024x3072)) (broadcastInDim S8x3072 ![0, 1] bcast_S1x3072_S8x3072_0_1 (broadcastInDim S1x3072 ![1] bcast_S3072_S1x3072_1 (shapeCast S3072 (extractStridedSlice S1x3072 ![3, 0] ab slices_S4x3072_S1x3072_3_0) shapeCasts_S1x3072_S3072))))

/-- The normalised rows. -/
def H (x : FVec Ideal S8x2048x1024 .f32) (ng : FVec Ideal S4x1024 .f32) (mods : FVec Ideal S8x3072 .f32) : FVec Ideal S8x2048x1024 .f32 :=
  (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) ((constant S_ .f32 0x00000000#32)) reducesTo_S8x2048x1024_S8x2048_d2 h_S_)) (broadcastInDim S8x2048x1 ![] bcast_S_S8x2048x1 ((constant S_ .f32 0x44800000#32)))) (broadcastInDim S8x2048x1 ![] bcast_S_S8x2048x1 ((constant S_ .f32 0x358637BD#32))))))) (broadcastInDim S8x2048x1024 ![0, 1, 2] bcast_S1x1x1024_S8x2048x1024_0_1_2 (broadcastInDim S1x1x1024 ![2] bcast_S1024_S1x1x1024_2 (shapeCast S1024 (extractStridedSlice S1x1024 ![3, 0] ng slices_S4x1024_S1x1024_3_0) shapeCasts_S1x1024_S1024)))) (broadcastInDim S8x2048x1024 ![0, 1, 2] bcast_S8x1x1024_S8x2048x1024_0_1_2 (addf (broadcastInDim S8x1x1024 ![] bcast_S_S8x1x1024 ((constant S_ .f32 0x3F800000#32))) (broadcastInDim S8x1x1024 ![0, 2] bcast_S8x1024_S8x1x1024_0_2 (extractStridedSlice S8x1024 ![0, 1024] mods slices_S8x3072_S8x1024_0_1024))))) (broadcastInDim S8x2048x1024 ![0, 1, 2] bcast_S8x1x1024_S8x2048x1024_0_1_2 (broadcastInDim S8x1x1024 ![0, 2] bcast_S8x1024_S8x1x1024_0_2 (extractStridedSlice S8x1024 ![0, 0] mods slices_S8x3072_S8x1024_0_0))))

/-- The wide projection. -/
def P (h : FVec Ideal S8x2048x1024 .f32) (win : FVec Ideal S2x1024x2048 .f32) : FVec Ideal S8x2048x2048 .f32 :=
  (Host.dotGeneral dot_S8x2048x1024_S1024x2048_S8x2048x2048_2_0_01_1_n_n none h (shapeCast S1024x2048 (extractStridedSlice S1x1024x2048 ![1, 0, 0] win slices_S2x1024x2048_S1x1024x2048_1_0_0) shapeCasts_S1x1024x2048_S1024x2048))

/-- Its first half, by channel group. -/
def U (p : FVec Ideal S8x2048x2048 .f32) : FVec Ideal S8x2048x4x256 .f32 :=
  (shapeCast S8x2048x4x256 (extractStridedSlice S8x2048x1024 ![0, 0, 0] p slices_S8x2048x2048_S8x2048x1024_0_0_0) shapeCasts_S8x2048x1024_S8x2048x4x256)

/-- Channel group 0. -/
def G0 (u : FVec Ideal S8x2048x4x256 .f32) : FVec Ideal S8x2048x256 .f32 :=
  (shapeCast S8x2048x256 (extractStridedSlice S8x2048x1x256 ![0, 0, 0, 0] u slices_S8x2048x4x256_S8x2048x1x256_0_0_0_0) shapeCasts_S8x2048x1x256_S8x2048x256)

/-- Channel group 1. -/
def G1 (u : FVec Ideal S8x2048x4x256 .f32) : FVec Ideal S8x2048x256 .f32 :=
  (shapeCast S8x2048x256 (extractStridedSlice S8x2048x1x256 ![0, 0, 1, 0] u slices_S8x2048x4x256_S8x2048x1x256_0_0_1_0) shapeCasts_S8x2048x1x256_S8x2048x256)

/-- Channel group 2. -/
def G2 (u : FVec Ideal S8x2048x4x256 .f32) : FVec Ideal S8x2048x256 .f32 :=
  (shapeCast S8x2048x256 (extractStridedSlice S8x2048x1x256 ![0, 0, 2, 0] u slices_S8x2048x4x256_S8x2048x1x256_0_0_2_0) shapeCasts_S8x2048x1x256_S8x2048x256)

/-- Channel group 3. -/
def G3 (u : FVec Ideal S8x2048x4x256 .f32) : FVec Ideal S8x2048x256 .f32 :=
  (shapeCast S8x2048x256 (extractStridedSlice S8x2048x1x256 ![0, 0, 3, 0] u slices_S8x2048x4x256_S8x2048x1x256_0_0_3_0) shapeCasts_S8x2048x1x256_S8x2048x256)

/-- The running sums along the sequence, from zero. -/
def Cs (ug : FVec Ideal S8x2048x256 .f32) : FVec Ideal S8x2049x256 .f32 :=
  fn_main_v51 (F := Ideal) (broadcastInDim (s := S_) (α := Ideal .f32) S8x1x256 ![] bcast_S_S8x1x256 (constant S_ .f32 0x00000000#32))
    (Host.reduceWindowAdd ![1, 2048, 1] ![1, 1, 1] ![0, 2047, 0] ![0, 0, 0] ug (broadcastInDim (s := S_) (α := Ideal .f32) S_ ![] bcast_S_S_ (constant S_ .f32 0x00000000#32))
      reduceWindows_S8x2048x256_S8x2048x256_w1s1p0_0_w2048s1p2047_0_w1s1p0_0 h_S_)

/-- The first position of each window. -/
def Lo (hw : BitVec 32) : IVec S2048 32 :=
  (minsi ((broadcastInDim S2048 ![] bcast_S_S2048) (id ((constantI S_ 32 2048#32)))) (maxsi ((broadcastInDim S2048 ![] bcast_S_S2048) (id ((constantI S_ 32 0#32)))) (subi ((iotaInDim S2048 32 0)) (broadcastInDim S2048 ![] bcast_S_S2048 (constantI S_ 32 hw)))))

/-- The position behind each window. -/
def Hi (hw : BitVec 32) : IVec S2048 32 :=
  (minsi ((broadcastInDim S2048 ![] bcast_S_S2048) (id ((constantI S_ 32 2048#32)))) (maxsi ((broadcastInDim S2048 ![] bcast_S_S2048) (id ((constantI S_ 32 0#32)))) (addi ((iotaInDim S2048 32 0)) (broadcastInDim S2048 ![] bcast_S_S2048 (constantI S_ 32 hw)))))

/-- The positions as start indices. -/
def Row (i : IVec S2048 32) : IVec S2048x1 32 :=
  (broadcastInDim S2048x1 ![0] bcast_S2048_S2048x1_0 (select (cmpi .slt i (broadcastInDim S2048 ![] bcast_S_S2048 ((constantI S_ 32 0#32)))) (addi i (broadcastInDim S2048 ![] bcast_S_S2048 ((constantI S_ 32 2049#32)))) i))

/-- The running sums at those positions. -/
def Take (cs : FVec Ideal S8x2049x256 .f32) (i : IVec S2048x1 32) : FVec Ideal S8x2048x256 .f32 :=
  (Host.gather gather_S8x2049x256_S2048x1_S8x2048x256_02_1_n_n_1_1_81256 cs i)

/-- The window means of one group. -/
def Win (hw : BitVec 32) (ug : FVec Ideal S8x2048x256 .f32) : FVec Ideal S8x2048x256 .f32 :=
  (Host.divf (subf (Take (Cs ug) (Row (Hi hw))) (Take (Cs ug) (Row (Lo hw)))) (broadcastInDim S8x2048x256 ![0, 1, 2] bcast_S1x2048x1_S8x2048x256_0_1_2 (broadcastInDim S1x2048x1 ![1] bcast_S2048_S1x2048x1_1 (sitofp .f32 (subi (Hi hw) (Lo hw))))))

/-- The four groups' means, stacked. -/
def St (m0 m1 m2 m3 : FVec Ideal S8x2048x256 .f32) : FVec Ideal S8x2048x4x256 .f32 :=
  (fn_main_v179 (F := Ideal) (broadcastInDim S8x2048x1x256 ![0, 1, 3] bcast_S8x2048x256_S8x2048x1x256_0_1_3 m0) (broadcastInDim S8x2048x1x256 ![0, 1, 3] bcast_S8x2048x256_S8x2048x1x256_0_1_3 m1) (broadcastInDim S8x2048x1x256 ![0, 1, 3] bcast_S8x2048x256_S8x2048x1x256_0_1_3 m2) (broadcastInDim S8x2048x1x256 ![0, 1, 3] bcast_S8x2048x256_S8x2048x1x256_0_1_3 m3))

/-- The groups' differences mixed by their weights and scaled. -/
def E (st u : FVec Ideal S8x2048x4x256 .f32) (wg : FVec Ideal S2x4x256x256 .f32) (sc : FVec Ideal S2x1024 .f32) : FVec Ideal S8x2048x1024 .f32 :=
  (mulf (shapeCast S8x2048x1024 (transpose S8x2048x4x256 [2, 3, 0, 1] (Host.dotGeneral dot_S4x256x256_S8x2048x4x256_S4x256x8x2048_1_3_2_01_0_2 none (shapeCast S4x256x256 (extractStridedSlice S1x4x256x256 ![1, 0, 0, 0] wg slices_S2x4x256x256_S1x4x256x256_1_0_0_0) shapeCasts_S1x4x256x256_S4x256x256) (subf st u)) transposes_S4x256x8x2048_S8x2048x4x256_2_3_0_1) shapeCasts_S8x2048x4x256_S8x2048x1024) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] sc slices_S2x1024_S1x1024_1_0) shapeCasts_S1x1024_S1024))))

/-- The gated residual. -/
def O (x : FVec Ideal S8x2048x1024 .f32) (mods : FVec Ideal S8x3072 .f32) (p : FVec Ideal S8x2048x2048 .f32) (e : FVec Ideal S8x2048x1024 .f32) (wo : FVec Ideal S2x1024x1024 .f32) : FVec Ideal S8x2048x1024 .f32 :=
  (addf x (mulf (broadcastInDim S8x2048x1024 ![0, 1, 2] bcast_S8x1x1024_S8x2048x1024_0_1_2 (broadcastInDim S8x1x1024 ![0, 2] bcast_S8x1024_S8x1x1024_0_2 (extractStridedSlice S8x1024 ![0, 2048] mods slices_S8x3072_S8x1024_0_2048))) (Host.dotGeneral dot_S8x2048x1024_S1024x1024_S8x2048x1024_2_0_01_1_n_n none (mulf e (mulf (extractStridedSlice S8x2048x1024 ![0, 0, 1024] p slices_S8x2048x2048_S8x2048x1024_0_0_1024) (Host.divf ((broadcastInDim S8x2048x1024 ![] bcast_S_S8x2048x1024) ((constant S_ .f32 0x3F800000#32))) (addf ((broadcastInDim S8x2048x1024 ![] bcast_S_S8x2048x1024) ((constant S_ .f32 0x3F800000#32))) (Host.exp (Host.negf (extractStridedSlice S8x2048x1024 ![0, 0, 1024] p slices_S8x2048x2048_S8x2048x1024_0_0_1024))))))) (shapeCast S1024x1024 (extractStridedSlice S1x1024x1024 ![1, 0, 0] wo slices_S2x1024x1024_S1x1024x1024_1_0_0) shapeCasts_S1x1024x1024_S1024x1024))))

/-- The final normalisation. -/
def Fin' (y : FVec Ideal S8x2048x1024 .f32) (fg : FVec Ideal S1024 .f32) : FVec Ideal S8x2048x1024 .f32 :=
  (mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) ((constant S_ .f32 0x00000000#32)) reducesTo_S8x2048x1024_S8x2048_d2 h_S_)) (broadcastInDim S8x2048x1 ![] bcast_S_S8x2048x1 ((constant S_ .f32 0x44800000#32)))) (broadcastInDim S8x2048x1 ![] bcast_S_S8x2048x1 ((constant S_ .f32 0x358637BD#32))))))) (broadcastInDim S8x2048x1024 ![0, 1, 2] bcast_S1x1x1024_S8x2048x1024_0_1_2 (broadcastInDim S1x1x1024 ![2] bcast_S1024_S1x1x1024_2 fg)))

/-- The result of the reference at a valuation of its buffers. -/
def Res (x : FVec Ideal S8x2048x1024 .f32) (cc : FVec Ideal S8x1024 .f32) (ng : FVec Ideal S4x1024 .f32) (aw : FVec Ideal S4x1024x3072 .f32) (ab : FVec Ideal S4x3072 .f32)
    (win : FVec Ideal S2x1024x2048 .f32) (wg : FVec Ideal S2x4x256x256 .f32) (sc : FVec Ideal S2x1024 .f32) (wo : FVec Ideal S2x1024x1024 .f32) (fg : FVec Ideal S1024 .f32) : FVec Ideal S8x2048x1024 .f32 :=
  let mods := Mods cc aw ab
  let p := P (H x ng mods) win
  let u := U p
  Fin' (O x mods p (E (St (Win 1#32 (G0 u)) (Win 2#32 (G1 u)) (Win 4#32 (G2 u)) (Win 8#32 (G3 u))) u wg sc) wo) fg

theorem Mods_at (cc : FVec Ideal S8x1024 .f32) (aw : FVec Ideal S4x1024x3072 .f32) (ab : FVec Ideal S4x3072 .f32) (b : Fin 8) (o : Fin 3072) :
    Mods cc aw ab (ix2 b o) = modv (fun k => cc (ix2 b k)) (fun k j => aw (ix3 3 k j)) (fun j => ab (ix2 3 j)) o := by
  pointwise [Mods, modv, silu]

theorem H_at (x : FVec Ideal S8x2048x1024 .f32) (ng : FVec Ideal S4x1024 .f32) (mods : FVec Ideal S8x3072 .f32) (b : Fin 8) (s : Fin 2048) (k : Fin 1024) :
    H x ng mods (ix3 b s k) = nrm (fun k => x (ix3 b s k)) (fun k => ng (ix2 3 k)) (fun k => mods (ix2 b ⟨k.val, by omega⟩))
      (fun k => mods (ix2 b ⟨1024 + k.val, by omega⟩)) k := by
  pointwise [H, nrm, rms]
  rw [mul_assoc (x (ix3 b s k) * _)]

theorem P_at (h : FVec Ideal S8x2048x1024 .f32) (win : FVec Ideal S2x1024x2048 .f32) (b : Fin 8) (s : Fin 2048) (j : Fin 2048) :
    P h win (ix3 b s j) = ∑ k : Fin 1024, h (ix3 b s k) * win (ix3 1 k j) := by
  pointwise [P]

theorem U_at (p : FVec Ideal S8x2048x2048 .f32) (b : Fin 8) (s : Fin 2048) (g : Fin 4) (j : Fin 256) :
    U p (ix4 b s g j) = p (ix3 b s (Pool.col g j)) := by
  pointwise [U]
  rfl

theorem G0_at (u : FVec Ideal S8x2048x4x256 .f32) (b : Fin 8) (s : Fin 2048) (j : Fin 256) : G0 u (ix3 b s j) = u (ix4 b s 0 j) := by pointwise [G0]
theorem G1_at (u : FVec Ideal S8x2048x4x256 .f32) (b : Fin 8) (s : Fin 2048) (j : Fin 256) : G1 u (ix3 b s j) = u (ix4 b s 1 j) := by pointwise [G1]
theorem G2_at (u : FVec Ideal S8x2048x4x256 .f32) (b : Fin 8) (s : Fin 2048) (j : Fin 256) : G2 u (ix3 b s j) = u (ix4 b s 2 j) := by pointwise [G2]
theorem G3_at (u : FVec Ideal S8x2048x4x256 .f32) (b : Fin 8) (s : Fin 2048) (j : Fin 256) : G3 u (ix3 b s j) = u (ix4 b s 3 j) := by pointwise [G3]

theorem St_at (m0 m1 m2 m3 : FVec Ideal S8x2048x256 .f32) (b : Fin 8) (s : Fin 2048) (g : Fin 4) (j : Fin 256) :
    St m0 m1 m2 m3 (ix4 b s g j) = (![m0, m1, m2, m3] g) (ix3 b s j) := by
  unfold St fn_main_v179
  pointwise
  match g with
  | ⟨0, _⟩ => rfl
  | ⟨1, _⟩ => rfl
  | ⟨2, _⟩ => rfl
  | ⟨3, _⟩ => rfl

theorem E_at (st u : FVec Ideal S8x2048x4x256 .f32) (wg : FVec Ideal S2x4x256x256 .f32) (sc : FVec Ideal S2x1024 .f32) (b : Fin 8) (s : Fin 2048) (c : Fin 1024) :
    E st u wg sc (ix3 b s c) = (∑ j : Fin 256, wg (ix4 1 (Pool.grp c) j (Pool.off c)) * (st (ix4 b s (Pool.grp c) j) - u (ix4 b s (Pool.grp c) j))) * sc (ix2 1 c) := by
  pointwise [E]
  rfl

theorem O_at (x : FVec Ideal S8x2048x1024 .f32) (mods : FVec Ideal S8x3072 .f32) (p : FVec Ideal S8x2048x2048 .f32) (e : FVec Ideal S8x2048x1024 .f32) (wo : FVec Ideal S2x1024x1024 .f32)
    (b : Fin 8) (s : Fin 2048) (d : Fin 1024) :
    O x mods p e wo (ix3 b s d) = Pool.res (fun d => x (ix3 b s d)) (fun d => mods (ix2 b ⟨2048 + d.val, by omega⟩)) (fun c => e (ix3 b s c))
      (fun c => p (ix3 b s ⟨1024 + c.val, by omega⟩)) (fun c d => wo (ix3 1 c d)) d := by
  pointwise [O, Pool.res, silu]

theorem Fin'_at (y : FVec Ideal S8x2048x1024 .f32) (fg : FVec Ideal S1024 .f32) (b : Fin 8) (s : Fin 2048) (d : Fin 1024) :
    Fin' y fg (ix3 b s d) = y (ix3 b s d) * rms (fun d => y (ix3 b s d)) * fg (ix1 d) := by
  pointwise [Fin', rms]

theorem Take_at (cs : FVec Ideal S8x2049x256 .f32) (i : IVec S2048x1 32) (b : Fin 8) (s : Fin 2048) (j : Fin 256) (n : Fin 2049)
    (h : (i (ix2 s 0)).toInt = (n.val : Int)) : Take cs i (ix3 b s j) = cs (ix3 b n j) := by
  unfold Take Host.gather
  refine congrArg cs (funext fun a => Fin.ext ?_)
  show gather_S8x2049x256_S2048x1_S8x2048x256_02_1_n_n_1_1_81256.start (ix3 b s j) i a + gather_S8x2049x256_S2048x1_S8x2048x256_02_1_n_n_1_1_81256.batchCoord (ix3 b s j) a
    + gather_S8x2049x256_S2048x1_S8x2048x256_02_1_n_n_1_1_81256.offCoord (ix3 b s j) a = _
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ gather_S8x2049x256_S2048x1_S8x2048x256_02_1_n_n_1_1_81256.startIndexMap from List.mem_singleton.mpr rfl)]
    have hsi : gather_S8x2049x256_S2048x1_S8x2048x256_02_1_n_n_1_1_81256.siIdx (ix3 b s j)
        ⟨List.idxOf (1 : Fin 3) gather_S8x2049x256_S2048x1_S8x2048x256_02_1_n_n_1_1_81256.startIndexMap, List.idxOf_lt_length_iff.2 (List.mem_singleton.mpr rfl)⟩ = ix2 s 0 := by
      funext t; refine Fin.ext ?_
      match t with
      | ⟨0, _⟩ => rfl
      | ⟨1, _⟩ => rfl
    rw [hsi, h]
    show min ((n.val : Int).toNat) (2049 - 1) = n.val
    rw [Int.toNat_natCast]
    omega
  · unfold GatherDims.start
    rw [dif_neg (by decide), Nat.zero_add]
    rfl

/-- Each window's first position, as a start index. -/
theorem lo_word : ∀ (g : Fin 4) (s : Fin 2048), IntOp.minsi 2048#32 (IntOp.maxsi 0#32 (BitVec.ofNat 32 s.val - BitVec.ofNat 32 (2 ^ g.val))) = BitVec.ofNat 32 (s.val - 2 ^ g.val) := by
  decide +kernel

theorem hi_word : ∀ (g : Fin 4) (s : Fin 2048), IntOp.minsi 2048#32 (IntOp.maxsi 0#32 (BitVec.ofNat 32 s.val + BitVec.ofNat 32 (2 ^ g.val))) = BitVec.ofNat 32 (min (s.val + 2 ^ g.val) 2048) := by
  decide +kernel

theorem Lo_at (hw : BitVec 32) (s : Fin 2048) : Lo hw (ix1 s) = IntOp.minsi 2048#32 (IntOp.maxsi 0#32 (BitVec.ofNat 32 s.val - hw)) := by
  pointwise [Lo]
  rfl
theorem Hi_at (hw : BitVec 32) (s : Fin 2048) : Hi hw (ix1 s) = IntOp.minsi 2048#32 (IntOp.maxsi 0#32 (BitVec.ofNat 32 s.val + hw)) := by
  pointwise [Hi]
  rfl
theorem row_word : ∀ n : Fin 2049, Scalar.select (IntOp.cmpi CmpIPredicate.slt (BitVec.ofNat 32 n.val) 0#32) (IntOp.addi (BitVec.ofNat 32 n.val) 2049#32) (BitVec.ofNat 32 n.val)
    = BitVec.ofNat 32 n.val := by decide +kernel
theorem Row_at (i : IVec S2048 32) (s : Fin 2048) (n : Nat) (hn : n < 2049) (h : i (ix1 s) = BitVec.ofNat 32 n) : Row i (ix2 s 0) = BitVec.ofNat 32 n := by
  pointwise [Row]
  rw [h]
  exact row_word ⟨n, hn⟩

theorem foldl_add {ι : Type} (l : List ι) (g : ι → EReal) : ∀ v : EReal, l.foldl (fun r n => r + g n) v = v + (l.map g).sum := by
  induction l with
  | nil => intro v; simp
  | cons a l ih => intro v; rw [List.foldl_cons, ih, List.map_cons, List.sum_cons, add_assoc]

/-- A window that ends at row `l`, over the rows of the sequence. -/
theorem sum_window (T : Fin 2048 → EReal) (l : Fin 2048) :
    (∑ a : Fin 2048, if h : 2047 ≤ l.val + a.val then T ⟨l.val + a.val - 2047, by omega⟩ else 0) = ∑ q : Fin 2048, if q.val < l.val + 1 then T q else 0 := by
  refine Fintype.sum_bijective (fun a : Fin 2048 => (⟨(l.val + a.val + 1) % 2048, by omega⟩ : Fin 2048)) (Finite.injective_iff_bijective.1 fun a a' h => ?_) _ _ fun a => ?_
  · have h' : (l.val + a.val + 1) % 2048 = (l.val + a'.val + 1) % 2048 := congrArg Fin.val h
    exact Fin.ext (by omega)
  · dsimp only
    by_cases h : 2047 ≤ l.val + a.val
    · rw [dif_pos h, if_pos (by omega)]
      exact congrArg T (Fin.ext (by dsimp only; omega))
    · rw [dif_neg h, if_neg (by omega)]

/-- The host's window sum at an element: the initial value and the sum over the window's indices. -/
theorem window_sum {s t : Shape} (window strides lo hi : Fin s.rank → Nat) (x : FVec Ideal s .f32) (v : FVec Ideal S_ .f32)
    (h : s.ReduceWindows window strides lo hi t) (hu : 0 < S_.numel) (j : t.Idx) :
    Host.reduceWindowAdd window strides lo hi x v h hu j = v (Shape.Idx.first hu) + ∑ i : (⟨s.rank, window⟩ : Shape).Idx,
      if hin : ∀ a : Fin s.rank, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else v (Shape.Idx.first hu) := by
  let W : Shape := ⟨s.rank, window⟩
  let G : W.Idx → EReal := fun i =>
    if hin : ∀ a : Fin s.rank, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else v (Shape.Idx.first hu)
  have e : Host.reduceWindowAdd window strides lo hi x v h hu j = (List.finRange W.numel).foldl (fun r n => r + G (W.rowMajor.symm n)) (v (Shape.Idx.first hu)) := by
    unfold Host.reduceWindowAdd
    rw [Ideal.hostReduceWindowAdd_def]
    unfold Ideal.hostReduceWindowAdd Host.reduceWindow
    refine congrArg (fun f => List.foldl f (v (Shape.Idx.first hu)) (List.finRange W.numel)) (funext fun r => funext fun n => congrArg (r + ·) ?_)
    dsimp only
    split
    · next hh => simp only [G]; rw [dif_pos hh]
    · next hh => simp only [G]; rw [dif_neg hh]
  rw [e, foldl_add (List.finRange W.numel) (fun n => G (W.rowMajor.symm n)), ← Fin.sum_univ_def, Equiv.sum_comp W.rowMajor.symm G]

theorem window_at (ug : FVec Ideal S8x2048x256 .f32) (v : FVec Ideal S_ .f32) (hv : v (Shape.Idx.first h_S_) = 0) (b : Fin 8) (l : Fin 2048) (j : Fin 256) :
    Host.reduceWindowAdd ![1, 2048, 1] ![1, 1, 1] ![0, 2047, 0] ![0, 0, 0] ug v reduceWindows_S8x2048x256_S8x2048x256_w1s1p0_0_w2048s1p2047_0_w1s1p0_0 h_S_ (ix3 b l j)
      = ∑ q : Fin 2048, if q.val < l.val + 1 then ug (ix3 b q j) else 0 := by
  rw [← sum_window (fun q => ug (ix3 b q j)) l, window_sum, hv, zero_add]
  refine (Fintype.sum_bijective (fun a : Fin 2048 => (ix3 0 a 0 : (⟨3, ![1, 2048, 1]⟩ : Shape).Idx)) ⟨fun a a' h => congrFun h 1, fun i => ⟨i 1, ?_⟩⟩ _ _ fun a => ?_).symm
  · funext t
    match t with
    | ⟨0, _⟩ => exact Subsingleton.elim (α := Fin 1) _ _
    | ⟨1, _⟩ => rfl
    | ⟨2, _⟩ => exact Subsingleton.elim (α := Fin 1) _ _
  · by_cases h : 2047 ≤ l.val + a.val
    · rw [dif_pos h, dif_pos]
      · refine congrArg ug (funext fun t => Fin.ext ?_)
        match t with
        | ⟨0, _⟩ => show b.val = b.val * 1 + 0 - 0; omega
        | ⟨1, _⟩ => show l.val + a.val - 2047 = l.val * 1 + a.val - 2047; omega
        | ⟨2, _⟩ => show j.val = j.val * 1 + 0 - 0; omega
      · intro t
        match t with
        | ⟨0, _⟩ => show 0 ≤ b.val * 1 + 0 ∧ b.val * 1 + 0 - 0 < 8; omega
        | ⟨1, _⟩ => show 2047 ≤ l.val * 1 + a.val ∧ l.val * 1 + a.val - 2047 < 2048; omega
        | ⟨2, _⟩ => show 0 ≤ j.val * 1 + 0 ∧ j.val * 1 + 0 - 0 < 256; omega
    · rw [dif_neg h, dif_neg]
      intro hin
      have : 2047 ≤ l.val * 1 + a.val := (hin 1).1
      omega

theorem Cs_at (ug : FVec Ideal S8x2048x256 .f32) (b : Fin 8) (n : Fin 2049) (j : Fin 256) :
    Cs ug (ix3 b n j) = ∑ q : Fin 2048, if q.val < n.val then ug (ix3 b q j) else 0 := by
  unfold Cs fn_main_v51
  have hw := window_at ug (broadcastInDim (s := S_) (α := Ideal .f32) S_ ![] bcast_S_S_ (constant S_ .f32 0x00000000#32)) (by pointwise) b
  generalize Host.reduceWindowAdd ![1, 2048, 1] ![1, 1, 1] ![0, 2047, 0] ![0, 0, 0] ug (broadcastInDim (s := S_) (α := Ideal .f32) S_ ![] bcast_S_S_ (constant S_ .f32 0x00000000#32))
      reduceWindows_S8x2048x256_S8x2048x256_w1s1p0_0_w2048s1p2047_0_w1s1p0_0 h_S_ = r at hw ⊢
  pointwise
  by_cases h : n.val < 1
  · rw [dif_pos h]
    exact (Finset.sum_eq_zero fun q _ => if_neg (by omega)).symm
  · rw [dif_neg h, hw]
    dsimp only
    rw [Nat.sub_add_cancel (by omega)]

theorem toInt_small (n : Nat) (hn : n < 2049) : (BitVec.ofNat 32 n).toInt = (n : Int) := by
  rw [BitVec.toInt_eq_toNat_of_lt (by rw [BitVec.toNat_ofNat]; omega), BitVec.toNat_ofNat, Nat.mod_eq_of_lt (by omega)]

theorem sub_word (p q : Nat) (hp : p < 2049) (h : q ≤ p) : IntOp.subi (BitVec.ofNat 32 p) (BitVec.ofNat 32 q) = BitVec.ofNat 32 (p - q) := by
  show BitVec.ofNat 32 p - BitVec.ofNat 32 q = _
  apply BitVec.eq_of_toNat_eq
  rw [BitVec.toNat_sub, BitVec.toNat_ofNat, BitVec.toNat_ofNat, BitVec.toNat_ofNat]
  omega

/-- The window mean at a row, from words that hold the window's ends. -/
theorem Win_word (hw : BitVec 32) (p q : Fin 2049) (ug : FVec Ideal S8x2048x256 .f32) (b : Fin 8) (s : Fin 2048) (j : Fin 256) (hle : q.val ≤ p.val)
    (hi : Hi hw (ix1 s) = BitVec.ofNat 32 p.val) (hl : Lo hw (ix1 s) = BitVec.ofNat 32 q.val) :
    Win hw ug (ix3 b s j) = Ideal.div ((∑ t : Fin 2048, if t.val < p.val then ug (ix3 b t j) else 0)
      - ∑ t : Fin 2048, if t.val < q.val then ug (ix3 b t j) else 0) (((p.val - q.val : Nat) : ℝ) : EReal) := by
  unfold Win
  pointwise
  have e1 := Take_at (Cs ug) (Row (Hi hw)) b s j p (by rw [Row_at _ s _ p.isLt hi, toInt_small _ p.isLt])
  have e2 := Take_at (Cs ug) (Row (Lo hw)) b s j q (by rw [Row_at _ s _ q.isLt hl, toInt_small _ q.isLt])
  rw [e1, e2, Cs_at, Cs_at, hi, hl, sub_word _ _ p.isLt hle]
  refine congrArg (Ideal.div _) ?_
  show (((BitVec.ofNat 32 (p.val - q.val)).toInt : ℝ) : EReal) = _
  rw [toInt_small _ (by omega)]
  rfl

theorem Win_at (g : Fin 4) (ug : FVec Ideal S8x2048x256 .f32) (b : Fin 8) (s : Fin 2048) (j : Fin 256) :
    Win (BitVec.ofNat 32 (2 ^ g.val)) ug (ix3 b s j) = Ideal.div ((∑ q : Fin 2048, if q.val < min (s.val + Pool.half g) 2048 then ug (ix3 b q j) else 0)
      - ∑ q : Fin 2048, if q.val < s.val - Pool.half g then ug (ix3 b q j) else 0) ((Pool.cnt (Pool.half g) s.val : ℝ) : EReal) :=
  Win_word (BitVec.ofNat 32 (2 ^ g.val)) ⟨min (s.val + Pool.half g) 2048, by omega⟩ ⟨s.val - Pool.half g, by omega⟩ ug b s j (by dsimp only; omega)
    ((Hi_at _ s).trans (hi_word g s)) ((Lo_at _ s).trans (lo_word g s))

end Cert.PoolRefIdeal.At
-- ==== Proof.PoolRefRun.lean ====
module

public import proofs.«01_k».proof.Proof.PoolRef

/-! # The pooling layer's reference: its result is the composition of its intermediate arrays -/

@[expose] public section

set_option maxRecDepth 16384

noncomputable section

namespace Cert.PoolRefIdeal.At

open Cert.PoolRefIdeal Cert.PoolRefIdeal.Gen Cert.PoolRefIdeal.Value
open Idealize.ShloMosaic Idealize.ShloMosaic.TcCoe Idealize.SL.Sem
open Cert.Layer StableHlo

set_option maxHeartbeats 4000000 in
theorem result_eq (m : (ℓ : Loc nD τ sig) → Buf (Elt Ideal) ℓ) (c : Dev nD) :
    mulf (mulf (res_main_v193 (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v193 (launchContents m c)) (res_main_v193 (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m c) (Proc.devRef .tc main_arg10)))) =
    Res (m ((c.tc : Thread nD τ).loc main_arg0)) (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

end Cert.PoolRefIdeal.At

end
-- ==== Proof.PoolEq.lean ====
module

public import proofs.«01_k».proof.Proof.PoolFinal
public import proofs.«01_k».proof.Proof.PoolReal
public import proofs.«01_k».proof.Proof.PoolRefRun
public import proofs.«01_k».proof.Defs

/-! # The pooling layer: the kernel's result array is the reference's, on finite arguments -/

@[expose] public section

set_option maxRecDepth 16384

noncomputable section

namespace Cert.PoolIdeal.Final

open Cert.PoolIdeal Cert.PoolIdeal.Gen Cert.PoolIdeal.Run
open Idealize.ShloMosaic Idealize.ShloMosaic.TcCoe Idealize.SL.Sem Idealize.ShloMosaic.Pipeline
open Cert.Layer Cert.Layer.Pool

/-- An array whose magnitudes all compare below infinity holds real numbers. -/
theorem real_of_mask {s : Shape} (a : FVec Ideal s .f32) (h : S_.BroadcastsInDim s ![])
    (e : cmpf .olt (Host.absf a) (broadcastInDim (s := S_) (α := Ideal .f32) s ![] h (constant S_ .f32 0x7F800000#32)) = fun _ => 1#1) (i : s.Idx) : IsReal (a i) := by
  have e' : Ideal.cmp .olt (max (a i) (-(a i))) (Ideal.ofBits .f32 0x7F800000#32) = 1#1 := congrFun e i
  have htop : Ideal.ofBits .f32 0x7F800000#32 = ⊤ := by simp [Ideal.ofBits, Ideal.ieee]
  have key : ∀ y : EReal, Ideal.cmp .olt (max y (-y)) ⊤ = 1#1 → IsReal y := fun y h => by
    induction y with
    | bot => simp [Ideal.cmp] at h
    | top => simp [Ideal.cmp] at h
    | coe r => exact ⟨r, rfl⟩
  rw [htop] at e'
  exact key (a i) e'

/-- The window means at a row, group by group. -/
theorem means_at (u : FVec Ideal Cert.PoolRefIdeal.S8x2048x4x256 .f32) (b : Fin 8) (s : Fin 2048) (g : Fin 4) (j : Fin 256) :
    PoolRefIdeal.At.St (PoolRefIdeal.At.Win 1#32 (PoolRefIdeal.At.G0 u)) (PoolRefIdeal.At.Win 2#32 (PoolRefIdeal.At.G1 u))
        (PoolRefIdeal.At.Win 4#32 (PoolRefIdeal.At.G2 u)) (PoolRefIdeal.At.Win 8#32 (PoolRefIdeal.At.G3 u)) (ix4 b s g j)
      = Ideal.div ((∑ q : Fin 2048, if q.val < min (s.val + half g) 2048 then u (ix4 b q g j) else 0)
          - ∑ q : Fin 2048, if q.val < s.val - half g then u (ix4 b q g j) else 0) ((cnt (half g) s.val : ℝ) : EReal) := by
  rw [PoolRefIdeal.At.St_at]
  have w0 := PoolRefIdeal.At.Win_at 0 (PoolRefIdeal.At.G0 u) b s j
  have w1 := PoolRefIdeal.At.Win_at 1 (PoolRefIdeal.At.G1 u) b s j
  have w2 := PoolRefIdeal.At.Win_at 2 (PoolRefIdeal.At.G2 u) b s j
  have w3 := PoolRefIdeal.At.Win_at 3 (PoolRefIdeal.At.G3 u) b s j
  simp only [PoolRefIdeal.At.G0_at] at w0
  simp only [PoolRefIdeal.At.G1_at] at w1
  simp only [PoolRefIdeal.At.G2_at] at w2
  simp only [PoolRefIdeal.At.G3_at] at w3
  match g with
  | ⟨0, _⟩ => exact w0
  | ⟨1, _⟩ => exact w1
  | ⟨2, _⟩ => exact w2
  | ⟨3, _⟩ => exact w3

theorem ref_at (x : FVec Ideal S8x2048x1024 .f32) (cc : FVec Ideal S8x1024 .f32) (ng : FVec Ideal S4x1024 .f32) (aw : FVec Ideal S4x1024x3072 .f32)
    (ab : FVec Ideal S4x3072 .f32) (win : FVec Ideal S2x1024x2048 .f32) (wg : FVec Ideal S2x4x256x256 .f32) (sc : FVec Ideal S2x1024 .f32)
    (wo : FVec Ideal S2x1024x1024 .f32) (fg : FVec Ideal S1024 .f32)
    (rx : ∀ i, IsReal (x i)) (rcc : ∀ i, IsReal (cc i)) (rng : ∀ i, IsReal (ng i)) (raw : ∀ i, IsReal (aw i)) (rab : ∀ i, IsReal (ab i))
    (rwin : ∀ i, IsReal (win i)) (rwg : ∀ i, IsReal (wg i)) (rsc : ∀ i, IsReal (sc i))
    (mo : FVec Ideal S4x16x3x1024 .f32)
    (hmo : ∀ (b : Fin 8) (n : Fin 3) (k : Fin 1024), mo (ix4 3 (⟨b.val, by omega⟩ : Fin 16) n k)
      = modv (fun k => cc (ix2 b k)) (fun k j => aw (ix3 3 k j)) (fun j => ab (ix2 3 j)) ⟨n.val * 1024 + k.val, by omega⟩)
    (w4 w5 w6 : FVec Ideal S2x1024x1024 .bf16)
    (h4 : ∀ k c, w4 (ix3 1 k c) = fold (fun k j => win (ix3 1 k j)) (fun g i j => wg (ix4 1 g i j)) (fun q => sc (ix2 1 q)) k c)
    (h5 : ∀ k (c : Fin 1024), w5 (ix3 1 k c) = win (ix3 1 k ⟨1024 + c.val, by omega⟩))
    (h6 : ∀ k c, w6 (ix3 1 k c) = wo (ix3 1 k c))
    (b : Fin 8) (s : Fin 2048) (d : Fin 1024) :
    Out x mo (shapeCast S4x1x1024 ng shapeCasts_S4x1024_S4x1x1024) w4 w5 w6 (shapeCast S1x1024 fg shapeCasts_S1024_S1x1024) b s d
      = PoolRefIdeal.At.Res x cc ng aw ab win wg sc wo fg (ix3 b s d) := by
  have m0 : ∀ (n : Fin 3) k, mo (ix4 3 (⟨b.val, by omega⟩ : Fin 16) n k) = PoolRefIdeal.At.Mods cc aw ab (ix2 b ⟨n.val * 1024 + k.val, by omega⟩) := fun n k => by
    rw [hmo, PoolRefIdeal.At.Mods_at]
  have hng : ∀ k, shapeCast S4x1x1024 ng shapeCasts_S4x1024_S4x1x1024 (ix3 3 0 k) = ng (ix2 3 k) := fun k => by pointwise
  have hfg : ∀ k, shapeCast S1x1024 fg shapeCasts_S1024_S1x1024 (ix2 0 k) = fg (ix1 k) := fun k => by pointwise
  have rM : ∀ o, IsReal (PoolRefIdeal.At.Mods cc aw ab (ix2 b o)) := fun o => by
    rw [PoolRefIdeal.At.Mods_at]
    exact IsReal.modv (fun k => rcc _) (fun k o => raw _) (fun o => rab _) o
  unfold Out PoolRefIdeal.At.Res
  simp only [m0, hng, hfg]
  generalize PoolRefIdeal.At.Mods cc aw ab = M at rM ⊢
  rw [PoolRefIdeal.At.Fin'_at]
  have hH : (fun (s : Fin 2048) (k : Fin 1024) => nrm (fun k => x (ix3 b s k)) (fun k => ng (ix2 3 k)) (fun k => M (ix2 b ⟨(0 : Fin 3).val * 1024 + k.val, by omega⟩))
      (fun k => M (ix2 b ⟨(1 : Fin 3).val * 1024 + k.val, by omega⟩)) k) = fun s k => PoolRefIdeal.At.H x ng M (ix3 b s k) := by
    funext s k
    rw [PoolRefIdeal.At.H_at]
    congr 1
    funext k
    exact congrArg (fun q => M (ix2 b q)) (Fin.ext (by simp))
  have rH : ∀ s k, IsReal (PoolRefIdeal.At.H x ng M (ix3 b s k)) := fun s k => by
    rw [PoolRefIdeal.At.H_at]
    exact IsReal.nrm (fun k => rx _) (fun k => rng _) (fun k => rM _) (fun k => rM _) k
  have key : ∀ (h : Fin 2048 → Fin 1024 → EReal), h = (fun s k => PoolRefIdeal.At.H x ng M (ix3 b s k)) → ∀ d : Fin 1024,
      Pool.res (fun d => x (ix3 b s d)) (fun d => M (ix2 b ⟨(2 : Fin 3).val * 1024 + d.val, by omega⟩)) (mixed h (fun k c => w4 (ix3 1 k c)) s)
          (fun c => ∑ k : Fin 1024, h s k * w5 (ix3 1 k c)) (fun c d => w6 (ix3 1 c d)) d
        = PoolRefIdeal.At.O x M (PoolRefIdeal.At.P (PoolRefIdeal.At.H x ng M) win)
            (PoolRefIdeal.At.E (PoolRefIdeal.At.St (PoolRefIdeal.At.Win 1#32 (PoolRefIdeal.At.G0 (PoolRefIdeal.At.U (PoolRefIdeal.At.P (PoolRefIdeal.At.H x ng M) win))))
              (PoolRefIdeal.At.Win 2#32 (PoolRefIdeal.At.G1 (PoolRefIdeal.At.U (PoolRefIdeal.At.P (PoolRefIdeal.At.H x ng M) win))))
              (PoolRefIdeal.At.Win 4#32 (PoolRefIdeal.At.G2 (PoolRefIdeal.At.U (PoolRefIdeal.At.P (PoolRefIdeal.At.H x ng M) win))))
              (PoolRefIdeal.At.Win 8#32 (PoolRefIdeal.At.G3 (PoolRefIdeal.At.U (PoolRefIdeal.At.P (PoolRefIdeal.At.H x ng M) win)))))
              (PoolRefIdeal.At.U (PoolRefIdeal.At.P (PoolRefIdeal.At.H x ng M) win)) wg sc) wo (ix3 b s d) := by
    intro h hh d
    subst hh
    rw [PoolRefIdeal.At.O_at]
    have e1 : mixed (fun s k => PoolRefIdeal.At.H x ng M (ix3 b s k)) (fun k c => w4 (ix3 1 k c)) s
        = fun c => PoolRefIdeal.At.E (PoolRefIdeal.At.St (PoolRefIdeal.At.Win 1#32 (PoolRefIdeal.At.G0 (PoolRefIdeal.At.U (PoolRefIdeal.At.P (PoolRefIdeal.At.H x ng M) win))))
              (PoolRefIdeal.At.Win 2#32 (PoolRefIdeal.At.G1 (PoolRefIdeal.At.U (PoolRefIdeal.At.P (PoolRefIdeal.At.H x ng M) win))))
              (PoolRefIdeal.At.Win 4#32 (PoolRefIdeal.At.G2 (PoolRefIdeal.At.U (PoolRefIdeal.At.P (PoolRefIdeal.At.H x ng M) win))))
              (PoolRefIdeal.At.Win 8#32 (PoolRefIdeal.At.G3 (PoolRefIdeal.At.U (PoolRefIdeal.At.P (PoolRefIdeal.At.H x ng M) win)))))
              (PoolRefIdeal.At.U (PoolRefIdeal.At.P (PoolRefIdeal.At.H x ng M) win)) wg sc (ix3 b s c) := by
      funext c
      rw [PoolRefIdeal.At.E_at]
      simp only [means_at, PoolRefIdeal.At.U_at, PoolRefIdeal.At.P_at]
      unfold mixed
      simp only [h4]
      exact mixed_eq (fun s k => PoolRefIdeal.At.H x ng M (ix3 b s k)) (fun k j => win (ix3 1 k j)) (fun g i j => wg (ix4 1 g i j)) (fun q => sc (ix2 1 q))
        rH (fun k j => rwin _) (fun g i j => rwg _) (fun q => rsc _) s c
    have e2 : (fun c : Fin 1024 => ∑ k : Fin 1024, (fun s k => PoolRefIdeal.At.H x ng M (ix3 b s k)) s k * w5 (ix3 1 k c))
        = fun c : Fin 1024 => PoolRefIdeal.At.P (PoolRefIdeal.At.H x ng M) win (ix3 b s ⟨1024 + c.val, by omega⟩) := by
      funext c
      rw [PoolRefIdeal.At.P_at]
      exact Finset.sum_congr rfl fun k _ => by rw [h5]
    have e3 : (fun c d => w6 (ix3 1 c d)) = fun c d : Fin 1024 => (wo (ix3 1 c d) : EReal) := funext fun c => funext fun d => h6 c d
    rw [e1, e2, e3]
    rfl
  have hk := funext (key _ hH)
  exact congrFun (congrArg (fun (y : Fin 1024 → EReal) (d : Fin 1024) => y d * rms y * fg (ix1 d)) hk) d

/-- The precondition of the arrays it names: each holds real numbers. -/
theorem reals [hp : Cert.Pre_finite_inputs.Facts] (a0 : FVec Ideal Cert.Pre_finite_inputs.S8x2048x1024 .f32) (a1 : FVec Ideal Cert.Pre_finite_inputs.S8x1024 .f32) (a2 : FVec Ideal Cert.Pre_finite_inputs.S1024 .f32) (a3 : FVec Ideal Cert.Pre_finite_inputs.S4x1024 .f32) (a4 : FVec Ideal Cert.Pre_finite_inputs.S4x1024x3072 .f32) (a5 : FVec Ideal Cert.Pre_finite_inputs.S4x3072 .f32) (a6 : FVec Ideal Cert.Pre_finite_inputs.S2x1024x2048 .f32) (a7 : FVec Ideal Cert.Pre_finite_inputs.S2x4x256x256 .f32) (a8 : FVec Ideal Cert.Pre_finite_inputs.S2x1024 .f32) (a9 : FVec Ideal Cert.Pre_finite_inputs.S2x1024x1024 .f32) (a10 : FVec Ideal Cert.Pre_finite_inputs.S1024 .f32)
    (h : (Cert.Pre_finite_inputs.fn (F := Ideal) a0 a1 a2 a3 a4 a5 a6 a7 a8 a9 a10).1 = (fun _ => 1#1)
      ∧ (Cert.Pre_finite_inputs.fn (F := Ideal) a0 a1 a2 a3 a4 a5 a6 a7 a8 a9 a10).2.1 = (fun _ => 1#1)
      ∧ (Cert.Pre_finite_inputs.fn (F := Ideal) a0 a1 a2 a3 a4 a5 a6 a7 a8 a9 a10).2.2.1 = (fun _ => 1#1)
      ∧ (Cert.Pre_finite_inputs.fn (F := Ideal) a0 a1 a2 a3 a4 a5 a6 a7 a8 a9 a10).2.2.2.1 = (fun _ => 1#1)
      ∧ (Cert.Pre_finite_inputs.fn (F := Ideal) a0 a1 a2 a3 a4 a5 a6 a7 a8 a9 a10).2.2.2.2.1 = (fun _ => 1#1)
      ∧ (Cert.Pre_finite_inputs.fn (F := Ideal) a0 a1 a2 a3 a4 a5 a6 a7 a8 a9 a10).2.2.2.2.2.1 = (fun _ => 1#1)
      ∧ (Cert.Pre_finite_inputs.fn (F := Ideal) a0 a1 a2 a3 a4 a5 a6 a7 a8 a9 a10).2.2.2.2.2.2.1 = (fun _ => 1#1)
      ∧ (Cert.Pre_finite_inputs.fn (F := Ideal) a0 a1 a2 a3 a4 a5 a6 a7 a8 a9 a10).2.2.2.2.2.2.2 = (fun _ => 1#1)) :
    (∀ i, IsReal (a0 i)) ∧ (∀ i, IsReal (a1 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) := by
  unfold Cert.Pre_finite_inputs.fn Cert.Pre_finite_inputs.fn_part1 at h
  dsimp only at h
  obtain ⟨p0, p1, p3, p4, p5, p6, p7, p8⟩ := h
  exact ⟨real_of_mask _ _ p0, real_of_mask _ _ p1, real_of_mask _ _ p3, real_of_mask _ _ p4, real_of_mask _ _ p5, real_of_mask _ _ p6, real_of_mask _ _ p7, real_of_mask _ _ p8⟩

variable (m : (ℓ : Loc nD τ sig) → Buf (Elt Ideal) ℓ) (ρ : Dev nD → PrngReg)

theorem final [hp : Cert.Pre_finite_inputs.Facts] (hpre : Cert.Pre_PoolIdeal_finite_inputs m) (c : Dev nD) :
    (dat2 (V5 m ρ) c).arrAt 9 cfg2.N = PoolRefIdeal.At.Res (m ((c : Thread nD τ).loc main_arg0)) (m ((c : Thread nD τ).loc main_arg1))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) := by
  obtain ⟨r0, r1, r3, r4, r5, r6, r7, r8⟩ := reals _ _ _ _ _ _ _ _ _ _ _ (hpre c)
  rw [array, V5_arg0, V5_v8, V5_v10_0, V5_v10_1, V5_v10_2, V5_v11, Fold.array4, Fold.array5, Fold.array6, V3_arg6, V3_arg7, V3_arg9, V3_v9]
  funext i
  refine (ref_at _ _ _ _ _ (m ((c : Thread nD τ).loc main_arg6)) (m ((c : Thread nD τ).loc main_arg7)) (m ((c : Thread nD τ).loc main_arg8)) (m ((c : Thread nD τ).loc main_arg9)) _
    r0 r1 r3 r4 r5 r6 r7 r8 _ (fun b n k => Mods.V5_v7_at m ρ c 3 b n k) _ _ _ (fun k c => ?_) (fun k c => ?_) (fun k c => ?_) (i 0) (i 1) (i 2)).trans ?_
  · show fold _ _ (fun q => shapeCast S2x1x1024 _ shapeCasts_S2x1024_S2x1x1024 (ix3 1 0 q)) k c = _
    refine congrArg (fun f => fold _ _ f k c) (funext fun q => ?_)
    pointwise
  · rfl
  · rfl
  · exact congrArg _ (eq_ix3 i).symm

end Cert.PoolIdeal.Final

end
-- ==== Proof.ProjRun.lean ====
module

public import proofs.«01_k».proof.Proof.Gen.ProjIdeal.Frame
public import Idealize.ShloMosaic.Lib.Claim
public import Idealize.ShloMosaic.Lib.Pipeline.ValueKit

/-! # The projections of layer 1: one run, and what its two calls find in their operands

`run_all` is the generated launch read for every buffer: a final state holds the last boundary's
contents, so the four result arrays are what the second call has written back. The theorems after it read
the second call's operands: the arguments through the host's reshapes and casts, and the modulation
array as the first call has written it. -/

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution terminates, and every buffer the launch does not scope ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run with its results: the second call's four output arrays after its last grid point, the arguments unchanged. -/
theorem run_main : θ_run defs (onTc (τ := τ) (main (F := F))) ⟨m, fun _ => 0, ρ⟩ (fun r => ∀ c : Dev nD,
      r.2.mem ((c.tc : Thread nD τ).loc main_v10_0) = (dat1 (V3 m ρ) c).arrAt 7 cfg1.N
      ∧ r.2.mem ((c.tc : Thread nD τ).loc main_v10_1) = (dat1 (V3 m ρ) c).arrAt 8 cfg1.N
      ∧ r.2.mem ((c.tc : Thread nD τ).loc main_v10_2) = (dat1 (V3 m ρ) c).arrAt 9 cfg1.N
      ∧ r.2.mem ((c.tc : Thread nD τ).loc main_v10_3) = (dat1 (V3 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v10_0 (by decide))).trans (W4_arr m ρ c 7),
     (h c _ (mem_uc main_v10_1 (by decide))).trans (W4_arr m ρ c 8),
     (h c _ (mem_uc main_v10_2 (by decide))).trans (W4_arr m ρ c 9),
     (h c _ (mem_uc main_v10_3 (by decide))).trans (W4_arr m ρ c 10),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-! ## The operands of the modulation call -/

theorem V1_arg4 (c : Dev nD) : V1 m ρ c main_arg4 = m ((c : Thread nD τ).loc main_arg4) := W1_args m ρ c main_arg4 (by decide)

theorem V1_v5 (c : Dev nD) : V1 m ρ c main_v5 = shapeCast S4x1x3072 (m ((c : Thread nD τ).loc main_arg5)) shapeCasts_S4x3072_S4x1x3072 := by
  show StableHlo.after hostOps0 (W0 m ρ c) (Proc.devRef .tc main_v5) = _
  after_results
  rfl

theorem V1_v4 (c : Dev nD) : V1 m ρ c main_v4 =
    Host.scatter scatter_S16x1024_S1_S1024_0_0_0_0 (fun _ b => b)
      (Host.scatter scatter_S16x1024_S1_S8x1024_01_n_0_0 (fun _ b => b)
        (broadcastInDim S16x1024 ![] bcast_S_S16x1024 (constant S_ .f32 0x00000000#32))
        (broadcastInDim S1 ![] bcast_S_S1 (constantI S_ 32 0#32)) (m ((c : Thread nD τ).loc main_arg1)))
      (broadcastInDim S1 ![] bcast_S_S1 (constantI S_ 32 8#32)) (m ((c : Thread nD τ).loc main_arg2)) := by
  show StableHlo.after hostOps0 (W0 m ρ c) (Proc.devRef .tc main_v4) = _
  after_results

/-! ## The operands of the layer's call -/

theorem V3_arg0 (c : Dev nD) : V3 m ρ c main_arg0 = m ((c : Thread nD τ).loc main_arg0) := W3_args m ρ c main_arg0 (by decide)

theorem V3_v7 (c : Dev nD) : V3 m ρ c main_v7 = shapeCast S4x16x3x1024 ((dat0 (V1 m ρ) c).arrAt 3 cfg0.N) shapeCasts_S4x16x3072_S4x16x3x1024 := by
  rw [← W2_arr m ρ c 3]
  show StableHlo.after hostOps1 (W2 m ρ c) (Proc.devRef .tc main_v7) = _
  after_results
  rfl

theorem V3_v8 (c : Dev nD) : V3 m ρ c main_v8 = shapeCast S4x1x1024 (m ((c : Thread nD τ).loc main_arg3)) shapeCasts_S4x1024_S4x1x1024 := by
  rw [← W2_args m ρ c main_arg3 (by decide)]
  show StableHlo.after hostOps1 (W2 m ρ c) (Proc.devRef .tc main_v8) = _
  after_results
  rfl

theorem V3_v9 (c : Dev nD) : V3 m ρ c main_v9 = truncf .bf16 (m ((c : Thread nD τ).loc main_arg6)) bitsLt_bf16_f32 := by
  rw [← W2_args m ρ c main_arg6 (by decide)]
  show StableHlo.after hostOps1 (W2 m ρ c) (Proc.devRef .tc main_v9) = _
  after_results

end Cert.ProjIdeal.Run

end
-- ==== Proof.ProjMods.lean ====
module

public import proofs.«01_k».proof.Proof.ProjRun
public import proofs.«01_k».proof.Proof.Spec
public import proofs.«01_k».proof.Proof.Cond

/-! # The modulation array of the projection program

The first call writes, for each of the four layers and each of the first eight condition rows, the
modulation row of `modv`. -/

@[expose] public section

set_option maxRecDepth 16384

noncomputable section

namespace Cert.ProjIdeal.Mods

open Cert.ProjIdeal Cert.ProjIdeal.Gen Cert.ProjIdeal.Run
open Idealize.ShloMosaic Idealize.ShloMosaic.TcCoe Idealize.SL.Sem Idealize.ShloMosaic.Pipeline
open Cert.Layer

variable (m : (ℓ : Loc nD τ sig) → Buf (Elt Ideal) ℓ) (ρ : Dev nD → PrngReg)

theorem pay_at (v0 : Vec Ideal S16x1024 .f32) (v9 : Vec Ideal S1x1024x3072 .f32) (v13 : Vec Ideal S1x1x3072 .f32) (b : Fin 16) (o : Fin 3072) :
    k0_pay1 v0 v9 v13 (ix3 0 b o) = modv (fun k => v0 (ix2 b k)) (fun k j => v9 (ix3 0 k j)) (fun j => v13 (ix3 0 0 j)) o := by
  pointwise [k0_pay1, modv]
  simp only [div_eq_silu]

theorem idx : ∀ t : Fin cfg0.N, win0_0.index t = ![0, 0] ∧ win0_1.index t = ![t.val, 0, 0] ∧ win0_2.index t = ![t.val, 0, 0]
    ∧ win0_3.index t = ![t.val, 0, 0] := by decide +kernel

/-- The modulation array as the first call leaves it, from its operands. -/
def G (cond : FVec Ideal S16x1024 .f32) (aw : FVec Ideal S4x1024x3072 .f32) (ab : FVec Ideal S4x1x3072 .f32) : FVec Ideal S4x16x3072 .f32 := fun i =>
  modv (fun k => cond (ix2 (i 1) k)) (fun k j => aw (ix3 (i 0) k j)) (fun j => ab (ix3 (i 0) 0 j)) (i 2)

theorem array (c : Dev nD) : (dat0 (V1 m ρ) c).arrAt 3 cfg0.N = G (V1 m ρ c main_v4) (V1 m ρ c main_arg4) (V1 m ρ c main_v5) := by
  refine (dat0 (V1 m ρ) c).arrAt_eq_of_covers 3 _ (by decide +kernel) fun t _ y => ?_
  blk_simp
  rw [after0_3]
  unfold out0_3
  frame_out
  obtain ⟨b, o, rfl⟩ : ∃ (b : Fin 16) (o : Fin 3072), y = ix3 0 b o := ⟨y 1, y 2, by
    funext a
    match a with
    | ⟨0, _⟩ => exact Subsingleton.elim (α := Fin 1) _ _
    | ⟨1, _⟩ => rfl
    | ⟨2, _⟩ => rfl⟩
  have hy : (win0_3.blk t).view.emb (ix3 0 b o) = ix3 (⟨t.val, by idx_bounds; omega⟩ : Fin 4) b o := by blk_ext [idx t]
  have h0 : ∀ k, iblk0 (V1 m ρ) c 0 t (ix2 b k) = V1 m ρ c main_v4 (ix2 b k) := fun k => by blk_ext [iblk0, idx t]
  have h1 : ∀ k j, iblk0 (V1 m ρ) c 1 t (ix3 0 k j) = V1 m ρ c main_arg4 (ix3 (⟨t.val, by idx_bounds; omega⟩ : Fin 4) k j) := fun k j => by
    blk_ext [iblk0, idx t]
  have h2 : ∀ j, iblk0 (V1 m ρ) c 2 t (ix3 0 0 j) = V1 m ρ c main_v5 (ix3 (⟨t.val, by idx_bounds; omega⟩ : Fin 4) 0 j) := fun j => by
    blk_ext [iblk0, idx t]
  rw [pay_at, hy]
  simp only [h0, h1, h2]
  rfl

theorem cond_eq (c : Dev nD) (b : Fin 8) (k : Fin 1024) :
    V1 m ρ c main_v4 (ix2 (⟨b.val, by omega⟩ : Fin 16) k) = m ((c : Thread nD τ).loc main_arg1) (ix2 b k) := by
  rw [V1_v4]
  generalize m ((c : Thread nD τ).loc main_arg1) = u1
  generalize m ((c : Thread nD τ).loc main_arg2) = u2
  exact Cond.cond_at scatter_S16x1024_S1_S8x1024_01_n_0_0 scatter_S16x1024_S1_S1024_0_0_0_0 rfl rfl rfl rfl rfl rfl _ _ _ (by pointwise; rfl) (by pointwise; rfl) u1 u2 b k

/-- The modulation array, reshaped, read at an entry of one of the eight rows. -/
theorem reshape_at (cond : FVec Ideal S16x1024 .f32) (cc : FVec Ideal S8x1024 .f32) (aw : FVec Ideal S4x1024x3072 .f32) (ab : FVec Ideal S4x3072 .f32)
    (hc : ∀ (b : Fin 8) k, cond (ix2 (⟨b.val, by omega⟩ : Fin 16) k) = cc (ix2 b k)) (l : Fin 4) (b : Fin 8) (n : Fin 3) (k : Fin 1024) :
    shapeCast S4x16x3x1024 (G cond aw (shapeCast S4x1x3072 ab shapeCasts_S4x3072_S4x1x3072)) shapeCasts_S4x16x3072_S4x16x3x1024
        (ix4 l (⟨b.val, by omega⟩ : Fin 16) n k)
      = modv (fun k => cc (ix2 b k)) (fun k j => aw (ix3 l k j)) (fun j => ab (ix2 l j)) ⟨n.val * 1024 + k.val, by omega⟩ := by
  unfold G
  pointwise
  simp only [hc]

/-- A modulation entry of one of the eight rows, as the second call finds it. -/
theorem V3_v7_at (c : Dev nD) (l : Fin 4) (b : Fin 8) (n : Fin 3) (k : Fin 1024) :
    V3 m ρ c main_v7 (ix4 l (⟨b.val, by omega⟩ : Fin 16) n k)
      = modv (fun k => m ((c : Thread nD τ).loc main_arg1) (ix2 b k)) (fun k j => m ((c : Thread nD τ).loc main_arg4) (ix3 l k j))
          (fun j => m ((c : Thread nD τ).loc main_arg5) (ix2 l j)) ⟨n.val * 1024 + k.val, by omega⟩ := by
  rw [V3_v7, array, V1_v5, V1_arg4]
  exact reshape_at _ _ _ _ (cond_eq m ρ c) l b n k

end Cert.ProjIdeal.Mods

end
-- ==== Proof.ProjBlock.lean ====
module

public import proofs.«01_k».proof.Proof.Gen.ProjIdeal.Frame
public import proofs.«01_k».proof.Proof.Spec
public import Idealize.ShloMosaic.Lib.Pipeline.ValueKit

/-! # The projections of layer 1: the four output blocks, read at an index

The normalised rows are multiplied by four blocks of weights. Query and value are written head pair by head pair
and 128 rows at a time, transposed; the key head pair by head pair; the gate as it stands. -/

@[expose] public section

set_option maxRecDepth 16384

noncomputable section

namespace Cert.ProjIdeal.Block

open Cert.ProjIdeal Cert.ProjIdeal.Gen
open Idealize.ShloMosaic Idealize.ShloMosaic.TcCoe Idealize.SL.Sem Idealize.ShloMosaic.Pipeline
open Cert.Layer

variable (x0 : Vec Ideal S1x1024x1024 .f32) (x1 : Vec Ideal S1x1x3x1024 .f32) (x2 : Vec Ideal S1x1x1024 .f32)
  (x3 x4 x5 x6 : Vec Ideal S1x1024x1024 .bf16)

/-- The rows of a block, normalised and modulated. -/
def hrow (r k : Fin 1024) : EReal :=
  nrm (fun k => x0 (ix3 0 r k)) (fun k => x2 (ix3 0 0 k)) (fun k => x1 (ix4 0 0 0 k)) (fun k => x1 (ix4 0 0 1 k)) k

theorem pay2_at (v0 v2 : Vec Ideal S1x1x1x1024 .f32) (v4 : Vec Ideal S1x1024x1024 .f32) (v6 : Vec Ideal S1x1x1024 .f32) (r k : Fin 1024) :
    k1_pay2 v0 v2 v4 v6 (ix2 r k) = nrm (fun k => v4 (ix3 0 r k)) (fun k => v6 (ix3 0 0 k)) (fun k => v0 (ix4 0 0 0 k)) (fun k => v2 (ix4 0 0 0 k)) k := by
  pointwise [k1_pay2, nrm, rms]

theorem rows_at (r k : Fin 1024) : k1_pay183 x0 x1 x2 x3 x4 x5 x6 (ix2 r k) = hrow x0 x1 x2 r k := by
  unfold k1_pay183 hrow
  rw [pay2_at]
  pointwise

theorem dot_at (h : FVec Ideal S1024x1024 .bf16) (w : Vec Ideal S1x1024x1024 .bf16) (r j : Fin 1024) :
    k1_pay85 h w (ix2 r j) = ∑ k : Fin 1024, h (ix2 r k) * w (ix3 0 k j) := by
  pointwise [k1_pay85]

/-- The query's products before they are laid out, scaled. -/
theorem q_at (r j : Fin 1024) : k1_pay184 x0 x1 x2 x3 x4 x5 x6 (ix2 r j)
    = (∑ k : Fin 1024, hrow x0 x1 x2 r k * x3 (ix3 0 k j)) * Ideal.ofBits .f32 0x3E38AA3B#32 := by
  have e : k1_pay184 x0 x1 x2 x3 x4 x5 x6 (ix2 r j) = k1_pay85 (k1_pay183 x0 x1 x2 x3 x4 x5 x6) (View.ld x3 r1_2) (ix2 r j) * Ideal.ofBits .f32 0x3E38AA3B#32 := rfl
  rw [e, dot_at]
  simp only [rows_at]
  pointwise

theorem k_at (r j : Fin 1024) : k1_pay193 x0 x1 x2 x3 x4 x5 x6 (ix2 r j) = ∑ k : Fin 1024, hrow x0 x1 x2 r k * x4 (ix3 0 k j) := by
  unfold k1_pay193
  rw [dot_at]
  simp only [rows_at]
  pointwise

theorem v_at (r j : Fin 1024) : k1_pay194 x0 x1 x2 x3 x4 x5 x6 (ix2 r j) = ∑ k : Fin 1024, hrow x0 x1 x2 r k * x5 (ix3 0 k j) := by
  have e : k1_pay194 x0 x1 x2 x3 x4 x5 x6 (ix2 r j) = k1_pay85 (k1_pay183 x0 x1 x2 x3 x4 x5 x6) (View.ld x5 r1_2) (ix2 r j) := rfl
  rw [e, dot_at]
  simp only [rows_at]
  pointwise

/-- The gate's block. -/
theorem out10_at (r j : Fin 1024) : out1_10 x0 x1 x2 x3 x4 x5 x6 (ix3 0 r j) = ∑ k : Fin 1024, hrow x0 x1 x2 r k * x6 (ix3 0 k j) := by
  have e : k1_pay182 (k1_pay183 x0 x1 x2 x3 x4 x5 x6) (View.ld x6 r1_2) (ix2 r j) = k1_pay85 (k1_pay183 x0 x1 x2 x3 x4 x5 x6) (View.ld x6 r1_2) (ix2 r j) := rfl
  have e2 : k1_pay182 (k1_pay183 x0 x1 x2 x3 x4 x5 x6) (View.ld x6 r1_2) (ix2 r j) = ∑ k : Fin 1024, hrow x0 x1 x2 r k * x6 (ix3 0 k j) := by
    rw [e, dot_at]
    simp only [rows_at]
    pointwise
  rw [← e2]
  unfold out1_10
  frame_out
  pointwise [k1_pay1]

/-- The key's block: head pair `y 1`, row `y 2`, column `y 3` of the pair. -/
theorem out8_at (y : S1x8x1024x128.Idx) (i : S1024x1024.Idx) (h0 : (i 0 : ℕ) = y 2) (h1 : (i 1 : ℕ) = (y 1 : ℕ) * 128 + y 3) :
    out1_8 x0 x1 x2 x3 x4 x5 x6 y = k1_pay193 x0 x1 x2 x3 x4 x5 x6 i := by
  have e : k1_pay85 (k1_pay183 x0 x1 x2 x3 x4 x5 x6) (View.ld x4 r1_2) = k1_pay193 x0 x1 x2 x3 x4 x5 x6 := rfl
  unfold out1_8
  simp only [k1_pay86, e]
  generalize k1_pay193 x0 x1 x2 x3 x4 x5 x6 = T
  canon_tiles x g
  all_goals (open_payloads; pointwise; blk_ext)

set_option maxHeartbeats 4000000 in
/-- The query's block: head pair `y 1`, group of 128 rows `y 2`, column `y 3` of the pair, row `y 4` of the group. -/
theorem out7_at (y : S1x8x8x128x128.Idx) (i : S1024x1024.Idx) (h0 : (i 0 : ℕ) = (y 2 : ℕ) * 128 + y 4) (h1 : (i 1 : ℕ) = (y 1 : ℕ) * 128 + y 3) :
    out1_7 x0 x1 x2 x3 x4 x5 x6 y = k1_pay184 x0 x1 x2 x3 x4 x5 x6 i := by
  have e : k1_pay3 (View.ld x1 r1_0) (View.ld x1 r1_1) (View.ld x0 r1_2) (View.ld x2 r1_3) (View.ld x3 r1_2) = k1_pay184 x0 x1 x2 x3 x4 x5 x6 := rfl
  unfold out1_7
  simp only [k1_pay185, k1_pay186, k1_pay187, k1_pay188, k1_pay189, k1_pay190, k1_pay191, k1_pay192, k1_pay5, k1_pay4, e]
  generalize k1_pay184 x0 x1 x2 x3 x4 x5 x6 = T
  canon_tiles x g
  all_goals (open_payloads; pointwise; blk_ext)

set_option maxHeartbeats 4000000 in
/-- The value's block, laid out as the query's. -/
theorem out9_at (y : S1x8x8x128x128.Idx) (i : S1024x1024.Idx) (h0 : (i 0 : ℕ) = (y 2 : ℕ) * 128 + y 4) (h1 : (i 1 : ℕ) = (y 1 : ℕ) * 128 + y 3) :
    out1_9 x0 x1 x2 x3 x4 x5 x6 y = k1_pay194 x0 x1 x2 x3 x4 x5 x6 i := by
  have e : k1_pay96 (k1_pay183 x0 x1 x2 x3 x4 x5 x6) (View.ld x5 r1_2) = k1_pay194 x0 x1 x2 x3 x4 x5 x6 := rfl
  unfold out1_9
  simp only [k1_pay195, k1_pay196, k1_pay197, k1_pay198, k1_pay199, k1_pay200, k1_pay201, k1_pay202, k1_pay98, k1_pay99, k1_pay100, k1_pay97, e]
  generalize k1_pay194 x0 x1 x2 x3 x4 x5 x6 = T
  canon_tiles x g
  all_goals (open_payloads; pointwise; blk_ext)

end Cert.ProjIdeal.Block

end
-- ==== Proof.ProjRef.lean ====
module

public import proofs.«01_k».proof.Proof.Gen.ProjRefIdeal.Run
public import proofs.«01_k».proof.Proof.Spec

/-! # The reference of layer 1's projections, read at an index

Each of the reference's four results is one long term of the arguments. Here they are cut at the modulation, the
normalised rows and the wide projection, of which they are four arrangements, and each is read at an index. -/

@[expose] public section

set_option maxRecDepth 16384

noncomputable section

namespace Cert.ProjRefIdeal.At

open Cert.ProjRefIdeal Cert.ProjRefIdeal.Gen
open Idealize.ShloMosaic Idealize.ShloMosaic.TcCoe Idealize.SL.Sem
open Cert.Layer

/-- The modulation rows. -/
def Mods (cc : FVec Ideal S8x1024 .f32) (aw : FVec Ideal S4x1024x3072 .f32) (ab : FVec Ideal S4x3072 .f32) : FVec Ideal S8x3072 .f32 :=
  (addf (Host.dotGeneral dot_S8x1024_S1024x3072_S8x3072_1_0_0_1_n_n none (mulf cc (Host.divf ((broadcastInDim S8x1024 ![] bcast_S_S8x1024) ((constant S_ .f32 0x3F800000#32))) (addf ((broadcastInDim S8x1024 ![] bcast_S_S8x1024) ((constant S_ .f32 0x3F800000#32))) (Host.exp (Host.negf cc))))) (shapeCast S1024x3072 (extractStridedSlice S1x1024x3072 ![1, 0, 0] aw slices_S4x1024x3072_S1x1024x3072_1_0_0) shapeCasts_S1x1024x3072_S1024x3072)) (broadcastInDim S8x3072 ![0, 1] bcast_S1x3072_S8x3072_0_1 (broadcastInDim S1x3072 ![1] bcast_S3072_S1x3072_1 (shapeCast S3072 (extractStridedSlice S1x3072 ![1, 0] ab slices_S4x3072_S1x3072_1_0) shapeCasts_S1x3072_S3072))))

/-- The normalised rows. -/
def H (x : FVec Ideal S8x2048x1024 .f32) (ng : FVec Ideal S4x1024 .f32) (mods : FVec Ideal S8x3072 .f32) : FVec Ideal S8x2048x1024 .f32 :=
  (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) ((constant S_ .f32 0x00000000#32)) reducesTo_S8x2048x1024_S8x2048_d2 h_S_)) (broadcastInDim S8x2048x1 ![] bcast_S_S8x2048x1 ((constant S_ .f32 0x44800000#32)))) (broadcastInDim S8x2048x1 ![] bcast_S_S8x2048x1 ((constant S_ .f32 0x358637BD#32))))))) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] ng slices_S4x1024_S1x1024_1_0) shapeCasts_S1x1024_S1024)))) (broadcastInDim S8x2048x1024 ![0, 1, 2] bcast_S8x1x1024_S8x2048x1024_0_1_2 (addf (broadcastInDim S8x1x1024 ![] bcast_S_S8x1x1024 ((constant S_ .f32 0x3F800000#32))) (broadcastInDim S8x1x1024 ![0, 2] bcast_S8x1024_S8x1x1024_0_2 (extractStridedSlice S8x1024 ![0, 1024] mods slices_S8x3072_S8x1024_0_1024))))) (broadcastInDim S8x2048x1024 ![0, 1, 2] bcast_S8x1x1024_S8x2048x1024_0_1_2 (broadcastInDim S8x1x1024 ![0, 2] bcast_S8x1024_S8x1x1024_0_2 (extractStridedSlice S8x1024 ![0, 0] mods slices_S8x3072_S8x1024_0_0))))

/-- The wide projection. -/
def P (h : FVec Ideal S8x2048x1024 .f32) (win : FVec Ideal S1x1024x4096 .f32) : FVec Ideal S8x2048x4096 .f32 :=
  (Host.dotGeneral dot_S8x2048x1024_S1024x4096_S8x2048x4096_2_0_01_1_n_n none h (shapeCast S1024x4096 win shapeCasts_S1x1024x4096_S1024x4096))

/-- The query: the first quarter, scaled, by head pair and group of 128 rows, transposed. -/
def Q (p : FVec Ideal S8x2048x4096 .f32) : FVec Ideal S8x8x16x128x128 .bf16 :=
  truncf .bf16 (transpose S8x8x16x128x128 [0, 3, 1, 4, 2] (shapeCast S8x16x128x8x128 (mulf (extractStridedSlice S8x2048x1024 ![0, 0, 0] p slices_S8x2048x4096_S8x2048x1024_0_0_0) (broadcastInDim S8x2048x1024 ![] bcast_S_S8x2048x1024 (constant S_ .f32 0x3E38AA3B#32))) shapeCasts_S8x2048x1024_S8x16x128x8x128) transposes_S8x16x128x8x128_S8x8x16x128x128_0_3_1_4_2) bitsLt_bf16_f32

/-- The key: the second quarter, by head pair. -/
def K (p : FVec Ideal S8x2048x4096 .f32) : FVec Ideal S8x8x2048x128 .bf16 :=
  truncf .bf16 (transpose S8x8x2048x128 [0, 2, 1, 3] (shapeCast S8x2048x8x128 (extractStridedSlice S8x2048x1024 ![0, 0, 1024] p slices_S8x2048x4096_S8x2048x1024_0_0_1024) shapeCasts_S8x2048x1024_S8x2048x8x128) transposes_S8x2048x8x128_S8x8x2048x128_0_2_1_3) bitsLt_bf16_f32

/-- The value: the third quarter, laid out as the query. -/
def V (p : FVec Ideal S8x2048x4096 .f32) : FVec Ideal S8x8x16x128x128 .bf16 :=
  truncf .bf16 (transpose S8x8x16x128x128 [0, 3, 1, 4, 2] (shapeCast S8x16x128x8x128 (extractStridedSlice S8x2048x1024 ![0, 0, 2048] p slices_S8x2048x4096_S8x2048x1024_0_0_2048) shapeCasts_S8x2048x1024_S8x16x128x8x128) transposes_S8x16x128x8x128_S8x8x16x128x128_0_3_1_4_2) bitsLt_bf16_f32

/-- The gate: the fourth quarter. -/
def G (p : FVec Ideal S8x2048x4096 .f32) : FVec Ideal S8x2048x1024 .f32 :=
  extractStridedSlice S8x2048x1024 ![0, 0, 3072] p slices_S8x2048x4096_S8x2048x1024_0_0_3072

/-- The wide projection of the arguments. -/
def PA (x : FVec Ideal S8x2048x1024 .f32) (cc : FVec Ideal S8x1024 .f32) (ng : FVec Ideal S4x1024 .f32) (aw : FVec Ideal S4x1024x3072 .f32)
    (ab : FVec Ideal S4x3072 .f32) (wi : FVec Ideal S1x1024x4096 .f32) : FVec Ideal S8x2048x4096 .f32 :=
  P (H x ng (Mods cc aw ab)) wi

/-- The reference's run with its results named as above. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      let p := PA (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6))
      r.2.mem ((c.tc : Thread nD τ).loc main_v45) = Q p
      ∧ r.2.mem ((c.tc : Thread nD τ).loc main_v48) = K p
      ∧ r.2.mem ((c.tc : Thread nD τ).loc main_v51) = V p
      ∧ r.2.mem ((c.tc : Thread nD τ).loc main_v40) = G p
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Value.run m ρ

theorem Mods_at (cc : FVec Ideal S8x1024 .f32) (aw : FVec Ideal S4x1024x3072 .f32) (ab : FVec Ideal S4x3072 .f32) (b : Fin 8) (o : Fin 3072) :
    Mods cc aw ab (ix2 b o) = modv (fun k => cc (ix2 b k)) (fun k j => aw (ix3 1 k j)) (fun j => ab (ix2 1 j)) o := by
  pointwise [Mods, modv, silu]

theorem H_at (x : FVec Ideal S8x2048x1024 .f32) (ng : FVec Ideal S4x1024 .f32) (mods : FVec Ideal S8x3072 .f32) (b : Fin 8) (s : Fin 2048) (k : Fin 1024) :
    H x ng mods (ix3 b s k) = nrm (fun k => x (ix3 b s k)) (fun k => ng (ix2 1 k)) (fun k => mods (ix2 b ⟨k.val, by omega⟩))
      (fun k => mods (ix2 b ⟨1024 + k.val, by omega⟩)) k := by
  pointwise [H, nrm, rms]
  rw [mul_assoc (x (ix3 b s k) * _)]

theorem P_at (h : FVec Ideal S8x2048x1024 .f32) (win : FVec Ideal S1x1024x4096 .f32) (b : Fin 8) (s : Fin 2048) (j : Fin 4096) :
    P h win (ix3 b s j) = ∑ k : Fin 1024, h (ix3 b s k) * win (ix3 0 k j) := by
  pointwise [P]

theorem Q_at (p : FVec Ideal S8x2048x4096 .f32) (b hp : Fin 8) (tb : Fin 16) (c r : Fin 128) :
    Q p (ix5 b hp tb c r) = p (ix3 b ⟨tb.val * 128 + r.val, by omega⟩ ⟨hp.val * 128 + c.val, by omega⟩) * Ideal.ofBits .f32 0x3E38AA3B#32 := by
  pointwise [Q]

theorem K_at (p : FVec Ideal S8x2048x4096 .f32) (b hp : Fin 8) (s : Fin 2048) (c : Fin 128) :
    K p (ix4 b hp s c) = p (ix3 b s ⟨1024 + (hp.val * 128 + c.val), by omega⟩) := by
  pointwise [K]

theorem V_at (p : FVec Ideal S8x2048x4096 .f32) (b hp : Fin 8) (tb : Fin 16) (c r : Fin 128) :
    V p (ix5 b hp tb c r) = p (ix3 b ⟨tb.val * 128 + r.val, by omega⟩ ⟨2048 + (hp.val * 128 + c.val), by omega⟩) := by
  pointwise [V]

theorem G_at (p : FVec Ideal S8x2048x4096 .f32) (b : Fin 8) (s : Fin 2048) (j : Fin 1024) :
    G p (ix3 b s j) = p (ix3 b s ⟨3072 + j.val, by omega⟩) := by
  pointwise [G]

end Cert.ProjRefIdeal.At

end
-- ==== Proof.ProjFinal.lean ====
module

public import proofs.«01_k».proof.Proof.ProjMods
public import proofs.«01_k».proof.Proof.ProjBlock
public import proofs.«01_k».proof.Proof.ProjRef

/-! # The projections of layer 1: the four result arrays

`prj` is one entry of the wide projection over coordinates. The second call writes four arrangements of it block by
block (`array7` … `array10`), and they are the reference's results (`final7` … `final10`). -/

@[expose] public section

set_option maxRecDepth 16384

noncomputable section

namespace Cert.ProjIdeal.Final

open Cert.ProjIdeal Cert.ProjIdeal.Gen Cert.ProjIdeal.Run Cert.ProjIdeal.Block
open Idealize.ShloMosaic Idealize.ShloMosaic.TcCoe Idealize.SL.Sem Idealize.ShloMosaic.Pipeline
open Cert.Layer

theorem idx_in : ∀ t : Fin cfg1.N, win1_0.index t = ![t.val / 2, t.val % 2, 0] ∧ win1_1.index t = ![1, t.val / 2, 0, 0] ∧ win1_2.index t = ![1, 0, 0]
    ∧ win1_3.index t = ![0, 0, 0] ∧ win1_4.index t = ![0, 0, 1] ∧ win1_5.index t = ![0, 0, 2] ∧ win1_6.index t = ![0, 0, 3] := by decide +kernel
theorem idx_out : ∀ t : Fin cfg1.N, win1_7.index t = ![t.val / 2, 0, t.val % 2, 0, 0] ∧ win1_8.index t = ![t.val / 2, 0, t.val % 2, 0]
    ∧ win1_9.index t = ![t.val / 2, 0, t.val % 2, 0, 0] ∧ win1_10.index t = ![t.val / 2, t.val % 2, 0] := by decide +kernel

/-- One entry of the wide projection: the normalised row times a column of the weights. -/
def prj (x : FVec Ideal S8x2048x1024 .f32) (mo : FVec Ideal S4x16x3x1024 .f32) (ng : FVec Ideal S4x1x1024 .f32) (wi : FVec Ideal S1x1024x4096 .bf16)
    (b : Fin 8) (s : Fin 2048) (j : Fin 4096) : EReal :=
  ∑ k : Fin 1024, nrm (fun k => x (ix3 b s k)) (fun k => ng (ix3 1 0 k))
    (fun k => mo (ix4 1 (⟨b.val, by omega⟩ : Fin 16) 0 k)) (fun k => mo (ix4 1 (⟨b.val, by omega⟩ : Fin 16) 1 k)) k * wi (ix3 0 k j)

/-- A block's entry is the array's, from blocks that hold the arrays' entries. -/
theorem sum_eq (x : FVec Ideal S8x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (w : Vec Ideal S1x1024x1024 .bf16)
    (b : Fin 8) (s : Fin 2048) (j : Fin 4096) (r c : Fin 1024)
    (h0 : ∀ k : Fin 1024, x0 (ix3 0 r k) = x (ix3 b s k))
    (h1 : ∀ (n : Fin 3) (k : Fin 1024), x1 (ix4 0 0 n k) = mo (ix4 1 (⟨b.val, by omega⟩ : Fin 16) n k))
    (h2 : ∀ k : Fin 1024, x2 (ix3 0 0 k) = ng (ix3 1 0 k))
    (h3 : ∀ k : Fin 1024, w (ix3 0 k c) = wi (ix3 0 k j)) :
    (∑ k : Fin 1024, hrow x0 x1 x2 r k * w (ix3 0 k c)) = prj x mo ng wi b s j := by
  unfold prj hrow
  simp only [h0, h1, h2, h3]

/-- The query array: the first quarter, scaled, by head pair and group of 128 rows, transposed. -/
def Out7 (x : FVec Ideal S8x2048x1024 .f32) (mo : FVec Ideal S4x16x3x1024 .f32) (ng : FVec Ideal S4x1x1024 .f32) (wi : FVec Ideal S1x1024x4096 .bf16) :
    FVec Ideal S8x8x16x128x128 .bf16 := fun i =>
  prj x mo ng wi (i 0) ⟨(i 2).val * 128 + (i 4).val, by idx_bounds; omega⟩ ⟨(i 1).val * 128 + (i 3).val, by idx_bounds; omega⟩ * Ideal.ofBits .f32 0x3E38AA3B#32

/-- The key array: the second quarter, by head pair. -/
def Out8 (x : FVec Ideal S8x2048x1024 .f32) (mo : FVec Ideal S4x16x3x1024 .f32) (ng : FVec Ideal S4x1x1024 .f32) (wi : FVec Ideal S1x1024x4096 .bf16) :
    FVec Ideal S8x8x2048x128 .bf16 := fun i =>
  prj x mo ng wi (i 0) (i 2) ⟨1024 + ((i 1).val * 128 + (i 3).val), by idx_bounds; omega⟩

/-- The value array: the third quarter, laid out as the query's. -/
def Out9 (x : FVec Ideal S8x2048x1024 .f32) (mo : FVec Ideal S4x16x3x1024 .f32) (ng : FVec Ideal S4x1x1024 .f32) (wi : FVec Ideal S1x1024x4096 .bf16) :
    FVec Ideal S8x8x16x128x128 .bf16 := fun i =>
  prj x mo ng wi (i 0) ⟨(i 2).val * 128 + (i 4).val, by idx_bounds; omega⟩ ⟨2048 + ((i 1).val * 128 + (i 3).val), by idx_bounds; omega⟩

/-- The gate array: the fourth quarter. -/
def Out10 (x : FVec Ideal S8x2048x1024 .f32) (mo : FVec Ideal S4x16x3x1024 .f32) (ng : FVec Ideal S4x1x1024 .f32) (wi : FVec Ideal S1x1024x4096 .bf16) :
    FVec Ideal S8x2048x1024 .f32 := fun i =>
  prj x mo ng wi (i 0) (i 1) ⟨3072 + (i 2).val, by idx_bounds; omega⟩

/-- One block of the query, from blocks that hold the arrays' entries. -/
theorem point7 (x : FVec Ideal S8x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (x3 x4 x5 x6 : Vec Ideal S1x1024x1024 .bf16)
    (b : Fin 8) (e : Nat) (he : e < 2)
    (h0 : ∀ r k : Fin 1024, x0 (ix3 0 r k) = x (ix3 b (⟨e * 1024 + r.val, by omega⟩ : Fin 2048) k))
    (h1 : ∀ (n : Fin 3) (k : Fin 1024), x1 (ix4 0 0 n k) = mo (ix4 1 (⟨b.val, by omega⟩ : Fin 16) n k))
    (h2 : ∀ k : Fin 1024, x2 (ix3 0 0 k) = ng (ix3 1 0 k))
    (h3 : ∀ k c : Fin 1024, x3 (ix3 0 k c) = wi (ix3 0 k (⟨c.val, by omega⟩ : Fin 4096))) (hp tb : Fin 8) (d r : Fin 128) :
    out1_7 x0 x1 x2 x3 x4 x5 x6 (ix5 0 hp tb d r) = Out7 x mo ng wi (ix5 b hp (⟨e * 8 + tb.val, by omega⟩ : Fin 16) d r) := by
  rw [out7_at x0 x1 x2 x3 x4 x5 x6 (ix5 0 hp tb d r) (ix2 (⟨tb.val * 128 + r.val, by omega⟩ : Fin 1024) (⟨hp.val * 128 + d.val, by omega⟩ : Fin 1024)) rfl rfl, q_at,
    sum_eq x mo ng wi x0 x1 x2 x3 b _ _ _ _ (fun k => h0 _ k) h1 h2 (fun k => h3 k _)]
  unfold Out7
  refine congrArg (fun s : Fin 2048 => prj x mo ng wi b s _ * _) (Fin.ext ?_)
  show e * 1024 + (tb.val * 128 + r.val) = (e * 8 + tb.val) * 128 + r.val
  omega

/-- One block of the key. -/
theorem point8 (x : FVec Ideal S8x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (x3 x4 x5 x6 : Vec Ideal S1x1024x1024 .bf16)
    (b : Fin 8) (e : Nat) (he : e < 2)
    (h0 : ∀ r k : Fin 1024, x0 (ix3 0 r k) = x (ix3 b (⟨e * 1024 + r.val, by omega⟩ : Fin 2048) k))
    (h1 : ∀ (n : Fin 3) (k : Fin 1024), x1 (ix4 0 0 n k) = mo (ix4 1 (⟨b.val, by omega⟩ : Fin 16) n k))
    (h2 : ∀ k : Fin 1024, x2 (ix3 0 0 k) = ng (ix3 1 0 k))
    (h3 : ∀ k c : Fin 1024, x4 (ix3 0 k c) = wi (ix3 0 k (⟨1024 + c.val, by omega⟩ : Fin 4096))) (hp : Fin 8) (r : Fin 1024) (d : Fin 128) :
    out1_8 x0 x1 x2 x3 x4 x5 x6 (ix4 0 hp r d) = Out8 x mo ng wi (ix4 b hp (⟨e * 1024 + r.val, by omega⟩ : Fin 2048) d) := by
  rw [out8_at x0 x1 x2 x3 x4 x5 x6 (ix4 0 hp r d) (ix2 r (⟨hp.val * 128 + d.val, by omega⟩ : Fin 1024)) rfl rfl, k_at,
    sum_eq x mo ng wi x0 x1 x2 x4 b _ _ _ _ (fun k => h0 _ k) h1 h2 (fun k => h3 k _)]
  rfl

/-- One block of the value. -/
theorem point9 (x : FVec Ideal S8x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (x3 x4 x5 x6 : Vec Ideal S1x1024x1024 .bf16)
    (b : Fin 8) (e : Nat) (he : e < 2)
    (h0 : ∀ r k : Fin 1024, x0 (ix3 0 r k) = x (ix3 b (⟨e * 1024 + r.val, by omega⟩ : Fin 2048) k))
    (h1 : ∀ (n : Fin 3) (k : Fin 1024), x1 (ix4 0 0 n k) = mo (ix4 1 (⟨b.val, by omega⟩ : Fin 16) n k))
    (h2 : ∀ k : Fin 1024, x2 (ix3 0 0 k) = ng (ix3 1 0 k))
    (h3 : ∀ k c : Fin 1024, x5 (ix3 0 k c) = wi (ix3 0 k (⟨2048 + c.val, by omega⟩ : Fin 4096))) (hp tb : Fin 8) (d r : Fin 128) :
    out1_9 x0 x1 x2 x3 x4 x5 x6 (ix5 0 hp tb d r) = Out9 x mo ng wi (ix5 b hp (⟨e * 8 + tb.val, by omega⟩ : Fin 16) d r) := by
  rw [out9_at x0 x1 x2 x3 x4 x5 x6 (ix5 0 hp tb d r) (ix2 (⟨tb.val * 128 + r.val, by omega⟩ : Fin 1024) (⟨hp.val * 128 + d.val, by omega⟩ : Fin 1024)) rfl rfl, v_at,
    sum_eq x mo ng wi x0 x1 x2 x5 b _ _ _ _ (fun k => h0 _ k) h1 h2 (fun k => h3 k _)]
  unfold Out9
  refine congrArg (fun s : Fin 2048 => prj x mo ng wi b s _) (Fin.ext ?_)
  show e * 1024 + (tb.val * 128 + r.val) = (e * 8 + tb.val) * 128 + r.val
  omega

variable (m : (ℓ : Loc nD τ sig) → Buf (Elt Ideal) ℓ) (ρ : Dev nD → PrngReg)

theorem array7 (c : Dev nD) : (dat1 (V3 m ρ) c).arrAt 7 cfg1.N = Out7 (V3 m ρ c main_arg0) (V3 m ρ c main_v7) (V3 m ρ c main_v8) (V3 m ρ c main_v9) := by
  refine (dat1 (V3 m ρ) c).arrAt_eq_of_covers 7 _ (by decide +kernel) fun t _ y => ?_
  blk_simp
  rw [after1_7]
  obtain ⟨hp, tb, d, r, rfl⟩ : ∃ (hp : Fin 8) (tb : Fin 8) (d : Fin 128) (r : Fin 128), y = ix5 0 hp tb d r := ⟨y 1, y 2, y 3, y 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩
  have ht : t.val < 16 := t.isLt
  generalize hb : (⟨t.val / 2, by omega⟩ : Fin 8) = b
  have hbv : b.val = t.val / 2 := by rw [← hb]
  have hy : (win1_7.blk t).view.emb (ix5 0 hp tb d r) = ix5 b hp (⟨t.val % 2 * 8 + tb.val, by omega⟩ : Fin 16) d r := by blk_ext [idx_out t]
  have h0 : ∀ r k, iblk1 (V3 m ρ) c 0 t (ix3 0 r k) = V3 m ρ c main_arg0 (ix3 b (⟨t.val % 2 * 1024 + r.val, by omega⟩ : Fin 2048) k) := fun r k => by
    blk_ext [iblk1, idx_in t]
  have h1 : ∀ n k, iblk1 (V3 m ρ) c 1 t (ix4 0 0 n k) = V3 m ρ c main_v7 (ix4 1 (⟨b.val, by omega⟩ : Fin 16) n k) := fun n k => by
    blk_ext [iblk1, idx_in t]
  have h2 : ∀ k, iblk1 (V3 m ρ) c 2 t (ix3 0 0 k) = V3 m ρ c main_v8 (ix3 1 0 k) := fun k => by
    blk_ext [iblk1, idx_in t]
  have h3 : ∀ k j : Fin 1024, iblk1 (V3 m ρ) c 3 t (ix3 0 k j) = V3 m ρ c main_v9 (ix3 0 k (⟨j.val, by omega⟩ : Fin 4096)) := fun k j => by
    blk_ext [iblk1, idx_in t]
  rw [hy]
  exact point7 _ _ _ _ _ _ _ _ _ _ _ b (t.val % 2) (by omega) h0 h1 h2 h3 hp tb d r

theorem array8 (c : Dev nD) : (dat1 (V3 m ρ) c).arrAt 8 cfg1.N = Out8 (V3 m ρ c main_arg0) (V3 m ρ c main_v7) (V3 m ρ c main_v8) (V3 m ρ c main_v9) := by
  refine (dat1 (V3 m ρ) c).arrAt_eq_of_covers 8 _ (by decide +kernel) fun t _ y => ?_
  blk_simp
  rw [after1_8]
  obtain ⟨hp, r, d, rfl⟩ : ∃ (hp : Fin 8) (r : Fin 1024) (d : Fin 128), y = ix4 0 hp r d := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  have ht : t.val < 16 := t.isLt
  generalize hb : (⟨t.val / 2, by omega⟩ : Fin 8) = b
  have hbv : b.val = t.val / 2 := by rw [← hb]
  have hy : (win1_8.blk t).view.emb (ix4 0 hp r d) = ix4 b hp (⟨t.val % 2 * 1024 + r.val, by omega⟩ : Fin 2048) d := by blk_ext [idx_out t]
  have h0 : ∀ r k, iblk1 (V3 m ρ) c 0 t (ix3 0 r k) = V3 m ρ c main_arg0 (ix3 b (⟨t.val % 2 * 1024 + r.val, by omega⟩ : Fin 2048) k) := fun r k => by
    blk_ext [iblk1, idx_in t]
  have h1 : ∀ n k, iblk1 (V3 m ρ) c 1 t (ix4 0 0 n k) = V3 m ρ c main_v7 (ix4 1 (⟨b.val, by omega⟩ : Fin 16) n k) := fun n k => by
    blk_ext [iblk1, idx_in t]
  have h2 : ∀ k, iblk1 (V3 m ρ) c 2 t (ix3 0 0 k) = V3 m ρ c main_v8 (ix3 1 0 k) := fun k => by
    blk_ext [iblk1, idx_in t]
  have h3 : ∀ k j : Fin 1024, iblk1 (V3 m ρ) c 4 t (ix3 0 k j) = V3 m ρ c main_v9 (ix3 0 k (⟨1024 + j.val, by omega⟩ : Fin 4096)) := fun k j => by
    blk_ext [iblk1, idx_in t]
  rw [hy]
  exact point8 _ _ _ _ _ _ _ _ _ _ _ b (t.val % 2) (by omega) h0 h1 h2 h3 hp r d

theorem array9 (c : Dev nD) : (dat1 (V3 m ρ) c).arrAt 9 cfg1.N = Out9 (V3 m ρ c main_arg0) (V3 m ρ c main_v7) (V3 m ρ c main_v8) (V3 m ρ c main_v9) := by
  refine (dat1 (V3 m ρ) c).arrAt_eq_of_covers 9 _ (by decide +kernel) fun t _ y => ?_
  blk_simp
  rw [after1_9]
  obtain ⟨hp, tb, d, r, rfl⟩ : ∃ (hp : Fin 8) (tb : Fin 8) (d : Fin 128) (r : Fin 128), y = ix5 0 hp tb d r := ⟨y 1, y 2, y 3, y 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩
  have ht : t.val < 16 := t.isLt
  generalize hb : (⟨t.val / 2, by omega⟩ : Fin 8) = b
  have hbv : b.val = t.val / 2 := by rw [← hb]
  have hy : (win1_9.blk t).view.emb (ix5 0 hp tb d r) = ix5 b hp (⟨t.val % 2 * 8 + tb.val, by omega⟩ : Fin 16) d r := by blk_ext [idx_out t]
  have h0 : ∀ r k, iblk1 (V3 m ρ) c 0 t (ix3 0 r k) = V3 m ρ c main_arg0 (ix3 b (⟨t.val % 2 * 1024 + r.val, by omega⟩ : Fin 2048) k) := fun r k => by
    blk_ext [iblk1, idx_in t]
  have h1 : ∀ n k, iblk1 (V3 m ρ) c 1 t (ix4 0 0 n k) = V3 m ρ c main_v7 (ix4 1 (⟨b.val, by omega⟩ : Fin 16) n k) := fun n k => by
    blk_ext [iblk1, idx_in t]
  have h2 : ∀ k, iblk1 (V3 m ρ) c 2 t (ix3 0 0 k) = V3 m ρ c main_v8 (ix3 1 0 k) := fun k => by
    blk_ext [iblk1, idx_in t]
  have h3 : ∀ k j : Fin 1024, iblk1 (V3 m ρ) c 5 t (ix3 0 k j) = V3 m ρ c main_v9 (ix3 0 k (⟨2048 + j.val, by omega⟩ : Fin 4096)) := fun k j => by
    blk_ext [iblk1, idx_in t]
  rw [hy]
  exact point9 _ _ _ _ _ _ _ _ _ _ _ b (t.val % 2) (by omega) h0 h1 h2 h3 hp tb d r

theorem array10 (c : Dev nD) : (dat1 (V3 m ρ) c).arrAt 10 cfg1.N = Out10 (V3 m ρ c main_arg0) (V3 m ρ c main_v7) (V3 m ρ c main_v8) (V3 m ρ c main_v9) := by
  refine (dat1 (V3 m ρ) c).arrAt_eq_of_covers 10 _ (by decide +kernel) fun t _ y => ?_
  blk_simp
  rw [after1_10]
  obtain ⟨r, d, rfl⟩ : ∃ (r : Fin 1024) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 16 := t.isLt
  generalize hb : (⟨t.val / 2, by omega⟩ : Fin 8) = b
  have hbv : b.val = t.val / 2 := by rw [← hb]
  have hy : (win1_10.blk t).view.emb (ix3 0 r d) = ix3 b (⟨t.val % 2 * 1024 + r.val, by omega⟩ : Fin 2048) d := by blk_ext [idx_out t]
  have h0 : ∀ k, iblk1 (V3 m ρ) c 0 t (ix3 0 (r : Fin 1024) k) = V3 m ρ c main_arg0 (ix3 b (⟨t.val % 2 * 1024 + r.val, by omega⟩ : Fin 2048) k) := fun k => by
    blk_ext [iblk1, idx_in t]
  have h1 : ∀ n k, iblk1 (V3 m ρ) c 1 t (ix4 0 0 n k) = V3 m ρ c main_v7 (ix4 1 (⟨b.val, by omega⟩ : Fin 16) n k) := fun n k => by
    blk_ext [iblk1, idx_in t]
  have h2 : ∀ k, iblk1 (V3 m ρ) c 2 t (ix3 0 0 k) = V3 m ρ c main_v8 (ix3 1 0 k) := fun k => by
    blk_ext [iblk1, idx_in t]
  have h3 : ∀ k, iblk1 (V3 m ρ) c 6 t (ix3 0 k (d : Fin 1024)) = V3 m ρ c main_v9 (ix3 0 k (⟨3072 + d.val, by omega⟩ : Fin 4096)) := fun k => by
    blk_ext [iblk1, idx_in t]
  rw [hy]
  exact (out10_at _ _ _ _ _ _ _ r d).trans (sum_eq _ _ _ _ _ _ _ _ b _ _ r d h0 h1 h2 h3)

end Cert.ProjIdeal.Final

end
-- ==== Proof.ProjEq.lean ====
module

public import proofs.«01_k».proof.Proof.ProjFinal

/-! # The projections of layer 1: the kernel's four result arrays are the reference's -/

@[expose] public section

set_option maxRecDepth 16384

noncomputable section

namespace Cert.ProjIdeal.Final

open Cert.ProjIdeal Cert.ProjIdeal.Gen Cert.ProjIdeal.Run
open Idealize.ShloMosaic Idealize.ShloMosaic.TcCoe Idealize.SL.Sem Idealize.ShloMosaic.Pipeline
open Cert.Layer

/-- An entry of the wide projection is the reference's. -/
theorem prj_eq (x : FVec Ideal S8x2048x1024 .f32) (cc : FVec Ideal S8x1024 .f32) (ng : FVec Ideal S4x1024 .f32) (aw : FVec Ideal S4x1024x3072 .f32)
    (ab : FVec Ideal S4x3072 .f32) (wi : FVec Ideal S1x1024x4096 .f32) (mo : FVec Ideal S4x16x3x1024 .f32)
    (hmo : ∀ (b : Fin 8) (n : Fin 3) (k : Fin 1024), mo (ix4 1 (⟨b.val, by omega⟩ : Fin 16) n k)
      = modv (fun k => cc (ix2 b k)) (fun k j => aw (ix3 1 k j)) (fun j => ab (ix2 1 j)) ⟨n.val * 1024 + k.val, by omega⟩)
    (b : Fin 8) (s : Fin 2048) (j : Fin 4096) :
    prj x mo (shapeCast S4x1x1024 ng shapeCasts_S4x1024_S4x1x1024) (truncf .bf16 wi bitsLt_bf16_f32) b s j
      = ProjRefIdeal.At.PA x cc ng aw ab wi (ix3 b s j) := by
  have m0 : ∀ (n : Fin 3) k, mo (ix4 1 (⟨b.val, by omega⟩ : Fin 16) n k) = ProjRefIdeal.At.Mods cc aw ab (ix2 b ⟨n.val * 1024 + k.val, by omega⟩) := fun n k => by
    rw [hmo, ProjRefIdeal.At.Mods_at]
  have hng : ∀ k, shapeCast S4x1x1024 ng shapeCasts_S4x1024_S4x1x1024 (ix3 1 0 k) = ng (ix2 1 k) := fun k => by pointwise
  have hwi : ∀ k j, truncf .bf16 wi bitsLt_bf16_f32 (ix3 0 k j) = wi (ix3 0 k j) := fun k j => rfl
  unfold prj
  simp only [m0, hng, hwi]
  unfold ProjRefIdeal.At.PA
  generalize ProjRefIdeal.At.Mods cc aw ab = M
  rw [ProjRefIdeal.At.P_at]
  refine Finset.sum_congr rfl fun k _ => ?_
  rw [ProjRefIdeal.At.H_at]
  congr 2
  funext k
  exact congrArg (fun q => M (ix2 b q)) (Fin.ext (by simp))

variable (m : (ℓ : Loc nD τ sig) → Buf (Elt Ideal) ℓ) (ρ : Dev nD → PrngReg)

theorem prj_run (c : Dev nD) (b : Fin 8) (s : Fin 2048) (j : Fin 4096) :
    prj (V3 m ρ c main_arg0) (V3 m ρ c main_v7) (V3 m ρ c main_v8) (V3 m ρ c main_v9) b s j
      = ProjRefIdeal.At.PA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix3 b s j) := by
  rw [V3_arg0, V3_v8, V3_v9]
  exact prj_eq _ _ _ _ _ _ _ (fun b n k => Mods.V3_v7_at m ρ c 1 b n k) b s j

theorem final7 (c : Dev nD) : (dat1 (V3 m ρ) c).arrAt 7 cfg1.N = ProjRefIdeal.At.Q (ProjRefIdeal.At.PA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [array7]
  funext i
  refine (congrArg (· * Ideal.ofBits .f32 0x3E38AA3B#32) (prj_run m ρ c _ _ _)).trans ?_
  exact (ProjRefIdeal.At.Q_at _ (i 0) (i 1) (i 2) (i 3) (i 4)).symm.trans (congrArg _ (eq_ix5 i).symm)

theorem final8 (c : Dev nD) : (dat1 (V3 m ρ) c).arrAt 8 cfg1.N = ProjRefIdeal.At.K (ProjRefIdeal.At.PA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [array8]
  funext i
  refine (prj_run m ρ c _ _ _).trans ?_
  exact (ProjRefIdeal.At.K_at _ (i 0) (i 1) (i 2) (i 3)).symm.trans (congrArg _ (eq_ix4 i).symm)

theorem final9 (c : Dev nD) : (dat1 (V3 m ρ) c).arrAt 9 cfg1.N = ProjRefIdeal.At.V (ProjRefIdeal.At.PA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [array9]
  funext i
  refine (prj_run m ρ c _ _ _).trans ?_
  exact (ProjRefIdeal.At.V_at _ (i 0) (i 1) (i 2) (i 3) (i 4)).symm.trans (congrArg _ (eq_ix5 i).symm)

theorem final10 (c : Dev nD) : (dat1 (V3 m ρ) c).arrAt 10 cfg1.N = ProjRefIdeal.At.G (ProjRefIdeal.At.PA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [array10]
  funext i
  refine (prj_run m ρ c _ _ _).trans ?_
  exact (ProjRefIdeal.At.G_at _ (i 0) (i 1) (i 2)).symm.trans (congrArg _ (eq_ix3 i).symm)

end Cert.ProjIdeal.Final

end
-- ==== Proof.CtxRun.lean ====
module

public import proofs.«01_k».proof.Proof.Gen.CtxIdeal.Frame
public import Idealize.ShloMosaic.Lib.Claim
public import Idealize.ShloMosaic.Lib.Pipeline.ValueKit

/-! # The context layer: one run, and what its four calls find in their operands

`run_all` is the generated launch read for every buffer: a final state holds the last boundary's
contents, so the two result arrays are what the last call has written back. The theorems after it read
the calls' operands: the arguments through the host's reshapes, the modulation array as the first
call has written it, and the folded weights as the second has. -/

@[expose] public section

set_option maxRecDepth 16384

noncomputable section

namespace Cert.CtxIdeal.Run

open Cert.CtxIdeal Cert.CtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution terminates, and every buffer the launch does not scope ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- The run with its result: the last call's two output arrays after its last grid point, the arguments unchanged. -/
theorem run_main : θ_run defs (onTc (τ := τ) (main (F := F))) ⟨m, fun _ => 0, ρ⟩ (fun r => ∀ c : Dev nD,
      r.2.mem ((c.tc : Thread nD τ).loc main_v14_0) = (dat3 (V6 m ρ) c).arrAt 5 cfg3.N
      ∧ r.2.mem ((c.tc : Thread nD τ).loc main_v14_1) = (dat3 (V6 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v14_0 (by decide))).trans (W7_arr m ρ c 5),
     (h c _ (mem_uc main_v14_1 (by decide))).trans (W7_arr m ρ c 6),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

/-! ## The operands of the modulation call -/

theorem V1_arg4 (c : Dev nD) : V1 m ρ c main_arg4 = m ((c : Thread nD τ).loc main_arg4) := W1_args m ρ c main_arg4 (by decide)

theorem V1_v5 (c : Dev nD) : V1 m ρ c main_v5 = shapeCast S4x1x3072 (m ((c : Thread nD τ).loc main_arg5)) shapeCasts_S4x3072_S4x1x3072 := by
  show StableHlo.after hostOps0 (W0 m ρ c) (Proc.devRef .tc main_v5) = _
  after_results
  rfl

theorem V1_v4 (c : Dev nD) : V1 m ρ c main_v4 =
    Host.scatter scatter_S16x1024_S1_S1024_0_0_0_0 (fun _ b => b)
      (Host.scatter scatter_S16x1024_S1_S8x1024_01_n_0_0 (fun _ b => b)
        (broadcastInDim S16x1024 ![] bcast_S_S16x1024 (constant S_ .f32 0x00000000#32))
        (broadcastInDim S1 ![] bcast_S_S1 (constantI S_ 32 0#32)) (m ((c : Thread nD τ).loc main_arg1)))
      (broadcastInDim S1 ![] bcast_S_S1 (constantI S_ 32 8#32)) (m ((c : Thread nD τ).loc main_arg2)) := by
  show StableHlo.after hostOps0 (W0 m ρ c) (Proc.devRef .tc main_v4) = _
  after_results

/-! ## The operands of the folding call -/

theorem V3_arg6 (c : Dev nD) : V3 m ρ c main_arg6 = m ((c : Thread nD τ).loc main_arg6) := W3_args m ρ c main_arg6 (by decide)
theorem V3_arg7 (c : Dev nD) : V3 m ρ c main_arg7 = m ((c : Thread nD τ).loc main_arg7) := W3_args m ρ c main_arg7 (by decide)
theorem V3_arg9 (c : Dev nD) : V3 m ρ c main_arg9 = m ((c : Thread nD τ).loc main_arg9) := W3_args m ρ c main_arg9 (by decide)

theorem V3_v7 (c : Dev nD) : V3 m ρ c main_v7 = shapeCast S4x16x3x1024 ((dat0 (V1 m ρ) c).arrAt 3 cfg0.N) shapeCasts_S4x16x3072_S4x16x3x1024 := by
  rw [← W2_arr m ρ c 3]
  show StableHlo.after hostOps1 (W2 m ρ c) (Proc.devRef .tc main_v7) = _
  after_results
  rfl

theorem V3_v8 (c : Dev nD) : V3 m ρ c main_v8 = shapeCast S4x1x1024 (m ((c : Thread nD τ).loc main_arg3)) shapeCasts_S4x1024_S4x1x1024 := by
  rw [← W2_args m ρ c main_arg3 (by decide)]
  show StableHlo.after hostOps1 (W2 m ρ c) (Proc.devRef .tc main_v8) = _
  after_results
  rfl

theorem V3_v9 (c : Dev nD) : V3 m ρ c main_v9 = shapeCast S2x1x1024 (m ((c : Thread nD τ).loc main_arg8)) shapeCasts_S2x1024_S2x1x1024 := by
  rw [← W2_args m ρ c main_arg8 (by decide)]
  show StableHlo.after hostOps1 (W2 m ρ c) (Proc.devRef .tc main_v9) = _
  after_results
  rfl

/-! ## The operands of the pooling call -/

theorem V4_arg0 (c : Dev nD) : V4 m ρ c main_arg0 = m ((c : Thread nD τ).loc main_arg0) := W4_args m ρ c main_arg0 (by decide)

theorem V4_v7 (c : Dev nD) : V4 m ρ c main_v7 = shapeCast S4x16x3x1024 ((dat0 (V1 m ρ) c).arrAt 3 cfg0.N) shapeCasts_S4x16x3072_S4x16x3x1024 := by
  rw [← V3_v7 m ρ c]
  exact W4_of m ρ c main_v7 (by decide)

theorem V4_v8 (c : Dev nD) : V4 m ρ c main_v8 = shapeCast S4x1x1024 (m ((c : Thread nD τ).loc main_arg3)) shapeCasts_S4x1024_S4x1x1024 := by
  rw [← V3_v8 m ρ c]
  exact W4_of m ρ c main_v8 (by decide)

theorem V4_v10_0 (c : Dev nD) : V4 m ρ c main_v10_0 = (dat1 (V3 m ρ) c).arrAt 4 cfg1.N := W4_arr m ρ c 4
theorem V4_v10_1 (c : Dev nD) : V4 m ρ c main_v10_1 = (dat1 (V3 m ρ) c).arrAt 5 cfg1.N := W4_arr m ρ c 5
theorem V4_v10_2 (c : Dev nD) : V4 m ρ c main_v10_2 = (dat1 (V3 m ρ) c).arrAt 6 cfg1.N := W4_arr m ρ c 6

/-! ## The operands of the projection's call -/

theorem V6_v7 (c : Dev nD) : V6 m ρ c main_v7 = V4 m ρ c main_v7 :=
  (W6_of m ρ c main_v7 (by decide)).trans (W5_of m ρ c main_v7 (by decide))

theorem V6_v8 (c : Dev nD) : V6 m ρ c main_v8 = V4 m ρ c main_v8 :=
  (W6_of m ρ c main_v8 (by decide)).trans (W5_of m ρ c main_v8 (by decide))

theorem V6_v12 (c : Dev nD) : V6 m ρ c main_v12 = shapeCast S1x2048x1024 ((dat2 (V4 m ρ) c).arrAt 8 cfg2.N) shapeCasts_S8x256x1024_S1x2048x1024 := by
  rw [← W5_arr m ρ c 8]
  show StableHlo.after hostOps3 (W5 m ρ c) (Proc.devRef .tc main_v12) = _
  after_results
  rfl

theorem V6_v13 (c : Dev nD) : V6 m ρ c main_v13 = truncf (F := F) .bf16 (m ((c : Thread nD τ).loc main_arg10)) bitsLt_bf16_f32 := by
  rw [← W5_args m ρ c main_arg10 (by decide)]
  show StableHlo.after hostOps3 (W5 m ρ c) (Proc.devRef .tc main_v13) = _
  after_results

end Cert.CtxIdeal.Run

end
-- ==== Proof.CtxMods.lean ====
module

public import proofs.«01_k».proof.Proof.CtxRun
public import proofs.«01_k».proof.Proof.ConvSpec
public import proofs.«01_k».proof.Proof.Cond

/-! # The modulation array of the context program

The first call writes, for each of the four layers and each condition row, the modulation row of `modv`.
The context's condition is row 8. -/

@[expose] public section

set_option maxRecDepth 16384

noncomputable section

namespace Cert.CtxIdeal.Mods

open Cert.CtxIdeal Cert.CtxIdeal.Gen Cert.CtxIdeal.Run
open Idealize.ShloMosaic Idealize.ShloMosaic.TcCoe Idealize.SL.Sem Idealize.ShloMosaic.Pipeline
open Cert.Layer

variable (m : (ℓ : Loc nD τ sig) → Buf (Elt Ideal) ℓ) (ρ : Dev nD → PrngReg)

theorem pay_at (v0 : Vec Ideal S16x1024 .f32) (v9 : Vec Ideal S1x1024x3072 .f32) (v13 : Vec Ideal S1x1x3072 .f32) (b : Fin 16) (o : Fin 3072) :
    k0_pay1 v0 v9 v13 (ix3 0 b o) = modv (fun k => v0 (ix2 b k)) (fun k j => v9 (ix3 0 k j)) (fun j => v13 (ix3 0 0 j)) o := by
  pointwise [k0_pay1, modv]
  simp only [div_eq_silu]

theorem idx : ∀ t : Fin cfg0.N, win0_0.index t = ![0, 0] ∧ win0_1.index t = ![t.val, 0, 0] ∧ win0_2.index t = ![t.val, 0, 0]
    ∧ win0_3.index t = ![t.val, 0, 0] := by decide +kernel

/-- The modulation array as the first call leaves it, from its operands. -/
def G (cond : FVec Ideal S16x1024 .f32) (aw : FVec Ideal S4x1024x3072 .f32) (ab : FVec Ideal S4x1x3072 .f32) : FVec Ideal S4x16x3072 .f32 := fun i =>
  modv (fun k => cond (ix2 (i 1) k)) (fun k j => aw (ix3 (i 0) k j)) (fun j => ab (ix3 (i 0) 0 j)) (i 2)

theorem array (c : Dev nD) : (dat0 (V1 m ρ) c).arrAt 3 cfg0.N = G (V1 m ρ c main_v4) (V1 m ρ c main_arg4) (V1 m ρ c main_v5) := by
  refine (dat0 (V1 m ρ) c).arrAt_eq_of_covers 3 _ (by decide +kernel) fun t _ y => ?_
  blk_simp
  rw [after0_3]
  unfold out0_3
  frame_out
  obtain ⟨b, o, rfl⟩ : ∃ (b : Fin 16) (o : Fin 3072), y = ix3 0 b o := ⟨y 1, y 2, by
    funext a
    match a with
    | ⟨0, _⟩ => exact Subsingleton.elim (α := Fin 1) _ _
    | ⟨1, _⟩ => rfl
    | ⟨2, _⟩ => rfl⟩
  have hy : (win0_3.blk t).view.emb (ix3 0 b o) = ix3 (⟨t.val, by idx_bounds; omega⟩ : Fin 4) b o := by blk_ext [idx t]
  have h0 : ∀ k, iblk0 (V1 m ρ) c 0 t (ix2 b k) = V1 m ρ c main_v4 (ix2 b k) := fun k => by blk_ext [iblk0, idx t]
  have h1 : ∀ k j, iblk0 (V1 m ρ) c 1 t (ix3 0 k j) = V1 m ρ c main_arg4 (ix3 (⟨t.val, by idx_bounds; omega⟩ : Fin 4) k j) := fun k j => by
    blk_ext [iblk0, idx t]
  have h2 : ∀ j, iblk0 (V1 m ρ) c 2 t (ix3 0 0 j) = V1 m ρ c main_v5 (ix3 (⟨t.val, by idx_bounds; omega⟩ : Fin 4) 0 j) := fun j => by
    blk_ext [iblk0, idx t]
  rw [pay_at, hy]
  simp only [h0, h1, h2]
  rfl

theorem cond_eq (c : Dev nD) (k : Fin 1024) : V1 m ρ c main_v4 (ix2 8 k) = m ((c : Thread nD τ).loc main_arg2) (ix1 k) := by
  rw [V1_v4]
  generalize m ((c : Thread nD τ).loc main_arg1) = u1
  generalize m ((c : Thread nD τ).loc main_arg2) = u2
  exact Cond.row_at scatter_S16x1024_S1_S1024_0_0_0_0 rfl rfl _ _ (by pointwise; rfl) u2 k

/-- The modulation array, reshaped, read at an entry of row 8. -/
theorem reshape_at (cond : FVec Ideal S16x1024 .f32) (cc : FVec Ideal S1024 .f32) (aw : FVec Ideal S4x1024x3072 .f32) (ab : FVec Ideal S4x3072 .f32)
    (hc : ∀ k, cond (ix2 8 k) = cc (ix1 k)) (l : Fin 4) (n : Fin 3) (k : Fin 1024) :
    shapeCast S4x16x3x1024 (G cond aw (shapeCast S4x1x3072 ab shapeCasts_S4x3072_S4x1x3072)) shapeCasts_S4x16x3072_S4x16x3x1024 (ix4 l 8 n k)
      = modv (fun k => cc (ix1 k)) (fun k j => aw (ix3 l k j)) (fun j => ab (ix2 l j)) ⟨n.val * 1024 + k.val, by omega⟩ := by
  unfold G
  pointwise
  simp only [← hc]

/-- A modulation entry of row 8, as the pooling call and the projection's call find it. -/
theorem V4_v7_at (c : Dev nD) (l : Fin 4) (n : Fin 3) (k : Fin 1024) :
    V4 m ρ c main_v7 (ix4 l 8 n k)
      = modv (fun k => m ((c : Thread nD τ).loc main_arg2) (ix1 k)) (fun k j => m ((c : Thread nD τ).loc main_arg4) (ix3 l k j))
          (fun j => m ((c : Thread nD τ).loc main_arg5) (ix2 l j)) ⟨n.val * 1024 + k.val, by omega⟩ := by
  rw [V4_v7, array, V1_v5, V1_arg4]
  exact reshape_at _ _ _ _ (cond_eq m ρ c) l n k

end Cert.CtxIdeal.Mods

end
-- ==== Proof.CtxFold.lean ====
module

public import proofs.«01_k».proof.Proof.CtxRun
public import proofs.«01_k».proof.Proof.PoolSpec

/-! # The context layer: the folded weights -/

@[expose] public section

set_option maxRecDepth 16384

noncomputable section

namespace Cert.CtxIdeal.Fold

open Cert.CtxIdeal Cert.CtxIdeal.Gen Cert.CtxIdeal.Run
open Idealize.ShloMosaic Idealize.ShloMosaic.TcCoe Idealize.SL.Sem Idealize.ShloMosaic.Pipeline
open Cert.Layer

/-- One column block of the folded weights. -/
theorem pay_at (w : Vec Ideal S1x1024x256 .f32) (wg : Vec Ideal S1x1x256x256 .f32) (s : Vec Ideal S1x1x256 .f32) (k : Fin 1024) (c : Fin 256) :
    k1_pay3 w wg s (ix3 0 k c) = (∑ j : Fin 256, w (ix3 0 k j) * wg (ix4 0 0 j c)) * s (ix3 0 0 c) := by
  pointwise [k1_pay3]

theorem pay4_eq (w : Vec Ideal S1x1024x256 .f32) (wg : Vec Ideal S1x1x256x256 .f32) (s : Vec Ideal S1x1x256 .f32) : k1_pay4 w wg s = k1_pay3 w wg s := rfl
theorem pay5_eq (w : Vec Ideal S1x1024x256 .f32) (wg : Vec Ideal S1x1x256x256 .f32) (s : Vec Ideal S1x1x256 .f32) : k1_pay5 w wg s = k1_pay3 w wg s := rfl
theorem pay6_eq (w : Vec Ideal S1x1024x256 .f32) (wg : Vec Ideal S1x1x256x256 .f32) (s : Vec Ideal S1x1x256 .f32) : k1_pay6 w wg s = k1_pay3 w wg s := rfl

theorem fold_group (x0 : Vec Ideal S1x1024x2048 .f32) (x1 : Vec Ideal S1x4x256x256 .f32) (x2 : Vec Ideal S1x1x1024 .f32) (k : Fin 1024) (g : Fin 4) (c : Fin 256) (q : Fin 1024)
    (hq : q.val = g.val * 256 + c.val) :
    Pool.fold (fun k j => x0 (ix3 0 k j)) (fun g a b => x1 (ix4 0 g a b)) (fun c => x2 (ix3 0 0 c)) k q
      = (∑ j : Fin 256, x0 (ix3 0 k ⟨g.val * 256 + j.val, by omega⟩) * x1 (ix4 0 g j c)) * x2 (ix3 0 0 q) := by
  have eg : Pool.grp q = g := Fin.ext (by simp only [Pool.grp]; omega)
  have eo : Pool.off q = c := Fin.ext (by simp only [Pool.off]; omega)
  unfold Pool.fold
  rw [eg, eo]
  rfl

theorem out4_at (x0 : Vec Ideal S1x1024x2048 .f32) (x1 : Vec Ideal S1x4x256x256 .f32) (x2 : Vec Ideal S1x1x1024 .f32) (x3 : Vec Ideal S1x1024x1024 .f32) (k q : Fin 1024) :
    out1_4 x0 x1 x2 x3 (ix3 0 k q) = Pool.fold (fun k j => x0 (ix3 0 k j)) (fun g a b => x1 (ix4 0 g a b)) (fun c => x2 (ix3 0 0 c)) k q := by
  unfold out1_4
  rw [pay4_eq, pay5_eq, pay6_eq]
  canon_tiles x h
  all_goals
    obtain ⟨c, rfl⟩ : ∃ c : Fin 256, x = ix3 0 k c := ⟨⟨(x 2).val, x2_lt⟩, by
      funext a
      match a with
      | ⟨0, _⟩ => exact Subsingleton.elim (α := Fin 1) _ _
      | ⟨1, _⟩ => exact Fin.ext h1.symm
      | ⟨2, _⟩ => rfl⟩
    rw [pay_at]
  · rw [fold_group x0 x1 x2 k 3 c q (h2.trans (by rfl))]
    pointwise
    rw [show (⟨768 + c.val, by omega⟩ : Fin 1024) = q from Fin.ext h2.symm]
  · rw [fold_group x0 x1 x2 k 2 c q (h2.trans (by rfl))]
    pointwise
    rw [show (⟨512 + c.val, by omega⟩ : Fin 1024) = q from Fin.ext h2.symm]
  · rw [fold_group x0 x1 x2 k 1 c q (h2.trans (by rfl))]
    pointwise
    rw [show (⟨256 + c.val, by omega⟩ : Fin 1024) = q from Fin.ext h2.symm]
  · rw [fold_group x0 x1 x2 k 0 c q (h2.trans (Nat.zero_add _).symm)]
    pointwise
    rw [show (⟨c.val, by omega⟩ : Fin 1024) = q from Fin.ext h2.symm]

theorem out5_at (x0 : Vec Ideal S1x1024x2048 .f32) (x1 : Vec Ideal S1x4x256x256 .f32) (x2 : Vec Ideal S1x1x1024 .f32) (x3 : Vec Ideal S1x1024x1024 .f32) (k q : Fin 1024) :
    out1_5 x0 x1 x2 x3 (ix3 0 k q) = x0 (ix3 0 k ⟨1024 + q.val, by omega⟩) := by
  unfold out1_5
  frame_out
  pointwise [k1_pay1, k1_pay7]

theorem out6_at (x0 : Vec Ideal S1x1024x2048 .f32) (x1 : Vec Ideal S1x4x256x256 .f32) (x2 : Vec Ideal S1x1x1024 .f32) (x3 : Vec Ideal S1x1024x1024 .f32) (k q : Fin 1024) :
    out1_6 x0 x1 x2 x3 (ix3 0 k q) = x3 (ix3 0 k q) := by
  unfold out1_6
  frame_out
  pointwise [k1_pay2]

theorem idx : ∀ t : Fin cfg1.N, win1_0.index t = ![t.val, 0, 0] ∧ win1_1.index t = ![t.val, 0, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0] := by decide +kernel

variable (m : (ℓ : Loc nD τ sig) → Buf (Elt Ideal) ℓ) (ρ : Dev nD → PrngReg)

theorem ix_row (y : S1x1024x1024.Idx) : ∃ (r d : Fin 1024), y = ix3 0 r d := ⟨y 1, y 2, by
    funext a
    match a with
    | ⟨0, _⟩ => exact Subsingleton.elim (α := Fin 1) _ _
    | ⟨1, _⟩ => rfl
    | ⟨2, _⟩ => rfl⟩

set_option maxHeartbeats 4000000 in
theorem array4 (c : Dev nD) : (dat1 (V3 m ρ) c).arrAt 4 cfg1.N = fun i : S2x1024x1024.Idx =>
    Pool.fold (fun k j => V3 m ρ c main_arg6 (ix3 (i 0) k j)) (fun g a b => V3 m ρ c main_arg7 (ix4 (i 0) g a b)) (fun q => V3 m ρ c main_v9 (ix3 (i 0) 0 q)) (i 1) (i 2) := by
  refine (dat1 (V3 m ρ) c).arrAt_eq_of_covers 4 _ (by decide +kernel) fun t _ y => ?_
  blk_simp
  rw [after1_4]
  obtain ⟨r, d, rfl⟩ := ix_row y
  have ht : t.val < 2 := t.isLt
  generalize hb : (⟨t.val, ht⟩ : Fin 2) = b
  have hbv : b.val = t.val := by rw [← hb]
  have hy : (win1_4.blk t).view.emb (ix3 0 r d) = ix3 b r d := by blk_ext [idx t]
  have h0 : ∀ k j, iblk1 (V3 m ρ) c 0 t (ix3 0 k j) = V3 m ρ c main_arg6 (ix3 b k j) := fun k j => by blk_ext [iblk1, idx t]
  have h1 : ∀ g i j, iblk1 (V3 m ρ) c 1 t (ix4 0 g i j) = V3 m ρ c main_arg7 (ix4 b g i j) := fun g i j => by blk_ext [iblk1, idx t]
  have h2 : ∀ k, iblk1 (V3 m ρ) c 2 t (ix3 0 0 k) = V3 m ρ c main_v9 (ix3 b 0 k) := fun k => by blk_ext [iblk1, idx t]
  rw [hy]
  refine (out4_at _ _ _ _ r d).trans ?_
  simp only [h0, h1, h2]
  rfl

/-- The right half of the wide projection's columns. -/
def right (w : FVec Ideal S2x1024x2048 .f32) (l : Fin 2) (k q : Fin 1024) : EReal := w (ix3 l k ⟨1024 + q.val, by omega⟩)

set_option maxHeartbeats 4000000 in
theorem array5 (c : Dev nD) : (dat1 (V3 m ρ) c).arrAt 5 cfg1.N = fun i : S2x1024x1024.Idx =>
    right (V3 m ρ c main_arg6) (i 0) (i 1) (i 2) := by
  refine (dat1 (V3 m ρ) c).arrAt_eq_of_covers 5 _ (by decide +kernel) fun t _ y => ?_
  blk_simp
  rw [after1_5]
  obtain ⟨r, d, rfl⟩ := ix_row y
  have ht : t.val < 2 := t.isLt
  generalize hb : (⟨t.val, ht⟩ : Fin 2) = b
  have hbv : b.val = t.val := by rw [← hb]
  have hy : (win1_5.blk t).view.emb (ix3 0 r d) = ix3 b r d := by blk_ext [idx t]
  have h0 : ∀ k j, iblk1 (V3 m ρ) c 0 t (ix3 0 k j) = V3 m ρ c main_arg6 (ix3 b k j) := fun k j => by blk_ext [iblk1, idx t]
  rw [hy]
  refine (out5_at _ _ _ _ r d).trans ?_
  rw [h0]
  rfl

set_option maxHeartbeats 4000000 in
theorem array6 (c : Dev nD) : (dat1 (V3 m ρ) c).arrAt 6 cfg1.N = fun i : S2x1024x1024.Idx => V3 m ρ c main_arg9 (ix3 (i 0) (i 1) (i 2)) := by
  refine (dat1 (V3 m ρ) c).arrAt_eq_of_covers 6 _ (by decide +kernel) fun t _ y => ?_
  blk_simp
  rw [after1_6]
  obtain ⟨r, d, rfl⟩ := ix_row y
  have ht : t.val < 2 := t.isLt
  generalize hb : (⟨t.val, ht⟩ : Fin 2) = b
  have hbv : b.val = t.val := by rw [← hb]
  have hy : (win1_6.blk t).view.emb (ix3 0 r d) = ix3 b r d := by blk_ext [idx t]
  have h0 : ∀ k j, iblk1 (V3 m ρ) c 3 t (ix3 0 k j) = V3 m ρ c main_arg9 (ix3 b k j) := fun k j => by blk_ext [iblk1, idx t]
  rw [hy]
  refine (out6_at _ _ _ _ r d).trans ?_
  rw [h0]
  rfl

end Cert.CtxIdeal.Fold

end
-- ==== Proof.CtxSpec.lean ====
module

public import proofs.«01_k».proof.Proof.PoolReal

/-! # The pooling mixer over a sequence of 256 rows

The context has 256 rows per batch entry. The windows, their means and the two orders of one sum, for that length. -/

@[expose] public section

noncomputable section

namespace Cert.Layer.CPool

open Idealize.ShloMosaic Cert.Layer Cert.Layer.Pool

/-- The number of rows of a window that lie in the sequence. -/
def cnt (h l : Nat) : Nat := min (l + h) 256 - (l - h)

/-- A sequence with eight zero rows above it and zero rows below it. -/
def pad (T : Fin 256 → EReal) (n : Nat) : EReal := if h : 8 ≤ n ∧ n < 264 then T ⟨n - 8, by omega⟩ else 0

/-- The mean of a window around a row, over the rows that lie in the sequence. -/
def mean (h : Nat) (T : Fin 256 → EReal) (l : Fin 256) : EReal :=
  Ideal.div (∑ k ∈ Finset.range (2 * h), pad T (l.val + 8 - h + k)) ((cnt h l.val : ℝ) : EReal)

/-- A window of the padded sequence, over the rows of the sequence. -/
theorem sum_pad (T : Fin 256 → EReal) (h : Nat) (hh : h ≤ 8) (l : Fin 256) :
    (∑ k ∈ Finset.range (2 * h), pad T (l.val + 8 - h + k)) = ∑ q : Fin 256, if l.val ≤ q.val + h ∧ q.val < l.val + h then T q else 0 := by
  rw [← Finset.sum_filter]
  have e : (∑ k ∈ Finset.range (2 * h), pad T (l.val + 8 - h + k))
      = ∑ k ∈ (Finset.range (2 * h)).filter (fun k => h ≤ l.val + k ∧ l.val + k < 256 + h), pad T (l.val + 8 - h + k) := by
    rw [Finset.sum_filter]
    refine Finset.sum_congr rfl fun k _ => ?_
    split
    · rfl
    · next hn => unfold pad; rw [dif_neg (by omega)]
  rw [e]
  refine Finset.sum_bij' (fun k hk => (⟨l.val + k - h, by
      have := (Finset.mem_filter.1 hk).2
      omega⟩ : Fin 256)) (fun q _ => q.val + h - l.val) ?_ ?_ ?_ ?_ ?_
  · intro k hk
    have h1 := Finset.mem_range.1 (Finset.mem_filter.1 hk).1
    have h2 := (Finset.mem_filter.1 hk).2
    refine Finset.mem_filter.2 ⟨Finset.mem_univ _, ?_⟩
    dsimp only
    omega
  · intro q hq
    have h2 := (Finset.mem_filter.1 hq).2
    refine Finset.mem_filter.2 ⟨Finset.mem_range.2 ?_, ?_⟩ <;> omega
  · intro k hk
    have h2 := (Finset.mem_filter.1 hk).2
    dsimp only
    omega
  · intro q hq
    have h2 := (Finset.mem_filter.1 hq).2
    refine Fin.ext ?_
    dsimp only
    omega
  · intro k hk
    have h2 := (Finset.mem_filter.1 hk).2
    unfold pad
    rw [dif_pos (by omega)]
    refine congrArg T (Fin.ext ?_)
    dsimp only
    omega

/-- Over real numbers: the mean of folded products less one of them is the group's product of the means less the rows. -/
theorem real_eq (F : Finset (Fin 256)) (H : Fin 256 → Fin 1024 → ℝ) (W : Fin 1024 → Fin 256 → ℝ) (G : Fin 256 → ℝ) (S r : ℝ) (s : Fin 256) :
    (∑ q ∈ F, ∑ k, H q k * ((∑ j, W k j * G j) * S)) * r - ∑ k, H s k * ((∑ j, W k j * G j) * S)
      = (∑ j, G j * ((∑ q ∈ F, ∑ k, H q k * W k j) * r - ∑ k, H s k * W k j)) * S := by
  have hT : ∀ q, ∑ k, H q k * ((∑ j, W k j * G j) * S) = (∑ j, G j * ∑ k, H q k * W k j) * S := fun q => by
    simp only [Finset.mul_sum, Finset.sum_mul]
    rw [Finset.sum_comm]
    exact Finset.sum_congr rfl fun j _ => Finset.sum_congr rfl fun k _ => by ring
  simp only [hT]
  have e : ∑ q ∈ F, (∑ j, G j * ∑ k, H q k * W k j) * S = (∑ j, G j * ∑ q ∈ F, ∑ k, H q k * W k j) * S := by
    rw [← Finset.sum_mul, Finset.sum_comm]
    exact congrArg (· * S) (Finset.sum_congr rfl fun j _ => (Finset.mul_sum _ _ _).symm)
  rw [e, mul_right_comm, ← sub_mul, Finset.sum_mul, ← Finset.sum_sub_distrib]
  refine congrArg (· * S) (Finset.sum_congr rfl fun j _ => ?_)
  ring

/-- Two running sums' difference is the window's sum. -/
theorem prefix_sub (T : Fin 256 → ℝ) (h : Nat) (l : Fin 256) :
    (∑ q : Fin 256, if q.val < min (l.val + h) 256 then T q else 0) - (∑ q : Fin 256, if q.val < l.val - h then T q else 0)
      = ∑ q ∈ Finset.univ.filter (fun q : Fin 256 => l.val ≤ q.val + h ∧ q.val < l.val + h), T q := by
  rw [← Finset.sum_sub_distrib, Finset.sum_filter]
  refine Finset.sum_congr rfl fun q _ => ?_
  by_cases h1 : q.val < l.val - h
  · rw [if_pos (by omega), if_pos h1, if_neg (by omega), sub_self]
  · by_cases h2 : q.val < l.val + h
    · rw [if_pos (by omega), if_neg h1, if_pos (by omega), sub_zero]
    · rw [if_neg (by omega), if_neg h1, if_neg (by omega), sub_zero]

theorem cnt_real_ne (g : Fin 4) (s : Fin 256) : (cnt (half g) s.val : ℝ) ≠ 0 := by
  have h1 : 0 < half g := by unfold half; exact Nat.pos_of_ne_zero (by positivity)
  have h2 : 0 < cnt (half g) s.val := by unfold cnt; omega
  exact_mod_cast h2.ne'

/-- The mixed channel of the kernel is the reference's, where the rows, the weights and the scale are real. -/
theorem mixed_eq (h : Fin 256 → Fin 1024 → EReal) (w : Fin 1024 → Fin 2048 → EReal) (wg : Fin 4 → Fin 256 → Fin 256 → EReal) (sc : Fin 1024 → EReal)
    (hh : ∀ s k, IsReal (h s k)) (hw : ∀ k j, IsReal (w k j)) (hg : ∀ g i j, IsReal (wg g i j)) (hs : ∀ c, IsReal (sc c)) (s : Fin 256) (c : Fin 1024) :
    mean (half (grp c)) (fun s => ∑ k : Fin 1024, h s k * fold w wg sc k c) s - ∑ k : Fin 1024, h s k * fold w wg sc k c
      = (∑ j : Fin 256, wg (grp c) j (off c) * (Ideal.div ((∑ q : Fin 256, if q.val < min (s.val + half (grp c)) 256 then ∑ k : Fin 1024, h q k * w k (col (grp c) j) else 0)
          - ∑ q : Fin 256, if q.val < s.val - half (grp c) then ∑ k : Fin 1024, h q k * w k (col (grp c) j) else 0) ((cnt (half (grp c)) s.val : ℝ) : EReal)
          - ∑ k : Fin 1024, h s k * w k (col (grp c) j))) * sc c := by
  choose H hH using hh
  choose W hW using hw
  choose G hG using hg
  choose S hS using hs
  unfold mean
  rw [sum_pad _ _ (half_le8 _), Ideal.div_coe (cnt_real_ne _ _)]
  unfold fold
  simp only [Ideal.div_coe (cnt_real_ne _ _), hH, hW, hG, hS, ← EReal.coe_mul, ← coe_sum, ite_coe, ← EReal.coe_sub]
  refine congrArg Real.toEReal ?_
  simp only [prefix_sub]
  rw [← Finset.sum_filter]
  exact real_eq _ H (fun k j => W k (col (grp c) j)) (fun j => G (grp c) j (off c)) (S c) _ s

end Cert.Layer.CPool

end
-- ==== Proof.CtxBlock.lean ====
module

public import proofs.«01_k».proof.Proof.Gen.CtxIdeal.Frame
public import proofs.«01_k».proof.Proof.CtxSpec
public import Idealize.ShloMosaic.Lib.Pipeline.ValueKit

/-! # The context layer's pooling block, read at an index -/

@[expose] public section

set_option maxRecDepth 16384

noncomputable section

namespace Cert.CtxIdeal.Block

open Cert.CtxIdeal Cert.CtxIdeal.Gen
open Idealize.ShloMosaic Idealize.ShloMosaic.TcCoe Idealize.SL.Sem
open Cert.Layer

/-- The rows a grid point reads: eight above its tile, the tile, eight below. -/
def rows (v4 : Vec Ideal S1x8x1024 .f32) (v6 : Vec Ideal S1x256x1024 .f32) (v8 : Vec Ideal S1x8x1024 .f32) (r : Fin 272) (k : Fin 1024) : EReal :=
  if h : r.val < 8 then v4 (ix3 0 ⟨r.val, h⟩ k) else if h' : r.val - 8 < 256 then v6 (ix3 0 ⟨r.val - 8, h'⟩ k)
    else v8 (ix3 0 ⟨r.val - 8 - 256, by omega⟩ k)

theorem pay2_at (v0 v2 : Vec Ideal S1x1x1x1024 .f32) (v4 : Vec Ideal S1x8x1024 .f32) (v6 : Vec Ideal S1x256x1024 .f32) (v8 : Vec Ideal S1x8x1024 .f32)
    (v11 : Vec Ideal S1x1x1024 .f32) (r : Fin 272) (k : Fin 1024) :
    k2_pay2 v0 v2 v4 v6 v8 v11 (ix2 r k) = nrm (rows v4 v6 v8 r) (fun k => v11 (ix3 0 0 k)) (fun k => v0 (ix4 0 0 0 k)) (fun k => v2 (ix4 0 0 0 k)) k := by
  pointwise [k2_pay2, nrm, rms, rows]

/-- One where the tile has a tile above it, else zero. -/
def above (a : BitVec 32) : EReal := Scalar.sitofp (F := Ideal) .f32 (Scalar.extui (Scalar.cmpi .sgt a 0#32) : BitVec 32)
/-- One where the tile has a tile below it, else zero. -/
def below (a : BitVec 32) : EReal := Scalar.sitofp (F := Ideal) .f32 (Scalar.extui (Scalar.cmpi .slt a 0#32) : BitVec 32)

/-- The folded projection on all rows a grid point reads. -/
def tV (he : FVec Ideal S272x1024 .bf16) (w : Vec Ideal S1x1024x1024 .bf16) : FVec Ideal S272x1024 .f32 :=
  matmul dot_S272x1024_S1024x1024_S272x1024_1_0_0_1_n_n none he (shapeCast (s := S1x1024x1024) (α := Ideal .bf16) S1024x1024 w shapeCasts_S1x1024x1024_S1024x1024)
    (constant S272x1024 .f32 0x00000000#32)

/-- The same with the rows outside the sequence set to zero: `lo` and `hi` are one inside it and zero at its ends. -/
def edgeV (lo hi : EReal) (z : FVec Ideal S272x1024 .f32) : FVec Ideal S272x1024 .f32 :=
  concatenate S272x1024 0
    [⟨S8x1024, mulf (extractStridedSlice S8x1024 ![0, 0] z slices_S272x1024_o0_0_S8x1024) (broadcast S8x1024 (lo : Ideal .f32))⟩,
     ⟨S256x1024, extractStridedSlice S256x1024 ![8, 0] z slices_S272x1024_o8_0_S256x1024⟩,
     ⟨S8x1024, mulf (extractStridedSlice S8x1024 ![264, 0] z slices_S272x1024_o264_0_S8x1024) (broadcast S8x1024 (hi : Ideal .f32))⟩]
    concatenates_S8x1024_S256x1024_S8x1024_S272x1024_d0

theorem tV_at (he : FVec Ideal S272x1024 .bf16) (w : Vec Ideal S1x1024x1024 .bf16) (r : Fin 272) (c : Fin 1024) :
    tV he w (ix2 r c) = ∑ k : Fin 1024, he (ix2 r k) * w (ix3 0 k c) := by
  pointwise [tV]

theorem edgeV_at (lo hi : EReal) (z : FVec Ideal S272x1024 .f32) (r : Fin 272) (c : Fin 1024) :
    edgeV lo hi z (ix2 r c) = if r.val < 8 then z (ix2 r c) * lo else if r.val < 264 then z (ix2 r c) else z (ix2 r c) * hi := by
  pointwise [edgeV]
  by_cases h : r.val < 8
  · rw [dif_pos h, if_pos h]
  by_cases h' : r.val < 264
  · rw [dif_neg h, dif_pos (by omega), if_neg h, if_pos h']
    exact congrArg (fun q : Fin 272 => z (ix2 q c)) (Fin.ext (by show 8 + (r.val - 8) = r.val; omega))
  · rw [dif_neg h, dif_neg (by omega), if_neg h, if_neg h']
    exact congrArg (fun q : Fin 272 => z (ix2 q c) * hi) (Fin.ext (by show 264 + (r.val - 8 - 256) = r.val; omega))

theorem pay5_eq (a : BitVec 32) (he : FVec Ideal S272x1024 .bf16) (w : Vec Ideal S1x1024x1024 .bf16) :
    k2_pay5 a he w = edgeV (above a) (below a) (tV he w) := rfl

/-! ## The window sums -/

/-- The sum over the window of two rows. -/
def sum1 (e : FVec Ideal S272x256 .f32) : FVec Ideal S256x256 .f32 :=
  extractStridedSlice S256x256 ![8, 0] (addf (dynamicRotate 0 1#32 none e rotates_S272x256_d0) e) slices_S272x256_o8_0_S256x256
/-- Each row plus the row below it. -/
def two (e : FVec Ideal S272x256 .f32) : FVec Ideal S272x256 .f32 := addf e (dynamicRotate 0 271#32 none e rotates_S272x256_d0)
/-- Each row plus the three rows below it. -/
def four (e : FVec Ideal S272x256 .f32) : FVec Ideal S272x256 .f32 := addf (two e) (dynamicRotate 0 270#32 none (two e) rotates_S272x256_d0)
/-- The sum over the window of four rows. -/
def sum2 (e : FVec Ideal S272x256 .f32) : FVec Ideal S256x256 .f32 :=
  extractStridedSlice S256x256 ![8, 0] (addf (dynamicRotate 0 2#32 none (two e) rotates_S272x256_d0) (two e)) slices_S272x256_o8_0_S256x256
/-- The sum over the window of eight rows. -/
def sum4 (e : FVec Ideal S272x256 .f32) : FVec Ideal S256x256 .f32 :=
  extractStridedSlice S256x256 ![8, 0] (addf (dynamicRotate 0 4#32 none (four e) rotates_S272x256_d0) (four e)) slices_S272x256_o8_0_S256x256
/-- The sum over the window of sixteen rows. -/
def sum8 (e : FVec Ideal S272x256 .f32) : FVec Ideal S256x256 .f32 := k2_pay26 (four e)

theorem two_at (e : FVec Ideal S272x256 .f32) (r : Fin 272) (c : Fin 256) (h : r.val < 271) :
    two e (ix2 r c) = e (ix2 r c) + e (ix2 ⟨r.val + 1, by omega⟩ c) := by
  pointwise [two]
  rw [show (⟨(r.val + 272 - 271) % 272, by omega⟩ : Fin 272) = ⟨r.val + 1, by omega⟩ from Fin.ext (by simp only; omega)]

theorem four_at (e : FVec Ideal S272x256 .f32) (r : Fin 272) (c : Fin 256) (h : r.val < 269) :
    four e (ix2 r c) = two e (ix2 r c) + two e (ix2 ⟨r.val + 2, by omega⟩ c) := by
  unfold four
  generalize two e = f
  pointwise
  rw [show (⟨(r.val + 272 - 270) % 272, by omega⟩ : Fin 272) = ⟨r.val + 2, by omega⟩ from Fin.ext (by simp only; omega)]

theorem sum1_at (e : FVec Ideal S272x256 .f32) (E : Nat → EReal) (c : Fin 256) (hE : ∀ r : Fin 272, e (ix2 r c) = E r.val) (r : Fin 256) :
    sum1 e (ix2 r c) = ∑ k ∈ Finset.range 2, E (r.val + 8 - 1 + k) := by
  have e0 : sum1 e (ix2 r c) = e (ix2 ⟨7 + r.val, by omega⟩ c) + e (ix2 ⟨8 + r.val, by omega⟩ c) := by
    pointwise [sum1]
    rw [show (⟨(8 + r.val + 272 - 1) % 272, by omega⟩ : Fin 272) = ⟨7 + r.val, by omega⟩ from Fin.ext (by simp only; omega)]
  rw [e0]
  simp only [hE, Finset.sum_range_succ, Finset.sum_range_zero, zero_add]
  exact congrArg₂ (· + ·) (congrArg E (by omega)) (congrArg E (by omega))

theorem two_sum (e : FVec Ideal S272x256 .f32) (E : Nat → EReal) (c : Fin 256) (hE : ∀ r : Fin 272, e (ix2 r c) = E r.val) (r : Fin 272) (h : r.val < 271) :
    two e (ix2 r c) = ∑ k ∈ Finset.range 2, E (r.val + k) := by
  rw [two_at _ _ _ h]
  simp only [hE, Finset.sum_range_succ, Finset.sum_range_zero, zero_add, add_zero]

theorem sum2_at (e : FVec Ideal S272x256 .f32) (E : Nat → EReal) (c : Fin 256) (hE : ∀ r : Fin 272, e (ix2 r c) = E r.val) (r : Fin 256) :
    sum2 e (ix2 r c) = ∑ k ∈ Finset.range 4, E (r.val + 8 - 2 + k) := by
  have e0 : sum2 e (ix2 r c) = two e (ix2 ⟨6 + r.val, by omega⟩ c) + two e (ix2 ⟨8 + r.val, by omega⟩ c) := by
    unfold sum2
    generalize two e = f
    pointwise
    rw [show (⟨(8 + r.val + 272 - 2) % 272, by omega⟩ : Fin 272) = ⟨6 + r.val, by omega⟩ from Fin.ext (by simp only; omega)]
  rw [e0, two_sum e E c hE _ (by simp only; omega), two_sum e E c hE _ (by simp only; omega), Finset.sum_range_add _ 2 2]
  congr 1 <;> exact Finset.sum_congr rfl fun k _ => congrArg E (by dsimp only; omega)

theorem four_sum (e : FVec Ideal S272x256 .f32) (E : Nat → EReal) (c : Fin 256) (hE : ∀ r : Fin 272, e (ix2 r c) = E r.val) (r : Fin 272) (h : r.val < 269) :
    four e (ix2 r c) = ∑ k ∈ Finset.range 4, E (r.val + k) := by
  rw [four_at _ _ _ h, two_at _ _ _ (by omega), two_at _ _ _ (by simp only; omega)]
  simp only [hE, Finset.sum_range_succ, Finset.sum_range_zero, zero_add, add_assoc, add_zero]

theorem sum4_at (e : FVec Ideal S272x256 .f32) (E : Nat → EReal) (c : Fin 256) (hE : ∀ r : Fin 272, e (ix2 r c) = E r.val) (r : Fin 256) :
    sum4 e (ix2 r c) = ∑ k ∈ Finset.range 8, E (r.val + 8 - 4 + k) := by
  have e0 : sum4 e (ix2 r c) = four e (ix2 ⟨4 + r.val, by omega⟩ c) + four e (ix2 ⟨8 + r.val, by omega⟩ c) := by
    unfold sum4
    generalize four e = f
    pointwise
    rw [show (⟨(8 + r.val + 272 - 4) % 272, by omega⟩ : Fin 272) = ⟨4 + r.val, by omega⟩ from Fin.ext (by simp only; omega)]
  rw [e0, four_sum e E c hE _ (by simp only; omega), four_sum e E c hE _ (by simp only; omega), Finset.sum_range_add _ 4 4]
  congr 1 <;> exact Finset.sum_congr rfl fun k _ => congrArg E (by dsimp only; omega)

theorem sum8_at (e : FVec Ideal S272x256 .f32) (E : Nat → EReal) (c : Fin 256) (hE : ∀ r : Fin 272, e (ix2 r c) = E r.val) (r : Fin 256) :
    sum8 e (ix2 r c) = ∑ k ∈ Finset.range 16, E (r.val + 8 - 8 + k) := by
  have e0 : sum8 e (ix2 r c) = (four e (ix2 ⟨r.val, by omega⟩ c) + four e (ix2 ⟨r.val + 4, by omega⟩ c))
      + (four e (ix2 ⟨8 + r.val, by omega⟩ c) + four e (ix2 ⟨8 + r.val + 4, by omega⟩ c)) := by
    unfold sum8
    generalize four e = f
    pointwise [k2_pay26]
    rw [show (⟨(r.val + 272 - 268) % 272, by omega⟩ : Fin 272) = ⟨r.val + 4, by omega⟩ from Fin.ext (by simp only; omega),
      show (⟨(8 + r.val + 272 - 268) % 272, by omega⟩ : Fin 272) = ⟨8 + r.val + 4, by omega⟩ from Fin.ext (by simp only; omega)]
  rw [e0, four_sum e E c hE _ (by simp only; omega), four_sum e E c hE _ (by simp only; omega), four_sum e E c hE _ (by simp only; omega),
    four_sum e E c hE _ (by simp only; omega), Finset.sum_range_add _ 8 8, Finset.sum_range_add _ 4 4, Finset.sum_range_add _ 4 4]
  congr 1 <;> congr 1 <;> exact Finset.sum_congr rfl fun k _ => congrArg E (by dsimp only; omega)

/-! ## The window means -/

/-- One over the number of rows of the window in the sequence, at the eight rows from `first` on. -/
def inv (a first hw : BitVec 32) : FVec Ideal S8x1 .f32 :=
  let t : IVec S8x1 32 := addi (iota .tc S8x1 32 [0] iota_S8x1_d0_w32) (broadcast S8x1 (Scalar.addi (Scalar.muli a 256#32) first))
  divf (broadcast S8x1 (Scalar.ofBits .f32 0x3F800000#32))
    (sitofp .f32 (subi (minsi (addi t (broadcast S8x1 hw)) (broadcast S8x1 256#32)) (maxsi (subi t (broadcast S8x1 hw)) (broadcast S8x1 0#32))))

/-- The means less the rows themselves. -/
def meanV (a hw wi : BitVec 32) (s : FVec Ideal S256x256 .f32) (e : FVec Ideal S272x256 .f32) : FVec Ideal S256x256 .f32 :=
  subf (concatenate S256x256 0
    [⟨S8x256, mulf (extractStridedSlice S8x256 ![0, 0] s slices_S256x256_o0_0_S8x256) (broadcastTo S8x256 (inv a 0#32 hw) broadcasts_S8x1_S8x256)⟩,
     ⟨S240x256, mulf (extractStridedSlice S240x256 ![8, 0] s slices_S256x256_o8_0_S240x256) (broadcast S240x256 (Scalar.ofBits .f32 wi))⟩,
     ⟨S8x256, mulf (extractStridedSlice S8x256 ![248, 0] s slices_S256x256_o248_0_S8x256) (broadcastTo S8x256 (inv a 248#32 hw) broadcasts_S8x1_S8x256)⟩]
    concatenates_S8x256_S240x256_S8x256_S256x256_d0) (extractStridedSlice S256x256 ![8, 0] e slices_S272x256_o8_0_S256x256)

/-- The count of rows as the words hold it. -/
def cntW (a first hw : BitVec 32) (r : Nat) : BitVec 32 :=
  IntOp.minsi (BitVec.ofNat 32 r + (a * 256#32 + first) + hw) 256#32 - IntOp.maxsi (BitVec.ofNat 32 r + (a * 256#32 + first) - hw) 0#32

theorem cntW_lo : ∀ (i : Fin 1) (g : Fin 4) (r : Fin 8), cntW (BitVec.ofNat 32 i.val) 0#32 (BitVec.ofNat 32 (2 ^ g.val)) r.val
    = BitVec.ofNat 32 (CPool.cnt (2 ^ g.val) (i.val * 256 + r.val)) := by decide +kernel
theorem cntW_hi : ∀ (i : Fin 1) (g : Fin 4) (r : Fin 8), cntW (BitVec.ofNat 32 i.val) 248#32 (BitVec.ofNat 32 (2 ^ g.val)) r.val
    = BitVec.ofNat 32 (CPool.cnt (2 ^ g.val) (i.val * 256 + (248 + r.val))) := by decide +kernel

theorem inv_at (a first hw : BitVec 32) (r : Fin 8) : inv a first hw (ix2 r 0) = Ideal.div 1 ((((cntW a first hw r.val).toInt : ℝ)) : EReal) := by
  pointwise [inv]
  rfl

theorem toInt_cnt (h l : Nat) : (BitVec.ofNat 32 (CPool.cnt h l)).toInt = (CPool.cnt h l : Int) := by
  have hc : CPool.cnt h l ≤ 256 := by unfold CPool.cnt; omega
  rw [BitVec.toInt_eq_toNat_of_lt (by rw [BitVec.toNat_ofNat]; omega), BitVec.toNat_ofNat, Nat.mod_eq_of_lt (by omega)]

theorem meanV_at (i : Fin 1) (g : Fin 4) (wi : BitVec 32) (hw : Ideal.ofBits .f32 wi = Ideal.div 1 (((2 * 2 ^ g.val : Nat) : ℝ) : EReal))
    (s : FVec Ideal S256x256 .f32) (e : FVec Ideal S272x256 .f32) (r : Fin 256) (c : Fin 256) :
    meanV (BitVec.ofNat 32 i.val) (BitVec.ofNat 32 (2 ^ g.val)) wi s e (ix2 r c)
      = s (ix2 r c) * Ideal.div 1 ((CPool.cnt (2 ^ g.val) (i.val * 256 + r.val) : ℝ) : EReal) - e (ix2 ⟨8 + r.val, by omega⟩ c) := by
  have i1 : ∀ q : Fin 8, inv (BitVec.ofNat 32 i.val) 0#32 (BitVec.ofNat 32 (2 ^ g.val)) (ix2 q 0) = Ideal.div 1 ((CPool.cnt (2 ^ g.val) q.val : ℝ) : EReal) := fun q => by
    rw [inv_at, cntW_lo, toInt_cnt, show i.val * 256 + q.val = q.val by omega]
    rfl
  have i2 : ∀ q : Fin 8, inv (BitVec.ofNat 32 i.val) 248#32 (BitVec.ofNat 32 (2 ^ g.val)) (ix2 q 0) = Ideal.div 1 ((CPool.cnt (2 ^ g.val) (248 + q.val) : ℝ) : EReal) := fun q => by
    rw [inv_at, cntW_hi, toInt_cnt, show i.val * 256 + (248 + q.val) = 248 + q.val by omega]
    rfl
  unfold meanV
  generalize inv (BitVec.ofNat 32 i.val) 0#32 (BitVec.ofNat 32 (2 ^ g.val)) = u at i1 ⊢
  generalize inv (BitVec.ofNat 32 i.val) 248#32 (BitVec.ofNat 32 (2 ^ g.val)) = v at i2 ⊢
  pointwise
  congr 1
  by_cases h : r.val < 8
  · rw [dif_pos h, i1]
  by_cases h' : r.val < 248
  · have ec : CPool.cnt (2 ^ g.val) r.val = 2 * 2 ^ g.val := by
      have hg : 2 ^ g.val ≤ 8 := by
        have : ∀ g : Fin 4, 2 ^ g.val ≤ 8 := by decide
        exact this g
      unfold CPool.cnt
      omega
    rw [dif_neg h, dif_pos (by omega), hw, ec]
    exact congrArg (fun q : Fin 256 => s (ix2 q c) * _) (Fin.ext (by show 8 + (r.val - 8) = r.val; omega))
  · rw [dif_neg h, dif_neg (by omega), i2]
    have e1 : (⟨248 + (r.val - 8 - 240), by omega⟩ : Fin 256) = r := Fin.ext (by show 248 + (r.val - 8 - 240) = r.val; omega)
    have e2 : 248 + (r.val - 8 - 240) = r.val := by omega
    rw [e1]
    dsimp only
    rw [e2]

theorem pay11_eq (a : BitVec 32) (he : FVec Ideal S272x1024 .bf16) (w : Vec Ideal S1x1024x1024 .bf16) :
    k2_pay11 a (k2_pay7 a he w) (k2_pay8 a he w) (iota .tc S8x1 32 [0] iota_S8x1_d0_w32) (k2_pay9 a he w) (k2_pay10 (F := Ideal) a)
      = meanV a 1#32 0x3F000000#32 (sum1 (extractStridedSlice S272x256 ![0, 0] (k2_pay5 a he w) slices_S272x1024_o0_0_S272x256))
          (extractStridedSlice S272x256 ![0, 0] (k2_pay5 a he w) slices_S272x1024_o0_0_S272x256) := rfl

theorem pay18_eq (a : BitVec 32) (z : FVec Ideal S272x1024 .f32) :
    k2_pay18 a (k2_pay12 z) (k2_pay13 z) (iota .tc S8x1 32 [0] iota_S8x1_d0_w32) (k2_pay14 z) (k2_pay16 a) (k2_pay17 a) 0#32
      = meanV a 2#32 0x3E800000#32 (sum2 (k2_pay12 z)) (k2_pay12 z) := rfl

theorem pay23_eq (a : BitVec 32) (z : FVec Ideal S272x1024 .f32) :
    k2_pay23 a (k2_pay19 z) (k2_pay20 z) (iota .tc S8x1 32 [0] iota_S8x1_d0_w32) (k2_pay21 z) (k2_pay22 a)
      = meanV a 4#32 0x3E000000#32 (sum4 (k2_pay19 z)) (k2_pay19 z) := rfl

/-- The four groups side by side. -/
def mixV (m0 m1 m2 m3 : FVec Ideal S256x256 .f32) : FVec Ideal S256x1024 .f32 :=
  concatenate S256x1024 1 [⟨S256x256, m0⟩, ⟨S256x256, m1⟩, ⟨S256x256, m2⟩, ⟨S256x256, m3⟩] concatenates_S256x256_S256x256_S256x256_S256x256_S256x1024_d1

/-- The gated residual. -/
def resV (g mix : FVec Ideal S256x1024 .f32) (wo : Vec Ideal S1x1024x1024 .bf16) (x : Vec Ideal S1x256x1024 .f32) (gate : Vec Ideal S1x1x1x1024 .f32) : FVec Ideal S256x1024 .f32 :=
  addf (shapeCast S256x1024 x shapeCasts_S1x256x1024_S256x1024)
    (mulf (broadcastTo S256x1024 (shapeCast S1x1024 gate shapeCasts_S1x1x1x1024_S1x1024) broadcasts_S1x1024_S256x1024)
      (matmul dot_S256x1024_S1024x1024_S256x1024_1_0_0_1_n_n none
        (truncf .bf16 (mulf mix (divf g (addf (broadcast S256x1024 (Scalar.ofBits .f32 0x3F800000#32)) (exp (subf (broadcast S256x1024 (Scalar.ofBits .f32 0x00000000#32)) g))))) bitsLt_bf16_f32)
        (shapeCast (s := S1x1024x1024) (α := Ideal .bf16) S1024x1024 wo shapeCasts_S1x1024x1024_S1024x1024) (constant S256x1024 .f32 0x00000000#32)))

theorem pay1_eq (a : BitVec 32) (g : FVec Ideal S256x1024 .f32) (m0 m1 m2 : FVec Ideal S256x256 .f32) (z : FVec Ideal S272x1024 .f32)
    (wo : Vec Ideal S1x1024x1024 .bf16) (x : Vec Ideal S1x256x1024 .f32) (gate : Vec Ideal S1x1x1x1024 .f32) :
    k2_pay1 g m0 m1 m2 (k2_pay24 z) (k2_pay27 a (k2_pay25 z)) (k2_pay28 (k2_pay25 z)) (k2_pay29 (k2_pay25 z)) (k2_pay30 (F := Ideal) a) (k2_pay31 (F := Ideal)) wo x gate
      = shapeCast S1x256x1024 (resV g (mixV m0 m1 m2 (meanV a 8#32 0x3D800000#32 (sum8 (k2_pay24 z)) (k2_pay24 z))) wo x gate) shapeCasts_S256x1024_S1x256x1024 := rfl

theorem resV_at (g mix : FVec Ideal S256x1024 .f32) (wo : Vec Ideal S1x1024x1024 .bf16) (x : Vec Ideal S1x256x1024 .f32) (gate : Vec Ideal S1x1x1x1024 .f32) (r : Fin 256) (d : Fin 1024) :
    resV g mix wo x gate (ix2 r d) = Pool.res (fun d => x (ix3 0 r d)) (fun d => gate (ix4 0 0 0 d)) (fun c => mix (ix2 r c)) (fun c => g (ix2 r c)) (fun c d => wo (ix3 0 c d)) d := by
  pointwise [resV, Pool.res]
  simp only [div_eq_silu]

theorem mixV_at (m0 m1 m2 m3 : FVec Ideal S256x256 .f32) (r : Fin 256) (c : Fin 1024) (v : EReal)
    (h0 : Pool.grp c = 0 → m0 (ix2 r (Pool.off c)) = v) (h1 : Pool.grp c = 1 → m1 (ix2 r (Pool.off c)) = v)
    (h2 : Pool.grp c = 2 → m2 (ix2 r (Pool.off c)) = v) (h3 : Pool.grp c = 3 → m3 (ix2 r (Pool.off c)) = v) :
    mixV m0 m1 m2 m3 (ix2 r c) = v := by
  pointwise [mixV]
  have hg : ∀ g : Nat, (hg : g < 4) → c.val / 256 = g → Pool.grp c = ⟨g, hg⟩ := fun g hg h => Fin.ext h
  split
  · rw [← h0 (hg 0 (by omega) (by omega))]
    exact congrArg (fun q => m0 (ix2 r q)) (Fin.ext (by show c.val = c.val % 256; omega))
  split
  · rw [← h1 (hg 1 (by omega) (by omega))]
    exact congrArg (fun q => m1 (ix2 r q)) (Fin.ext (by show c.val - 256 = c.val % 256; omega))
  split
  · rw [← h2 (hg 2 (by omega) (by omega))]
    exact congrArg (fun q => m2 (ix2 r q)) (Fin.ext (by show c.val - 256 - 256 = c.val % 256; omega))
  · rw [← h3 (hg 3 (by omega) (by omega))]
    exact congrArg (fun q => m3 (ix2 r q)) (Fin.ext (by show c.val - 256 - 256 - 256 = c.val % 256; omega))

theorem mean_at (i : Fin 1) (g : Fin 4) (hw wi : BitVec 32) (hW : hw = BitVec.ofNat 32 (2 ^ g.val)) (hwi : Ideal.ofBits .f32 wi = Ideal.div 1 (((2 * 2 ^ g.val : Nat) : ℝ) : EReal))
    (s : FVec Ideal S256x256 .f32) (e : FVec Ideal S272x256 .f32) (c : Fin 256) (E : Nat → EReal) (he : ∀ n : Fin 272, e (ix2 n c) = E n.val) (r : Fin 256)
    (hs : s (ix2 r c) = ∑ k ∈ Finset.range (2 * Pool.half g), E (r.val + 8 - Pool.half g + k)) :
    meanV (BitVec.ofNat 32 i.val) hw wi s e (ix2 r c) = (∑ k ∈ Finset.range (2 * Pool.half g), E (r.val + 8 - Pool.half g + k))
      * Ideal.div 1 ((CPool.cnt (Pool.half g) (i.val * 256 + r.val) : ℝ) : EReal) - E (8 + r.val) := by
  rw [hW, meanV_at i g wi hwi, he, hs]
  rfl

theorem half_bits : Ideal.ofBits .f32 0x3F000000#32 = Ideal.div 1 (((2 * 2 ^ (0 : Fin 4).val : Nat) : ℝ) : EReal) := by
  rw [Ideal.div_coe (by norm_num), one_mul]
  simp [Ideal.ofBits, Ideal.ieee, -EReal.coe_mul]; norm_num
theorem quarter_bits : Ideal.ofBits .f32 0x3E800000#32 = Ideal.div 1 (((2 * 2 ^ (1 : Fin 4).val : Nat) : ℝ) : EReal) := by
  rw [Ideal.div_coe (by norm_num), one_mul]
  simp [Ideal.ofBits, Ideal.ieee, -EReal.coe_mul]; norm_num
theorem eighth_bits : Ideal.ofBits .f32 0x3E000000#32 = Ideal.div 1 (((2 * 2 ^ (2 : Fin 4).val : Nat) : ℝ) : EReal) := by
  rw [Ideal.div_coe (by norm_num), one_mul]
  simp [Ideal.ofBits, Ideal.ieee, -EReal.coe_mul]; norm_num
theorem sixteenth_bits : Ideal.ofBits .f32 0x3D800000#32 = Ideal.div 1 (((2 * 2 ^ (3 : Fin 4).val : Nat) : ℝ) : EReal) := by
  rw [Ideal.div_coe (by norm_num), one_mul]
  simp [Ideal.ofBits, Ideal.ieee, -EReal.coe_mul]; norm_num

theorem slice_at (z : FVec Ideal S272x1024 .f32) (o : Nat) (hs : S272x1024.Slices ![0, o] S272x256) (g : Fin 4) (ho : o = g.val * 256) {c : Fin 1024} (h : Pool.grp c = g) (n : Fin 272) :
    extractStridedSlice S272x256 ![0, o] z hs (ix2 n (Pool.off c)) = z (ix2 n c) := by
  refine congrArg z (funext fun a => Fin.ext ?_)
  have hc : c.val / 256 = g.val := congrArg Fin.val h
  match a with
  | 0 => show 0 + n.val = n.val; omega
  | 1 => show o + c.val % 256 = c.val; omega

theorem cast_at (v : FVec Ideal S256x1024 .f32) (r : Fin 256) (d : Fin 1024) : shapeCast S1x256x1024 v shapeCasts_S256x1024_S1x256x1024 (ix3 0 r d) = v (ix2 r d) := by
  pointwise

theorem out_at (i : grid2.Coords) (x0 : Vec Ideal S1x256x1024 .f32) (x1 x2 : Vec Ideal S1x8x1024 .f32) (x3 : Vec Ideal S1x1x3x1024 .f32)
    (x4 : Vec Ideal S1x1x1024 .f32) (x5 x6 x7 : Vec Ideal S1x1024x1024 .bf16) (e : Fin 1) (hi : (i 1).val = e.val) (H : Fin 272 → Fin 1024 → EReal)
    (hH : ∀ q k, nrm (rows x1 x0 x2 q) (fun k => x4 (ix3 0 0 k)) (fun k => x3 (ix4 0 0 0 k)) (fun k => x3 (ix4 0 0 1 k)) k = H q k)
    (E : Fin 1024 → Nat → EReal)
    (hE : ∀ (c : Fin 1024) (n : Fin 272), (if n.val < 8 then (∑ k : Fin 1024, H n k * x5 (ix3 0 k c)) * above (BitVec.ofNat 32 e.val)
      else if n.val < 264 then ∑ k : Fin 1024, H n k * x5 (ix3 0 k c) else (∑ k : Fin 1024, H n k * x5 (ix3 0 k c)) * below (BitVec.ofNat 32 e.val)) = E c n.val)
    (r : Fin 256) (d : Fin 1024) :
    out2_8 i x0 x1 x2 x3 x4 x5 x6 x7 (ix3 0 r d) =
      Pool.res (fun d => x0 (ix3 0 r d)) (fun d => x3 (ix4 0 0 2 d))
        (fun c => (∑ k ∈ Finset.range (2 * Pool.half (Pool.grp c)), E c (r.val + 8 - Pool.half (Pool.grp c) + k)) * Ideal.div 1 ((CPool.cnt (Pool.half (Pool.grp c)) (e.val * 256 + r.val) : ℝ) : EReal)
          - E c (8 + r.val))
        (fun c => ∑ k : Fin 1024, H ⟨8 + r.val, by omega⟩ k * x6 (ix3 0 k c)) (fun c d => x7 (ix3 0 c d)) d := by
  have hP : ∀ q k, k2_pay32 i x0 x1 x2 x3 x4 x5 x6 x7 (ix2 q k) = H q k := by
    intro q k
    rw [← hH]
    refine Eq.trans (b := k2_pay2 (View.ld x3 r2_0) (View.ld x3 r2_1) (View.ld x1 r2_2) (View.ld x0 r2_3) (View.ld x2 r2_2) (View.ld x4 r2_4) (ix2 q k)) rfl ?_
    rw [pay2_at]
    pointwise
    refine congrArg (fun X : Fin 1024 → EReal => nrm X _ _ _ k) (funext fun l => ?_)
    unfold rows
    pointwise
  unfold out2_8
  frame_out
  have ld : View.ld x5 r2_5 = x5 := by
    funext y
    idx_vars y
    pointwise
    rw [Subsingleton.elim y0 0]
  have hG : ∀ c, k2_pay6 (k2_pay4 (View.ld x3 r2_0) (View.ld x3 r2_1) x1 x0 x2 x4) x6 (ix2 r c) = ∑ k : Fin 1024, H ⟨8 + r.val, by omega⟩ k * x6 (ix3 0 k c) := by
    intro c
    have e0 : k2_pay6 (k2_pay4 (View.ld x3 r2_0) (View.ld x3 r2_1) x1 x0 x2 x4) x6 (ix2 r c)
        = ∑ k : Fin 1024, k2_pay2 (View.ld x3 r2_0) (View.ld x3 r2_1) x1 x0 x2 x4 (ix2 ⟨8 + r.val, by omega⟩ k) * x6 (ix3 0 k c) := by
      unfold k2_pay4
      generalize k2_pay2 (View.ld x3 r2_0) (View.ld x3 r2_1) x1 x0 x2 x4 = q
      pointwise [k2_pay6]
    rw [e0]
    refine Finset.sum_congr rfl fun k _ => congrArg (· * _) ?_
    rw [pay2_at, ← hH]
    pointwise
  have hz : k2_pay33 i x0 x1 x2 x3 x4 x5 x6 x7 = k2_pay5 (BitVec.ofNat 32 e.val) (k2_pay32 i x0 x1 x2 x3 x4 x5 x6 x7) x5 := by
    refine Eq.trans (b := k2_pay5 (BitVec.ofNat 32 (i 1).val) (k2_pay32 i x0 x1 x2 x3 x4 x5 x6 x7) (View.ld x5 r2_5)) rfl ?_
    rw [ld, hi]
  rw [hi, show k2_pay34 i x0 x1 x2 x3 x4 x5 x6 x7 = k2_pay25 (k2_pay33 i x0 x1 x2 x3 x4 x5 x6 x7) from rfl, hz, pay11_eq]
  generalize k2_pay32 i x0 x1 x2 x3 x4 x5 x6 x7 = he at hP ⊢
  have hZ : ∀ (n : Fin 272) (c : Fin 1024), k2_pay5 (BitVec.ofNat 32 e.val) he x5 (ix2 n c) = E c n.val := by
    intro n c
    rw [pay5_eq, edgeV_at, tV_at, ← hE]
    simp only [hP]
  generalize k2_pay5 (BitVec.ofNat 32 e.val) he x5 = z at hZ ⊢
  rw [pay18_eq, pay23_eq, pay1_eq, cast_at]
  generalize k2_pay6 (k2_pay4 (View.ld x3 r2_0) (View.ld x3 r2_1) x1 x0 x2 x4) x6 = g at hG ⊢
  have hM : ∀ c, mixV (meanV (BitVec.ofNat 32 e.val) 1#32 0x3F000000#32 (sum1 (extractStridedSlice S272x256 ![0, 0] z slices_S272x1024_o0_0_S272x256))
          (extractStridedSlice S272x256 ![0, 0] z slices_S272x1024_o0_0_S272x256))
        (meanV (BitVec.ofNat 32 e.val) 2#32 0x3E800000#32 (sum2 (k2_pay12 z)) (k2_pay12 z)) (meanV (BitVec.ofNat 32 e.val) 4#32 0x3E000000#32 (sum4 (k2_pay19 z)) (k2_pay19 z))
        (meanV (BitVec.ofNat 32 e.val) 8#32 0x3D800000#32 (sum8 (k2_pay24 z)) (k2_pay24 z)) (ix2 r c)
      = (∑ k ∈ Finset.range (2 * Pool.half (Pool.grp c)), E c (r.val + 8 - Pool.half (Pool.grp c) + k)) * Ideal.div 1 ((CPool.cnt (Pool.half (Pool.grp c)) (e.val * 256 + r.val) : ℝ) : EReal)
          - E c (8 + r.val) := by
    intro c
    have hc : Pool.grp c = ⟨c.val / 256, by omega⟩ := rfl
    refine mixV_at _ _ _ _ r c _ (fun h => ?_) (fun h => ?_) (fun h => ?_) (fun h => ?_)
    · have hE' : ∀ n : Fin 272, extractStridedSlice S272x256 ![0, 0] z slices_S272x1024_o0_0_S272x256 (ix2 n (Pool.off c)) = E c n.val := fun n => by
        rw [slice_at z 0 _ 0 rfl h]
        exact hZ n c
      rw [h]
      exact mean_at e 0 1#32 _ rfl half_bits _ _ _ (E c) hE' r (sum1_at _ _ _ hE' r)
    · have hE' : ∀ n : Fin 272, k2_pay12 z (ix2 n (Pool.off c)) = E c n.val := fun n => by
        unfold k2_pay12
        rw [slice_at z 256 _ 1 rfl h]
        exact hZ n c
      rw [h]
      exact mean_at e 1 2#32 _ rfl quarter_bits _ _ _ (E c) hE' r (sum2_at _ _ _ hE' r)
    · have hE' : ∀ n : Fin 272, k2_pay19 z (ix2 n (Pool.off c)) = E c n.val := fun n => by
        unfold k2_pay19
        rw [slice_at z 512 _ 2 rfl h]
        exact hZ n c
      rw [h]
      exact mean_at e 2 4#32 _ rfl eighth_bits _ _ _ (E c) hE' r (sum4_at _ _ _ hE' r)
    · have hE' : ∀ n : Fin 272, k2_pay24 z (ix2 n (Pool.off c)) = E c n.val := fun n => by
        unfold k2_pay24
        rw [slice_at z 768 _ 3 rfl h]
        exact hZ n c
      rw [h]
      exact mean_at e 3 8#32 _ rfl sixteenth_bits _ _ _ (E c) hE' r (sum8_at _ _ _ hE' r)
  have hr : ∀ d, resV g (mixV (meanV (BitVec.ofNat 32 e.val) 1#32 0x3F000000#32 (sum1 (extractStridedSlice S272x256 ![0, 0] z slices_S272x1024_o0_0_S272x256))
          (extractStridedSlice S272x256 ![0, 0] z slices_S272x1024_o0_0_S272x256))
        (meanV (BitVec.ofNat 32 e.val) 2#32 0x3E800000#32 (sum2 (k2_pay12 z)) (k2_pay12 z)) (meanV (BitVec.ofNat 32 e.val) 4#32 0x3E000000#32 (sum4 (k2_pay19 z)) (k2_pay19 z))
        (meanV (BitVec.ofNat 32 e.val) 8#32 0x3D800000#32 (sum8 (k2_pay24 z)) (k2_pay24 z))) x7 x0 (View.ld x3 r2_6) (ix2 r d)
      = Pool.res (fun d => x0 (ix3 0 r d)) (fun d => x3 (ix4 0 0 2 d))
        (fun c => (∑ k ∈ Finset.range (2 * Pool.half (Pool.grp c)), E c (r.val + 8 - Pool.half (Pool.grp c) + k)) * Ideal.div 1 ((CPool.cnt (Pool.half (Pool.grp c)) (e.val * 256 + r.val) : ℝ) : EReal)
          - E c (8 + r.val))
        (fun c => ∑ k : Fin 1024, H ⟨8 + r.val, by omega⟩ k * x6 (ix3 0 k c)) (fun c d => x7 (ix3 0 c d)) d := by
    intro d
    rw [resV_at]
    simp only [hM, hG]
    refine congrArg (fun q : Fin 1024 → EReal => Pool.res _ q _ _ _ d) (funext fun d => ?_)
    pointwise
  exact hr d

end Cert.CtxIdeal.Block

end
-- ==== Proof.CtxFinal.lean ====
module

public import proofs.«01_k».proof.Proof.CtxMods
public import proofs.«01_k».proof.Proof.CtxFold
public import proofs.«01_k».proof.Proof.CtxBlock

/-! # The context layer: the array the pooling call leaves

`Out` is the layer over coordinates, from the arrays the call finds; the call writes it block by block (`array`). -/

@[expose] public section

set_option maxRecDepth 16384

noncomputable section

namespace Cert.CtxIdeal.Final

open Cert.CtxIdeal Cert.CtxIdeal.Gen Cert.CtxIdeal.Run Cert.CtxIdeal.Block
open Idealize.ShloMosaic Idealize.ShloMosaic.TcCoe Idealize.SL.Sem Idealize.ShloMosaic.Pipeline
open Cert.Layer

theorem idx_a : ∀ t : Fin cfg2.N, win2_0.index t = ![t.val, 0, 0]
    ∧ win2_3.index t = ![0, 8, 0, 0]
    ∧ win2_4.index t = ![0, 0, 0] := by decide +kernel
theorem idx_b : ∀ t : Fin cfg2.N, win2_5.index t = ![0, 0, 0] ∧ win2_6.index t = ![0, 0, 0]
    ∧ win2_7.index t = ![0, 0, 0] ∧ win2_8.index t = ![t.val, 0, 0] := by decide +kernel
theorem coord : ∀ t : Fin cfg2.N, ((grid2.coords t) 1).val = 0 := by decide +kernel

theorem above0 : above (BitVec.ofNat 32 0) = 0 := by
  have e : (Scalar.extui (Scalar.cmpi .sgt (BitVec.ofNat 32 0) 0#32) : BitVec 32) = 0#32 := by decide +kernel
  unfold above
  rw [e]
  show ((((0#32 : BitVec 32)).toInt : ℝ) : EReal) = 0
  simp
theorem below0 : below (BitVec.ofNat 32 0) = 0 := by
  have e : (Scalar.extui (Scalar.cmpi .slt (BitVec.ofNat 32 0) 0#32) : BitVec 32) = 0#32 := by decide +kernel
  unfold below
  rw [e]
  show ((((0#32 : BitVec 32)).toInt : ℝ) : EReal) = 0
  simp

/-- The mixed channels of a row: the window mean of the folded projection less the row's own. -/
def mixed (h : Fin 256 → Fin 1024 → EReal) (wu : Fin 1024 → Fin 1024 → EReal) (s : Fin 256) (c : Fin 1024) : EReal :=
  CPool.mean (Pool.half (Pool.grp c)) (fun s => ∑ k : Fin 1024, h s k * wu k c) s - ∑ k : Fin 1024, h s k * wu k c

/-- The layer over coordinates, from the context, the modulation array and the weights as the call finds them. -/
def Out (x : FVec Ideal S8x256x1024 .f32) (mo : FVec Ideal S4x16x3x1024 .f32) (ng : FVec Ideal S4x1x1024 .f32) (wu wg wo : FVec Ideal S2x1024x1024 .bf16)
    (b : Fin 8) (s : Fin 256) (d : Fin 1024) : EReal :=
  let h : Fin 256 → Fin 1024 → EReal := fun s k => nrm (fun k => x (ix3 b s k)) (fun k => ng (ix3 0 0 k))
    (fun k => mo (ix4 0 8 0 k)) (fun k => mo (ix4 0 8 1 k)) k
  Pool.res (fun d => x (ix3 b s d)) (fun d => mo (ix4 0 8 2 d)) (mixed h (fun k c => wu (ix3 0 k c)) s)
    (fun c => ∑ k : Fin 1024, h s k * wg (ix3 0 k c)) (fun c d => wo (ix3 0 c d)) d

/-- The rows a tile reads, where they lie in the sequence. -/
theorem rows_eq (x : FVec Ideal S8x256x1024 .f32) (x0 : Vec Ideal S1x256x1024 .f32) (x1 x2 : Vec Ideal S1x8x1024 .f32) (b : Fin 8)
    (h0 : ∀ (r : Fin 256) (k : Fin 1024), x0 (ix3 0 r k) = x (ix3 b r k))
    (q : Fin 272) (hq : 8 ≤ q.val ∧ q.val < 264) :
    rows x1 x0 x2 q = fun k => x (ix3 b (⟨q.val - 8, by omega⟩ : Fin 256) k) := by
  funext k
  unfold rows
  rw [dif_neg (by omega), dif_pos (by omega), h0]

/-- The rows outside the sequence count as zero; the others are the sequence's. -/
theorem edge_eq (h : Fin 256 → Fin 1024 → EReal) (w : Fin 1024 → EReal) (H : Fin 272 → Fin 1024 → EReal)
    (hH : ∀ (q : Fin 272) (hq : 8 ≤ q.val ∧ q.val < 264), H q = h ⟨q.val - 8, by omega⟩) (n : Fin 272) :
    (if n.val < 8 then (∑ k : Fin 1024, H n k * w k) * above (BitVec.ofNat 32 (0 : Fin 1).val)
      else if n.val < 264 then ∑ k : Fin 1024, H n k * w k else (∑ k : Fin 1024, H n k * w k) * below (BitVec.ofNat 32 (0 : Fin 1).val))
      = CPool.pad (fun s => ∑ k : Fin 1024, h s k * w k) n.val := by
  have ea : above (BitVec.ofNat 32 (0 : Fin 1).val) = 0 := above0
  have eb : below (BitVec.ofNat 32 (0 : Fin 1).val) = 0 := below0
  unfold CPool.pad
  rw [ea, eb]
  by_cases c1 : n.val < 8
  · rw [if_pos c1, mul_zero, dif_neg (by omega)]
  by_cases c2 : n.val < 264
  · rw [if_neg c1, if_pos c2, dif_pos (by omega), hH n (by omega)]
  · rw [if_neg c1, if_neg c2, mul_zero, dif_neg (by omega)]

theorem cnt_ne (g : Fin 4) (s : Fin 256) : ((CPool.cnt (Pool.half g) s.val : ℝ) : EReal) ≠ 0 := by
  have h : 0 < Pool.half g := Nat.two_pow_pos _
  have hc : 0 < CPool.cnt (Pool.half g) s.val := by unfold CPool.cnt; omega
  exact_mod_cast hc.ne'

theorem half_le (g : Fin 4) : Pool.half g ≤ 8 := by
  have : ∀ g : Fin 4, Pool.half g ≤ 8 := by decide
  exact this g

/-- One block of the call's result, from blocks that hold the arrays' entries. -/
theorem point (i : grid2.Coords) (x : FVec Ideal S8x256x1024 .f32) (mo : FVec Ideal S4x16x3x1024 .f32) (ng : FVec Ideal S4x1x1024 .f32)
    (wu wg wo : FVec Ideal S2x1024x1024 .bf16) (x0 : Vec Ideal S1x256x1024 .f32)
    (x1 x2 : Vec Ideal S1x8x1024 .f32) (x3 : Vec Ideal S1x1x3x1024 .f32) (x4 : Vec Ideal S1x1x1024 .f32) (x5 x6 x7 : Vec Ideal S1x1024x1024 .bf16)
    (b : Fin 8) (hi : (i 1).val = (0 : Fin 1).val)
    (h0 : ∀ (r : Fin 256) (k : Fin 1024), x0 (ix3 0 r k) = x (ix3 b r k))
    (h3 : ∀ (n : Fin 3) (k : Fin 1024), x3 (ix4 0 0 n k) = mo (ix4 0 8 n k))
    (h4 : ∀ k : Fin 1024, x4 (ix3 0 0 k) = ng (ix3 0 0 k))
    (h5 : ∀ k j : Fin 1024, x5 (ix3 0 k j) = wu (ix3 0 k j))
    (h6 : ∀ k j : Fin 1024, x6 (ix3 0 k j) = wg (ix3 0 k j))
    (h7 : ∀ k j : Fin 1024, x7 (ix3 0 k j) = wo (ix3 0 k j)) (r : Fin 256) (d : Fin 1024) :
    out2_8 i x0 x1 x2 x3 x4 x5 x6 x7 (ix3 0 r d) = Out x mo ng wu wg wo b r d := by
  have hrow := rows_eq x x0 x1 x2 b h0
  generalize hh : (fun s k => nrm (fun k => x (ix3 b s k)) (fun k => ng (ix3 0 0 k))
    (fun k => mo (ix4 0 8 0 k)) (fun k => mo (ix4 0 8 1 k)) k : Fin 256 → Fin 1024 → EReal) = h
  have hH : ∀ (q : Fin 272) (hq : 8 ≤ q.val ∧ q.val < 264),
      (fun k => nrm (rows x1 x0 x2 q) (fun k => x4 (ix3 0 0 k)) (fun k => x3 (ix4 0 0 0 k)) (fun k => x3 (ix4 0 0 1 k)) k) = h ⟨q.val - 8, by omega⟩ := by
    intro q hq
    rw [hrow q hq, ← hh]
    simp only [h3, h4]
  rw [out_at i x0 x1 x2 x3 x4 x5 x6 x7 0 hi _ (fun q k => rfl) (fun c n => CPool.pad (fun s => ∑ k : Fin 1024, h s k * x5 (ix3 0 k c)) n)
    (fun c n => edge_eq h (fun k => x5 (ix3 0 k c)) _ hH n)]
  have e8 : h ⟨8 + r.val - 8, by omega⟩ = h r := congrArg h (Fin.ext (by dsimp only; omega))
  have hm : (fun c => (∑ k ∈ Finset.range (2 * Pool.half (Pool.grp c)), CPool.pad (fun s => ∑ k : Fin 1024, h s k * x5 (ix3 0 k c)) (r.val + 8 - Pool.half (Pool.grp c) + k))
        * Ideal.div 1 ((CPool.cnt (Pool.half (Pool.grp c)) ((0 : Fin 1).val * 256 + r.val) : ℝ) : EReal)
        - CPool.pad (fun s => ∑ k : Fin 1024, h s k * x5 (ix3 0 k c)) (8 + r.val))
      = mixed h (fun k c => wu (ix3 0 k c)) r := by
    funext c
    have hl := half_le (Pool.grp c)
    have hz : (0 : Fin 1).val * 256 + r.val = r.val := by simp
    unfold mixed CPool.mean
    simp only [h5]
    rw [hz, Ideal.mul_one_div (cnt_ne (Pool.grp c) r)]
    congr 1
    unfold CPool.pad
    rw [dif_pos (by omega)]
    exact congrArg (fun q : Fin 1024 → EReal => ∑ k : Fin 1024, q k * wu (ix3 0 k c)) e8
  have hg : (fun c => ∑ k : Fin 1024, nrm (rows x1 x0 x2 ⟨8 + r.val, by omega⟩) (fun k => x4 (ix3 0 0 k)) (fun k => x3 (ix4 0 0 0 k)) (fun k => x3 (ix4 0 0 1 k)) k * x6 (ix3 0 k c))
      = fun c => ∑ k : Fin 1024, h r k * wg (ix3 0 k c) := by
    funext c
    refine Finset.sum_congr rfl fun k _ => ?_
    rw [h6, ← e8]
    exact congrArg (· * _) (congrFun (hH ⟨8 + r.val, by omega⟩ (by dsimp only; omega)) k)
  rw [hm, hg]
  subst hh
  unfold Out
  simp only [h0, h3, h7]

variable (m : (ℓ : Loc nD τ sig) → Buf (Elt Ideal) ℓ) (ρ : Dev nD → PrngReg)

set_option maxHeartbeats 4000000 in
theorem array (c : Dev nD) : (dat2 (V4 m ρ) c).arrAt 8 cfg2.N = fun i : S8x256x1024.Idx =>
    Out (V4 m ρ c main_arg0) (V4 m ρ c main_v7) (V4 m ρ c main_v8) (V4 m ρ c main_v10_0) (V4 m ρ c main_v10_1) (V4 m ρ c main_v10_2) (i 0) (i 1) (i 2) := by
  refine (dat2 (V4 m ρ) c).arrAt_eq_of_covers 8 _ (by decide +kernel) fun t _ y => ?_
  blk_simp
  rw [after2_8]
  obtain ⟨r, d, rfl⟩ : ∃ (r : Fin 256) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 8 := t.isLt
  generalize hb : (⟨t.val, ht⟩ : Fin 8) = b
  have hbv : b.val = t.val := by rw [← hb]
  have hy : (win2_8.blk t).view.emb (ix3 0 r d) = ix3 b r d := by blk_ext [idx_b t]
  have h0 : ∀ r k, iblk2 (V4 m ρ) c 0 t (ix3 0 r k) = V4 m ρ c main_arg0 (ix3 b r k) := fun r k => by
    blk_ext [iblk2, idx_a t]
  have h3 : ∀ n k, iblk2 (V4 m ρ) c 3 t (ix4 0 0 n k) = V4 m ρ c main_v7 (ix4 0 8 n k) := fun n k => by
    blk_ext [iblk2, idx_a t]
  have h4 : ∀ k, iblk2 (V4 m ρ) c 4 t (ix3 0 0 k) = V4 m ρ c main_v8 (ix3 0 0 k) := fun k => by
    blk_ext [iblk2, idx_a t]
  have h5 : ∀ k j, iblk2 (V4 m ρ) c 5 t (ix3 0 k j) = V4 m ρ c main_v10_0 (ix3 0 k j) := fun k j => by
    blk_ext [iblk2, idx_b t]
  have h6 : ∀ k j, iblk2 (V4 m ρ) c 6 t (ix3 0 k j) = V4 m ρ c main_v10_1 (ix3 0 k j) := fun k j => by
    blk_ext [iblk2, idx_b t]
  have h7 : ∀ k j, iblk2 (V4 m ρ) c 7 t (ix3 0 k j) = V4 m ρ c main_v10_2 (ix3 0 k j) := fun k j => by
    blk_ext [iblk2, idx_b t]
  rw [hy]
  exact point (grid2.coords t) _ _ _ _ _ _ _ _ _ _ _ _ _ _ b (coord t) h0 h3 h4 h5 h6 h7 r d

end Cert.CtxIdeal.Final

end
-- ==== Proof.CtxProjBlock.lean ====
module

public import proofs.«01_k».proof.Proof.Gen.CtxIdeal.Frame
public import proofs.«01_k».proof.Proof.Spec
public import Idealize.ShloMosaic.Lib.Pipeline.ValueKit

/-! # The context's projections of layer 1: the two output blocks, read at an index

The normalised rows are multiplied by two blocks of weights. The key is written head pair by head pair, the value
head pair by head pair and 128 rows at a time, transposed. -/

@[expose] public section

set_option maxRecDepth 16384

noncomputable section

namespace Cert.CtxIdeal.ProjBlock

open Cert.CtxIdeal Cert.CtxIdeal.Gen
open Idealize.ShloMosaic Idealize.ShloMosaic.TcCoe Idealize.SL.Sem Idealize.ShloMosaic.Pipeline
open Cert.Layer

variable (x0 : Vec Ideal S1x1024x1024 .f32) (x1 : Vec Ideal S1x1x3x1024 .f32) (x2 : Vec Ideal S1x1x1024 .f32)
  (x3 x4 : Vec Ideal S1x1024x1024 .bf16)

/-- The rows of a block, normalised and modulated. -/
def hrow (r k : Fin 1024) : EReal :=
  nrm (fun k => x0 (ix3 0 r k)) (fun k => x2 (ix3 0 0 k)) (fun k => x1 (ix4 0 0 0 k)) (fun k => x1 (ix4 0 0 1 k)) k

theorem pay3_at (v0 v2 : Vec Ideal S1x1x1x1024 .f32) (v4 : Vec Ideal S1x1024x1024 .f32) (v6 : Vec Ideal S1x1x1024 .f32) (r k : Fin 1024) :
    k3_pay3 v0 v2 v4 v6 (ix2 r k) = nrm (fun k => v4 (ix3 0 r k)) (fun k => v6 (ix3 0 0 k)) (fun k => v0 (ix4 0 0 0 k)) (fun k => v2 (ix4 0 0 0 k)) k := by
  pointwise [k3_pay3, nrm, rms]

theorem rows_at (r k : Fin 1024) : k3_pay96 x0 x1 x2 x3 x4 (ix2 r k) = hrow x0 x1 x2 r k := by
  unfold k3_pay96 hrow
  rw [pay3_at]
  pointwise

theorem dot_at (h : FVec Ideal S1024x1024 .bf16) (w : Vec Ideal S1x1024x1024 .bf16) (r j : Fin 1024) :
    k3_pay15 h w (ix2 r j) = ∑ k : Fin 1024, h (ix2 r k) * w (ix3 0 k j) := by
  pointwise [k3_pay15]

theorem k_at (r j : Fin 1024) : k3_pay97 x0 x1 x2 x3 x4 (ix2 r j) = ∑ k : Fin 1024, hrow x0 x1 x2 r k * x3 (ix3 0 k j) := by
  have e : k3_pay97 x0 x1 x2 x3 x4 (ix2 r j) = k3_pay15 (k3_pay96 x0 x1 x2 x3 x4) (View.ld x3 r3_2) (ix2 r j) := rfl
  rw [e, dot_at]
  simp only [rows_at]
  pointwise

theorem v_at (r j : Fin 1024) : k3_pay98 x0 x1 x2 x3 x4 (ix2 r j) = ∑ k : Fin 1024, hrow x0 x1 x2 r k * x4 (ix3 0 k j) := by
  unfold k3_pay98
  rw [dot_at]
  simp only [rows_at]
  pointwise

set_option maxHeartbeats 4000000 in
/-- The key's block: head pair `y 1`, row `y 2`, column `y 3` of the pair. -/
theorem out5_at (y : S1x8x1024x128.Idx) (i : S1024x1024.Idx) (h0 : (i 0 : ℕ) = y 2) (h1 : (i 1 : ℕ) = (y 1 : ℕ) * 128 + y 3) :
    out3_5 x0 x1 x2 x3 x4 y = k3_pay97 x0 x1 x2 x3 x4 i := by
  have e : k3_pay5 (View.ld x1 r3_0) (View.ld x1 r3_1) (View.ld x0 r3_2) (View.ld x2 r3_3) (View.ld x3 r3_2)
      = truncf .bf16 (extractStridedSlice S1024x128 ![0, 0] (k3_pay97 x0 x1 x2 x3 x4) slices_S1024x1024_o0_0_S1024x128) bitsLt_bf16_f32 := rfl
  unfold out3_5
  simp only [e]
  generalize k3_pay97 x0 x1 x2 x3 x4 = T
  canon_tiles x g
  all_goals (open_payloads; pointwise; blk_ext)

set_option maxHeartbeats 4000000 in
/-- The value's block: head pair `y 1`, group of 128 rows `y 2`, column `y 3` of the pair, row `y 4` of the group. -/
theorem out6_at (y : S1x8x8x128x128.Idx) (i : S1024x1024.Idx) (h0 : (i 0 : ℕ) = (y 2 : ℕ) * 128 + y 4) (h1 : (i 1 : ℕ) = (y 1 : ℕ) * 128 + y 3) :
    out3_6 x0 x1 x2 x3 x4 y = k3_pay98 x0 x1 x2 x3 x4 i := by
  have e : k3_pay15 (k3_pay96 x0 x1 x2 x3 x4) (View.ld x4 r3_2) = k3_pay98 x0 x1 x2 x3 x4 := rfl
  unfold out3_6
  simp only [k3_pay99, k3_pay100, k3_pay101, k3_pay102, k3_pay103, k3_pay104, k3_pay105, k3_pay106, k3_pay16, k3_pay17, k3_pay18, k3_pay19, k3_pay20, e]
  generalize k3_pay98 x0 x1 x2 x3 x4 = T
  canon_tiles x g
  all_goals (open_payloads; pointwise; blk_ext)

end Cert.CtxIdeal.ProjBlock

end
-- ==== Proof.CtxProjFinal.lean ====
module

public import proofs.«01_k».proof.Proof.CtxRun
public import proofs.«01_k».proof.Proof.CtxProjBlock

/-! # The context projection: its two result arrays

`prj` is one entry of the projection over coordinates. The last call writes two arrangements of it block by block
(`array5`, `array6`). -/

@[expose] public section

set_option maxRecDepth 16384

noncomputable section

namespace Cert.CtxIdeal.ProjFinal

open Cert.CtxIdeal Cert.CtxIdeal.Gen Cert.CtxIdeal.Run Cert.CtxIdeal.ProjBlock
open Idealize.ShloMosaic Idealize.ShloMosaic.TcCoe Idealize.SL.Sem Idealize.ShloMosaic.Pipeline
open Cert.Layer

theorem idx_in : ∀ t : Fin cfg3.N, win3_0.index t = ![0, t.val, 0] ∧ win3_1.index t = ![1, 8, 0, 0] ∧ win3_2.index t = ![1, 0, 0]
    ∧ win3_3.index t = ![0, 0, 1] ∧ win3_4.index t = ![0, 0, 2] := by decide +kernel
theorem idx_out : ∀ t : Fin cfg3.N, win3_5.index t = ![0, 0, t.val, 0] ∧ win3_6.index t = ![0, 0, t.val, 0, 0] := by decide +kernel

/-- One entry of the projection: the normalised row times a column of the weights. -/
def prj (x : FVec Ideal S1x2048x1024 .f32) (mo : FVec Ideal S4x16x3x1024 .f32) (ng : FVec Ideal S4x1x1024 .f32) (wi : FVec Ideal S1x1024x4096 .bf16)
    (s : Fin 2048) (j : Fin 4096) : EReal :=
  ∑ k : Fin 1024, nrm (fun k => x (ix3 0 s k)) (fun k => ng (ix3 1 0 k)) (fun k => mo (ix4 1 8 0 k)) (fun k => mo (ix4 1 8 1 k)) k * wi (ix3 0 k j)

/-- A block's entry is the array's, from blocks that hold the arrays' entries. -/
theorem sum_eq (x : FVec Ideal S1x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (w : Vec Ideal S1x1024x1024 .bf16)
    (s : Fin 2048) (j : Fin 4096) (r c : Fin 1024)
    (h0 : ∀ k : Fin 1024, x0 (ix3 0 r k) = x (ix3 0 s k))
    (h1 : ∀ (n : Fin 3) (k : Fin 1024), x1 (ix4 0 0 n k) = mo (ix4 1 8 n k))
    (h2 : ∀ k : Fin 1024, x2 (ix3 0 0 k) = ng (ix3 1 0 k))
    (h3 : ∀ k : Fin 1024, w (ix3 0 k c) = wi (ix3 0 k j)) :
    (∑ k : Fin 1024, hrow x0 x1 x2 r k * w (ix3 0 k c)) = prj x mo ng wi s j := by
  unfold prj hrow
  simp only [h0, h1, h2, h3]

/-- The key array: the second quarter, by head pair. -/
def Out5 (x : FVec Ideal S1x2048x1024 .f32) (mo : FVec Ideal S4x16x3x1024 .f32) (ng : FVec Ideal S4x1x1024 .f32) (wi : FVec Ideal S1x1024x4096 .bf16) :
    FVec Ideal S1x8x2048x128 .bf16 := fun i =>
  prj x mo ng wi (i 2) ⟨1024 + ((i 1).val * 128 + (i 3).val), by idx_bounds; omega⟩

/-- The value array: the third quarter, by head pair and group of 128 rows, transposed. -/
def Out6 (x : FVec Ideal S1x2048x1024 .f32) (mo : FVec Ideal S4x16x3x1024 .f32) (ng : FVec Ideal S4x1x1024 .f32) (wi : FVec Ideal S1x1024x4096 .bf16) :
    FVec Ideal S1x8x16x128x128 .bf16 := fun i =>
  prj x mo ng wi ⟨(i 2).val * 128 + (i 4).val, by idx_bounds; omega⟩ ⟨2048 + ((i 1).val * 128 + (i 3).val), by idx_bounds; omega⟩

/-- One block of the key, from blocks that hold the arrays' entries. -/
theorem point5 (x : FVec Ideal S1x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (x3 x4 : Vec Ideal S1x1024x1024 .bf16)
    (e : Nat) (he : e < 2)
    (h0 : ∀ r k : Fin 1024, x0 (ix3 0 r k) = x (ix3 0 (⟨e * 1024 + r.val, by omega⟩ : Fin 2048) k))
    (h1 : ∀ (n : Fin 3) (k : Fin 1024), x1 (ix4 0 0 n k) = mo (ix4 1 8 n k))
    (h2 : ∀ k : Fin 1024, x2 (ix3 0 0 k) = ng (ix3 1 0 k))
    (h3 : ∀ k c : Fin 1024, x3 (ix3 0 k c) = wi (ix3 0 k (⟨1024 + c.val, by omega⟩ : Fin 4096))) (hp : Fin 8) (r : Fin 1024) (d : Fin 128) :
    out3_5 x0 x1 x2 x3 x4 (ix4 0 hp r d) = Out5 x mo ng wi (ix4 0 hp (⟨e * 1024 + r.val, by omega⟩ : Fin 2048) d) := by
  rw [out5_at x0 x1 x2 x3 x4 (ix4 0 hp r d) (ix2 r (⟨hp.val * 128 + d.val, by omega⟩ : Fin 1024)) rfl rfl, k_at,
    sum_eq x mo ng wi x0 x1 x2 x3 _ _ _ _ (fun k => h0 _ k) h1 h2 (fun k => h3 k _)]
  rfl

/-- One block of the value. -/
theorem point6 (x : FVec Ideal S1x2048x1024 .f32) (mo : FVec Ideal S4x16x3x1024 .f32) (ng : FVec Ideal S4x1x1024 .f32) (wi : FVec Ideal S1x1024x4096 .bf16)
    (x0 : Vec Ideal S1x1024x1024 .f32) (x1 : Vec Ideal S1x1x3x1024 .f32) (x2 : Vec Ideal S1x1x1024 .f32) (x3 x4 : Vec Ideal S1x1024x1024 .bf16)
    (e : Nat) (he : e < 2)
    (h0 : ∀ r k : Fin 1024, x0 (ix3 0 r k) = x (ix3 0 (⟨e * 1024 + r.val, by omega⟩ : Fin 2048) k))
    (h1 : ∀ (n : Fin 3) (k : Fin 1024), x1 (ix4 0 0 n k) = mo (ix4 1 8 n k))
    (h2 : ∀ k : Fin 1024, x2 (ix3 0 0 k) = ng (ix3 1 0 k))
    (h3 : ∀ k c : Fin 1024, x4 (ix3 0 k c) = wi (ix3 0 k (⟨2048 + c.val, by omega⟩ : Fin 4096))) (hp tb : Fin 8) (d r : Fin 128) :
    out3_6 x0 x1 x2 x3 x4 (ix5 0 hp tb d r) = Out6 x mo ng wi (ix5 0 hp (⟨e * 8 + tb.val, by omega⟩ : Fin 16) d r) := by
  rw [out6_at x0 x1 x2 x3 x4 (ix5 0 hp tb d r) (ix2 (⟨tb.val * 128 + r.val, by omega⟩ : Fin 1024) (⟨hp.val * 128 + d.val, by omega⟩ : Fin 1024)) rfl rfl, v_at,
    sum_eq x mo ng wi x0 x1 x2 x4 _ _ _ _ (fun k => h0 _ k) h1 h2 (fun k => h3 k _)]
  unfold Out6
  refine congrArg (fun s : Fin 2048 => prj x mo ng wi s _) (Fin.ext ?_)
  show e * 1024 + (tb.val * 128 + r.val) = (e * 8 + tb.val) * 128 + r.val
  omega

variable (m : (ℓ : Loc nD τ sig) → Buf (Elt Ideal) ℓ) (ρ : Dev nD → PrngReg)

set_option maxHeartbeats 4000000 in
theorem array5 (c : Dev nD) : (dat3 (V6 m ρ) c).arrAt 5 cfg3.N = Out5 (V6 m ρ c main_v12) (V6 m ρ c main_v7) (V6 m ρ c main_v8) (V6 m ρ c main_v13) := by
  refine (dat3 (V6 m ρ) c).arrAt_eq_of_covers 5 _ (by decide +kernel) fun t _ y => ?_
  blk_simp
  rw [after3_5]
  obtain ⟨hp, r, d, rfl⟩ : ∃ (hp : Fin 8) (r : Fin 1024) (d : Fin 128), y = ix4 0 hp r d := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  have ht : t.val < 2 := t.isLt
  have hy : (win3_5.blk t).view.emb (ix4 0 hp r d) = ix4 0 hp (⟨t.val * 1024 + r.val, by omega⟩ : Fin 2048) d := by blk_ext [idx_out t]
  have h0 : ∀ r k, iblk3 (V6 m ρ) c 0 t (ix3 0 r k) = V6 m ρ c main_v12 (ix3 0 (⟨t.val * 1024 + r.val, by omega⟩ : Fin 2048) k) := fun r k => by
    blk_ext [iblk3, idx_in t]
  have h1 : ∀ n k, iblk3 (V6 m ρ) c 1 t (ix4 0 0 n k) = V6 m ρ c main_v7 (ix4 1 8 n k) := fun n k => by
    blk_ext [iblk3, idx_in t]
  have h2 : ∀ k, iblk3 (V6 m ρ) c 2 t (ix3 0 0 k) = V6 m ρ c main_v8 (ix3 1 0 k) := fun k => by
    blk_ext [iblk3, idx_in t]
  have h3 : ∀ k j : Fin 1024, iblk3 (V6 m ρ) c 3 t (ix3 0 k j) = V6 m ρ c main_v13 (ix3 0 k (⟨1024 + j.val, by omega⟩ : Fin 4096)) := fun k j => by
    blk_ext [iblk3, idx_in t]
  rw [hy]
  exact point5 _ _ _ _ _ _ _ _ _ t.val ht h0 h1 h2 h3 hp r d

set_option maxHeartbeats 4000000 in
theorem array6 (c : Dev nD) : (dat3 (V6 m ρ) c).arrAt 6 cfg3.N = Out6 (V6 m ρ c main_v12) (V6 m ρ c main_v7) (V6 m ρ c main_v8) (V6 m ρ c main_v13) := by
  refine (dat3 (V6 m ρ) c).arrAt_eq_of_covers 6 _ (by decide +kernel) fun t _ y => ?_
  blk_simp
  rw [after3_6]
  obtain ⟨hp, tb, d, r, rfl⟩ : ∃ (hp : Fin 8) (tb : Fin 8) (d : Fin 128) (r : Fin 128), y = ix5 0 hp tb d r := ⟨y 1, y 2, y 3, y 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩
  have ht : t.val < 2 := t.isLt
  have hy : (win3_6.blk t).view.emb (ix5 0 hp tb d r) = ix5 0 hp (⟨t.val * 8 + tb.val, by omega⟩ : Fin 16) d r := by blk_ext [idx_out t]
  have h0 : ∀ r k, iblk3 (V6 m ρ) c 0 t (ix3 0 r k) = V6 m ρ c main_v12 (ix3 0 (⟨t.val * 1024 + r.val, by omega⟩ : Fin 2048) k) := fun r k => by
    blk_ext [iblk3, idx_in t]
  have h1 : ∀ n k, iblk3 (V6 m ρ) c 1 t (ix4 0 0 n k) = V6 m ρ c main_v7 (ix4 1 8 n k) := fun n k => by
    blk_ext [iblk3, idx_in t]
  have h2 : ∀ k, iblk3 (V6 m ρ) c 2 t (ix3 0 0 k) = V6 m ρ c main_v8 (ix3 1 0 k) := fun k => by
    blk_ext [iblk3, idx_in t]
  have h3 : ∀ k j : Fin 1024, iblk3 (V6 m ρ) c 4 t (ix3 0 k j) = V6 m ρ c main_v13 (ix3 0 k (⟨2048 + j.val, by omega⟩ : Fin 4096)) := fun k j => by
    blk_ext [iblk3, idx_in t]
  rw [hy]
  exact point6 _ _ _ _ _ _ _ _ _ t.val ht h0 h1 h2 h3 hp tb d r

end Cert.CtxIdeal.ProjFinal

end
-- ==== Proof.CtxRef.lean ====
module

public import proofs.«01_k».proof.Proof.Gen.CtxRefIdeal.Run
public import proofs.«01_k».proof.Proof.CtxSpec

/-! # The context layer's reference, read at an index

Each of the reference's two results is one long term of the arguments. Here they are cut at the reference's own
intermediate arrays (the modulation, the normalised rows, the wide projection, the running sums along the sequence,
the window means, the mixed groups, the gated residual, then layer 1's normalised rows and its projection), and each
is read at an index. -/

@[expose] public section

set_option maxRecDepth 16384

noncomputable section

namespace Cert.CtxRefIdeal.At

open Cert.CtxRefIdeal Cert.CtxRefIdeal.Gen Cert.CtxRefIdeal.Value
open Idealize.ShloMosaic Idealize.ShloMosaic.TcCoe Idealize.SL.Sem
open Cert.Layer

/-- The modulation vector of layer 0. -/
def Mods0 (cc : FVec Ideal S1024 .f32) (aw : FVec Ideal S4x1024x3072 .f32) (ab : FVec Ideal S4x3072 .f32) : FVec Ideal S3072 .f32 :=
  addf (Host.dotGeneral dot_S1024_S1024x3072_S3072_0_0_n_1_n_n none (mulf cc (Host.divf (broadcastInDim S1024 ![] bcast_S_S1024 (constant S_ .f32 0x3F800000#32)) (addf (broadcastInDim S1024 ![] bcast_S_S1024 (constant S_ .f32 0x3F800000#32)) (Host.exp (Host.negf cc))))) (shapeCast S1024x3072 (extractStridedSlice S1x1024x3072 ![0, 0, 0] aw slices_S4x1024x3072_S1x1024x3072_0_0_0) shapeCasts_S1x1024x3072_S1024x3072)) (shapeCast S3072 (extractStridedSlice S1x3072 ![0, 0] ab slices_S4x3072_S1x3072_0_0) shapeCasts_S1x3072_S3072)

/-- The modulation vector of layer 1. -/
def Mods1 (cc : FVec Ideal S1024 .f32) (aw : FVec Ideal S4x1024x3072 .f32) (ab : FVec Ideal S4x3072 .f32) : FVec Ideal S3072 .f32 :=
  addf (Host.dotGeneral dot_S1024_S1024x3072_S3072_0_0_n_1_n_n none (mulf cc (Host.divf (broadcastInDim S1024 ![] bcast_S_S1024 (constant S_ .f32 0x3F800000#32)) (addf (broadcastInDim S1024 ![] bcast_S_S1024 (constant S_ .f32 0x3F800000#32)) (Host.exp (Host.negf cc))))) (shapeCast S1024x3072 (extractStridedSlice S1x1024x3072 ![1, 0, 0] aw slices_S4x1024x3072_S1x1024x3072_1_0_0) shapeCasts_S1x1024x3072_S1024x3072)) (shapeCast S3072 (extractStridedSlice S1x3072 ![1, 0] ab slices_S4x3072_S1x3072_1_0) shapeCasts_S1x3072_S3072)

/-- The normalised rows of layer 0. -/
def H0 (x : FVec Ideal S8x256x1024 .f32) (ng : FVec Ideal S4x1024 .f32) (mods : FVec Ideal S3072 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast S1024 (extractStridedSlice S1x1024 ![0, 0] ng slices_S4x1024_S1x1024_0_0) shapeCasts_S1x1024_S1024)))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (extractStridedSlice S1024 ![1024] mods slices_S3072_S1024_1024))))) (broadcastInDim S8x256x1024 ![0, 1, 2] bcast_S1x1x1024_S8x256x1024_0_1_2 (broadcastInDim S1x1x1024 ![2] bcast_S1024_S1x1x1024_2 (extractStridedSlice S1024 ![0] mods slices_S3072_S1024_0)))

/-- The normalised rows of layer 1. -/
def H1 (x : FVec Ideal S8x256x1024 .f32) (ng : FVec Ideal S4x1024 .f32) (mods : FVec Ideal S3072 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast S1024 (extractStridedSlice S1x1024 ![1, 0] ng slices_S4x1024_S1x1024_1_0) shapeCasts_S1x1024_S1024)))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (extractStridedSlice S1024 ![1024] mods slices_S3072_S1024_1024))))) (broadcastInDim S8x256x1024 ![0, 1, 2] bcast_S1x1x1024_S8x256x1024_0_1_2 (broadcastInDim S1x1x1024 ![2] bcast_S1024_S1x1x1024_2 (extractStridedSlice S1024 ![0] mods slices_S3072_S1024_0)))

/-- The wide projection. -/
def P (h : FVec Ideal S8x256x1024 .f32) (win : FVec Ideal S2x1024x2048 .f32) : FVec Ideal S8x256x2048 .f32 :=
  Host.dotGeneral dot_S8x256x1024_S1024x2048_S8x256x2048_2_0_01_1_n_n none h (shapeCast S1024x2048 (extractStridedSlice S1x1024x2048 ![0, 0, 0] win slices_S2x1024x2048_S1x1024x2048_0_0_0) shapeCasts_S1x1024x2048_S1024x2048)

/-- Its first half, by channel group. -/
def U (p : FVec Ideal S8x256x2048 .f32) : FVec Ideal S8x256x4x256 .f32 :=
  (shapeCast S8x256x4x256 (extractStridedSlice S8x256x1024 ![0, 0, 0] p slices_S8x256x2048_S8x256x1024_0_0_0) shapeCasts_S8x256x1024_S8x256x4x256)

/-- Channel group 0. -/
def G0 (u : FVec Ideal S8x256x4x256 .f32) : FVec Ideal S8x256x256 .f32 :=
  (shapeCast S8x256x256 (extractStridedSlice S8x256x1x256 ![0, 0, 0, 0] u slices_S8x256x4x256_S8x256x1x256_0_0_0_0) shapeCasts_S8x256x1x256_S8x256x256)

/-- Channel group 1. -/
def G1 (u : FVec Ideal S8x256x4x256 .f32) : FVec Ideal S8x256x256 .f32 :=
  (shapeCast S8x256x256 (extractStridedSlice S8x256x1x256 ![0, 0, 1, 0] u slices_S8x256x4x256_S8x256x1x256_0_0_1_0) shapeCasts_S8x256x1x256_S8x256x256)

/-- Channel group 2. -/
def G2 (u : FVec Ideal S8x256x4x256 .f32) : FVec Ideal S8x256x256 .f32 :=
  (shapeCast S8x256x256 (extractStridedSlice S8x256x1x256 ![0, 0, 2, 0] u slices_S8x256x4x256_S8x256x1x256_0_0_2_0) shapeCasts_S8x256x1x256_S8x256x256)

/-- Channel group 3. -/
def G3 (u : FVec Ideal S8x256x4x256 .f32) : FVec Ideal S8x256x256 .f32 :=
  (shapeCast S8x256x256 (extractStridedSlice S8x256x1x256 ![0, 0, 3, 0] u slices_S8x256x4x256_S8x256x1x256_0_0_3_0) shapeCasts_S8x256x1x256_S8x256x256)

/-- The running sums along the sequence, from zero. -/
def Cs (ug : FVec Ideal S8x256x256 .f32) : FVec Ideal S8x257x256 .f32 :=
  fn_main_v49 (F := Ideal) (broadcastInDim (s := S_) (α := Ideal .f32) S8x1x256 ![] bcast_S_S8x1x256 (constant S_ .f32 0x00000000#32))
    (Host.reduceWindowAdd ![1, 256, 1] ![1, 1, 1] ![0, 255, 0] ![0, 0, 0] ug (broadcastInDim (s := S_) (α := Ideal .f32) S_ ![] bcast_S_S_ (constant S_ .f32 0x00000000#32))
      reduceWindows_S8x256x256_S8x256x256_w1s1p0_0_w256s1p255_0_w1s1p0_0 h_S_)

/-- The first position of each window. -/
def Lo (hw : BitVec 32) : IVec S256 32 :=
  (minsi ((broadcastInDim S256 ![] bcast_S_S256) (id ((constantI S_ 32 256#32)))) (maxsi ((broadcastInDim S256 ![] bcast_S_S256) (id ((constantI S_ 32 0#32)))) (subi ((iotaInDim S256 32 0)) (broadcastInDim S256 ![] bcast_S_S256 (constantI S_ 32 hw)))))

/-- The position behind each window. -/
def Hi (hw : BitVec 32) : IVec S256 32 :=
  (minsi ((broadcastInDim S256 ![] bcast_S_S256) (id ((constantI S_ 32 256#32)))) (maxsi ((broadcastInDim S256 ![] bcast_S_S256) (id ((constantI S_ 32 0#32)))) (addi ((iotaInDim S256 32 0)) (broadcastInDim S256 ![] bcast_S_S256 (constantI S_ 32 hw)))))

/-- The positions as start indices. -/
def Row (i : IVec S256 32) : IVec S256x1 32 :=
  (broadcastInDim S256x1 ![0] bcast_S256_S256x1_0 (select (cmpi .slt i (broadcastInDim S256 ![] bcast_S_S256 ((constantI S_ 32 0#32)))) (addi i (broadcastInDim S256 ![] bcast_S_S256 ((constantI S_ 32 257#32)))) i))

/-- The running sums at those positions. -/
def Take (cs : FVec Ideal S8x257x256 .f32) (i : IVec S256x1 32) : FVec Ideal S8x256x256 .f32 :=
  (Host.gather gather_S8x257x256_S256x1_S8x256x256_02_1_n_n_1_1_81256 cs i)

/-- The window means of one group. -/
def Win (hw : BitVec 32) (ug : FVec Ideal S8x256x256 .f32) : FVec Ideal S8x256x256 .f32 :=
  (Host.divf (subf (Take (Cs ug) (Row (Hi hw))) (Take (Cs ug) (Row (Lo hw)))) (broadcastInDim S8x256x256 ![0, 1, 2] bcast_S1x256x1_S8x256x256_0_1_2 (broadcastInDim S1x256x1 ![1] bcast_S256_S1x256x1_1 (sitofp .f32 (subi (Hi hw) (Lo hw))))))

/-- The four groups' means, stacked. -/
def St (m0 m1 m2 m3 : FVec Ideal S8x256x256 .f32) : FVec Ideal S8x256x4x256 .f32 :=
  (fn_main_v177 (F := Ideal) (broadcastInDim S8x256x1x256 ![0, 1, 3] bcast_S8x256x256_S8x256x1x256_0_1_3 m0) (broadcastInDim S8x256x1x256 ![0, 1, 3] bcast_S8x256x256_S8x256x1x256_0_1_3 m1) (broadcastInDim S8x256x1x256 ![0, 1, 3] bcast_S8x256x256_S8x256x1x256_0_1_3 m2) (broadcastInDim S8x256x1x256 ![0, 1, 3] bcast_S8x256x256_S8x256x1x256_0_1_3 m3))

/-- The groups' differences mixed by their weights and scaled. -/
def E (st u : FVec Ideal S8x256x4x256 .f32) (wg : FVec Ideal S2x4x256x256 .f32) (sc : FVec Ideal S2x1024 .f32) : FVec Ideal S8x256x1024 .f32 :=
  (mulf (shapeCast S8x256x1024 (transpose S8x256x4x256 [2, 3, 0, 1] (Host.dotGeneral dot_S4x256x256_S8x256x4x256_S4x256x8x256_1_3_2_01_0_2 none (shapeCast S4x256x256 (extractStridedSlice S1x4x256x256 ![0, 0, 0, 0] wg slices_S2x4x256x256_S1x4x256x256_0_0_0_0) shapeCasts_S1x4x256x256_S4x256x256) (subf st u)) transposes_S4x256x8x256_S8x256x4x256_2_3_0_1) shapeCasts_S8x256x4x256_S8x256x1024) (broadcastInDim S8x256x1024 ![0, 1, 2] bcast_S1x1x1024_S8x256x1024_0_1_2 (broadcastInDim S1x1x1024 ![2] bcast_S1024_S1x1x1024_2 (shapeCast S1024 (extractStridedSlice S1x1024 ![0, 0] sc slices_S2x1024_S1x1024_0_0) shapeCasts_S1x1024_S1024))))

/-- The gated residual. -/
def O (x : FVec Ideal S8x256x1024 .f32) (mods : FVec Ideal S3072 .f32) (p : FVec Ideal S8x256x2048 .f32) (e : FVec Ideal S8x256x1024 .f32) (wo : FVec Ideal S2x1024x1024 .f32) : FVec Ideal S8x256x1024 .f32 :=
  addf x (mulf (broadcastInDim S8x256x1024 ![0, 1, 2] bcast_S1x1x1024_S8x256x1024_0_1_2 (broadcastInDim S1x1x1024 ![2] bcast_S1024_S1x1x1024_2 (extractStridedSlice S1024 ![2048] mods slices_S3072_S1024_2048))) (Host.dotGeneral dot_S8x256x1024_S1024x1024_S8x256x1024_2_0_01_1_n_n none (mulf e (mulf (extractStridedSlice S8x256x1024 ![0, 0, 1024] p slices_S8x256x2048_S8x256x1024_0_0_1024) (Host.divf (broadcastInDim S8x256x1024 ![] bcast_S_S8x256x1024 (constant S_ .f32 0x3F800000#32)) (addf (broadcastInDim S8x256x1024 ![] bcast_S_S8x256x1024 (constant S_ .f32 0x3F800000#32)) (Host.exp (Host.negf (extractStridedSlice S8x256x1024 ![0, 0, 1024] p slices_S8x256x2048_S8x256x1024_0_0_1024))))))) (shapeCast S1024x1024 (extractStridedSlice S1x1024x1024 ![0, 0, 0] wo slices_S2x1024x1024_S1x1024x1024_0_0_0) shapeCasts_S1x1024x1024_S1024x1024)))

/-- The context after layer 0, from its arguments. -/
def Ctx1 (x : FVec Ideal S8x256x1024 .f32) (cc : FVec Ideal S1024 .f32) (ng : FVec Ideal S4x1024 .f32) (aw : FVec Ideal S4x1024x3072 .f32) (ab : FVec Ideal S4x3072 .f32)
    (win : FVec Ideal S2x1024x2048 .f32) (wg : FVec Ideal S2x4x256x256 .f32) (sc : FVec Ideal S2x1024 .f32) (wo : FVec Ideal S2x1024x1024 .f32) : FVec Ideal S8x256x1024 .f32 :=
  let mods := Mods0 cc aw ab
  let p := P (H0 x ng mods) win
  let u := U p
  O x mods p (E (St (Win 1#32 (G0 u)) (Win 2#32 (G1 u)) (Win 4#32 (G2 u)) (Win 8#32 (G3 u))) u wg sc) wo

/-- Layer 1's projection of the context to keys and values. -/
def KV (h : FVec Ideal S8x256x1024 .f32) (wi : FVec Ideal S1x1024x4096 .f32) : FVec Ideal S8x256x2048 .f32 :=
  Host.dotGeneral dot_S8x256x1024_S1024x2048_S8x256x2048_2_0_01_1_n_n none h (extractStridedSlice S1024x2048 ![0, 1024] (shapeCast S1024x4096 wi shapeCasts_S1x1024x4096_S1024x4096) slices_S1024x4096_S1024x2048_0_1024)

/-- The same from the context after layer 0. -/
def KVA (y : FVec Ideal S8x256x1024 .f32) (cc : FVec Ideal S1024 .f32) (ng : FVec Ideal S4x1024 .f32) (aw : FVec Ideal S4x1024x3072 .f32) (ab : FVec Ideal S4x3072 .f32)
    (wi : FVec Ideal S1x1024x4096 .f32) : FVec Ideal S8x256x2048 .f32 :=
  KV (H1 y ng (Mods1 cc aw ab)) wi

/-- The key: the first half, all context rows in one sequence, by head pair. -/
def K (p : FVec Ideal S8x256x2048 .f32) : FVec Ideal S1x8x2048x128 .bf16 :=
  truncf .bf16 (transpose S1x8x2048x128 [0, 2, 1, 3] (shapeCast S1x2048x8x128 (shapeCast S1x2048x1024 (extractStridedSlice S8x256x1024 ![0, 0, 0] p slices_S8x256x2048_S8x256x1024_0_0_0) shapeCasts_S8x256x1024_S1x2048x1024) shapeCasts_S1x2048x1024_S1x2048x8x128) transposes_S1x2048x8x128_S1x8x2048x128_0_2_1_3) bitsLt_bf16_f32

/-- The value: the second half, by head pair and group of 128 rows, transposed. -/
def V (p : FVec Ideal S8x256x2048 .f32) : FVec Ideal S1x8x16x128x128 .bf16 :=
  truncf .bf16 (transpose S1x8x16x128x128 [0, 3, 1, 4, 2] (shapeCast S1x16x128x8x128 (shapeCast S1x2048x1024 (extractStridedSlice S8x256x1024 ![0, 0, 1024] p slices_S8x256x2048_S8x256x1024_0_0_1024) shapeCasts_S8x256x1024_S1x2048x1024) shapeCasts_S1x2048x1024_S1x16x128x8x128) transposes_S1x16x128x8x128_S1x8x16x128x128_0_3_1_4_2) bitsLt_bf16_f32

theorem Mods0_at (cc : FVec Ideal S1024 .f32) (aw : FVec Ideal S4x1024x3072 .f32) (ab : FVec Ideal S4x3072 .f32) (o : Fin 3072) :
    Mods0 cc aw ab (ix1 o) = modv (fun k => cc (ix1 k)) (fun k j => aw (ix3 0 k j)) (fun j => ab (ix2 0 j)) o := by
  pointwise [Mods0, modv, silu]

theorem H0_at (x : FVec Ideal S8x256x1024 .f32) (ng : FVec Ideal S4x1024 .f32) (mods : FVec Ideal S3072 .f32) (b : Fin 8) (s : Fin 256) (k : Fin 1024) :
    H0 x ng mods (ix3 b s k) = nrm (fun k => x (ix3 b s k)) (fun k => ng (ix2 0 k)) (fun k => mods (ix1 ⟨k.val, by omega⟩))
      (fun k => mods (ix1 ⟨1024 + k.val, by omega⟩)) k := by
  pointwise [H0, nrm, rms]
  rw [mul_assoc (x (ix3 b s k) * _)]

theorem Mods1_at (cc : FVec Ideal S1024 .f32) (aw : FVec Ideal S4x1024x3072 .f32) (ab : FVec Ideal S4x3072 .f32) (o : Fin 3072) :
    Mods1 cc aw ab (ix1 o) = modv (fun k => cc (ix1 k)) (fun k j => aw (ix3 1 k j)) (fun j => ab (ix2 1 j)) o := by
  pointwise [Mods1, modv, silu]

theorem H1_at (x : FVec Ideal S8x256x1024 .f32) (ng : FVec Ideal S4x1024 .f32) (mods : FVec Ideal S3072 .f32) (b : Fin 8) (s : Fin 256) (k : Fin 1024) :
    H1 x ng mods (ix3 b s k) = nrm (fun k => x (ix3 b s k)) (fun k => ng (ix2 1 k)) (fun k => mods (ix1 ⟨k.val, by omega⟩))
      (fun k => mods (ix1 ⟨1024 + k.val, by omega⟩)) k := by
  pointwise [H1, nrm, rms]
  rw [mul_assoc (x (ix3 b s k) * _)]

theorem P_at (h : FVec Ideal S8x256x1024 .f32) (win : FVec Ideal S2x1024x2048 .f32) (b : Fin 8) (s : Fin 256) (j : Fin 2048) :
    P h win (ix3 b s j) = ∑ k : Fin 1024, h (ix3 b s k) * win (ix3 0 k j) := by
  pointwise [P]

theorem U_at (p : FVec Ideal S8x256x2048 .f32) (b : Fin 8) (s : Fin 256) (g : Fin 4) (j : Fin 256) :
    U p (ix4 b s g j) = p (ix3 b s (Pool.col g j)) := by
  pointwise [U]
  rfl

theorem G0_at (u : FVec Ideal S8x256x4x256 .f32) (b : Fin 8) (s : Fin 256) (j : Fin 256) : G0 u (ix3 b s j) = u (ix4 b s 0 j) := by pointwise [G0]
theorem G1_at (u : FVec Ideal S8x256x4x256 .f32) (b : Fin 8) (s : Fin 256) (j : Fin 256) : G1 u (ix3 b s j) = u (ix4 b s 1 j) := by pointwise [G1]
theorem G2_at (u : FVec Ideal S8x256x4x256 .f32) (b : Fin 8) (s : Fin 256) (j : Fin 256) : G2 u (ix3 b s j) = u (ix4 b s 2 j) := by pointwise [G2]
theorem G3_at (u : FVec Ideal S8x256x4x256 .f32) (b : Fin 8) (s : Fin 256) (j : Fin 256) : G3 u (ix3 b s j) = u (ix4 b s 3 j) := by pointwise [G3]

theorem St_at (m0 m1 m2 m3 : FVec Ideal S8x256x256 .f32) (b : Fin 8) (s : Fin 256) (g : Fin 4) (j : Fin 256) :
    St m0 m1 m2 m3 (ix4 b s g j) = (![m0, m1, m2, m3] g) (ix3 b s j) := by
  unfold St fn_main_v177
  pointwise
  match g with
  | ⟨0, _⟩ => rfl
  | ⟨1, _⟩ => rfl
  | ⟨2, _⟩ => rfl
  | ⟨3, _⟩ => rfl

theorem E_at (st u : FVec Ideal S8x256x4x256 .f32) (wg : FVec Ideal S2x4x256x256 .f32) (sc : FVec Ideal S2x1024 .f32) (b : Fin 8) (s : Fin 256) (c : Fin 1024) :
    E st u wg sc (ix3 b s c) = (∑ j : Fin 256, wg (ix4 0 (Pool.grp c) j (Pool.off c)) * (st (ix4 b s (Pool.grp c) j) - u (ix4 b s (Pool.grp c) j))) * sc (ix2 0 c) := by
  pointwise [E]
  rfl

theorem O_at (x : FVec Ideal S8x256x1024 .f32) (mods : FVec Ideal S3072 .f32) (p : FVec Ideal S8x256x2048 .f32) (e : FVec Ideal S8x256x1024 .f32) (wo : FVec Ideal S2x1024x1024 .f32)
    (b : Fin 8) (s : Fin 256) (d : Fin 1024) :
    O x mods p e wo (ix3 b s d) = Pool.res (fun d => x (ix3 b s d)) (fun d => mods (ix1 ⟨2048 + d.val, by omega⟩)) (fun c => e (ix3 b s c))
      (fun c => p (ix3 b s ⟨1024 + c.val, by omega⟩)) (fun c d => wo (ix3 0 c d)) d := by
  pointwise [O, Pool.res, silu]

theorem KV_at (h : FVec Ideal S8x256x1024 .f32) (wi : FVec Ideal S1x1024x4096 .f32) (b : Fin 8) (s : Fin 256) (j : Fin 2048) :
    KV h wi (ix3 b s j) = ∑ k : Fin 1024, h (ix3 b s k) * wi (ix3 0 k ⟨1024 + j.val, by omega⟩) := by
  pointwise [KV]

theorem K_at (p : FVec Ideal S8x256x2048 .f32) (hp : Fin 8) (s : Fin 2048) (c : Fin 128) :
    K p (ix4 0 hp s c) = p (ix3 ⟨s.val / 256, by omega⟩ ⟨s.val % 256, by omega⟩ ⟨hp.val * 128 + c.val, by omega⟩) := by
  pointwise [K]

theorem V_at (p : FVec Ideal S8x256x2048 .f32) (hp : Fin 8) (tb : Fin 16) (c r : Fin 128) :
    V p (ix5 0 hp tb c r) = p (ix3 ⟨(tb.val * 128 + r.val) / 256, by omega⟩ ⟨(tb.val * 128 + r.val) % 256, by omega⟩ ⟨1024 + (hp.val * 128 + c.val), by omega⟩) := by
  pointwise [V]
  congr 2
  · exact Fin.ext (by simp only; omega)
  · exact Fin.ext (by simp only; omega)

theorem Take_at (cs : FVec Ideal S8x257x256 .f32) (i : IVec S256x1 32) (b : Fin 8) (s : Fin 256) (j : Fin 256) (n : Fin 257)
    (h : (i (ix2 s 0)).toInt = (n.val : Int)) : Take cs i (ix3 b s j) = cs (ix3 b n j) := by
  unfold Take Host.gather
  refine congrArg cs (funext fun a => Fin.ext ?_)
  show gather_S8x257x256_S256x1_S8x256x256_02_1_n_n_1_1_81256.start (ix3 b s j) i a + gather_S8x257x256_S256x1_S8x256x256_02_1_n_n_1_1_81256.batchCoord (ix3 b s j) a
    + gather_S8x257x256_S256x1_S8x256x256_02_1_n_n_1_1_81256.offCoord (ix3 b s j) a = _
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ gather_S8x257x256_S256x1_S8x256x256_02_1_n_n_1_1_81256.startIndexMap from List.mem_singleton.mpr rfl)]
    have hsi : gather_S8x257x256_S256x1_S8x256x256_02_1_n_n_1_1_81256.siIdx (ix3 b s j)
        ⟨List.idxOf (1 : Fin 3) gather_S8x257x256_S256x1_S8x256x256_02_1_n_n_1_1_81256.startIndexMap, List.idxOf_lt_length_iff.2 (List.mem_singleton.mpr rfl)⟩ = ix2 s 0 := by
      funext t; refine Fin.ext ?_
      match t with
      | ⟨0, _⟩ => rfl
      | ⟨1, _⟩ => rfl
    rw [hsi, h]
    show min ((n.val : Int).toNat) (257 - 1) = n.val
    rw [Int.toNat_natCast]
    omega
  · unfold GatherDims.start
    rw [dif_neg (by decide), Nat.zero_add]
    rfl

/-- Each window's first position, as a start index. -/
theorem lo_word : ∀ (g : Fin 4) (s : Fin 256), IntOp.minsi 256#32 (IntOp.maxsi 0#32 (BitVec.ofNat 32 s.val - BitVec.ofNat 32 (2 ^ g.val))) = BitVec.ofNat 32 (s.val - 2 ^ g.val) := by
  decide +kernel

theorem hi_word : ∀ (g : Fin 4) (s : Fin 256), IntOp.minsi 256#32 (IntOp.maxsi 0#32 (BitVec.ofNat 32 s.val + BitVec.ofNat 32 (2 ^ g.val))) = BitVec.ofNat 32 (min (s.val + 2 ^ g.val) 256) := by
  decide +kernel

theorem Lo_at (hw : BitVec 32) (s : Fin 256) : Lo hw (ix1 s) = IntOp.minsi 256#32 (IntOp.maxsi 0#32 (BitVec.ofNat 32 s.val - hw)) := by
  pointwise [Lo]
  rfl
theorem Hi_at (hw : BitVec 32) (s : Fin 256) : Hi hw (ix1 s) = IntOp.minsi 256#32 (IntOp.maxsi 0#32 (BitVec.ofNat 32 s.val + hw)) := by
  pointwise [Hi]
  rfl
theorem row_word : ∀ n : Fin 257, Scalar.select (IntOp.cmpi CmpIPredicate.slt (BitVec.ofNat 32 n.val) 0#32) (IntOp.addi (BitVec.ofNat 32 n.val) 257#32) (BitVec.ofNat 32 n.val)
    = BitVec.ofNat 32 n.val := by decide +kernel
theorem Row_at (i : IVec S256 32) (s : Fin 256) (n : Nat) (hn : n < 257) (h : i (ix1 s) = BitVec.ofNat 32 n) : Row i (ix2 s 0) = BitVec.ofNat 32 n := by
  pointwise [Row]
  rw [h]
  exact row_word ⟨n, hn⟩

theorem foldl_add {ι : Type} (l : List ι) (g : ι → EReal) : ∀ v : EReal, l.foldl (fun r n => r + g n) v = v + (l.map g).sum := by
  induction l with
  | nil => intro v; simp
  | cons a l ih => intro v; rw [List.foldl_cons, ih, List.map_cons, List.sum_cons, add_assoc]

/-- A window that ends at row `l`, over the rows of the sequence. -/
theorem sum_window (T : Fin 256 → EReal) (l : Fin 256) :
    (∑ a : Fin 256, if h : 255 ≤ l.val + a.val then T ⟨l.val + a.val - 255, by omega⟩ else 0) = ∑ q : Fin 256, if q.val < l.val + 1 then T q else 0 := by
  refine Fintype.sum_bijective (fun a : Fin 256 => (⟨(l.val + a.val + 1) % 256, by omega⟩ : Fin 256)) (Finite.injective_iff_bijective.1 fun a a' h => ?_) _ _ fun a => ?_
  · have h' : (l.val + a.val + 1) % 256 = (l.val + a'.val + 1) % 256 := congrArg Fin.val h
    exact Fin.ext (by omega)
  · dsimp only
    by_cases h : 255 ≤ l.val + a.val
    · rw [dif_pos h, if_pos (by omega)]
      exact congrArg T (Fin.ext (by dsimp only; omega))
    · rw [dif_neg h, if_neg (by omega)]

/-- The host's window sum at an element: the initial value and the sum over the window's indices. -/
theorem window_sum {s t : Shape} (window strides lo hi : Fin s.rank → Nat) (x : FVec Ideal s .f32) (v : FVec Ideal S_ .f32)
    (h : s.ReduceWindows window strides lo hi t) (hu : 0 < S_.numel) (j : t.Idx) :
    Host.reduceWindowAdd window strides lo hi x v h hu j = v (Shape.Idx.first hu) + ∑ i : (⟨s.rank, window⟩ : Shape).Idx,
      if hin : ∀ a : Fin s.rank, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else v (Shape.Idx.first hu) := by
  let W : Shape := ⟨s.rank, window⟩
  let G : W.Idx → EReal := fun i =>
    if hin : ∀ a : Fin s.rank, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else v (Shape.Idx.first hu)
  have e : Host.reduceWindowAdd window strides lo hi x v h hu j = (List.finRange W.numel).foldl (fun r n => r + G (W.rowMajor.symm n)) (v (Shape.Idx.first hu)) := by
    unfold Host.reduceWindowAdd
    rw [Ideal.hostReduceWindowAdd_def]
    unfold Ideal.hostReduceWindowAdd Host.reduceWindow
    refine congrArg (fun f => List.foldl f (v (Shape.Idx.first hu)) (List.finRange W.numel)) (funext fun r => funext fun n => congrArg (r + ·) ?_)
    dsimp only
    split
    · next hh => simp only [G]; rw [dif_pos hh]
    · next hh => simp only [G]; rw [dif_neg hh]
  rw [e, foldl_add (List.finRange W.numel) (fun n => G (W.rowMajor.symm n)), ← Fin.sum_univ_def, Equiv.sum_comp W.rowMajor.symm G]

theorem window_at (ug : FVec Ideal S8x256x256 .f32) (v : FVec Ideal S_ .f32) (hv : v (Shape.Idx.first h_S_) = 0) (b : Fin 8) (l : Fin 256) (j : Fin 256) :
    Host.reduceWindowAdd ![1, 256, 1] ![1, 1, 1] ![0, 255, 0] ![0, 0, 0] ug v reduceWindows_S8x256x256_S8x256x256_w1s1p0_0_w256s1p255_0_w1s1p0_0 h_S_ (ix3 b l j)
      = ∑ q : Fin 256, if q.val < l.val + 1 then ug (ix3 b q j) else 0 := by
  rw [← sum_window (fun q => ug (ix3 b q j)) l, window_sum, hv, zero_add]
  refine (Fintype.sum_bijective (fun a : Fin 256 => (ix3 0 a 0 : (⟨3, ![1, 256, 1]⟩ : Shape).Idx)) ⟨fun a a' h => congrFun h 1, fun i => ⟨i 1, ?_⟩⟩ _ _ fun a => ?_).symm
  · funext t
    match t with
    | ⟨0, _⟩ => exact Subsingleton.elim (α := Fin 1) _ _
    | ⟨1, _⟩ => rfl
    | ⟨2, _⟩ => exact Subsingleton.elim (α := Fin 1) _ _
  · by_cases h : 255 ≤ l.val + a.val
    · rw [dif_pos h, dif_pos]
      · refine congrArg ug (funext fun t => Fin.ext ?_)
        match t with
        | ⟨0, _⟩ => show b.val = b.val * 1 + 0 - 0; omega
        | ⟨1, _⟩ => show l.val + a.val - 255 = l.val * 1 + a.val - 255; omega
        | ⟨2, _⟩ => show j.val = j.val * 1 + 0 - 0; omega
      · intro t
        match t with
        | ⟨0, _⟩ => show 0 ≤ b.val * 1 + 0 ∧ b.val * 1 + 0 - 0 < 8; omega
        | ⟨1, _⟩ => show 255 ≤ l.val * 1 + a.val ∧ l.val * 1 + a.val - 255 < 256; omega
        | ⟨2, _⟩ => show 0 ≤ j.val * 1 + 0 ∧ j.val * 1 + 0 - 0 < 256; omega
    · rw [dif_neg h, dif_neg]
      intro hin
      have : 255 ≤ l.val * 1 + a.val := (hin 1).1
      omega

theorem Cs_at (ug : FVec Ideal S8x256x256 .f32) (b : Fin 8) (n : Fin 257) (j : Fin 256) :
    Cs ug (ix3 b n j) = ∑ q : Fin 256, if q.val < n.val then ug (ix3 b q j) else 0 := by
  unfold Cs fn_main_v49
  have hw := window_at ug (broadcastInDim (s := S_) (α := Ideal .f32) S_ ![] bcast_S_S_ (constant S_ .f32 0x00000000#32)) (by pointwise) b
  generalize Host.reduceWindowAdd ![1, 256, 1] ![1, 1, 1] ![0, 255, 0] ![0, 0, 0] ug (broadcastInDim (s := S_) (α := Ideal .f32) S_ ![] bcast_S_S_ (constant S_ .f32 0x00000000#32))
      reduceWindows_S8x256x256_S8x256x256_w1s1p0_0_w256s1p255_0_w1s1p0_0 h_S_ = r at hw ⊢
  pointwise
  by_cases h : n.val < 1
  · rw [dif_pos h]
    exact (Finset.sum_eq_zero fun q _ => if_neg (by omega)).symm
  · rw [dif_neg h, hw]
    dsimp only
    rw [Nat.sub_add_cancel (by omega)]

theorem toInt_small (n : Nat) (hn : n < 257) : (BitVec.ofNat 32 n).toInt = (n : Int) := by
  rw [BitVec.toInt_eq_toNat_of_lt (by rw [BitVec.toNat_ofNat]; omega), BitVec.toNat_ofNat, Nat.mod_eq_of_lt (by omega)]

theorem sub_word (p q : Nat) (hp : p < 257) (h : q ≤ p) : IntOp.subi (BitVec.ofNat 32 p) (BitVec.ofNat 32 q) = BitVec.ofNat 32 (p - q) := by
  show BitVec.ofNat 32 p - BitVec.ofNat 32 q = _
  apply BitVec.eq_of_toNat_eq
  rw [BitVec.toNat_sub, BitVec.toNat_ofNat, BitVec.toNat_ofNat, BitVec.toNat_ofNat]
  omega

/-- The window mean at a row, from words that hold the window's ends. -/
theorem Win_word (hw : BitVec 32) (p q : Fin 257) (ug : FVec Ideal S8x256x256 .f32) (b : Fin 8) (s : Fin 256) (j : Fin 256) (hle : q.val ≤ p.val)
    (hi : Hi hw (ix1 s) = BitVec.ofNat 32 p.val) (hl : Lo hw (ix1 s) = BitVec.ofNat 32 q.val) :
    Win hw ug (ix3 b s j) = Ideal.div ((∑ t : Fin 256, if t.val < p.val then ug (ix3 b t j) else 0)
      - ∑ t : Fin 256, if t.val < q.val then ug (ix3 b t j) else 0) (((p.val - q.val : Nat) : ℝ) : EReal) := by
  unfold Win
  pointwise
  have e1 := Take_at (Cs ug) (Row (Hi hw)) b s j p (by rw [Row_at _ s _ p.isLt hi, toInt_small _ p.isLt])
  have e2 := Take_at (Cs ug) (Row (Lo hw)) b s j q (by rw [Row_at _ s _ q.isLt hl, toInt_small _ q.isLt])
  rw [e1, e2, Cs_at, Cs_at, hi, hl, sub_word _ _ p.isLt hle]
  refine congrArg (Ideal.div _) ?_
  show (((BitVec.ofNat 32 (p.val - q.val)).toInt : ℝ) : EReal) = _
  rw [toInt_small _ (by omega)]
  rfl

theorem Win_at (g : Fin 4) (ug : FVec Ideal S8x256x256 .f32) (b : Fin 8) (s : Fin 256) (j : Fin 256) :
    Win (BitVec.ofNat 32 (2 ^ g.val)) ug (ix3 b s j) = Ideal.div ((∑ q : Fin 256, if q.val < min (s.val + Pool.half g) 256 then ug (ix3 b q j) else 0)
      - ∑ q : Fin 256, if q.val < s.val - Pool.half g then ug (ix3 b q j) else 0) ((CPool.cnt (Pool.half g) s.val : ℝ) : EReal) :=
  Win_word (BitVec.ofNat 32 (2 ^ g.val)) ⟨min (s.val + Pool.half g) 256, by omega⟩ ⟨s.val - Pool.half g, by omega⟩ ug b s j (by dsimp only; omega)
    ((Hi_at _ s).trans (hi_word g s)) ((Lo_at _ s).trans (lo_word g s))

end Cert.CtxRefIdeal.At

end
-- ==== Proof.CtxRefRun.lean ====
module

public import proofs.«01_k».proof.Proof.CtxRef

/-! # The context layer's reference: its results are the composition of its intermediate arrays -/

@[expose] public section

set_option maxRecDepth 16384

noncomputable section

namespace Cert.CtxRefIdeal.At

open Cert.CtxRefIdeal Cert.CtxRefIdeal.Gen Cert.CtxRefIdeal.Value
open Idealize.ShloMosaic Idealize.ShloMosaic.TcCoe Idealize.SL.Sem
open Cert.Layer StableHlo

variable (m : (ℓ : Loc nD τ sig) → Buf (Elt Ideal) ℓ) (ρ : Dev nD → PrngReg)

/-- The context after layer 0, from the buffers. -/
def ctxOf (c : Dev nD) : FVec Ideal S8x256x1024 .f32 :=
  Ctx1 (m ((c.tc : Thread nD τ).loc main_arg0)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9))

set_option maxHeartbeats 4000000 in
theorem ctx_eq (c : Dev nD) : res_main_v191 (launchContents m c) = ctxOf m c := rfl

/-- Keys and values of the context, from the buffers. -/
def kvOf (c : Dev nD) : FVec Ideal S8x256x2048 .f32 :=
  KVA (ctxOf m c) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg10))

set_option maxHeartbeats 4000000 in
theorem kv_eq (c : Dev nD) : res_main_v227 (launchContents m c) = kvOf m c := by
  unfold res_main_v227 kvOf
  rw [ctx_eq m c]
  rfl

/-- The reference's run with its results named. -/
theorem run_named :
    θ_run defs (onTc (τ := τ) (main (F := Ideal))) ⟨m, fun _ => 0, ρ⟩ (fun r => ∀ c : Dev nD,
      r.2.mem ((c.tc : Thread nD τ).loc main_v233) = K (kvOf m c)
      ∧ r.2.mem ((c.tc : Thread nD τ).loc main_v237) = V (kvOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (by rw [kv_eq m c]; rfl), (h c).2.1.trans (by rw [kv_eq m c]; rfl), (h c).2.2⟩) (Value.run m ρ)

end Cert.CtxRefIdeal.At

end
-- ==== Proof.CtxEq.lean ====
module

public import proofs.«01_k».proof.Proof.CtxFinal
public import proofs.«01_k».proof.Proof.CtxProjFinal
public import proofs.«01_k».proof.Proof.CtxRefRun
public import proofs.«01_k».proof.Defs

/-! # The context layer: the kernel's two result arrays are the reference's, on finite arguments -/

@[expose] public section

set_option maxRecDepth 16384

noncomputable section

namespace Cert.CtxIdeal.Final

open Cert.CtxIdeal Cert.CtxIdeal.Gen Cert.CtxIdeal.Run
open Idealize.ShloMosaic Idealize.ShloMosaic.TcCoe Idealize.SL.Sem Idealize.ShloMosaic.Pipeline
open Cert.Layer Cert.Layer.Pool

/-- An array whose magnitudes all compare below infinity holds real numbers. -/
theorem real_of_mask {s : Shape} (a : FVec Ideal s .f32) (h : S_.BroadcastsInDim s ![])
    (e : cmpf .olt (Host.absf a) (broadcastInDim (s := S_) (α := Ideal .f32) s ![] h (constant S_ .f32 0x7F800000#32)) = fun _ => 1#1) (i : s.Idx) : IsReal (a i) := by
  have e' : Ideal.cmp .olt (max (a i) (-(a i))) (Ideal.ofBits .f32 0x7F800000#32) = 1#1 := congrFun e i
  have htop : Ideal.ofBits .f32 0x7F800000#32 = ⊤ := by simp [Ideal.ofBits, Ideal.ieee]
  have key : ∀ y : EReal, Ideal.cmp .olt (max y (-y)) ⊤ = 1#1 → IsReal y := fun y h => by
    induction y with
    | bot => simp [Ideal.cmp] at h
    | top => simp [Ideal.cmp] at h
    | coe r => exact ⟨r, rfl⟩
  rw [htop] at e'
  exact key (a i) e'

/-- The window means at a row, group by group. -/
theorem means_at (u : FVec Ideal Cert.CtxRefIdeal.S8x256x4x256 .f32) (b : Fin 8) (s : Fin 256) (g : Fin 4) (j : Fin 256) :
    CtxRefIdeal.At.St (CtxRefIdeal.At.Win 1#32 (CtxRefIdeal.At.G0 u)) (CtxRefIdeal.At.Win 2#32 (CtxRefIdeal.At.G1 u)) (CtxRefIdeal.At.Win 4#32 (CtxRefIdeal.At.G2 u)) (CtxRefIdeal.At.Win 8#32 (CtxRefIdeal.At.G3 u)) (ix4 b s g j)
      = Ideal.div ((∑ q : Fin 256, if q.val < min (s.val + half g) 256 then u (ix4 b q g j) else 0)
          - ∑ q : Fin 256, if q.val < s.val - half g then u (ix4 b q g j) else 0) ((CPool.cnt (half g) s.val : ℝ) : EReal) := by
  rw [CtxRefIdeal.At.St_at]
  have w0 := CtxRefIdeal.At.Win_at 0 (CtxRefIdeal.At.G0 u) b s j
  have w1 := CtxRefIdeal.At.Win_at 1 (CtxRefIdeal.At.G1 u) b s j
  have w2 := CtxRefIdeal.At.Win_at 2 (CtxRefIdeal.At.G2 u) b s j
  have w3 := CtxRefIdeal.At.Win_at 3 (CtxRefIdeal.At.G3 u) b s j
  simp only [CtxRefIdeal.At.G0_at] at w0
  simp only [CtxRefIdeal.At.G1_at] at w1
  simp only [CtxRefIdeal.At.G2_at] at w2
  simp only [CtxRefIdeal.At.G3_at] at w3
  match g with
  | ⟨0, _⟩ => exact w0
  | ⟨1, _⟩ => exact w1
  | ⟨2, _⟩ => exact w2
  | ⟨3, _⟩ => exact w3

theorem ref_at (x : FVec Ideal S8x256x1024 .f32) (cc : FVec Ideal S1024 .f32) (ng : FVec Ideal S4x1024 .f32) (aw : FVec Ideal S4x1024x3072 .f32)
    (ab : FVec Ideal S4x3072 .f32) (win : FVec Ideal S2x1024x2048 .f32) (wg : FVec Ideal S2x4x256x256 .f32) (sc : FVec Ideal S2x1024 .f32)
    (wo : FVec Ideal S2x1024x1024 .f32)
    (rx : ∀ i, IsReal (x i)) (rcc : ∀ i, IsReal (cc i)) (rng : ∀ i, IsReal (ng i)) (raw : ∀ i, IsReal (aw i)) (rab : ∀ i, IsReal (ab i))
    (rwin : ∀ i, IsReal (win i)) (rwg : ∀ i, IsReal (wg i)) (rsc : ∀ i, IsReal (sc i))
    (mo : FVec Ideal S4x16x3x1024 .f32)
    (hmo : ∀ (n : Fin 3) (k : Fin 1024), mo (ix4 0 8 n k)
      = modv (fun k => cc (ix1 k)) (fun k j => aw (ix3 0 k j)) (fun j => ab (ix2 0 j)) ⟨n.val * 1024 + k.val, by omega⟩)
    (w4 w5 w6 : FVec Ideal S2x1024x1024 .bf16)
    (h4 : ∀ k c, w4 (ix3 0 k c) = fold (fun k j => win (ix3 0 k j)) (fun g i j => wg (ix4 0 g i j)) (fun q => sc (ix2 0 q)) k c)
    (h5 : ∀ k (c : Fin 1024), w5 (ix3 0 k c) = win (ix3 0 k ⟨1024 + c.val, by omega⟩))
    (h6 : ∀ k c, w6 (ix3 0 k c) = wo (ix3 0 k c))
    (b : Fin 8) (s : Fin 256) (d : Fin 1024) :
    Out x mo (shapeCast S4x1x1024 ng shapeCasts_S4x1024_S4x1x1024) w4 w5 w6 b s d
      = CtxRefIdeal.At.Ctx1 x cc ng aw ab win wg sc wo (ix3 b s d) := by
  have m0 : ∀ (n : Fin 3) k, mo (ix4 0 8 n k) = CtxRefIdeal.At.Mods0 cc aw ab (ix1 ⟨n.val * 1024 + k.val, by omega⟩) := fun n k => by
    rw [hmo, CtxRefIdeal.At.Mods0_at]
  have hng : ∀ k, shapeCast S4x1x1024 ng shapeCasts_S4x1024_S4x1x1024 (ix3 0 0 k) = ng (ix2 0 k) := fun k => by pointwise
  have rM : ∀ o, IsReal (CtxRefIdeal.At.Mods0 cc aw ab (ix1 o)) := fun o => by
    rw [CtxRefIdeal.At.Mods0_at]
    exact IsReal.modv (fun k => rcc _) (fun k o => raw _) (fun o => rab _) o
  unfold Out CtxRefIdeal.At.Ctx1
  simp only [m0, hng]
  generalize CtxRefIdeal.At.Mods0 cc aw ab = M at rM ⊢
  have hH : (fun (s : Fin 256) (k : Fin 1024) => nrm (fun k => x (ix3 b s k)) (fun k => ng (ix2 0 k)) (fun k => M (ix1 ⟨(0 : Fin 3).val * 1024 + k.val, by omega⟩))
      (fun k => M (ix1 ⟨(1 : Fin 3).val * 1024 + k.val, by omega⟩)) k) = fun s k => CtxRefIdeal.At.H0 x ng M (ix3 b s k) := by
    funext s k
    rw [CtxRefIdeal.At.H0_at]
    congr 1
    funext k
    exact congrArg (fun q => M (ix1 q)) (Fin.ext (by simp))
  have rH : ∀ s k, IsReal (CtxRefIdeal.At.H0 x ng M (ix3 b s k)) := fun s k => by
    rw [CtxRefIdeal.At.H0_at]
    exact IsReal.nrm (fun k => rx _) (fun k => rng _) (fun k => rM _) (fun k => rM _) k
  have key : ∀ (h : Fin 256 → Fin 1024 → EReal), h = (fun s k => CtxRefIdeal.At.H0 x ng M (ix3 b s k)) → ∀ d : Fin 1024,
      Pool.res (fun d => x (ix3 b s d)) (fun d => M (ix1 ⟨(2 : Fin 3).val * 1024 + d.val, by omega⟩)) (mixed h (fun k c => w4 (ix3 0 k c)) s)
          (fun c => ∑ k : Fin 1024, h s k * w5 (ix3 0 k c)) (fun c d => w6 (ix3 0 c d)) d
        = CtxRefIdeal.At.O x M (CtxRefIdeal.At.P (CtxRefIdeal.At.H0 x ng M) win) (CtxRefIdeal.At.E (CtxRefIdeal.At.St (CtxRefIdeal.At.Win 1#32 (CtxRefIdeal.At.G0 (CtxRefIdeal.At.U (CtxRefIdeal.At.P (CtxRefIdeal.At.H0 x ng M) win)))) (CtxRefIdeal.At.Win 2#32 (CtxRefIdeal.At.G1 (CtxRefIdeal.At.U (CtxRefIdeal.At.P (CtxRefIdeal.At.H0 x ng M) win)))) (CtxRefIdeal.At.Win 4#32 (CtxRefIdeal.At.G2 (CtxRefIdeal.At.U (CtxRefIdeal.At.P (CtxRefIdeal.At.H0 x ng M) win)))) (CtxRefIdeal.At.Win 8#32 (CtxRefIdeal.At.G3 (CtxRefIdeal.At.U (CtxRefIdeal.At.P (CtxRefIdeal.At.H0 x ng M) win))))) (CtxRefIdeal.At.U (CtxRefIdeal.At.P (CtxRefIdeal.At.H0 x ng M) win)) wg sc) wo (ix3 b s d) := by
    intro h hh d
    subst hh
    rw [CtxRefIdeal.At.O_at]
    have e1 : mixed (fun s k => CtxRefIdeal.At.H0 x ng M (ix3 b s k)) (fun k c => w4 (ix3 0 k c)) s
        = fun c => CtxRefIdeal.At.E (CtxRefIdeal.At.St (CtxRefIdeal.At.Win 1#32 (CtxRefIdeal.At.G0 (CtxRefIdeal.At.U (CtxRefIdeal.At.P (CtxRefIdeal.At.H0 x ng M) win)))) (CtxRefIdeal.At.Win 2#32 (CtxRefIdeal.At.G1 (CtxRefIdeal.At.U (CtxRefIdeal.At.P (CtxRefIdeal.At.H0 x ng M) win)))) (CtxRefIdeal.At.Win 4#32 (CtxRefIdeal.At.G2 (CtxRefIdeal.At.U (CtxRefIdeal.At.P (CtxRefIdeal.At.H0 x ng M) win)))) (CtxRefIdeal.At.Win 8#32 (CtxRefIdeal.At.G3 (CtxRefIdeal.At.U (CtxRefIdeal.At.P (CtxRefIdeal.At.H0 x ng M) win))))) (CtxRefIdeal.At.U (CtxRefIdeal.At.P (CtxRefIdeal.At.H0 x ng M) win)) wg sc (ix3 b s c) := by
      funext c
      rw [CtxRefIdeal.At.E_at]
      simp only [means_at, CtxRefIdeal.At.U_at, CtxRefIdeal.At.P_at]
      unfold mixed
      simp only [h4]
      exact CPool.mixed_eq (fun s k => CtxRefIdeal.At.H0 x ng M (ix3 b s k)) (fun k j => win (ix3 0 k j)) (fun g i j => wg (ix4 0 g i j)) (fun q => sc (ix2 0 q))
        rH (fun k j => rwin _) (fun g i j => rwg _) (fun q => rsc _) s c
    have e2 : (fun c : Fin 1024 => ∑ k : Fin 1024, (fun s k => CtxRefIdeal.At.H0 x ng M (ix3 b s k)) s k * w5 (ix3 0 k c))
        = fun c : Fin 1024 => CtxRefIdeal.At.P (CtxRefIdeal.At.H0 x ng M) win (ix3 b s ⟨1024 + c.val, by omega⟩) := by
      funext c
      rw [CtxRefIdeal.At.P_at]
      exact Finset.sum_congr rfl fun k _ => by rw [h5]
    have e3 : (fun c d => w6 (ix3 0 c d)) = fun c d : Fin 1024 => (wo (ix3 0 c d) : EReal) := funext fun c => funext fun d => h6 c d
    rw [e1, e2, e3]
    rfl
  exact key _ hH d

/-- The precondition of the arrays it names: each holds real numbers. -/
theorem reals [hp : Cert.Pre_finite_context.Facts] (a0 : FVec Ideal Cert.Pre_finite_context.S8x256x1024 .f32) (a1 : FVec Ideal Cert.Pre_finite_context.S8x1024 .f32) (a2 : FVec Ideal Cert.Pre_finite_context.S1024 .f32) (a3 : FVec Ideal Cert.Pre_finite_context.S4x1024 .f32) (a4 : FVec Ideal Cert.Pre_finite_context.S4x1024x3072 .f32) (a5 : FVec Ideal Cert.Pre_finite_context.S4x3072 .f32) (a6 : FVec Ideal Cert.Pre_finite_context.S2x1024x2048 .f32) (a7 : FVec Ideal Cert.Pre_finite_context.S2x4x256x256 .f32) (a8 : FVec Ideal Cert.Pre_finite_context.S2x1024 .f32) (a9 : FVec Ideal Cert.Pre_finite_context.S2x1024x1024 .f32) (a10 : FVec Ideal Cert.Pre_finite_context.S1x1024x4096 .f32)
    (h : (Cert.Pre_finite_context.fn (F := Ideal) a0 a1 a2 a3 a4 a5 a6 a7 a8 a9 a10).1 = (fun _ => 1#1)
      ∧ (Cert.Pre_finite_context.fn (F := Ideal) a0 a1 a2 a3 a4 a5 a6 a7 a8 a9 a10).2.1 = (fun _ => 1#1)
      ∧ (Cert.Pre_finite_context.fn (F := Ideal) a0 a1 a2 a3 a4 a5 a6 a7 a8 a9 a10).2.2.1 = (fun _ => 1#1)
      ∧ (Cert.Pre_finite_context.fn (F := Ideal) a0 a1 a2 a3 a4 a5 a6 a7 a8 a9 a10).2.2.2.1 = (fun _ => 1#1)
      ∧ (Cert.Pre_finite_context.fn (F := Ideal) a0 a1 a2 a3 a4 a5 a6 a7 a8 a9 a10).2.2.2.2.1 = (fun _ => 1#1)
      ∧ (Cert.Pre_finite_context.fn (F := Ideal) a0 a1 a2 a3 a4 a5 a6 a7 a8 a9 a10).2.2.2.2.2.1 = (fun _ => 1#1)
      ∧ (Cert.Pre_finite_context.fn (F := Ideal) a0 a1 a2 a3 a4 a5 a6 a7 a8 a9 a10).2.2.2.2.2.2.1 = (fun _ => 1#1)
      ∧ (Cert.Pre_finite_context.fn (F := Ideal) a0 a1 a2 a3 a4 a5 a6 a7 a8 a9 a10).2.2.2.2.2.2.2 = (fun _ => 1#1)) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) := by
  unfold Cert.Pre_finite_context.fn Cert.Pre_finite_context.fn_part1 at h
  dsimp only at h
  obtain ⟨p0, p2, p3, p4, p5, p6, p7, p8⟩ := h
  exact ⟨real_of_mask _ _ p0, real_of_mask _ _ p2, real_of_mask _ _ p3, real_of_mask _ _ p4, real_of_mask _ _ p5, real_of_mask _ _ p6, real_of_mask _ _ p7, real_of_mask _ _ p8⟩

variable (m : (ℓ : Loc nD τ sig) → Buf (Elt Ideal) ℓ) (ρ : Dev nD → PrngReg)

/-- The context after layer 0, from the kernel's buffers. -/
def ctxOf (c : Dev nD) : FVec Ideal S8x256x1024 .f32 :=
  CtxRefIdeal.At.Ctx1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Keys and values of the context, from the kernel's buffers. -/
def kvOf (c : Dev nD) : FVec Ideal Cert.CtxRefIdeal.S8x256x2048 .f32 :=
  CtxRefIdeal.At.KVA (ctxOf m c) (m ((c : Thread nD τ).loc main_arg2)) (m ((c : Thread nD τ).loc main_arg3)) (m ((c : Thread nD τ).loc main_arg4)) (m ((c : Thread nD τ).loc main_arg5)) (m ((c : Thread nD τ).loc main_arg10))

/-- The pooling call leaves the reference's context after layer 0. -/
theorem ctx_array [hp : Cert.Pre_finite_context.Facts] (hpre : Cert.Pre_CtxIdeal_finite_context m) (c : Dev nD) :
    (dat2 (V4 m ρ) c).arrAt 8 cfg2.N = ctxOf m c := by
  obtain ⟨r0, r2, r3, r4, r5, r6, r7, r8⟩ := reals _ _ _ _ _ _ _ _ _ _ _ (hpre c)
  rw [array, V4_arg0, V4_v8, V4_v10_0, V4_v10_1, V4_v10_2, Fold.array4, Fold.array5, Fold.array6, V3_arg6, V3_arg7, V3_arg9, V3_v9]
  funext i
  refine (ref_at _ _ _ _ _ (m ((c : Thread nD τ).loc main_arg6)) (m ((c : Thread nD τ).loc main_arg7)) (m ((c : Thread nD τ).loc main_arg8)) (m ((c : Thread nD τ).loc main_arg9))
    r0 r2 r3 r4 r5 r6 r7 r8 _ (fun n k => Mods.V4_v7_at m ρ c 0 n k) _ _ _ (fun k c => ?_) (fun k c => ?_) (fun k c => ?_) (i 0) (i 1) (i 2)).trans ?_
  · show fold _ _ (fun q => shapeCast S2x1x1024 _ shapeCasts_S2x1024_S2x1x1024 (ix3 0 0 q)) k c = _
    refine congrArg (fun f => fold _ _ f k c) (funext fun q => ?_)
    pointwise
  · rfl
  · rfl
  · exact congrArg _ (eq_ix3 i).symm

/-- An entry of the projection, over the context's rows in one sequence, is the reference's. -/
theorem prj_eq (y : FVec Ideal S8x256x1024 .f32) (cc : FVec Ideal S1024 .f32) (ng : FVec Ideal S4x1024 .f32) (aw : FVec Ideal S4x1024x3072 .f32)
    (ab : FVec Ideal S4x3072 .f32) (wi : FVec Ideal S1x1024x4096 .f32) (mo : FVec Ideal S4x16x3x1024 .f32)
    (hmo : ∀ (n : Fin 3) (k : Fin 1024), mo (ix4 1 8 n k)
      = modv (fun k => cc (ix1 k)) (fun k j => aw (ix3 1 k j)) (fun j => ab (ix2 1 j)) ⟨n.val * 1024 + k.val, by omega⟩)
    (s : Fin 2048) (j : Fin 2048) :
    ProjFinal.prj (shapeCast S1x2048x1024 y shapeCasts_S8x256x1024_S1x2048x1024) mo (shapeCast S4x1x1024 ng shapeCasts_S4x1024_S4x1x1024) (truncf .bf16 wi bitsLt_bf16_f32) s ⟨1024 + j.val, by omega⟩
      = CtxRefIdeal.At.KVA y cc ng aw ab wi (ix3 ⟨s.val / 256, by omega⟩ ⟨s.val % 256, by omega⟩ j) := by
  have m0 : ∀ (n : Fin 3) k, mo (ix4 1 8 n k) = CtxRefIdeal.At.Mods1 cc aw ab (ix1 ⟨n.val * 1024 + k.val, by omega⟩) := fun n k => by
    rw [hmo, CtxRefIdeal.At.Mods1_at]
  have hng : ∀ k, shapeCast S4x1x1024 ng shapeCasts_S4x1024_S4x1x1024 (ix3 1 0 k) = ng (ix2 1 k) := fun k => by pointwise
  have hy : ∀ k, shapeCast S1x2048x1024 y shapeCasts_S8x256x1024_S1x2048x1024 (ix3 0 s k) = y (ix3 ⟨s.val / 256, by omega⟩ ⟨s.val % 256, by omega⟩ k) := fun k => by pointwise
  have hwi : ∀ k j, truncf .bf16 wi bitsLt_bf16_f32 (ix3 0 k j) = wi (ix3 0 k j) := fun k j => rfl
  unfold ProjFinal.prj
  simp only [m0, hng, hwi, hy]
  unfold CtxRefIdeal.At.KVA
  generalize CtxRefIdeal.At.Mods1 cc aw ab = M
  rw [CtxRefIdeal.At.KV_at]
  refine Finset.sum_congr rfl fun k _ => ?_
  rw [CtxRefIdeal.At.H1_at]
  congr 2
  funext k
  exact congrArg (fun q => M (ix1 q)) (Fin.ext (by simp))

theorem prj_run [hp : Cert.Pre_finite_context.Facts] (hpre : Cert.Pre_CtxIdeal_finite_context m) (c : Dev nD) (s : Fin 2048) (j : Fin 2048) :
    ProjFinal.prj (V6 m ρ c main_v12) (V6 m ρ c main_v7) (V6 m ρ c main_v8) (V6 m ρ c main_v13) s ⟨1024 + j.val, by omega⟩
      = kvOf m c (ix3 ⟨s.val / 256, by omega⟩ ⟨s.val % 256, by omega⟩ j) := by
  rw [V6_v12, V6_v7, V6_v8, V4_v8, V6_v13, ctx_array m ρ hpre c]
  exact prj_eq _ _ _ _ _ _ _ (fun n k => Mods.V4_v7_at m ρ c 1 n k) s j

theorem final5 [hp : Cert.Pre_finite_context.Facts] (hpre : Cert.Pre_CtxIdeal_finite_context m) (c : Dev nD) :
    (dat3 (V6 m ρ) c).arrAt 5 cfg3.N = CtxRefIdeal.At.K (kvOf m c) := by
  rw [ProjFinal.array5]
  funext i
  refine (prj_run m ρ hpre c (i 2) ⟨(i 1).val * 128 + (i 3).val, by idx_bounds; omega⟩).trans ?_
  refine (CtxRefIdeal.At.K_at _ (i 1) (i 2) (i 3)).symm.trans (congrArg _ ?_)
  funext a
  match a with
  | ⟨0, _⟩ => exact Subsingleton.elim (α := Fin 1) _ _
  | ⟨1, _⟩ => rfl
  | ⟨2, _⟩ => rfl
  | ⟨3, _⟩ => rfl

theorem final6 [hp : Cert.Pre_finite_context.Facts] (hpre : Cert.Pre_CtxIdeal_finite_context m) (c : Dev nD) :
    (dat3 (V6 m ρ) c).arrAt 6 cfg3.N = CtxRefIdeal.At.V (kvOf m c) := by
  rw [ProjFinal.array6]
  funext i
  have hj : (⟨2048 + ((i 1).val * 128 + (i 3).val), by idx_bounds; omega⟩ : Fin 4096)
      = ⟨1024 + (⟨1024 + ((i 1).val * 128 + (i 3).val), by idx_bounds; omega⟩ : Fin 2048).val, by idx_bounds; dsimp only; omega⟩ := Fin.ext (by dsimp only; omega)
  refine (congrArg (ProjFinal.prj _ _ _ _ _) hj).trans ?_
  refine (prj_run m ρ hpre c _ _).trans ?_
  refine (CtxRefIdeal.At.V_at _ (i 1) (i 2) (i 3) (i 4)).symm.trans (congrArg _ ?_)
  funext a
  match a with
  | ⟨0, _⟩ => exact Subsingleton.elim (α := Fin 1) _ _
  | ⟨1, _⟩ => rfl
  | ⟨2, _⟩ => rfl
  | ⟨3, _⟩ => rfl
  | ⟨4, _⟩ => rfl

end Cert.CtxIdeal.Final

end
-- ==== Proof.TailRun.lean ====
module

public import proofs.«01_k».proof.Proof.Gen.TailIdeal.Frame
public import Idealize.ShloMosaic.Lib.Claim
public import Idealize.ShloMosaic.Lib.Pipeline.ValueKit

/-! # Layers 2 and 3: one run, and what its four calls find in their operands

`run_all` is the generated launch read for every buffer: a final state holds the last boundary's
contents, so the result array is what the last call has written back. The theorems after it read
the calls' operands: the arguments through the host's reshapes, the modulation array as the first
call has written it, the folded weights as the second has, and the stream between the layers as the third has. -/

@[expose] public section

set_option maxRecDepth 16384

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution terminates, and every buffer the launch does not scope ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The run with its result: the last call's output array after its last grid point, the arguments unchanged. -/
theorem run_main : θ_run defs (onTc (τ := τ) (main (F := F))) ⟨m, fun _ => 0, ρ⟩ (fun r => ∀ c : Dev nD,
      r.2.mem ((c.tc : Thread nD τ).loc main_v16) = (dat3 (V7 m ρ) c).arrAt 9 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v16 (by decide))).trans (W8_arr m ρ c 9),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩) (run_all m ρ)

/-! ## The operands of the modulation call -/

theorem V1_arg4 (c : Dev nD) : V1 m ρ c main_arg4 = m ((c : Thread nD τ).loc main_arg4) := W1_args m ρ c main_arg4 (by decide)

theorem V1_v5 (c : Dev nD) : V1 m ρ c main_v5 = shapeCast S4x1x3072 (m ((c : Thread nD τ).loc main_arg5)) shapeCasts_S4x3072_S4x1x3072 := by
  show StableHlo.after hostOps0 (W0 m ρ c) (Proc.devRef .tc main_v5) = _
  after_results
  rfl

theorem V1_v4 (c : Dev nD) : V1 m ρ c main_v4 =
    Host.scatter scatter_S16x1024_S1_S1024_0_0_0_0 (fun _ b => b)
      (Host.scatter scatter_S16x1024_S1_S8x1024_01_n_0_0 (fun _ b => b)
        (broadcastInDim S16x1024 ![] bcast_S_S16x1024 (constant S_ .f32 0x00000000#32))
        (broadcastInDim S1 ![] bcast_S_S1 (constantI S_ 32 0#32)) (m ((c : Thread nD τ).loc main_arg1)))
      (broadcastInDim S1 ![] bcast_S_S1 (constantI S_ 32 8#32)) (m ((c : Thread nD τ).loc main_arg2)) := by
  show StableHlo.after hostOps0 (W0 m ρ c) (Proc.devRef .tc main_v4) = _
  after_results

/-! ## The operands of the folding call -/

theorem V3_arg10 (c : Dev nD) : V3 m ρ c main_arg10 = m ((c : Thread nD τ).loc main_arg10) := W3_args m ρ c main_arg10 (by decide)
theorem V3_arg11 (c : Dev nD) : V3 m ρ c main_arg11 = m ((c : Thread nD τ).loc main_arg11) := W3_args m ρ c main_arg11 (by decide)
theorem V3_arg13 (c : Dev nD) : V3 m ρ c main_arg13 = m ((c : Thread nD τ).loc main_arg13) := W3_args m ρ c main_arg13 (by decide)

theorem V3_v7 (c : Dev nD) : V3 m ρ c main_v7 = shapeCast S4x16x3x1024 ((dat0 (V1 m ρ) c).arrAt 3 cfg0.N) shapeCasts_S4x16x3072_S4x16x3x1024 := by
  rw [← W2_arr m ρ c 3]
  show StableHlo.after hostOps1 (W2 m ρ c) (Proc.devRef .tc main_v7) = _
  after_results
  rfl

theorem V3_v8 (c : Dev nD) : V3 m ρ c main_v8 = shapeCast S4x1x1024 (m ((c : Thread nD τ).loc main_arg3)) shapeCasts_S4x1024_S4x1x1024 := by
  rw [← W2_args m ρ c main_arg3 (by decide)]
  show StableHlo.after hostOps1 (W2 m ρ c) (Proc.devRef .tc main_v8) = _
  after_results
  rfl

theorem V3_v9 (c : Dev nD) : V3 m ρ c main_v9 = shapeCast S2x1x1024 (m ((c : Thread nD τ).loc main_arg12)) shapeCasts_S2x1024_S2x1x1024 := by
  rw [← W2_args m ρ c main_arg12 (by decide)]
  show StableHlo.after hostOps1 (W2 m ρ c) (Proc.devRef .tc main_v9) = _
  after_results
  rfl

/-! ## The operands of layer 2's call -/

theorem V5_arg0 (c : Dev nD) : V5 m ρ c main_arg0 = m ((c : Thread nD τ).loc main_arg0) := W5_args m ρ c main_arg0 (by decide)
theorem V5_arg7 (c : Dev nD) : V5 m ρ c main_arg7 = m ((c : Thread nD τ).loc main_arg7) := W5_args m ρ c main_arg7 (by decide)

theorem V5_v7 (c : Dev nD) : V5 m ρ c main_v7 = shapeCast S4x16x3x1024 ((dat0 (V1 m ρ) c).arrAt 3 cfg0.N) shapeCasts_S4x16x3072_S4x16x3x1024 := by
  rw [← V3_v7 m ρ c]
  refine (W5_of m ρ c main_v7 (by decide)).trans ?_
  exact W4_of m ρ c main_v7 (by decide)

theorem V5_v8 (c : Dev nD) : V5 m ρ c main_v8 = shapeCast S4x1x1024 (m ((c : Thread nD τ).loc main_arg3)) shapeCasts_S4x1024_S4x1x1024 := by
  rw [← V3_v8 m ρ c]
  refine (W5_of m ρ c main_v8 (by decide)).trans ?_
  exact W4_of m ρ c main_v8 (by decide)

theorem V5_v11 (c : Dev nD) : V5 m ρ c main_v11 = truncf .bf16 (m ((c : Thread nD τ).loc main_arg6)) bitsLt_bf16_f32 := by
  rw [← W4_args m ρ c main_arg6 (by decide)]
  show StableHlo.after hostOps2 (W4 m ρ c) (Proc.devRef .tc main_v11) = _
  after_results

theorem V5_v12 (c : Dev nD) : V5 m ρ c main_v12 = shapeCast S1x1x1024 (m ((c : Thread nD τ).loc main_arg8)) shapeCasts_S1x1024_S1x1x1024 := by
  rw [← W4_args m ρ c main_arg8 (by decide)]
  show StableHlo.after hostOps2 (W4 m ρ c) (Proc.devRef .tc main_v12) = _
  after_results
  rfl

theorem V5_v13 (c : Dev nD) : V5 m ρ c main_v13 = truncf .bf16 (m ((c : Thread nD τ).loc main_arg9)) bitsLt_bf16_f32 := by
  rw [← W4_args m ρ c main_arg9 (by decide)]
  show StableHlo.after hostOps2 (W4 m ρ c) (Proc.devRef .tc main_v13) = _
  after_results

theorem V5_v10_0 (c : Dev nD) : V5 m ρ c main_v10_0 = (dat1 (V3 m ρ) c).arrAt 4 cfg1.N :=
  (W5_of m ρ c main_v10_0 (by decide)).trans (W4_arr m ρ c 4)

theorem V5_v10_1 (c : Dev nD) : V5 m ρ c main_v10_1 = (dat1 (V3 m ρ) c).arrAt 5 cfg1.N :=
  (W5_of m ρ c main_v10_1 (by decide)).trans (W4_arr m ρ c 5)

theorem V5_v10_2 (c : Dev nD) : V5 m ρ c main_v10_2 = (dat1 (V3 m ρ) c).arrAt 6 cfg1.N :=
  (W5_of m ρ c main_v10_2 (by decide)).trans (W4_arr m ρ c 6)

/-! ## The operands of layer 3's call -/

theorem V7_v14 (c : Dev nD) : V7 m ρ c main_v14 = (dat2 (V5 m ρ) c).arrAt 9 cfg2.N :=
  (W7_of m ρ c main_v14 (by decide)).trans (W6_arr m ρ c 9)

theorem V7_v7 (c : Dev nD) : V7 m ρ c main_v7 = shapeCast S4x16x3x1024 ((dat0 (V1 m ρ) c).arrAt 3 cfg0.N) shapeCasts_S4x16x3072_S4x16x3x1024 := by
  rw [← V5_v7 m ρ c]
  refine (W7_of m ρ c main_v7 (by decide)).trans ?_
  exact W6_of m ρ c main_v7 (by decide)

theorem V7_v8 (c : Dev nD) : V7 m ρ c main_v8 = shapeCast S4x1x1024 (m ((c : Thread nD τ).loc main_arg3)) shapeCasts_S4x1024_S4x1x1024 := by
  rw [← V5_v8 m ρ c]
  refine (W7_of m ρ c main_v8 (by decide)).trans ?_
  exact W6_of m ρ c main_v8 (by decide)

theorem V7_v10_0 (c : Dev nD) : V7 m ρ c main_v10_0 = (dat1 (V3 m ρ) c).arrAt 4 cfg1.N := by
  rw [← V5_v10_0 m ρ c]
  refine (W7_of m ρ c main_v10_0 (by decide)).trans ?_
  exact W6_of m ρ c main_v10_0 (by decide)

theorem V7_v10_1 (c : Dev nD) : V7 m ρ c main_v10_1 = (dat1 (V3 m ρ) c).arrAt 5 cfg1.N := by
  rw [← V5_v10_1 m ρ c]
  refine (W7_of m ρ c main_v10_1 (by decide)).trans ?_
  exact W6_of m ρ c main_v10_1 (by decide)

theorem V7_v10_2 (c : Dev nD) : V7 m ρ c main_v10_2 = (dat1 (V3 m ρ) c).arrAt 6 cfg1.N := by
  rw [← V5_v10_2 m ρ c]
  refine (W7_of m ρ c main_v10_2 (by decide)).trans ?_
  exact W6_of m ρ c main_v10_2 (by decide)

theorem V7_v15 (c : Dev nD) : V7 m ρ c main_v15 = shapeCast S1x1024 (m ((c : Thread nD τ).loc main_arg14)) shapeCasts_S1024_S1x1024 := by
  rw [← W6_args m ρ c main_arg14 (by decide)]
  show StableHlo.after hostOps3 (W6 m ρ c) (Proc.devRef .tc main_v15) = _
  after_results
  rfl

end Cert.TailIdeal.Run

end
-- ==== Proof.TailMods.lean ====
module

public import proofs.«01_k».proof.Proof.TailRun
public import proofs.«01_k».proof.Proof.ConvSpec
public import proofs.«01_k».proof.Proof.Cond

/-! # The modulation array of layers 2 and 3

The first call writes, for each of the four layers and each of the first eight condition rows, the
modulation row of `modv`. -/

@[expose] public section

set_option maxRecDepth 16384

noncomputable section

namespace Cert.TailIdeal.Mods

open Cert.TailIdeal Cert.TailIdeal.Gen Cert.TailIdeal.Run
open Idealize.ShloMosaic Idealize.ShloMosaic.TcCoe Idealize.SL.Sem Idealize.ShloMosaic.Pipeline
open Cert.Layer

variable (m : (ℓ : Loc nD τ sig) → Buf (Elt Ideal) ℓ) (ρ : Dev nD → PrngReg)

theorem pay_at (v0 : Vec Ideal S16x1024 .f32) (v9 : Vec Ideal S1x1024x3072 .f32) (v13 : Vec Ideal S1x1x3072 .f32) (b : Fin 16) (o : Fin 3072) :
    k0_pay1 v0 v9 v13 (ix3 0 b o) = modv (fun k => v0 (ix2 b k)) (fun k j => v9 (ix3 0 k j)) (fun j => v13 (ix3 0 0 j)) o := by
  pointwise [k0_pay1, modv]
  simp only [div_eq_silu]

theorem idx : ∀ t : Fin cfg0.N, win0_0.index t = ![0, 0] ∧ win0_1.index t = ![t.val, 0, 0] ∧ win0_2.index t = ![t.val, 0, 0]
    ∧ win0_3.index t = ![t.val, 0, 0] := by decide +kernel

/-- The modulation array as the first call leaves it, from its operands. -/
def G (cond : FVec Ideal S16x1024 .f32) (aw : FVec Ideal S4x1024x3072 .f32) (ab : FVec Ideal S4x1x3072 .f32) : FVec Ideal S4x16x3072 .f32 := fun i =>
  modv (fun k => cond (ix2 (i 1) k)) (fun k j => aw (ix3 (i 0) k j)) (fun j => ab (ix3 (i 0) 0 j)) (i 2)

theorem array (c : Dev nD) : (dat0 (V1 m ρ) c).arrAt 3 cfg0.N = G (V1 m ρ c main_v4) (V1 m ρ c main_arg4) (V1 m ρ c main_v5) := by
  refine (dat0 (V1 m ρ) c).arrAt_eq_of_covers 3 _ (by decide +kernel) fun t _ y => ?_
  blk_simp
  rw [after0_3]
  unfold out0_3
  frame_out
  obtain ⟨b, o, rfl⟩ : ∃ (b : Fin 16) (o : Fin 3072), y = ix3 0 b o := ⟨y 1, y 2, by
    funext a
    match a with
    | ⟨0, _⟩ => exact Subsingleton.elim (α := Fin 1) _ _
    | ⟨1, _⟩ => rfl
    | ⟨2, _⟩ => rfl⟩
  have hy : (win0_3.blk t).view.emb (ix3 0 b o) = ix3 (⟨t.val, by idx_bounds; omega⟩ : Fin 4) b o := by blk_ext [idx t]
  have h0 : ∀ k, iblk0 (V1 m ρ) c 0 t (ix2 b k) = V1 m ρ c main_v4 (ix2 b k) := fun k => by blk_ext [iblk0, idx t]
  have h1 : ∀ k j, iblk0 (V1 m ρ) c 1 t (ix3 0 k j) = V1 m ρ c main_arg4 (ix3 (⟨t.val, by idx_bounds; omega⟩ : Fin 4) k j) := fun k j => by
    blk_ext [iblk0, idx t]
  have h2 : ∀ j, iblk0 (V1 m ρ) c 2 t (ix3 0 0 j) = V1 m ρ c main_v5 (ix3 (⟨t.val, by idx_bounds; omega⟩ : Fin 4) 0 j) := fun j => by
    blk_ext [iblk0, idx t]
  rw [pay_at, hy]
  simp only [h0, h1, h2]
  rfl

theorem cond_eq (c : Dev nD) (b : Fin 8) (k : Fin 1024) :
    V1 m ρ c main_v4 (ix2 (⟨b.val, by omega⟩ : Fin 16) k) = m ((c : Thread nD τ).loc main_arg1) (ix2 b k) := by
  rw [V1_v4]
  generalize m ((c : Thread nD τ).loc main_arg1) = u1
  generalize m ((c : Thread nD τ).loc main_arg2) = u2
  exact Cond.cond_at scatter_S16x1024_S1_S8x1024_01_n_0_0 scatter_S16x1024_S1_S1024_0_0_0_0 rfl rfl rfl rfl rfl rfl _ _ _ (by pointwise; rfl) (by pointwise; rfl) u1 u2 b k

/-- The modulation array, reshaped, read at an entry of one of the eight rows. -/
theorem reshape_at (cond : FVec Ideal S16x1024 .f32) (cc : FVec Ideal S8x1024 .f32) (aw : FVec Ideal S4x1024x3072 .f32) (ab : FVec Ideal S4x3072 .f32)
    (hc : ∀ (b : Fin 8) k, cond (ix2 (⟨b.val, by omega⟩ : Fin 16) k) = cc (ix2 b k)) (l : Fin 4) (b : Fin 8) (n : Fin 3) (k : Fin 1024) :
    shapeCast S4x16x3x1024 (G cond aw (shapeCast S4x1x3072 ab shapeCasts_S4x3072_S4x1x3072)) shapeCasts_S4x16x3072_S4x16x3x1024
        (ix4 l (⟨b.val, by omega⟩ : Fin 16) n k)
      = modv (fun k => cc (ix2 b k)) (fun k j => aw (ix3 l k j)) (fun j => ab (ix2 l j)) ⟨n.val * 1024 + k.val, by omega⟩ := by
  unfold G
  pointwise
  simp only [hc]

/-- A modulation entry of one of the eight rows, as layer 2's call finds it. -/
theorem V5_v7_at (c : Dev nD) (l : Fin 4) (b : Fin 8) (n : Fin 3) (k : Fin 1024) :
    V5 m ρ c main_v7 (ix4 l (⟨b.val, by omega⟩ : Fin 16) n k)
      = modv (fun k => m ((c : Thread nD τ).loc main_arg1) (ix2 b k)) (fun k j => m ((c : Thread nD τ).loc main_arg4) (ix3 l k j))
          (fun j => m ((c : Thread nD τ).loc main_arg5) (ix2 l j)) ⟨n.val * 1024 + k.val, by omega⟩ := by
  rw [V5_v7, array, V1_v5, V1_arg4]
  exact reshape_at _ _ _ _ (cond_eq m ρ c) l b n k

/-- A modulation entry of one of the eight rows, as layer 3's call finds it. -/
theorem V7_v7_at (c : Dev nD) (l : Fin 4) (b : Fin 8) (n : Fin 3) (k : Fin 1024) :
    V7 m ρ c main_v7 (ix4 l (⟨b.val, by omega⟩ : Fin 16) n k)
      = modv (fun k => m ((c : Thread nD τ).loc main_arg1) (ix2 b k)) (fun k j => m ((c : Thread nD τ).loc main_arg4) (ix3 l k j))
          (fun j => m ((c : Thread nD τ).loc main_arg5) (ix2 l j)) ⟨n.val * 1024 + k.val, by omega⟩ := by
  rw [V7_v7, array, V1_v5, V1_arg4]
  exact reshape_at _ _ _ _ (cond_eq m ρ c) l b n k

end Cert.TailIdeal.Mods

end
-- ==== Proof.TailFold.lean ====
module

public import proofs.«01_k».proof.Proof.TailRun
public import proofs.«01_k».proof.Proof.PoolFold

/-! # Layers 2 and 3: the folded weights

The second call's blocks are those of the pooling program; here they are put together into the arrays. -/

@[expose] public section

set_option maxRecDepth 16384

noncomputable section

namespace Cert.TailIdeal.Fold

open Cert.TailIdeal Cert.TailIdeal.Gen Cert.TailIdeal.Run
open Idealize.ShloMosaic Idealize.ShloMosaic.TcCoe Idealize.SL.Sem Idealize.ShloMosaic.Pipeline
open Cert.Layer

theorem out4_same : @out1_4 Ideal _ = @PoolIdeal.Gen.out1_4 Ideal _ := rfl
theorem out5_same : @out1_5 Ideal _ = @PoolIdeal.Gen.out1_5 Ideal _ := rfl
theorem out6_same : @out1_6 Ideal _ = @PoolIdeal.Gen.out1_6 Ideal _ := rfl

theorem idx : ∀ t : Fin cfg1.N, win1_0.index t = ![t.val, 0, 0] ∧ win1_1.index t = ![t.val, 0, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0] := by decide +kernel

variable (m : (ℓ : Loc nD τ sig) → Buf (Elt Ideal) ℓ) (ρ : Dev nD → PrngReg)

set_option maxHeartbeats 4000000 in
theorem array4 (c : Dev nD) : (dat1 (V3 m ρ) c).arrAt 4 cfg1.N = fun i : S2x1024x1024.Idx =>
    Pool.fold (fun k j => V3 m ρ c main_arg10 (ix3 (i 0) k j)) (fun g a b => V3 m ρ c main_arg11 (ix4 (i 0) g a b)) (fun q => V3 m ρ c main_v9 (ix3 (i 0) 0 q)) (i 1) (i 2) := by
  refine (dat1 (V3 m ρ) c).arrAt_eq_of_covers 4 _ (by decide +kernel) fun t _ y => ?_
  blk_simp
  rw [after1_4]
  obtain ⟨r, d, rfl⟩ := PoolIdeal.Fold.ix_row y
  have ht : t.val < 2 := t.isLt
  generalize hb : (⟨t.val, ht⟩ : Fin 2) = b
  have hbv : b.val = t.val := by rw [← hb]
  have hy : (win1_4.blk t).view.emb (ix3 0 r d) = ix3 b r d := by blk_ext [idx t]
  have h0 : ∀ k j, iblk1 (V3 m ρ) c 0 t (ix3 0 k j) = V3 m ρ c main_arg10 (ix3 b k j) := fun k j => by blk_ext [iblk1, idx t]
  have h1 : ∀ g i j, iblk1 (V3 m ρ) c 1 t (ix4 0 g i j) = V3 m ρ c main_arg11 (ix4 b g i j) := fun g i j => by blk_ext [iblk1, idx t]
  have h2 : ∀ k, iblk1 (V3 m ρ) c 2 t (ix3 0 0 k) = V3 m ρ c main_v9 (ix3 b 0 k) := fun k => by blk_ext [iblk1, idx t]
  rw [hy]
  refine ((congrFun (congrFun (congrFun (congrFun (congrFun out4_same _) _) _) _) _).trans (PoolIdeal.Fold.out4_at _ _ _ _ r d)).trans ?_
  simp only [h0, h1, h2]
  rfl

set_option maxHeartbeats 4000000 in
theorem array5 (c : Dev nD) : (dat1 (V3 m ρ) c).arrAt 5 cfg1.N = fun i : S2x1024x1024.Idx =>
    PoolIdeal.Fold.right (V3 m ρ c main_arg10) (i 0) (i 1) (i 2) := by
  refine (dat1 (V3 m ρ) c).arrAt_eq_of_covers 5 _ (by decide +kernel) fun t _ y => ?_
  blk_simp
  rw [after1_5]
  obtain ⟨r, d, rfl⟩ := PoolIdeal.Fold.ix_row y
  have ht : t.val < 2 := t.isLt
  generalize hb : (⟨t.val, ht⟩ : Fin 2) = b
  have hbv : b.val = t.val := by rw [← hb]
  have hy : (win1_5.blk t).view.emb (ix3 0 r d) = ix3 b r d := by blk_ext [idx t]
  have h0 : ∀ k j, iblk1 (V3 m ρ) c 0 t (ix3 0 k j) = V3 m ρ c main_arg10 (ix3 b k j) := fun k j => by blk_ext [iblk1, idx t]
  rw [hy]
  refine ((congrFun (congrFun (congrFun (congrFun (congrFun out5_same _) _) _) _) _).trans (PoolIdeal.Fold.out5_at _ _ _ _ r d)).trans ?_
  rw [h0]
  rfl

set_option maxHeartbeats 4000000 in
theorem array6 (c : Dev nD) : (dat1 (V3 m ρ) c).arrAt 6 cfg1.N = fun i : S2x1024x1024.Idx => V3 m ρ c main_arg13 (ix3 (i 0) (i 1) (i 2)) := by
  refine (dat1 (V3 m ρ) c).arrAt_eq_of_covers 6 _ (by decide +kernel) fun t _ y => ?_
  blk_simp
  rw [after1_6]
  obtain ⟨r, d, rfl⟩ := PoolIdeal.Fold.ix_row y
  have ht : t.val < 2 := t.isLt
  generalize hb : (⟨t.val, ht⟩ : Fin 2) = b
  have hbv : b.val = t.val := by rw [← hb]
  have hy : (win1_6.blk t).view.emb (ix3 0 r d) = ix3 b r d := by blk_ext [idx t]
  have h0 : ∀ k j, iblk1 (V3 m ρ) c 3 t (ix3 0 k j) = V3 m ρ c main_arg13 (ix3 b k j) := fun k j => by blk_ext [iblk1, idx t]
  rw [hy]
  refine ((congrFun (congrFun (congrFun (congrFun (congrFun out6_same _) _) _) _) _).trans (PoolIdeal.Fold.out6_at _ _ _ _ r d)).trans ?_
  rw [h0]
  rfl

end Cert.TailIdeal.Fold

end
-- ==== Proof.TailConv.lean ====
module

public import proofs.«01_k».proof.Proof.TailRun
public import proofs.«01_k».proof.Proof.ConvFinal

/-! # Layers 2 and 3: the array between the layers -/

@[expose] public section

set_option maxRecDepth 16384

noncomputable section

namespace Cert.TailIdeal.Conv2

open Cert.TailIdeal Cert.TailIdeal.Gen Cert.TailIdeal.Run
open Idealize.ShloMosaic Idealize.ShloMosaic.TcCoe Idealize.SL.Sem Idealize.ShloMosaic.Pipeline
open Cert.Layer

theorem idx_a : ∀ t : Fin cfg2.N, win2_0.index t = ![t.val / 2, t.val % 2, 0]
    ∧ win2_1.index t = ![t.val / 2, (t.val % 2) * 127, 0]
    ∧ win2_2.index t = ![t.val / 2, 128 + (t.val % 2) * 127, 0]
    ∧ win2_3.index t = ![2, t.val / 2, 0, 0]
    ∧ win2_4.index t = ![2, 0, 0] := by decide +kernel
theorem idx_b : ∀ t : Fin cfg2.N, win2_5.index t = ![0, 0, 0] ∧ win2_6.index t = ![0, 0, 0]
    ∧ win2_7.index t = ![0, 0, 0] ∧ win2_8.index t = ![0, 0, 0] ∧ win2_9.index t = ![t.val / 2, t.val % 2, 0] := by decide +kernel
theorem coord : ∀ t : Fin cfg2.N, ((grid2.coords t) 1).val = t.val % 2 := by decide +kernel

/-- A block of layer 2's call is a block of the convolution program's second call. -/
theorem out_same : @out2_9 Ideal _ = @ConvIdeal.Gen.out1_9 Ideal _ := rfl

variable (m : (ℓ : Loc nD τ sig) → Buf (Elt Ideal) ℓ) (ρ : Dev nD → PrngReg)

set_option maxHeartbeats 4000000 in
theorem array (c : Dev nD) : (dat2 (V5 m ρ) c).arrAt 9 cfg2.N = fun i : S8x2048x1024.Idx =>
    ConvIdeal.Final.Out (V5 m ρ c main_arg0) (V5 m ρ c main_v7) (V5 m ρ c main_v8) (V5 m ρ c main_v11) (V5 m ρ c main_arg7) (V5 m ρ c main_v12) (V5 m ρ c main_v13) (i 0) (i 1) (i 2) := by
  refine (dat2 (V5 m ρ) c).arrAt_eq_of_covers 9 _ (by decide +kernel) fun t _ y => ?_
  blk_simp
  rw [after2_9]
  obtain ⟨r, d, rfl⟩ : ∃ (r : Fin 1024) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 16 := t.isLt
  generalize hb : (⟨t.val / 2, by omega⟩ : Fin 8) = b
  have hbv : b.val = t.val / 2 := by rw [← hb]
  have hy : (win2_9.blk t).view.emb (ix3 0 r d) = ix3 b (⟨t.val % 2 * 1024 + r.val, by omega⟩ : Fin 2048) d := by blk_ext [idx_b t]
  have h0 : ∀ r k, iblk2 (V5 m ρ) c 0 t (ix3 0 r k) = V5 m ρ c main_arg0 (ix3 b (⟨t.val % 2 * 1024 + r.val, by omega⟩ : Fin 2048) k) := fun r k => by
    blk_ext [iblk2, idx_a t]
  have h1 : t.val % 2 = 1 → ∀ k, iblk2 (V5 m ρ) c 1 t (ix3 0 7 k) = V5 m ρ c main_arg0 (ix3 b (⟨1023, by omega⟩ : Fin 2048) k) := fun e k => by
    blk_ext [iblk2, idx_a t]
  have h2 : t.val % 2 = 0 → ∀ k, iblk2 (V5 m ρ) c 2 t (ix3 0 0 k) = V5 m ρ c main_arg0 (ix3 b (⟨1024, by omega⟩ : Fin 2048) k) := fun e k => by
    blk_ext [iblk2, idx_a t]
  have h3 : ∀ n k, iblk2 (V5 m ρ) c 3 t (ix4 0 0 n k) = V5 m ρ c main_v7 (ix4 2 (⟨b.val, by omega⟩ : Fin 16) n k) := fun n k => by
    blk_ext [iblk2, idx_a t]
  have h4 : ∀ k, iblk2 (V5 m ρ) c 4 t (ix3 0 0 k) = V5 m ρ c main_v8 (ix3 2 0 k) := fun k => by
    blk_ext [iblk2, idx_a t]
  have h5 : ∀ k j, iblk2 (V5 m ρ) c 5 t (ix3 0 k j) = V5 m ρ c main_v11 (ix3 0 k j) := fun k j => by
    blk_ext [iblk2, idx_b t]
  have h6 : ∀ n k, iblk2 (V5 m ρ) c 6 t (ix3 0 n k) = V5 m ρ c main_arg7 (ix3 0 n k) := fun n k => by
    blk_ext [iblk2, idx_b t]
  have h7 : ∀ k, iblk2 (V5 m ρ) c 7 t (ix3 0 0 k) = V5 m ρ c main_v12 (ix3 0 0 k) := fun k => by
    blk_ext [iblk2, idx_b t]
  have h8 : ∀ k j, iblk2 (V5 m ρ) c 8 t (ix3 0 k j) = V5 m ρ c main_v13 (ix3 0 k j) := fun k j => by
    blk_ext [iblk2, idx_b t]
  rw [hy]
  rw [out_same]
  exact ConvIdeal.Final.point (grid2.coords t) _ _ _ _ _ _ _ _ _ _ _ _ _ _ _ _ b (t.val % 2) (by omega) (coord t) h0 h1 h2 h3 h4 h5 h6 h7 h8 r d

end Cert.TailIdeal.Conv2

end
-- ==== Proof.TailPool.lean ====
module

public import proofs.«01_k».proof.Proof.TailRun
public import proofs.«01_k».proof.Proof.PoolFinal

/-! # Layers 2 and 3: the result array -/

@[expose] public section

set_option maxRecDepth 16384

noncomputable section

namespace Cert.TailIdeal.Pool3

open Cert.TailIdeal Cert.TailIdeal.Gen Cert.TailIdeal.Run
open Idealize.ShloMosaic Idealize.ShloMosaic.TcCoe Idealize.SL.Sem Idealize.ShloMosaic.Pipeline
open Cert.Layer

theorem idx_a : ∀ t : Fin cfg3.N, win3_0.index t = ![t.val / 2, t.val % 2, 0]
    ∧ win3_1.index t = ![t.val / 2, (t.val % 2) * 127, 0]
    ∧ win3_2.index t = ![t.val / 2, 128 + (t.val % 2) * 127, 0]
    ∧ win3_3.index t = ![3, t.val / 2, 0, 0]
    ∧ win3_4.index t = ![3, 0, 0] := by decide +kernel
theorem idx_b : ∀ t : Fin cfg3.N, win3_5.index t = ![1, 0, 0] ∧ win3_6.index t = ![1, 0, 0]
    ∧ win3_7.index t = ![1, 0, 0] ∧ win3_8.index t = ![0, 0] ∧ win3_9.index t = ![t.val / 2, t.val % 2, 0] := by decide +kernel
theorem coord : ∀ t : Fin cfg3.N, ((grid3.coords t) 1).val = t.val % 2 := by decide +kernel

/-- A block of layer 3's call is a block of the pooling program's third call. -/
theorem out_same : @out3_9 Ideal _ = @PoolIdeal.Gen.out2_9 Ideal _ := rfl

variable (m : (ℓ : Loc nD τ sig) → Buf (Elt Ideal) ℓ) (ρ : Dev nD → PrngReg)

set_option maxHeartbeats 4000000 in
theorem array (c : Dev nD) : (dat3 (V7 m ρ) c).arrAt 9 cfg3.N = fun i : S8x2048x1024.Idx =>
    PoolIdeal.Final.Out (V7 m ρ c main_v14) (V7 m ρ c main_v7) (V7 m ρ c main_v8) (V7 m ρ c main_v10_0) (V7 m ρ c main_v10_1) (V7 m ρ c main_v10_2) (V7 m ρ c main_v15) (i 0) (i 1) (i 2) := by
  refine (dat3 (V7 m ρ) c).arrAt_eq_of_covers 9 _ (by decide +kernel) fun t _ y => ?_
  blk_simp
  rw [after3_9]
  obtain ⟨r, d, rfl⟩ : ∃ (r : Fin 1024) (d : Fin 1024), y = ix3 0 r d := ⟨y 1, y 2, by
    funext a
    match a with
    | ⟨0, _⟩ => exact Subsingleton.elim (α := Fin 1) _ _
    | ⟨1, _⟩ => rfl
    | ⟨2, _⟩ => rfl⟩
  have ht : t.val < 16 := t.isLt
  generalize hb : (⟨t.val / 2, by omega⟩ : Fin 8) = b
  have hbv : b.val = t.val / 2 := by rw [← hb]
  have hy : (win3_9.blk t).view.emb (ix3 0 r d) = ix3 b (⟨t.val % 2 * 1024 + r.val, by omega⟩ : Fin 2048) d := by blk_ext [idx_b t]
  have h0 : ∀ r k, iblk3 (V7 m ρ) c 0 t (ix3 0 r k) = V7 m ρ c main_v14 (ix3 b (⟨t.val % 2 * 1024 + r.val, by omega⟩ : Fin 2048) k) := fun r k => by
    blk_ext [iblk3, idx_a t]
  have h1 : t.val % 2 = 1 → ∀ (q : Fin 8) k, iblk3 (V7 m ρ) c 1 t (ix3 0 q k) = V7 m ρ c main_v14 (ix3 b (⟨1016 + q.val, by omega⟩ : Fin 2048) k) := fun e q k => by
    blk_ext [iblk3, idx_a t]
  have h2 : t.val % 2 = 0 → ∀ (q : Fin 8) k, iblk3 (V7 m ρ) c 2 t (ix3 0 q k) = V7 m ρ c main_v14 (ix3 b (⟨1024 + q.val, by omega⟩ : Fin 2048) k) := fun e q k => by
    blk_ext [iblk3, idx_a t]
  have h3 : ∀ n k, iblk3 (V7 m ρ) c 3 t (ix4 0 0 n k) = V7 m ρ c main_v7 (ix4 3 (⟨b.val, by omega⟩ : Fin 16) n k) := fun n k => by
    blk_ext [iblk3, idx_a t]
  have h4 : ∀ k, iblk3 (V7 m ρ) c 4 t (ix3 0 0 k) = V7 m ρ c main_v8 (ix3 3 0 k) := fun k => by
    blk_ext [iblk3, idx_a t]
  have h5 : ∀ k j, iblk3 (V7 m ρ) c 5 t (ix3 0 k j) = V7 m ρ c main_v10_0 (ix3 1 k j) := fun k j => by
    blk_ext [iblk3, idx_b t]
  have h6 : ∀ k j, iblk3 (V7 m ρ) c 6 t (ix3 0 k j) = V7 m ρ c main_v10_1 (ix3 1 k j) := fun k j => by
    blk_ext [iblk3, idx_b t]
  have h7 : ∀ k j, iblk3 (V7 m ρ) c 7 t (ix3 0 k j) = V7 m ρ c main_v10_2 (ix3 1 k j) := fun k j => by
    blk_ext [iblk3, idx_b t]
  have h8 : ∀ k, iblk3 (V7 m ρ) c 8 t (ix2 0 k) = V7 m ρ c main_v15 (ix2 0 k) := fun k => by
    blk_ext [iblk3, idx_b t]
  rw [hy]
  rw [out_same]
  exact PoolIdeal.Final.point (grid3.coords t) _ _ _ _ _ _ _ _ _ _ _ _ _ _ _ _ b ⟨t.val % 2, by omega⟩ (coord t) h0 h1 h2 h3 h4 h5 h6 h7 h8 r d

end Cert.TailIdeal.Pool3

end
-- ==== Proof.TailRefRun.lean ====
module

public import proofs.«01_k».proof.Proof.Gen.TailRefIdeal.Run
public import proofs.«01_k».proof.Proof.PoolRefRun
public import proofs.«01_k».proof.Proof.ConvEq

/-! # The reference of layers 2 and 3 is the pooling reference after the convolution reference -/

@[expose] public section

set_option maxRecDepth 16384

noncomputable section

namespace Cert.TailRefIdeal.At

open Cert.TailRefIdeal Cert.TailRefIdeal.Gen Cert.TailRefIdeal.Value
open Idealize.ShloMosaic Idealize.ShloMosaic.TcCoe Idealize.SL.Sem
open Cert.Layer StableHlo

set_option maxHeartbeats 4000000 in
/-- The stream between the layers. -/
theorem stream_eq (m : (ℓ : Loc nD τ sig) → Buf (Elt Ideal) ℓ) (c : Dev nD) :
    res_main_v76 (launchContents m c) = ConvIdeal.Final.Ref (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

set_option maxHeartbeats 4000000 in
theorem pool_eq (m : (ℓ : Loc nD τ sig) → Buf (Elt Ideal) ℓ) (c : Dev nD) :
    mulf (mulf (res_main_v270 (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v270 (launchContents m c)) (res_main_v270 (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m c) (Proc.devRef .tc main_arg14)))) =
    PoolRefIdeal.At.Res (res_main_v76 (launchContents m c)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

theorem result_eq (m : (ℓ : Loc nD τ sig) → Buf (Elt Ideal) ℓ) (c : Dev nD) :
    mulf (mulf (res_main_v270 (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v270 (launchContents m c)) (res_main_v270 (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m c) (Proc.devRef .tc main_arg14)))) =
    PoolRefIdeal.At.Res (ConvIdeal.Final.Ref (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (pool_eq m c).trans (congrArg (fun x => PoolRefIdeal.At.Res x (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (stream_eq m c))

end Cert.TailRefIdeal.At

end
-- ==== Proof.TailEq.lean ====
module

public import proofs.«01_k».proof.Proof.TailMods
public import proofs.«01_k».proof.Proof.TailFold
public import proofs.«01_k».proof.Proof.TailConv
public import proofs.«01_k».proof.Proof.TailPool
public import proofs.«01_k».proof.Proof.TailRefRun
public import proofs.«01_k».proof.Proof.ConvEq
public import proofs.«01_k».proof.Proof.PoolEq

/-! # Layers 2 and 3: the kernel's result array is the reference's, on finite arguments

The pooling layer's equation asks that the stream it reads be real numbers. That stream is the convolution
layer's result, which is real where that layer's arguments are. -/

@[expose] public section

set_option maxRecDepth 16384

noncomputable section

namespace Cert.TailIdeal.Final

open Cert.TailIdeal Cert.TailIdeal.Gen Cert.TailIdeal.Run
open Idealize.ShloMosaic Idealize.ShloMosaic.TcCoe Idealize.SL.Sem Idealize.ShloMosaic.Pipeline
open Cert.Layer Cert.Layer.Pool

theorem isReal_zero : IsReal 0 := ⟨0, rfl⟩

theorem isReal_gate {h : Fin 1024 → EReal} {w : Fin 1024 → Fin 4096 → EReal} (hh : ∀ k, IsReal (h k)) (hw : ∀ k j, IsReal (w k j)) (c : Fin 1024) : IsReal (Conv.gate h w c) :=
  (IsReal.sum fun k => (hh k).mul (hw k _)).mul (IsReal.sum fun k => (hh k).mul (hw k _))

theorem isReal_cv {h : Fin 2048 → Fin 1024 → EReal} {w : Fin 1024 → Fin 4096 → EReal} {dw : Fin 3 → Fin 1024 → EReal} {db : Fin 1024 → EReal}
    (hh : ∀ s k, IsReal (h s k)) (hw : ∀ k j, IsReal (w k j)) (hd : ∀ n c, IsReal (dw n c)) (hb : ∀ c, IsReal (db c)) (s : Fin 2048) (c : Fin 1024) :
    IsReal (Conv.cv h w dw db s c) := by
  have hg : ∀ s, IsReal (Conv.gate (h s) w c) := fun s => isReal_gate (hh s) hw c
  unfold Conv.cv Conv.taps
  refine ((((hd 0 c).mul ?_).add ((hd 1 c).mul (hg s))).add ((hd 2 c).mul ?_)).add (hb c)
  · split
    · exact hg _
    · exact isReal_zero
  · split
    · exact hg _
    · exact isReal_zero

/-- The convolution layer's result is real where its arguments are. -/
theorem isReal_out (x : FVec Ideal S8x2048x1024 .f32) (mo : FVec Ideal S4x16x3x1024 .f32) (ng : FVec Ideal S4x1x1024 .f32) (wi : FVec Ideal S1x1024x4096 .bf16)
    (dw : FVec Ideal S1x3x1024 .f32) (db : FVec Ideal S1x1x1024 .f32) (wo : FVec Ideal S1x1024x1024 .bf16) (b : Fin 8)
    (rx : ∀ i, IsReal (x i)) (rmo : ∀ (n : Fin 3) (k : Fin 1024), IsReal (mo (ix4 2 (⟨b.val, by omega⟩ : Fin 16) n k))) (rng : ∀ k : Fin 1024, IsReal (ng (ix3 2 0 k)))
    (rwi : ∀ i, IsReal (wi i)) (rdw : ∀ i, IsReal (dw i)) (rdb : ∀ k : Fin 1024, IsReal (db (ix3 0 0 k))) (rwo : ∀ i, IsReal (wo i)) (s : Fin 2048) (d : Fin 1024) :
    IsReal (ConvIdeal.Final.Out x mo ng wi dw db wo b s d) := by
  have rH : ∀ (s : Fin 2048) (k : Fin 1024), IsReal (nrm (fun k => x (ix3 b s k)) (fun k => ng (ix3 2 0 k))
      (fun k => mo (ix4 2 (⟨b.val, by omega⟩ : Fin 16) 0 k)) (fun k => mo (ix4 2 (⟨b.val, by omega⟩ : Fin 16) 1 k)) k) := fun s k =>
    IsReal.nrm (fun k => rx _) rng (fun k => rmo 0 k) (fun k => rmo 1 k) k
  unfold ConvIdeal.Final.Out
  refine (rx _).add ((rmo 2 d).mul (IsReal.sum fun c => IsReal.mul ?_ (rwo _)))
  exact ((IsReal.sum fun k => (rH s k).mul (rwi _)).mul (isReal_cv rH (fun k j => rwi _) (fun n c => rdw _) rdb s c)).mul
    (IsReal.silu (IsReal.sum fun k => (rH s k).mul (rwi _)))

/-- The precondition of the arrays it names: each holds real numbers. -/
theorem reals [hp : Cert.Pre_finite_tail.Facts] (a0 : FVec Ideal Cert.Pre_finite_tail.S8x2048x1024 .f32) (a1 : FVec Ideal Cert.Pre_finite_tail.S8x1024 .f32) (a2 : FVec Ideal Cert.Pre_finite_tail.S1024 .f32) (a3 : FVec Ideal Cert.Pre_finite_tail.S4x1024 .f32) (a4 : FVec Ideal Cert.Pre_finite_tail.S4x1024x3072 .f32) (a5 : FVec Ideal Cert.Pre_finite_tail.S4x3072 .f32) (a6 : FVec Ideal Cert.Pre_finite_tail.S1x1024x4096 .f32) (a7 : FVec Ideal Cert.Pre_finite_tail.S1x3x1024 .f32) (a8 : FVec Ideal Cert.Pre_finite_tail.S1x1024 .f32) (a9 : FVec Ideal Cert.Pre_finite_tail.S1x1024x1024 .f32) (a10 : FVec Ideal Cert.Pre_finite_tail.S2x1024x2048 .f32) (a11 : FVec Ideal Cert.Pre_finite_tail.S2x4x256x256 .f32) (a12 : FVec Ideal Cert.Pre_finite_tail.S2x1024 .f32) (a13 : FVec Ideal Cert.Pre_finite_tail.S2x1024x1024 .f32) (a14 : FVec Ideal Cert.Pre_finite_tail.S1024 .f32)
    (h : (Cert.Pre_finite_tail.fn (F := Ideal) a0 a1 a2 a3 a4 a5 a6 a7 a8 a9 a10 a11 a12 a13 a14).1 = (fun _ => 1#1)
      ∧ (Cert.Pre_finite_tail.fn (F := Ideal) a0 a1 a2 a3 a4 a5 a6 a7 a8 a9 a10 a11 a12 a13 a14).2.1 = (fun _ => 1#1)
      ∧ (Cert.Pre_finite_tail.fn (F := Ideal) a0 a1 a2 a3 a4 a5 a6 a7 a8 a9 a10 a11 a12 a13 a14).2.2.1 = (fun _ => 1#1)
      ∧ (Cert.Pre_finite_tail.fn (F := Ideal) a0 a1 a2 a3 a4 a5 a6 a7 a8 a9 a10 a11 a12 a13 a14).2.2.2.1 = (fun _ => 1#1)
      ∧ (Cert.Pre_finite_tail.fn (F := Ideal) a0 a1 a2 a3 a4 a5 a6 a7 a8 a9 a10 a11 a12 a13 a14).2.2.2.2.1 = (fun _ => 1#1)
      ∧ (Cert.Pre_finite_tail.fn (F := Ideal) a0 a1 a2 a3 a4 a5 a6 a7 a8 a9 a10 a11 a12 a13 a14).2.2.2.2.2.1 = (fun _ => 1#1)
      ∧ (Cert.Pre_finite_tail.fn (F := Ideal) a0 a1 a2 a3 a4 a5 a6 a7 a8 a9 a10 a11 a12 a13 a14).2.2.2.2.2.2.1 = (fun _ => 1#1)
      ∧ (Cert.Pre_finite_tail.fn (F := Ideal) a0 a1 a2 a3 a4 a5 a6 a7 a8 a9 a10 a11 a12 a13 a14).2.2.2.2.2.2.2.1 = (fun _ => 1#1)
      ∧ (Cert.Pre_finite_tail.fn (F := Ideal) a0 a1 a2 a3 a4 a5 a6 a7 a8 a9 a10 a11 a12 a13 a14).2.2.2.2.2.2.2.2.1 = (fun _ => 1#1)
      ∧ (Cert.Pre_finite_tail.fn (F := Ideal) a0 a1 a2 a3 a4 a5 a6 a7 a8 a9 a10 a11 a12 a13 a14).2.2.2.2.2.2.2.2.2.1 = (fun _ => 1#1)
      ∧ (Cert.Pre_finite_tail.fn (F := Ideal) a0 a1 a2 a3 a4 a5 a6 a7 a8 a9 a10 a11 a12 a13 a14).2.2.2.2.2.2.2.2.2.2.1 = (fun _ => 1#1)
      ∧ (Cert.Pre_finite_tail.fn (F := Ideal) a0 a1 a2 a3 a4 a5 a6 a7 a8 a9 a10 a11 a12 a13 a14).2.2.2.2.2.2.2.2.2.2.2 = (fun _ => 1#1)) :
    (∀ i, IsReal (a0 i)) ∧ (∀ i, IsReal (a1 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  unfold Cert.Pre_finite_tail.fn Cert.Pre_finite_tail.fn_part1 at h
  dsimp only at h
  obtain ⟨p0, p1, p3, p4, p5, p6, p7, p8, p9, p10, p11, p12⟩ := h
  exact ⟨PoolIdeal.Final.real_of_mask _ _ p0, PoolIdeal.Final.real_of_mask _ _ p1, PoolIdeal.Final.real_of_mask _ _ p3, PoolIdeal.Final.real_of_mask _ _ p4, PoolIdeal.Final.real_of_mask _ _ p5, PoolIdeal.Final.real_of_mask _ _ p6, PoolIdeal.Final.real_of_mask _ _ p7, PoolIdeal.Final.real_of_mask _ _ p8, PoolIdeal.Final.real_of_mask _ _ p9, PoolIdeal.Final.real_of_mask _ _ p10, PoolIdeal.Final.real_of_mask _ _ p11, PoolIdeal.Final.real_of_mask _ _ p12⟩

variable (m : (ℓ : Loc nD τ sig) → Buf (Elt Ideal) ℓ) (ρ : Dev nD → PrngReg)

/-- The array between the layers is the convolution reference's. -/
theorem stream (c : Dev nD) : (dat2 (V5 m ρ) c).arrAt 9 cfg2.N = ConvIdeal.Final.Ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Conv2.array, V5_arg0, V5_arg7, V5_v8, V5_v11, V5_v12, V5_v13]
  funext i
  refine (ConvIdeal.Final.ref_at _ _ _ _ _ _ _ _ _ _ (fun b n k => Mods.V5_v7_at m ρ c 2 b n k) (i 0) (i 1) (i 2)).trans ?_
  exact congrArg _ (eq_ix3 i).symm

theorem stream_real [hp : Cert.Pre_finite_tail.Facts] (hpre : Cert.Pre_TailIdeal_finite_tail m) (c : Dev nD) (i : S8x2048x1024.Idx) :
    IsReal ((dat2 (V5 m ρ) c).arrAt 9 cfg2.N i) := by
  obtain ⟨r0, r1, r3, r4, r5, r6, r7, r8, r9, _⟩ := reals _ _ _ _ _ _ _ _ _ _ _ _ _ _ _ (hpre c)
  rw [Conv2.array]
  refine isReal_out _ _ _ _ _ _ _ (i 0) (fun i => ?_) (fun n k => ?_) (fun k => ?_) (fun i => ?_) (fun i => ?_) (fun k => ?_) (fun i => ?_) (i 1) (i 2)
  · rw [V5_arg0]
    exact r0 i
  · rw [Mods.V5_v7_at m ρ c 2 (i 0) n k]
    exact IsReal.modv (fun k => r1 _) (fun k o => r4 _) (fun o => r5 _) _
  · rw [V5_v8]
    exact r3 _
  · rw [V5_v11]
    exact r6 i
  · rw [V5_arg7]
    exact r7 i
  · rw [V5_v12]
    exact r8 _
  · rw [V5_v13]
    exact r9 i

theorem final [hp : Cert.Pre_finite_tail.Facts] (hpre : Cert.Pre_TailIdeal_finite_tail m) (c : Dev nD) :
    (dat3 (V7 m ρ) c).arrAt 9 cfg3.N = PoolRefIdeal.At.Res (ConvIdeal.Final.Ref (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) := by
  obtain ⟨_, r1, r3, r4, r5, _, _, _, _, r10, r11, r12⟩ := reals _ _ _ _ _ _ _ _ _ _ _ _ _ _ _ (hpre c)
  rw [Pool3.array, V7_v14, V7_v8, V7_v10_0, V7_v10_1, V7_v10_2, V7_v15, Fold.array4, Fold.array5, Fold.array6, V3_arg10, V3_arg11, V3_arg13, V3_v9]
  have rS := stream_real m ρ hpre c
  rw [stream m ρ c] at rS ⊢
  funext i
  refine (PoolIdeal.Final.ref_at _ _ _ _ _ (m ((c : Thread nD τ).loc main_arg10)) (m ((c : Thread nD τ).loc main_arg11)) (m ((c : Thread nD τ).loc main_arg12)) (m ((c : Thread nD τ).loc main_arg13)) _
    rS r1 r3 r4 r5 r10 r11 r12 _ (fun b n k => Mods.V7_v7_at m ρ c 3 b n k) _ _ _ (fun k c => ?_) (fun k c => ?_) (fun k c => ?_) (i 0) (i 1) (i 2)).trans ?_
  · show fold _ _ (fun q => shapeCast S2x1x1024 _ shapeCasts_S2x1024_S2x1x1024 (ix3 1 0 q)) k c = _
    refine congrArg (fun f => fold _ _ f k c) (funext fun q => ?_)
    pointwise
  · rfl
  · rfl
  · exact congrArg _ (eq_ix3 i).symm

end Cert.TailIdeal.Final

end
-- ==== Proof.BiasSpec.lean ====
module

public import proofs.«01_k».proof.Proof.Spec
public import Idealize.ShloMosaic.Lib.ValueIdxRank6

/-! # The attention's relative position bias, tile by tile

A tile pairs two key rows with two query rows of the grid, 64 columns each. `quad` says, for each of the ten tiles and
each of its four row pairs, which row of the bias table applies, or that the key row lies outside the query row's window;
`inCols` and `dcol` say the same of the columns. -/

@[expose] public section

noncomputable section

namespace Cert.Layer.Bias

open Idealize.ShloMosaic

/-- The row of the bias table for key row `a` and query row `b` of tile `t`. -/
def quad : Fin 10 → Fin 2 → Fin 2 → Option (Fin 15) := ![
  ![![some 7, some 6], ![some 8, some 7]],
  ![![some 9, some 8], ![some 10, some 9]],
  ![![some 11, some 10], ![some 12, some 11]],
  ![![some 13, some 12], ![some 14, some 13]],
  ![![none, none], ![none, none]],
  ![![some 5, some 4], ![some 6, some 5]],
  ![![some 3, none], ![some 4, some 3]],
  ![![none, some 10], ![none, none]],
  ![![some 3, some 2], ![some 4, some 3]],
  ![![some 1, some 0], ![some 2, some 1]]]

/-- The first column of the window of query column `q`. -/
def start (q : Nat) : Nat := min 48 (q - 8)

/-- Whether key column `k` lies in the window of query column `q`. -/
def inCols (k q : Nat) : Bool := decide (start q ≤ k) && decide (k < start q + 16)

/-- The column of the bias table for key column `k` and query column `q`. -/
def dcol (k q : Nat) : Fin 31 := ⟨min 30 (k + 15 - q), by omega⟩

/-- The number of a position outside the window. -/
def mask : EReal := Ideal.ofBits .f32 0xF149F2CA#32

/-- One entry: the table's, in units of log 2, or the mask. -/
def entry (rpb : Fin 15 → Fin 31 → EReal) (t : Fin 10) (a : Fin 2) (k : Fin 64) (b : Fin 2) (q : Fin 64) : EReal :=
  if inCols k q then (match quad t a b with
    | none => mask
    | some d => rpb d (dcol k q) * Ideal.ofBits .f32 0x3FB8AA3B#32) else mask

end Cert.Layer.Bias

end
-- ==== Proof.BiasTile.lean ====
module

public import proofs.«01_k».proof.Proof.Gen.BiasIdeal.Frame
public import proofs.«01_k».proof.Proof.BiasSpec
public import Idealize.ShloMosaic.Lib.Pipeline.ValueKit

/-! # The bias call: one tile, read at an index

A tile of 128 key positions by 128 query positions is two halves of 64 key positions. Each half is built from up to two
rows of the operand, one for each of the tile's query rows: the row is copied 64 times and copy `k` is rotated by `k`
lanes, so that lane `l` reads entry `l - k` of the row. -/

@[expose] public section

set_option maxRecDepth 16384

noncomputable section

namespace Cert.BiasIdeal.Block

open Cert.BiasIdeal Cert.BiasIdeal.Gen
open Idealize.ShloMosaic Idealize.ShloMosaic.TcCoe Idealize.SL.Sem Idealize.ShloMosaic.Pipeline
open Cert.Layer.Bias

/-- Where row `d` of head `h` lies in the operand's block. -/
abbrev row (h : Fin 8) (d : Fin 15) : Rect S8x16x128 := Rect.unit (s := S8x16x128) ![h.val, d.val, 0] S1x1x128.size (by
  intro a
  match a with
  | ⟨0, _⟩ => show h.val + 1 ≤ 8; omega
  | ⟨1, _⟩ => show d.val + 1 ≤ 16; omega
  | ⟨2, _⟩ => show 0 + 128 ≤ 128; omega)

/-- A row copied 64 times, copy `k` rotated by `s + k` lanes, in units of log 2. -/
def skew (s : BitVec 32) (v : Vec Ideal S1x1x128 .f32) : FVec Ideal S64x128 .f32 :=
  mulf (dynamicRotate 1 s (some (1, 0)) (broadcastTo S64x128 (shapeCast S1x128 (shapeCast S1x128 v shapeCasts_S1x1x128_S1x128) shapeCasts_S1x128_S1x128)
    broadcasts_S1x128_S64x128) rotates_S64x128_d1s1a0) (broadcast S64x128 (Scalar.ofBits .f32 0x3FB8AA3B#32))

/-- What one query row contributes to a half: its skewed row, or the mask. -/
def part (x0 : Vec Ideal S8x16x128 .f32) (h : Fin 8) (s : BitVec 32) : Option (Fin 15) → FVec Ideal S64x128 .f32
  | none => k0_pay4
  | some d => skew s (View.ld x0 (row h d))

/-- One half. -/
def half (x0 : Vec Ideal S8x16x128 .f32) (h : Fin 8) (t : Fin 10) (a : Fin 2) : FVec Ideal S64x128 .f32 :=
  select k0_pay2 (select k0_pay3 (part x0 h 0#32 (quad t a 0)) (part x0 h 64#32 (quad t a 1))) k0_pay4

/-- One tile. -/
def tile (x0 : Vec Ideal S8x16x128 .f32) (h : Fin 8) (t : Fin 10) : FVec Ideal S1x1x128x128 .f32 :=
  shapeCast S1x1x128x128 (concatenate S128x128 0 [⟨S64x128, half x0 h t 0⟩, ⟨S64x128, half x0 h t 1⟩] concatenates_S64x128_S64x128_S128x128_d0)
    shapeCasts_S128x128_S1x1x128x128

theorem inside_at : ∀ (k : Fin 64) (l : Fin 128), k0_pay2 (ix2 k l) = if inCols k (l.val % 64) then 1#1 else 0#1 := by decide +kernel

theorem first_at : ∀ (k : Fin 64) (l : Fin 128), k0_pay3 (ix2 k l) = if l.val / 64 = 0 then 1#1 else 0#1 := by decide +kernel

theorem skew_at (s : BitVec 32) (v : Vec Ideal S1x1x128 .f32) (k : Fin 64) (l : Fin 128) :
    skew s v (ix2 k l) = v (ix3 0 0 ⟨(l.val + 128 - (s.toNat + k.val) % 128) % 128, by omega⟩) * Ideal.ofBits .f32 0x3FB8AA3B#32 := by
  pointwise [skew]

theorem part_at (x0 : Vec Ideal S8x16x128 .f32) (h : Fin 8) (s : BitVec 32) (o : Option (Fin 15)) (k : Fin 64) (l : Fin 128) :
    part x0 h s o (ix2 k l) = match o with
      | none => mask
      | some d => x0 (ix3 h ⟨d.val, by omega⟩ ⟨(l.val + 128 - (s.toNat + k.val) % 128) % 128, by omega⟩) * Ideal.ofBits .f32 0x3FB8AA3B#32 := by
  rcases o with _ | d
  · rfl
  · refine (skew_at s (View.ld x0 (row h d)) k l).trans ?_
    pointwise

/-- The entry of a half: the query's row of the tile is `l / 64`, and `l mod 64` is its column. -/
theorem half_at (x0 : Vec Ideal S8x16x128 .f32) (h : Fin 8) (t : Fin 10) (a : Fin 2) (k : Fin 64) (l : Fin 128) :
    half x0 h t a (ix2 k l) = if inCols k (l.val % 64) then (match quad t a ⟨l.val / 64, by omega⟩ with
      | none => mask
      | some d => x0 (ix3 h ⟨d.val, by omega⟩ ⟨(l.val % 64 + 128 - k.val) % 128, by omega⟩) * Ideal.ofBits .f32 0x3FB8AA3B#32) else mask := by
  have e : half x0 h t a (ix2 k l) = if k0_pay2 (ix2 k l) = 1#1 then (if k0_pay3 (ix2 k l) = 1#1 then part x0 h 0#32 (quad t a 0) (ix2 k l)
      else part x0 h 64#32 (quad t a 1) (ix2 k l)) else mask := rfl
  rw [e, inside_at, first_at, part_at, part_at]
  cases inCols k (l.val % 64)
  · simp
  · by_cases hl : l.val / 64 = 0
    · rw [show (⟨l.val / 64, by omega⟩ : Fin 2) = 0 from Fin.ext hl]
      simp only [hl, if_true]
      have hs : (l.val + 128 - ((0#32 : BitVec 32).toNat + k.val) % 128) % 128 = (l.val % 64 + 128 - k.val) % 128 := by
        show (l.val + 128 - (0 + k.val) % 128) % 128 = _
        omega
      simp only [hs]
    · rw [show (⟨l.val / 64, by omega⟩ : Fin 2) = 1 from Fin.ext (by show l.val / 64 = 1; omega)]
      simp only [hl, if_true, if_false]
      have hs : (l.val + 128 - ((64#32 : BitVec 32).toNat + k.val) % 128) % 128 = (l.val % 64 + 128 - k.val) % 128 := by
        show (l.val + 128 - (64 + k.val) % 128) % 128 = _
        omega
      simp only [hs]
      rfl

theorem tile_at (x0 : Vec Ideal S8x16x128 .f32) (h : Fin 8) (t : Fin 10) (r l : Fin 128) :
    tile x0 h t (ix4 0 0 r l) = half x0 h t ⟨r.val / 64, by omega⟩ (ix2 ⟨r.val % 64, by omega⟩ l) := by
  by_cases hr : r.val < 64
  · rw [show (⟨r.val / 64, by omega⟩ : Fin 2) = 0 from Fin.ext (by show r.val / 64 = 0; omega)]
    unfold tile
    generalize half x0 h t 0 = A
    generalize half x0 h t 1 = B
    pointwise
    rw [dif_pos hr]
    exact congrArg (fun k => A (ix2 k l)) (Fin.ext (by show r.val = r.val % 64; omega))
  · rw [show (⟨r.val / 64, by omega⟩ : Fin 2) = 1 from Fin.ext (by show r.val / 64 = 1; omega)]
    unfold tile
    generalize half x0 h t 0 = A
    generalize half x0 h t 1 = B
    pointwise
    rw [dif_neg hr]
    exact congrArg (fun k => B (ix2 k l)) (Fin.ext (by show r.val - 64 = r.val % 64; omega))

end Cert.BiasIdeal.Block

end
-- ==== Proof.BiasBlock.lean ====
module

public import proofs.«01_k».proof.Proof.BiasTile

/-! # The bias call: the block of eight heads is its eighty tiles -/

@[expose] public section

set_option maxRecDepth 16384

noncomputable section

namespace Cert.BiasIdeal.Block

open Cert.BiasIdeal Cert.BiasIdeal.Gen
open Idealize.ShloMosaic Idealize.ShloMosaic.TcCoe Idealize.SL.Sem Idealize.ShloMosaic.Pipeline
open Cert.Layer.Bias

theorem piece (x0 : Vec Ideal S8x16x128 .f32) (h : Fin 8) (t : Fin 10) (P : FVec Ideal S1x1x128x128 .f32) (e : P = tile x0 h t)
    (x : S1x1x128x128.Idx) (y : S8x10x128x128.Idx) (h0 : (y 0 : ℕ) = h.val) (h1 : (y 1 : ℕ) = t.val) (h2 : (y 2 : ℕ) = x 2) (h3 : (y 3 : ℕ) = x 3) :
    P x = tile x0 (y 0) (y 1) (ix4 0 0 (y 2) (y 3)) := by
  rw [e, show y 0 = h from Fin.ext h0, show y 1 = t from Fin.ext h1]
  refine congrArg _ (funext fun a => ?_)
  match a with
  | ⟨0, _⟩ => exact Subsingleton.elim (α := Fin 1) _ _
  | ⟨1, _⟩ => exact Subsingleton.elim (α := Fin 1) _ _
  | ⟨2, _⟩ => exact Fin.ext h2.symm
  | ⟨3, _⟩ => exact Fin.ext h3.symm

set_option maxHeartbeats 8000000 in
theorem out_at (x0 : Vec Ideal S8x16x128 .f32) (y : S8x10x128x128.Idx) : out0_1 x0 y = tile x0 (y 0) (y 1) (ix4 0 0 (y 2) (y 3)) := by
  unfold out0_1
  canon_tiles x h
  · exact piece x0 7 9 _ rfl x y (by omega) (by omega) h2 h3
  · exact piece x0 7 8 _ rfl x y (by omega) (by omega) h2 h3
  · exact piece x0 7 7 _ rfl x y (by omega) (by omega) h2 h3
  · exact piece x0 7 6 _ rfl x y (by omega) (by omega) h2 h3
  · exact piece x0 7 5 _ rfl x y (by omega) (by omega) h2 h3
  · exact piece x0 7 4 _ rfl x y (by omega) (by omega) h2 h3
  · exact piece x0 7 3 _ rfl x y (by omega) (by omega) h2 h3
  · exact piece x0 7 2 _ rfl x y (by omega) (by omega) h2 h3
  · exact piece x0 7 1 _ rfl x y (by omega) (by omega) h2 h3
  · exact piece x0 7 0 _ rfl x y (by omega) (by omega) h2 h3
  · exact piece x0 6 9 _ rfl x y (by omega) (by omega) h2 h3
  · exact piece x0 6 8 _ rfl x y (by omega) (by omega) h2 h3
  · exact piece x0 6 7 _ rfl x y (by omega) (by omega) h2 h3
  · exact piece x0 6 6 _ rfl x y (by omega) (by omega) h2 h3
  · exact piece x0 6 5 _ rfl x y (by omega) (by omega) h2 h3
  · exact piece x0 6 4 _ rfl x y (by omega) (by omega) h2 h3
  · exact piece x0 6 3 _ rfl x y (by omega) (by omega) h2 h3
  · exact piece x0 6 2 _ rfl x y (by omega) (by omega) h2 h3
  · exact piece x0 6 1 _ rfl x y (by omega) (by omega) h2 h3
  · exact piece x0 6 0 _ rfl x y (by omega) (by omega) h2 h3
  · exact piece x0 5 9 _ rfl x y (by omega) (by omega) h2 h3
  · exact piece x0 5 8 _ rfl x y (by omega) (by omega) h2 h3
  · exact piece x0 5 7 _ rfl x y (by omega) (by omega) h2 h3
  · exact piece x0 5 6 _ rfl x y (by omega) (by omega) h2 h3
  · exact piece x0 5 5 _ rfl x y (by omega) (by omega) h2 h3
  · exact piece x0 5 4 _ rfl x y (by omega) (by omega) h2 h3
  · exact piece x0 5 3 _ rfl x y (by omega) (by omega) h2 h3
  · exact piece x0 5 2 _ rfl x y (by omega) (by omega) h2 h3
  · exact piece x0 5 1 _ rfl x y (by omega) (by omega) h2 h3
  · exact piece x0 5 0 _ rfl x y (by omega) (by omega) h2 h3
  · exact piece x0 4 9 _ rfl x y (by omega) (by omega) h2 h3
  · exact piece x0 4 8 _ rfl x y (by omega) (by omega) h2 h3
  · exact piece x0 4 7 _ rfl x y (by omega) (by omega) h2 h3
  · exact piece x0 4 6 _ rfl x y (by omega) (by omega) h2 h3
  · exact piece x0 4 5 _ rfl x y (by omega) (by omega) h2 h3
  · exact piece x0 4 4 _ rfl x y (by omega) (by omega) h2 h3
  · exact piece x0 4 3 _ rfl x y (by omega) (by omega) h2 h3
  · exact piece x0 4 2 _ rfl x y (by omega) (by omega) h2 h3
  · exact piece x0 4 1 _ rfl x y (by omega) (by omega) h2 h3
  · exact piece x0 4 0 _ rfl x y (by omega) (by omega) h2 h3
  · exact piece x0 3 9 _ rfl x y (by omega) (by omega) h2 h3
  · exact piece x0 3 8 _ rfl x y (by omega) (by omega) h2 h3
  · exact piece x0 3 7 _ rfl x y (by omega) (by omega) h2 h3
  · exact piece x0 3 6 _ rfl x y (by omega) (by omega) h2 h3
  · exact piece x0 3 5 _ rfl x y (by omega) (by omega) h2 h3
  · exact piece x0 3 4 _ rfl x y (by omega) (by omega) h2 h3
  · exact piece x0 3 3 _ rfl x y (by omega) (by omega) h2 h3
  · exact piece x0 3 2 _ rfl x y (by omega) (by omega) h2 h3
  · exact piece x0 3 1 _ rfl x y (by omega) (by omega) h2 h3
  · exact piece x0 3 0 _ rfl x y (by omega) (by omega) h2 h3
  · exact piece x0 2 9 _ rfl x y (by omega) (by omega) h2 h3
  · exact piece x0 2 8 _ rfl x y (by omega) (by omega) h2 h3
  · exact piece x0 2 7 _ rfl x y (by omega) (by omega) h2 h3
  · exact piece x0 2 6 _ rfl x y (by omega) (by omega) h2 h3
  · exact piece x0 2 5 _ rfl x y (by omega) (by omega) h2 h3
  · exact piece x0 2 4 _ rfl x y (by omega) (by omega) h2 h3
  · exact piece x0 2 3 _ rfl x y (by omega) (by omega) h2 h3
  · exact piece x0 2 2 _ rfl x y (by omega) (by omega) h2 h3
  · exact piece x0 2 1 _ rfl x y (by omega) (by omega) h2 h3
  · exact piece x0 2 0 _ rfl x y (by omega) (by omega) h2 h3
  · exact piece x0 1 9 _ rfl x y (by omega) (by omega) h2 h3
  · exact piece x0 1 8 _ rfl x y (by omega) (by omega) h2 h3
  · exact piece x0 1 7 _ rfl x y (by omega) (by omega) h2 h3
  · exact piece x0 1 6 _ rfl x y (by omega) (by omega) h2 h3
  · exact piece x0 1 5 _ rfl x y (by omega) (by omega) h2 h3
  · exact piece x0 1 4 _ rfl x y (by omega) (by omega) h2 h3
  · exact piece x0 1 3 _ rfl x y (by omega) (by omega) h2 h3
  · exact piece x0 1 2 _ rfl x y (by omega) (by omega) h2 h3
  · exact piece x0 1 1 _ rfl x y (by omega) (by omega) h2 h3
  · exact piece x0 1 0 _ rfl x y (by omega) (by omega) h2 h3
  · exact piece x0 0 9 _ rfl x y (by omega) (by omega) h2 h3
  · exact piece x0 0 8 _ rfl x y (by omega) (by omega) h2 h3
  · exact piece x0 0 7 _ rfl x y (by omega) (by omega) h2 h3
  · exact piece x0 0 6 _ rfl x y (by omega) (by omega) h2 h3
  · exact piece x0 0 5 _ rfl x y (by omega) (by omega) h2 h3
  · exact piece x0 0 4 _ rfl x y (by omega) (by omega) h2 h3
  · exact piece x0 0 3 _ rfl x y (by omega) (by omega) h2 h3
  · exact piece x0 0 2 _ rfl x y (by omega) (by omega) h2 h3
  · exact piece x0 0 1 _ rfl x y (by omega) (by omega) h2 h3
  · exact piece x0 0 0 _ rfl x y (by omega) (by omega) h2 h3

end Cert.BiasIdeal.Block

end
-- ==== Proof.BiasRef.lean ====
module

public import proofs.«01_k».proof.Proof.Gen.BiasRefIdeal.Run
public import proofs.«01_k».proof.Proof.BiasSpec

/-! # The bias reference, read at an index

The reference's result is one long term of the argument. Here it is cut at the row and column windows and the two
offsets, which are tables of small words, and at the lookup in the bias table. -/

@[expose] public section

set_option maxRecDepth 16384

noncomputable section

namespace Cert.BiasRefIdeal.At

open Cert.BiasRefIdeal Cert.BiasRefIdeal.Gen
open Idealize.ShloMosaic Idealize.ShloMosaic.TcCoe Idealize.SL.Sem
open Cert.Layer.Bias

/-- The key rows of every tile. -/
def KRow : IVec S10x2x1 32 :=
  addi (broadcastInDim S10x2x1 ![0, 1, 2] bcast_S10x1x1_S10x2x1_0_1_2 (broadcastInDim S10x1x1 ![0] bcast_S10_S10x1x1_0 ((fun i => lit1 (S10.rowMajor i))))) (broadcastInDim S10x2x1 ![0, 1, 2] bcast_S1x2x1_S10x2x1_0_1_2 (broadcastInDim S1x2x1 ![1, 2] bcast_S2x1_S1x2x1_1_2 (broadcastInDim S2x1 ![0] bcast_S2_S2x1_0 (iotaInDim S2 32 0))))

/-- The query rows of every tile. -/
def QRow : IVec S10x1x2 32 :=
  addi (broadcastInDim S10x1x2 ![0, 1, 2] bcast_S10x1x1_S10x1x2_0_1_2 (broadcastInDim S10x1x1 ![0] bcast_S10_S10x1x1_0 ((fun i => lit0 (S10.rowMajor i))))) (broadcastInDim S10x1x2 ![0, 1, 2] bcast_S1x1x2_S10x1x2_0_1_2 (broadcastInDim S1x1x2 ![2] bcast_S2_S1x1x2_2 (iotaInDim S2 32 0)))

/-- Whether the key row lies in the query row's window. -/
def InRows : IVec S10x2x2 1 :=
  andi (cmpi .sge (broadcastInDim S10x2x2 ![0, 1, 2] bcast_S10x2x1_S10x2x2_0_1_2 KRow) (broadcastInDim S10x2x2 ![0, 1, 2] bcast_S10x1x2_S10x2x2_0_1_2 (minsi (broadcastInDim S10x1x2 ![] bcast_S_S10x1x2 (id (constantI S_ 32 24#32))) (maxsi (broadcastInDim S10x1x2 ![] bcast_S_S10x1x2 (id (constantI S_ 32 0#32))) (subi QRow (broadcastInDim S10x1x2 ![] bcast_S_S10x1x2 (constantI S_ 32 4#32))))))) (cmpi .slt (broadcastInDim S10x2x2 ![0, 1, 2] bcast_S10x2x1_S10x2x2_0_1_2 KRow) (broadcastInDim S10x2x2 ![0, 1, 2] bcast_S10x1x2_S10x2x2_0_1_2 (addi (minsi (broadcastInDim S10x1x2 ![] bcast_S_S10x1x2 (id (constantI S_ 32 24#32))) (maxsi (broadcastInDim S10x1x2 ![] bcast_S_S10x1x2 (id (constantI S_ 32 0#32))) (subi QRow (broadcastInDim S10x1x2 ![] bcast_S_S10x1x2 (constantI S_ 32 4#32))))) (broadcastInDim S10x1x2 ![] bcast_S_S10x1x2 (constantI S_ 32 8#32)))))

/-- The row of the bias table. -/
def DR : IVec S10x2x2 32 :=
  minsi (broadcastInDim S10x2x2 ![] bcast_S_S10x2x2 (id (constantI S_ 32 14#32))) (maxsi (broadcastInDim S10x2x2 ![] bcast_S_S10x2x2 (id (constantI S_ 32 0#32))) (subi (addi (subi (broadcastInDim S10x2x2 ![0, 1, 2] bcast_S10x2x1_S10x2x2_0_1_2 KRow) (broadcastInDim S10x2x2 ![0, 1, 2] bcast_S10x1x2_S10x2x2_0_1_2 QRow)) (broadcastInDim S10x2x2 ![] bcast_S_S10x2x2 (constantI S_ 32 8#32))) (broadcastInDim S10x2x2 ![] bcast_S_S10x2x2 (constantI S_ 32 1#32))))

/-- Whether the key column lies in the query column's window. -/
def InCols : IVec S64x64 1 :=
  andi (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (addi (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))) (broadcastInDim S64 ![] bcast_S_S64 (constantI S_ 32 16#32))))))

/-- The column of the bias table. -/
def DC : IVec S64x64 32 :=
  minsi (broadcastInDim S64x64 ![] bcast_S_S64x64 (id (constantI S_ 32 30#32))) (maxsi (broadcastInDim S64x64 ![] bcast_S_S64x64 (id (constantI S_ 32 0#32))) (subi (addi (subi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))) (broadcastInDim S64x64 ![] bcast_S_S64x64 (constantI S_ 32 16#32))) (broadcastInDim S64x64 ![] bcast_S_S64x64 (constantI S_ 32 1#32))))

/-- The two offsets, side by side, over every position of every tile. -/
def Index (dr : IVec S10x2x2 32) (dc : IVec S64x64 32) : IVec S10x2x64x2x64x2 32 :=
  concatenate S10x2x64x2x64x2 5 [⟨S10x2x64x2x64x1, (broadcastInDim S10x2x64x2x64x1 ![0, 1, 2, 3, 4] bcast_S10x2x64x2x64_S10x2x64x2x64x1_0_1_2_3_4 (broadcastInDim S10x2x64x2x64 ![0, 1, 2, 3, 4] bcast_S10x2x1x2x1_S10x2x64x2x64_0_1_2_3_4 (select (cmpi .slt (broadcastInDim S10x2x1x2x1 ![0, 1, 3] bcast_S10x2x2_S10x2x1x2x1_0_1_3 dr) (broadcastInDim S10x2x1x2x1 ![] bcast_S_S10x2x1x2x1 (constantI S_ 32 0#32))) (addi (broadcastInDim S10x2x1x2x1 ![0, 1, 3] bcast_S10x2x2_S10x2x1x2x1_0_1_3 dr) (broadcastInDim S10x2x1x2x1 ![] bcast_S_S10x2x1x2x1 (constantI S_ 32 15#32))) (broadcastInDim S10x2x1x2x1 ![0, 1, 3] bcast_S10x2x2_S10x2x1x2x1_0_1_3 dr))))⟩, ⟨S10x2x64x2x64x1, (broadcastInDim S10x2x64x2x64x1 ![0, 1, 2, 3, 4] bcast_S10x2x64x2x64_S10x2x64x2x64x1_0_1_2_3_4 (broadcastInDim S10x2x64x2x64 ![2, 3, 4] bcast_S64x1x64_S10x2x64x2x64_2_3_4 (select (cmpi .slt (broadcastInDim S64x1x64 ![0, 2] bcast_S64x64_S64x1x64_0_2 dc) (broadcastInDim S64x1x64 ![] bcast_S_S64x1x64 (constantI S_ 32 0#32))) (addi (broadcastInDim S64x1x64 ![0, 2] bcast_S64x64_S64x1x64_0_2 dc) (broadcastInDim S64x1x64 ![] bcast_S_S64x1x64 (constantI S_ 32 31#32))) (broadcastInDim S64x1x64 ![0, 2] bcast_S64x64_S64x1x64_0_2 dc))))⟩] concatenates_S10x2x64x2x64x1_S10x2x64x2x64x1_S10x2x64x2x64x2_d5

/-- The lookup's dimension numbers. -/
abbrev D : GatherDims S16x15x31 S10x2x64x2x64x2 S16x10x2x64x2x64 := gather_S16x15x31_S10x2x64x2x64x2_S16x10x2x64x2x64_0_12_n_n_12_5_1611

/-- The table looked up, scaled and masked. -/
def Pre (rpb : FVec Ideal S1x16x15x31 .f32) : FVec Ideal S16x10x2x64x2x64 .f32 :=
  select (broadcastInDim S16x10x2x64x2x64 ![1, 2, 3, 4, 5] bcast_S10x2x64x2x64_S16x10x2x64x2x64_1_2_3_4_5 (andi (broadcastInDim S10x2x64x2x64 ![0, 1, 2, 3, 4] bcast_S10x2x1x2x1_S10x2x64x2x64_0_1_2_3_4 (broadcastInDim S10x2x1x2x1 ![0, 1, 3] bcast_S10x2x2_S10x2x1x2x1_0_1_3 InRows)) (broadcastInDim S10x2x64x2x64 ![0, 1, 2, 3, 4] bcast_S1x1x64x1x64_S10x2x64x2x64_0_1_2_3_4 (broadcastInDim S1x1x64x1x64 ![2, 3, 4] bcast_S64x1x64_S1x1x64x1x64_2_3_4 (broadcastInDim S64x1x64 ![0, 2] bcast_S64x64_S64x1x64_0_2 InCols))))) (mulf (Host.gather D (shapeCast S16x15x31 rpb shapeCasts_S1x16x15x31_S16x15x31) (Index DR DC)) (broadcastInDim S16x10x2x64x2x64 ![] bcast_S_S16x10x2x64x2x64 (constant S_ .f32 0x3FB8AA3B#32))) (broadcastInDim S16x10x2x64x2x64 ![] bcast_S_S16x10x2x64x2x64 (id (constant S_ .f32 0xF149F2CA#32)))

/-- The reference's result. -/
def Res (rpb : FVec Ideal S1x16x15x31 .f32) : FVec Ideal S16x10x128x128 .f32 :=
  shapeCast S16x10x128x128 (Pre rpb) shapeCasts_S16x10x2x64x2x64_S16x10x128x128

theorem result_eq (m : (ℓ : Loc nD τ sig) → Buf (Elt Ideal) ℓ) (c : Dev nD) :
    Value.res_out0 m c = Res (m ((c.tc : Thread nD τ).loc main_arg0)) := rfl

theorem inRows_at : ∀ (t : Fin 10) (a b : Fin 2), InRows (ix3 t a b) = if (quad t a b).isSome then 1#1 else 0#1 := by decide +kernel

theorem dr_at : ∀ (t : Fin 10) (a b : Fin 2), (quad t a b).all (fun d => DR (ix3 t a b) = BitVec.ofNat 32 d.val) := by decide +kernel

theorem inCols_at : ∀ (k q : Fin 64), InCols (ix2 k q) = if inCols k q then 1#1 else 0#1 := by decide +kernel

theorem dc_at : ∀ (k q : Fin 64), DC (ix2 k q) = BitVec.ofNat 32 (dcol k q).val := by decide +kernel

theorem gather_at (x : FVec Ideal S16x15x31 .f32) (idx : IVec S10x2x64x2x64x2 32) (h : Fin 16) (t : Fin 10) (a : Fin 2) (k : Fin 64) (b : Fin 2) (q : Fin 64) :
    Host.gather D x idx (ix6 h t a k b q)
      = x (ix3 h ⟨min (idx (ix6 t a k b q 0)).toInt.toNat 14, by omega⟩ ⟨min (idx (ix6 t a k b q 1)).toInt.toNat 30, by omega⟩) := by
  unfold Host.gather
  congr 1
  funext i
  refine Fin.ext ?_
  show (D.start (ix6 h t a k b q) idx i) + (D.batchCoord (ix6 h t a k b q) i) + (D.offCoord (ix6 h t a k b q) i) = _
  rw [GatherDims.batchCoord_eq_zero _ _ _ List.not_mem_nil]
  have hi : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases hi with rfl | rfl | rfl
  · rw [show D.start (ix6 h t a k b q) idx 0 = 0 from dif_neg (by decide)]
    unfold GatherDims.offCoord
    rw [dif_pos (show (0 : Fin 3) ∈ D.sKept from (GatherDims.mem_sKept _ _).mpr ⟨by decide, by decide⟩)]
    simp only [Nat.zero_add]
    rfl
  · rw [GatherDims.offCoord_eq_zero _ _ _ (fun h => ((GatherDims.mem_sKept _ _).mp h).1 (by decide))]
    simp only [Nat.add_zero]
    unfold GatherDims.start
    rw [dif_pos (show (1 : Fin 3) ∈ D.startIndexMap by decide)]
    have hsi : D.siIdx (ix6 h t a k b q) ⟨List.idxOf (1 : Fin 3) D.startIndexMap, List.idxOf_lt_length_iff.2 (by decide)⟩ = ix6 t a k b q 0 := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi]
    rfl
  · rw [GatherDims.offCoord_eq_zero _ _ _ (fun h => ((GatherDims.mem_sKept _ _).mp h).1 (by decide))]
    simp only [Nat.add_zero]
    unfold GatherDims.start
    rw [dif_pos (show (2 : Fin 3) ∈ D.startIndexMap by decide)]
    have hsi : D.siIdx (ix6 h t a k b q) ⟨List.idxOf (2 : Fin 3) D.startIndexMap, List.idxOf_lt_length_iff.2 (by decide)⟩ = ix6 t a k b q 1 := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi]
    rfl

theorem index0_at (dr : IVec S10x2x2 32) (dc : IVec S64x64 32) (t : Fin 10) (a : Fin 2) (k : Fin 64) (b : Fin 2) (q : Fin 64)
    (d : Nat) (hd : d < 15) (e : dr (ix3 t a b) = BitVec.ofNat 32 d) : Index dr dc (ix6 t a k b q 0) = BitVec.ofNat 32 d := by
  have z : ∀ n : Fin 15, Scalar.select (Scalar.cmpi .slt (BitVec.ofNat 32 n.val) 0#32) (BitVec.ofNat 32 n.val + 15#32) (BitVec.ofNat 32 n.val) = BitVec.ofNat 32 n.val := by decide +kernel
  refine Eq.trans ?_ (z ⟨d, hd⟩)
  pointwise [Index]
  rw [e]
  rfl

theorem index1_at (dr : IVec S10x2x2 32) (dc : IVec S64x64 32) (t : Fin 10) (a : Fin 2) (k : Fin 64) (b : Fin 2) (q : Fin 64)
    (d : Nat) (hd : d < 31) (e : dc (ix2 k q) = BitVec.ofNat 32 d) : Index dr dc (ix6 t a k b q 1) = BitVec.ofNat 32 d := by
  have z : ∀ n : Fin 31, Scalar.select (Scalar.cmpi .slt (BitVec.ofNat 32 n.val) 0#32) (BitVec.ofNat 32 n.val + 31#32) (BitVec.ofNat 32 n.val) = BitVec.ofNat 32 n.val := by decide +kernel
  refine Eq.trans ?_ (z ⟨d, hd⟩)
  pointwise [Index]
  rw [e]
  rfl

/-- The looked up number, inside the windows. -/
theorem look_at (x : FVec Ideal S16x15x31 .f32) (h : Fin 16) (t : Fin 10) (a : Fin 2) (k : Fin 64) (b : Fin 2) (q : Fin 64) (d : Fin 15) (e : quad t a b = some d) :
    Host.gather D x (Index DR DC) (ix6 h t a k b q) = x (ix3 h d (dcol k q)) := by
  have hd : DR (ix3 t a b) = BitVec.ofNat 32 d.val := by
    have := dr_at t a b
    rw [e] at this
    exact of_decide_eq_true this
  have r : ∀ n : Fin 15, min (BitVec.ofNat 32 n.val).toInt.toNat 14 = n.val := by decide +kernel
  have s : ∀ n : Fin 31, min (BitVec.ofNat 32 n.val).toInt.toNat 30 = n.val := by decide +kernel
  rw [gather_at]
  refine congrArg₂ (fun u v => x (ix3 h u v)) (Fin.ext ?_) (Fin.ext ?_)
  · show min (Index DR DC (ix6 t a k b q 0)).toInt.toNat 14 = d.val
    rw [index0_at DR DC t a k b q d.val d.isLt hd]
    exact r d
  · show min (Index DR DC (ix6 t a k b q 1)).toInt.toNat 30 = (dcol k q).val
    rw [index1_at DR DC t a k b q (dcol k q).val (dcol k q).isLt (dc_at k q)]
    exact s _

/-- The result before its last reshape. -/
theorem pre_at (rpb : FVec Ideal S1x16x15x31 .f32) (h : Fin 16) (t : Fin 10) (a : Fin 2) (k : Fin 64) (b : Fin 2) (q : Fin 64) :
    Pre rpb (ix6 h t a k b q) = entry (fun d c => rpb (ix4 0 h d c)) t a k b q := by
  have e : Pre rpb (ix6 h t a k b q) = if (InRows (ix3 t a b) &&& InCols (ix2 k q)) = 1#1 then
      Host.gather D (shapeCast S16x15x31 rpb shapeCasts_S1x16x15x31_S16x15x31) (Index DR DC) (ix6 h t a k b q) * Ideal.ofBits .f32 0x3FB8AA3B#32 else mask := by
    unfold Pre
    generalize Host.gather D (shapeCast S16x15x31 rpb shapeCasts_S1x16x15x31_S16x15x31) (Index DR DC) = G
    generalize InRows = R
    generalize InCols = C
    pointwise [mask]
    rfl
  rw [e, inRows_at, inCols_at]
  unfold entry
  rcases hq : quad t a b with _ | d
  · cases inCols k q <;> simp
  · rw [look_at _ h t a k b q d hq]
    have p : shapeCast S16x15x31 rpb shapeCasts_S1x16x15x31_S16x15x31 (ix3 h d (dcol k q)) = rpb (ix4 0 h d (dcol k q)) := by pointwise
    rw [p]
    cases inCols k q <;> simp

theorem res_at (rpb : FVec Ideal S1x16x15x31 .f32) (h : Fin 16) (t : Fin 10) (r c : Fin 128) :
    Res rpb (ix4 h t r c) = entry (fun d c => rpb (ix4 0 h d c)) t ⟨r.val / 64, by omega⟩ ⟨r.val % 64, by omega⟩ ⟨c.val / 64, by omega⟩ ⟨c.val % 64, by omega⟩ := by
  rw [← pre_at]
  unfold Res
  generalize Pre rpb = P
  pointwise

end Cert.BiasRefIdeal.At

end
-- ==== Proof.BiasFinal.lean ====
module

public import proofs.«01_k».proof.Proof.BiasBlock
public import proofs.«01_k».proof.Proof.BiasRef
public import Idealize.ShloMosaic.Lib.Claim
public import Idealize.ShloMosaic.Lib.KernelVsHost

/-! # The bias call: the operand the host lays out, the call's array, and the reference -/

@[expose] public section

set_option maxRecDepth 16384

noncomputable section

namespace Cert.BiasIdeal.Final

open Cert.BiasIdeal Cert.BiasIdeal.Gen Cert.BiasIdeal.Block
open Idealize.ShloMosaic Idealize.ShloMosaic.TcCoe Idealize.ShloMosaic.Tactic Idealize.SL.Sem Idealize.ShloMosaic.Pipeline
open Cert.Layer.Bias

/-- The reversed table, its upper half first, zeros, its lower half. -/
def Wrapped (rpb : FVec Ideal S1x16x15x31 .f32) : FVec Ideal S16x15x128 .f32 :=
  let r : FVec Ideal S16x15x31 .f32 := Host.reverse [2] (shapeCast S16x15x31 rpb shapeCasts_S1x16x15x31_S16x15x31)
  concatenate S16x15x128 2 [⟨S16x15x16, extractStridedSlice S16x15x16 ![0, 0, 15] r slices_S16x15x31_S16x15x16_0_0_15⟩,
    ⟨S16x15x97, broadcastInDim S16x15x97 ![] bcast_S_S16x15x97 (constant (F := Ideal) S_ .f32 0x00000000#32)⟩,
    ⟨S16x15x15, extractStridedSlice S16x15x15 ![0, 0, 0] r slices_S16x15x31_S16x15x15_0_0_0⟩] concatenates_S16x15x16_S16x15x97_S16x15x15_S16x15x128_d2

/-- The call's operand: one row of zeros more. -/
def Rows (rpb : FVec Ideal S1x16x15x31 .f32) : FVec Ideal S16x16x128 .f32 :=
  pad S16x16x128 ![0, 0, 0] ![0, 1, 0] ![0, 0, 0] (Wrapped rpb) (sitofp (F := Ideal) .f32 (constantI S_ 32 0#32)) pads_S16x15x128_S16x16x128_000_010_000 h_S_

theorem reversed_at (rpb : FVec Ideal S1x16x15x31 .f32) (h : Fin 16) (d : Fin 15) (j : Fin 31) :
    (Host.reverse [2] (shapeCast S16x15x31 rpb shapeCasts_S1x16x15x31_S16x15x31) : FVec Ideal S16x15x31 .f32) (ix3 h d j) = rpb (ix4 0 h d ⟨30 - j.val, by omega⟩) := by
  pointwise
  show rpb (ix4 0 h d j.rev) = _
  exact congrArg (fun c => rpb (ix4 0 h d c)) (Fin.ext (by rw [Fin.val_rev]; show 31 - (j.val + 1) = 30 - j.val; omega))

theorem wrapped_lo (rpb : FVec Ideal S1x16x15x31 .f32) (h : Fin 16) (d : Fin 15) (j : Fin 128) (hj : j.val < 16) :
    Wrapped rpb (ix3 h d j) = rpb (ix4 0 h d ⟨15 - j.val, by omega⟩) := by
  unfold Wrapped
  simp only []
  have hR := reversed_at rpb h d
  generalize (Host.reverse [2] (shapeCast S16x15x31 rpb shapeCasts_S1x16x15x31_S16x15x31) : FVec Ideal S16x15x31 .f32) = R at hR ⊢
  pointwise
  rw [dif_pos hj, hR]
  exact congrArg (fun c => rpb (ix4 0 h d c)) (Fin.ext (by show 30 - (15 + j.val) = 15 - j.val; omega))

theorem wrapped_hi (rpb : FVec Ideal S1x16x15x31 .f32) (h : Fin 16) (d : Fin 15) (j : Fin 128) (hj : 113 ≤ j.val) :
    Wrapped rpb (ix3 h d j) = rpb (ix4 0 h d ⟨143 - j.val, by omega⟩) := by
  unfold Wrapped
  simp only []
  have hR := reversed_at rpb h d
  generalize (Host.reverse [2] (shapeCast S16x15x31 rpb shapeCasts_S1x16x15x31_S16x15x31) : FVec Ideal S16x15x31 .f32) = R at hR ⊢
  pointwise
  rw [dif_neg (by omega), dif_neg (by omega), hR]
  exact congrArg (fun c => rpb (ix4 0 h d c)) (Fin.ext (by show 30 - (j.val - 16 - 97) = 143 - j.val; omega))

theorem rows_at (rpb : FVec Ideal S1x16x15x31 .f32) (h : Fin 16) (d : Fin 15) (j : Fin 128) :
    Rows rpb (ix3 h ⟨d.val, by omega⟩ j) = Wrapped rpb (ix3 h d j) := by
  unfold Rows
  generalize Wrapped rpb = W
  pointwise

/-- Inside the window, lane `q - k` of a row is the table's entry of the column offset `k - q`. -/
theorem row_at (rpb : FVec Ideal S1x16x15x31 .f32) (h : Fin 16) (d : Fin 15) (k q : Nat) (hk : k < 64) (hq : q < 64) (hw : inCols k q = true) :
    Rows rpb (ix3 h ⟨d.val, by omega⟩ ⟨(q + 128 - k) % 128, by omega⟩) = rpb (ix4 0 h d (dcol k q)) := by
  obtain ⟨w0, w1⟩ : min 48 (q - 8) ≤ k ∧ k < min 48 (q - 8) + 16 := by
    unfold inCols start at hw
    exact ⟨of_decide_eq_true (Bool.and_eq_true_iff.mp hw).1, of_decide_eq_true (Bool.and_eq_true_iff.mp hw).2⟩
  rw [rows_at]
  by_cases hqk : k ≤ q
  · rw [wrapped_lo rpb h d _ (by show (q + 128 - k) % 128 < 16; omega)]
    exact congrArg (fun c => rpb (ix4 0 h d c)) (Fin.ext (by show 15 - (q + 128 - k) % 128 = min 30 (k + 15 - q); omega))
  · rw [wrapped_hi rpb h d _ (by show 113 ≤ (q + 128 - k) % 128; omega)]
    exact congrArg (fun c => rpb (ix4 0 h d c)) (Fin.ext (by show 143 - (q + 128 - k) % 128 = min 30 (k + 15 - q); omega))

/-- A tile over rows that read the table so is the reference's tile. -/
theorem tile_entry (x0 : Vec Ideal S8x16x128 .f32) (rpb : FVec Ideal S1x16x15x31 .f32) (h : Fin 8) (hh : Fin 16)
    (e : ∀ (d : Fin 16) (j : Fin 128), x0 (ix3 h d j) = Rows rpb (ix3 hh d j)) (t : Fin 10) (r l : Fin 128) :
    tile x0 h t (ix4 0 0 r l) = BiasRefIdeal.At.Res rpb (ix4 hh t r l) := by
  rw [tile_at, half_at, BiasRefIdeal.At.res_at]
  unfold Cert.Layer.Bias.entry
  simp only []
  by_cases hw : inCols (r.val % 64) (l.val % 64) = true
  · simp only [hw, if_true]
    rcases quad t ⟨r.val / 64, by omega⟩ ⟨l.val / 64, by omega⟩ with _ | d
    · rfl
    · simp only [e]
      rw [row_at rpb hh d _ _ (by omega) (by omega) hw]
  · rw [if_neg hw, if_neg hw]

theorem idx : ∀ t : Fin cfg0.N, win0_0.index t = ![t.val, 0, 0] ∧ win0_1.index t = ![t.val, 0, 0, 0] := by decide +kernel

variable (m : (ℓ : Loc nD τ sig) → Buf (Elt Ideal) ℓ) (ρ : Dev nD → PrngReg)

/-- What the call finds in its operand. -/
theorem V_v6 (c : Dev nD) : V m c main_v6 = Rows (m ((c : Thread nD τ).loc main_arg0)) := by
  show StableHlo.after (List.flatten [hostOps0, hostOps0_1]) (fun b => m (c, b)) (Proc.devRef .tc main_v6) = _
  simp only [List.flatten_cons, List.flatten_nil, List.append_nil, hostOps0, hostOps0_1, List.cons_append, List.nil_append,
    StableHlo.TRef.binary, StableHlo.TRef.unary, StableHlo.TRef.toBuf, StableHlo.TRef.ofBuf, cast_eq]
  after_results
  rfl

set_option maxHeartbeats 4000000 in
theorem final (c : Dev nD) : (dats m 0 c).arrAt 1 cfg0.N = BiasRefIdeal.At.Res (m ((c : Thread nD τ).loc main_arg0)) := by
  rw [← show (fun i : S16x10x128x128.Idx => BiasRefIdeal.At.Res (m ((c : Thread nD τ).loc main_arg0)) (ix4 (i 0) (i 1) (i 2) (i 3)))
    = BiasRefIdeal.At.Res (m ((c : Thread nD τ).loc main_arg0)) from funext fun i => congrArg _ (eq_ix4 i).symm]
  refine (dats m 0 c).arrAt_eq_of_covers 1 _ (by decide +kernel) fun t _ y => ?_
  blk_simp
  rw [after0_1]
  obtain ⟨h, q, r, l, rfl⟩ : ∃ (h : Fin 8) (q : Fin 10) (r l : Fin 128), y = ix4 h q r l := ⟨y 0, y 1, y 2, y 3, eq_ix4 y⟩
  have ht : t.val < 2 := t.isLt
  generalize hb : (⟨t.val * 8 + h.val, by omega⟩ : Fin 16) = hh
  have hbv : hh.val = t.val * 8 + h.val := by rw [← hb]
  have hy : (win0_1.blk t).view.emb (ix4 h q r l) = ix4 hh q r l := by blk_ext [idx t]
  have h0 : ∀ (d : Fin 16) (j : Fin 128), iblk m c 0 t (ix3 h d j) = V m c main_v6 (ix3 hh d j) := fun d j => by blk_ext [iblk, idx t]
  rw [hy]
  refine (out_at _ _).trans ?_
  exact tile_entry _ _ h hh (fun d j => (h0 d j).trans (congrFun (V_v6 m c) _)) q r l

/-- The run with its result: the call's output array, the argument unchanged. -/
theorem run : θ_run defs (onTc (τ := τ) (main (F := Ideal))) ⟨m, fun _ => 0, ρ⟩ (fun r => ∀ c : Dev nD,
      r.2.mem ((c.tc : Thread nD τ).loc main_v7) = BiasRefIdeal.At.Res (m ((c : Thread nD τ).loc main_arg0))
      ∧ r.2.mem ((c.tc : Thread nD τ).loc main_arg0) = m ((c.tc : Thread nD τ).loc main_arg0)) :=
  (θ_run defs _ _).mono (fun _ h c => ⟨((h c).1 1).trans (final m c),
    ((h c).2 main_arg0 (Pipeline.mem_restRefs_of main_arg0 (by decide) (by decide))).trans (V_main_arg0 m c)⟩) (run_main m ρ)

end Cert.BiasIdeal.Final

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxRefIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Run
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasRefIdeal.Run
public import proofs.«01_k».proof.Proof.ConvEq
public import proofs.«01_k».proof.Proof.PoolEq
public import proofs.«01_k».proof.Proof.ProjEq
public import proofs.«01_k».proof.Proof.CtxEq
public import proofs.«01_k».proof.Proof.TailEq
public import proofs.«01_k».proof.Proof.BiasFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Conv

theorem conv_ref_frame : @Cert.quiescent_ConvRefIdeal Cert.ConvRefIdeal.Gen.facts := fun m g _ =>
  (θ_run Cert.ConvRefIdeal.defs _ _).mono (fun _ h => ⟨fun c => (h c).2, sem_eq_zero_of_no_sems (by decide) _⟩) (Cert.ConvRefIdeal.Value.run m g)

theorem conv_algebraic : @Cert.algebraic_ConvIdeal_ConvRefIdeal Cert.ConvIdeal.Gen.facts Cert.ConvRefIdeal.Gen.facts := by
  pair_intro
  · run_from Cert.ConvIdeal.Run.run_main m g
  · run_from Cert.ConvRefIdeal.Value.run m' g'
    rw [Cert.ConvIdeal.Final.final m g c, Cert.ConvRefIdeal.At.result_eq]
    obtain ⟨e0, e1, _, e3, e4, e5, e6, e7, e8, e9⟩ := hagree c
    rw [e0, e1, e3, e4, e5, e6, e7, e8, e9]
    rfl

theorem pool_ref_frame : @Cert.quiescent_PoolRefIdeal Cert.PoolRefIdeal.Gen.facts := fun m g _ =>
  (θ_run Cert.PoolRefIdeal.defs _ _).mono (fun _ h => ⟨fun c => (h c).2, sem_eq_zero_of_no_sems (by decide) _⟩) (Cert.PoolRefIdeal.Value.run m g)

/-- The shape facts the precondition's text reads. -/
theorem pre_facts : Cert.Pre_finite_inputs.Facts :=
  ⟨by decide, by decide, by decide, by decide, by decide, by decide, by decide, by decide⟩

theorem pool_algebraic : @Cert.algebraic_PoolIdeal_PoolRefIdeal_pre_finite_inputs Cert.PoolIdeal.Gen.facts Cert.PoolRefIdeal.Gen.facts pre_facts := by
  pair_intro
  · run_from Cert.PoolIdeal.Run.run_main m g
  · run_from Cert.PoolRefIdeal.Value.run m' g'
    obtain ⟨e0, e1, _, e3, e4, e5, e6, e7, e8, e9, e10⟩ := hagree c
    rw [Cert.PoolIdeal.Final.final (hp := pre_facts) m g hpre c, ← e0, ← e1, ← e3, ← e4, ← e5, ← e6, ← e7, ← e8, ← e9, ← e10]
    exact Cert.PoolRefIdeal.At.result_eq m' c

theorem proj_ref_frame : @Cert.quiescent_ProjRefIdeal Cert.ProjRefIdeal.Gen.facts := fun m g _ =>
  (θ_run Cert.ProjRefIdeal.defs _ _).mono (fun _ h => ⟨fun c => (h c).2.2.2.2, sem_eq_zero_of_no_sems (by decide) _⟩) (Cert.ProjRefIdeal.Value.run m g)

theorem proj_algebraic : @Cert.algebraic_ProjIdeal_ProjRefIdeal Cert.ProjIdeal.Gen.facts Cert.ProjRefIdeal.Gen.facts := by
  pair_intro
  · run_from Cert.ProjIdeal.Run.run_main m g
  · run_from Cert.ProjRefIdeal.At.run_named m' g'
    · exact (Cert.ProjIdeal.Final.final7 m g c).symm
    · exact (Cert.ProjIdeal.Final.final8 m g c).symm
    · exact (Cert.ProjIdeal.Final.final9 m g c).symm
    · exact (Cert.ProjIdeal.Final.final10 m g c).symm

theorem ctx_ref_frame : @Cert.quiescent_CtxRefIdeal Cert.CtxRefIdeal.Gen.facts := fun m g _ =>
  (θ_run Cert.CtxRefIdeal.defs _ _).mono (fun _ h => ⟨fun c => (h c).2.2, sem_eq_zero_of_no_sems (by decide) _⟩) (Cert.CtxRefIdeal.Value.run m g)

/-- The shape facts the context's precondition reads. -/
theorem ctx_pre_facts : Cert.Pre_finite_context.Facts :=
  ⟨by decide, by decide, by decide, by decide, by decide, by decide, by decide, by decide⟩

theorem ctx_algebraic : @Cert.algebraic_CtxIdeal_CtxRefIdeal_pre_finite_context Cert.CtxIdeal.Gen.facts Cert.CtxRefIdeal.Gen.facts ctx_pre_facts := by
  pair_intro
  · run_from Cert.CtxIdeal.Run.run_main m g
  · run_from Cert.CtxRefIdeal.At.run_named m' g'
    · exact ((Cert.CtxIdeal.Final.final5 (hp := ctx_pre_facts) m g hpre c).trans (by
        obtain ⟨e0, _, e2, e3, e4, e5, e6, e7, e8, e9, e10⟩ := hagree c
        unfold Cert.CtxIdeal.Final.kvOf Cert.CtxIdeal.Final.ctxOf
        rw [← e0, ← e2, ← e3, ← e4, ← e5, ← e6, ← e7, ← e8, ← e9, ← e10]
        rfl)).symm
    · exact ((Cert.CtxIdeal.Final.final6 (hp := ctx_pre_facts) m g hpre c).trans (by
        obtain ⟨e0, _, e2, e3, e4, e5, e6, e7, e8, e9, e10⟩ := hagree c
        unfold Cert.CtxIdeal.Final.kvOf Cert.CtxIdeal.Final.ctxOf
        rw [← e0, ← e2, ← e3, ← e4, ← e5, ← e6, ← e7, ← e8, ← e9, ← e10]
        rfl)).symm

theorem tail_ref_frame : @Cert.quiescent_TailRefIdeal Cert.TailRefIdeal.Gen.facts := fun m g _ =>
  (θ_run Cert.TailRefIdeal.defs _ _).mono (fun _ h => ⟨fun c => (h c).2, sem_eq_zero_of_no_sems (by decide) _⟩) (Cert.TailRefIdeal.Value.run m g)

/-- The shape facts the precondition of layers 2 and 3 reads. -/
theorem tail_pre_facts : Cert.Pre_finite_tail.Facts :=
  ⟨by decide, by decide, by decide, by decide, by decide, by decide, by decide, by decide, by decide, by decide, by decide, by decide⟩

theorem tail_algebraic : @Cert.algebraic_TailIdeal_TailRefIdeal_pre_finite_tail Cert.TailIdeal.Gen.facts Cert.TailRefIdeal.Gen.facts tail_pre_facts := by
  pair_intro
  · run_from Cert.TailIdeal.Run.run_main m g
  · run_from Cert.TailRefIdeal.Value.run m' g'
    obtain ⟨e0, e1, _, e3, e4, e5, e6, e7, e8, e9, e10, e11, e12, e13, e14⟩ := hagree c
    rw [Cert.TailIdeal.Final.final (hp := tail_pre_facts) m g hpre c, ← e0, ← e1, ← e3, ← e4, ← e5, ← e6, ← e7, ← e8, ← e9, ← e10, ← e11, ← e12, ← e13, ← e14]
    exact Cert.TailRefIdeal.At.result_eq m' c

theorem bias_ref_frame : @Cert.quiescent_BiasRefIdeal Cert.BiasRefIdeal.Gen.facts := fun m g _ =>
  (θ_run Cert.BiasRefIdeal.defs _ _).mono (fun _ h => ⟨fun c => (h c).2, sem_eq_zero_of_no_sems (by decide) _⟩) (Cert.BiasRefIdeal.Value.run m g)

theorem bias_algebraic : @Cert.algebraic_BiasIdeal_BiasRefIdeal Cert.BiasIdeal.Gen.facts Cert.BiasRefIdeal.Gen.facts := by
  pair_intro
  · run_from Cert.BiasIdeal.Final.run m g
  · run_from Cert.BiasRefIdeal.Value.run m' g'
    have e0 := hagree c
    rw [← e0]
    exact Cert.BiasRefIdeal.At.result_eq m' c

theorem claim : Cert.Claim := ⟨Cert.Conv.Gen.facts, Cert.ConvIdeal.Gen.facts, Cert.ConvRefIdeal.Gen.facts,
  Cert.Pool.Gen.facts, Cert.PoolIdeal.Gen.facts, Cert.PoolRefIdeal.Gen.facts,
  Cert.Proj.Gen.facts, Cert.ProjIdeal.Gen.facts, Cert.ProjRefIdeal.Gen.facts,
  Cert.Ctx.Gen.facts, Cert.CtxIdeal.Gen.facts, Cert.CtxRefIdeal.Gen.facts,
  Cert.Tail.Gen.facts, Cert.TailIdeal.Gen.facts, Cert.TailRefIdeal.Gen.facts,
  Cert.Bias.Gen.facts, Cert.BiasIdeal.Gen.facts, Cert.BiasRefIdeal.Gen.facts, pre_facts, ctx_pre_facts, tail_pre_facts,
  fun m ρ _ => Cert.Conv.Gen.frame m ρ,
  fun m ρ _ => Cert.ConvIdeal.Gen.frame m ρ,
  conv_ref_frame,
  fun m ρ _ => Cert.Pool.Gen.frame m ρ,
  fun m ρ _ => Cert.PoolIdeal.Gen.frame m ρ,
  fun m ρ _ => Cert.PoolIdeal.Gen.frame m ρ,
  pool_ref_frame,
  fun m ρ _ => pool_ref_frame m ρ trivial,
  fun m ρ _ => Cert.Proj.Gen.frame m ρ,
  fun m ρ _ => Cert.ProjIdeal.Gen.frame m ρ,
  proj_ref_frame,
  fun m ρ _ => Cert.Ctx.Gen.frame m ρ,
  fun m ρ _ => Cert.CtxIdeal.Gen.frame m ρ,
  fun m ρ _ => Cert.CtxIdeal.Gen.frame m ρ,
  ctx_ref_frame,
  fun m ρ _ => ctx_ref_frame m ρ trivial,
  fun m ρ _ => Cert.Tail.Gen.frame m ρ,
  fun m ρ _ => Cert.TailIdeal.Gen.frame m ρ,
  fun m ρ _ => Cert.TailIdeal.Gen.frame m ρ,
  tail_ref_frame,
  fun m ρ _ => tail_ref_frame m ρ trivial,
  fun m ρ _ => Cert.Bias.Gen.frame m ρ,
  fun m ρ _ => Cert.BiasIdeal.Gen.frame m ρ,
  bias_ref_frame,
  trivial,
  conv_algebraic,
  trivial,
  pool_algebraic,
  trivial,
  proj_algebraic,
  trivial,
  ctx_algebraic,
  trivial,
  tail_algebraic,
  trivial,
  bias_algebraic⟩

end Cert.Proof

end
